-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_decaying [hPre_finite_and_decaying : Cert.Pre_finite_and_decaying.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_decaying [hPre_finite_and_decaying : Cert.Pre_finite_and_decaying.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_norm_finite [hPre_norm_finite : Cert.Pre_norm_finite.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_norm_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_norm_finite [hPre_norm_finite : Cert.Pre_norm_finite.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_norm_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_gate_finite [hPre_gate_finite : Cert.Pre_gate_finite.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_gate_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_gate_finite [hPre_gate_finite : Cert.Pre_gate_finite.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_gate_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_head_norm_finite [hPre_head_norm_finite : Cert.Pre_head_norm_finite.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_head_norm_finite.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_head_norm_finite [hPre_head_norm_finite : Cert.Pre_head_norm_finite.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_head_norm_finite.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_loss_finite [hPre_loss_finite : Cert.Pre_loss_finite.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_loss_finite.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_loss_finite [hPre_loss_finite : Cert.Pre_loss_finite.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_loss_finite.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_decaying [hKernelIdeal : Cert.KernelIdeal.Facts] [hPre_finite_and_decaying : Cert.Pre_finite_and_decaying.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_decaying m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_decaying [hReferenceIdeal : Cert.ReferenceIdeal.Facts] [hPre_finite_and_decaying : Cert.Pre_finite_and_decaying.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_decaying m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Kernel18Ideal_pre_norm_finite [hKernel18Ideal : Cert.Kernel18Ideal.Facts] [hPre_norm_finite : Cert.Pre_norm_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_norm_finite m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Reference18Ideal_pre_norm_finite [hReference18Ideal : Cert.Reference18Ideal.Facts] [hPre_norm_finite : Cert.Pre_norm_finite.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_norm_finite m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Kernel20Ideal_pre_gate_finite [hKernel20Ideal : Cert.Kernel20Ideal.Facts] [hPre_gate_finite : Cert.Pre_gate_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_gate_finite m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Reference20Ideal_pre_gate_finite [hReference20Ideal : Cert.Reference20Ideal.Facts] [hPre_gate_finite : Cert.Pre_gate_finite.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_gate_finite m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Kernel22Ideal_pre_head_norm_finite [hKernel22Ideal : Cert.Kernel22Ideal.Facts] [hPre_head_norm_finite : Cert.Pre_head_norm_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_head_norm_finite m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Reference22Ideal_pre_head_norm_finite [hReference22Ideal : Cert.Reference22Ideal.Facts] [hPre_head_norm_finite : Cert.Pre_head_norm_finite.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_head_norm_finite m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Kernel23Ideal_pre_loss_finite [hKernel23Ideal : Cert.Kernel23Ideal.Facts] [hPre_loss_finite : Cert.Pre_loss_finite.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_loss_finite m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Reference23Ideal_pre_loss_finite [hReference23Ideal : Cert.Reference23Ideal.Facts] [hPre_loss_finite : Cert.Pre_loss_finite.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_loss_finite m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def preserves_Kernel_KernelIdeal : Prop :=
  True

def algebraic_KernelIdeal_ReferenceIdeal_pre_finite_and_decaying [hKernelIdeal : Cert.KernelIdeal.Facts] [hReferenceIdeal : Cert.ReferenceIdeal.Facts] [hPre_finite_and_decaying : Cert.Pre_finite_and_decaying.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_decaying m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_1)) (v1 : (c : Dev Cert.Kernel2Ideal.nD) → Buf (Elt Ideal) ((c.tc : Thread Cert.Kernel2Ideal.nD Cert.Kernel2Ideal.τ).loc Cert.Kernel2Ideal.main_v1)) (v2 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_1) = v0 c
          ∧ r.2.mem ((c.tc : Thread Cert.Kernel2Ideal.nD Cert.Kernel2Ideal.τ).loc Cert.Kernel2Ideal.main_v1) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v45) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal_pre_norm_finite [hKernel18Ideal : Cert.Kernel18Ideal.Facts] [hReference18Ideal : Cert.Reference18Ideal.Facts] [hPre_norm_finite : Cert.Pre_norm_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_norm_finite m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v36) = v0 c
          ∧ r.2.mem ((c.tc : Thread Cert.Reference18Ideal.nD Cert.Reference18Ideal.τ).loc Cert.Reference18Ideal.main_v38) = v1 c
          ∧ r.2.mem ((c.tc : Thread Cert.Reference18Ideal.nD Cert.Reference18Ideal.τ).loc Cert.Reference18Ideal.main_v39) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal_pre_gate_finite [hKernel20Ideal : Cert.Kernel20Ideal.Facts] [hReference20Ideal : Cert.Reference20Ideal.Facts] [hPre_gate_finite : Cert.Pre_gate_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_gate_finite m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v4_0)) (v1 : (c : Dev Cert.Kernel20Ideal.nD) → Buf (Elt Ideal) ((c.tc : Thread Cert.Kernel20Ideal.nD Cert.Kernel20Ideal.τ).loc Cert.Kernel20Ideal.main_v4_1)) (v2 : (c : Dev Cert.Kernel20Ideal.nD) → Buf (Elt Ideal) ((c.tc : Thread Cert.Kernel20Ideal.nD Cert.Kernel20Ideal.τ).loc Cert.Kernel20Ideal.main_v4_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4_0) = v0 c
          ∧ r.2.mem ((c.tc : Thread Cert.Kernel20Ideal.nD Cert.Kernel20Ideal.τ).loc Cert.Kernel20Ideal.main_v4_1) = v1 c
          ∧ r.2.mem ((c.tc : Thread Cert.Kernel20Ideal.nD Cert.Kernel20Ideal.τ).loc Cert.Kernel20Ideal.main_v4_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v18) = v0 c
          ∧ r.2.mem ((c.tc : Thread Cert.Reference20Ideal.nD Cert.Reference20Ideal.τ).loc Cert.Reference20Ideal.main_v19) = v1 c
          ∧ r.2.mem ((c.tc : Thread Cert.Reference20Ideal.nD Cert.Reference20Ideal.τ).loc Cert.Reference20Ideal.main_v20) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v19) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal_pre_head_norm_finite [hKernel22Ideal : Cert.Kernel22Ideal.Facts] [hReference22Ideal : Cert.Reference22Ideal.Facts] [hPre_head_norm_finite : Cert.Pre_head_norm_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_head_norm_finite m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v2_0)) (v1 : (c : Dev Cert.Kernel22Ideal.nD) → Buf (Elt Ideal) ((c.tc : Thread Cert.Kernel22Ideal.nD Cert.Kernel22Ideal.τ).loc Cert.Kernel22Ideal.main_v2_1)) (v2 : (c : Dev Cert.Kernel22Ideal.nD) → Buf (Elt Ideal) ((c.tc : Thread Cert.Kernel22Ideal.nD Cert.Kernel22Ideal.τ).loc Cert.Kernel22Ideal.main_v2_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2_0) = v0 c
          ∧ r.2.mem ((c.tc : Thread Cert.Kernel22Ideal.nD Cert.Kernel22Ideal.τ).loc Cert.Kernel22Ideal.main_v2_1) = v1 c
          ∧ r.2.mem ((c.tc : Thread Cert.Kernel22Ideal.nD Cert.Kernel22Ideal.τ).loc Cert.Kernel22Ideal.main_v2_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v48) = v0 c
          ∧ r.2.mem ((c.tc : Thread Cert.Reference22Ideal.nD Cert.Reference22Ideal.τ).loc Cert.Reference22Ideal.main_v49) = v1 c
          ∧ r.2.mem ((c.tc : Thread Cert.Reference22Ideal.nD Cert.Reference22Ideal.τ).loc Cert.Reference22Ideal.main_v50) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal_pre_loss_finite [hKernel23Ideal : Cert.Kernel23Ideal.Facts] [hReference23Ideal : Cert.Reference23Ideal.Facts] [hPre_loss_finite : Cert.Pre_loss_finite.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_loss_finite m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)) (v3 : (c : Dev Cert.Kernel23Ideal.nD) → Buf (Elt Ideal) ((c.tc : Thread Cert.Kernel23Ideal.nD Cert.Kernel23Ideal.τ).loc Cert.Kernel23Ideal.main_v1_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_v1_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v50) = v0 c
          ∧ r.2.mem ((c.tc : Thread Cert.Reference23Ideal.nD Cert.Reference23Ideal.τ).loc Cert.Reference23Ideal.main_v51) = v1 c
          ∧ r.2.mem ((c.tc : Thread Cert.Reference23Ideal.nD Cert.Reference23Ideal.τ).loc Cert.Reference23Ideal.main_v52) = v2 c
          ∧ r.2.mem ((c.tc : Thread Cert.Reference23Ideal.nD Cert.Reference23Ideal.τ).loc Cert.Reference23Ideal.main_v73) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite_and_decaying : Cert.Pre_finite_and_decaying.Facts) (hPre_finite : Cert.Pre_finite.Facts) (hPre_norm_finite : Cert.Pre_norm_finite.Facts) (hPre_gate_finite : Cert.Pre_gate_finite.Facts) (hPre_head_norm_finite : Cert.Pre_head_norm_finite.Facts) (hPre_loss_finite : Cert.Pre_loss_finite.Facts),
    quiescent_Kernel (hKernel := hKernel)
    ∧ quiescent_KernelIdeal (hKernelIdeal := hKernelIdeal)
    ∧ quiescent_KernelIdeal_pre_finite_and_decaying (hKernelIdeal := hKernelIdeal) (hPre_finite_and_decaying := hPre_finite_and_decaying)
    ∧ quiescent_ReferenceIdeal (hReferenceIdeal := hReferenceIdeal)
    ∧ quiescent_ReferenceIdeal_pre_finite_and_decaying (hReferenceIdeal := hReferenceIdeal) (hPre_finite_and_decaying := hPre_finite_and_decaying)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_norm_finite (hKernel18Ideal := hKernel18Ideal) (hPre_norm_finite := hPre_norm_finite)
    ∧ quiescent_Reference18Ideal (hReference18Ideal := hReference18Ideal)
    ∧ quiescent_Reference18Ideal_pre_norm_finite (hReference18Ideal := hReference18Ideal) (hPre_norm_finite := hPre_norm_finite)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_gate_finite (hKernel20Ideal := hKernel20Ideal) (hPre_gate_finite := hPre_gate_finite)
    ∧ quiescent_Reference20Ideal (hReference20Ideal := hReference20Ideal)
    ∧ quiescent_Reference20Ideal_pre_gate_finite (hReference20Ideal := hReference20Ideal) (hPre_gate_finite := hPre_gate_finite)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_head_norm_finite (hKernel22Ideal := hKernel22Ideal) (hPre_head_norm_finite := hPre_head_norm_finite)
    ∧ quiescent_Reference22Ideal (hReference22Ideal := hReference22Ideal)
    ∧ quiescent_Reference22Ideal_pre_head_norm_finite (hReference22Ideal := hReference22Ideal) (hPre_head_norm_finite := hPre_head_norm_finite)
    ∧ quiescent_Kernel23 (hKernel23 := hKernel23)
    ∧ quiescent_Kernel23Ideal (hKernel23Ideal := hKernel23Ideal)
    ∧ quiescent_Kernel23Ideal_pre_loss_finite (hKernel23Ideal := hKernel23Ideal) (hPre_loss_finite := hPre_loss_finite)
    ∧ quiescent_Reference23Ideal (hReference23Ideal := hReference23Ideal)
    ∧ quiescent_Reference23Ideal_pre_loss_finite (hReference23Ideal := hReference23Ideal) (hPre_loss_finite := hPre_loss_finite)
    ∧ preserves_Kernel_KernelIdeal
    ∧ algebraic_KernelIdeal_ReferenceIdeal_pre_finite_and_decaying (hKernelIdeal := hKernelIdeal) (hReferenceIdeal := hReferenceIdeal) (hPre_finite_and_decaying := hPre_finite_and_decaying)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_norm_finite (hKernel18Ideal := hKernel18Ideal) (hReference18Ideal := hReference18Ideal) (hPre_norm_finite := hPre_norm_finite)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_gate_finite (hKernel20Ideal := hKernel20Ideal) (hReference20Ideal := hReference20Ideal) (hPre_gate_finite := hPre_gate_finite)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_head_norm_finite (hKernel22Ideal := hKernel22Ideal) (hReference22Ideal := hReference22Ideal) (hPre_head_norm_finite := hPre_head_norm_finite)
    ∧ preserves_Kernel23_Kernel23Ideal
    ∧ algebraic_Kernel23Ideal_Reference23Ideal_pre_loss_finite (hKernel23Ideal := hKernel23Ideal) (hReference23Ideal := hReference23Ideal) (hPre_loss_finite := hPre_loss_finite)
-- ==== Pre_finite.lean ====
abbrev S4096x2048 : Shape := ⟨2, ![4096, 2048]⟩
abbrev S4x2048x2816 : Shape := ⟨3, ![4, 2048, 2816]⟩
abbrev S4x1408x2048 : Shape := ⟨3, ![4, 1408, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x2048x2816 : S_.BroadcastsInDim S4x2048x2816 (![] : Fin 0 → Fin S4x2048x2816.rank)
  reducesTo_S4x2048x2816_S_d0_1_2 : S4x2048x2816.ReducesTo [0, 1, 2] S_
  bcast_S_S4x1408x2048 : S_.BroadcastsInDim S4x1408x2048 (![] : Fin 0 → Fin S4x1408x2048.rank)
  reducesTo_S4x1408x2048_S_d0_1_2 : S4x1408x2048.ReducesTo [0, 1, 2] S_

variable [Facts]

def fn_part1 {F : FTy → Type} [FloatOps F] (main_v16 : IVec S_ 1) (main_v17 : FVec F S4096x2048 .f32) : IVec S_ 1 :=
  let main_v18 : FVec F S4096x2048 .f32 := Host.absf main_v17
  let main_cst_4 : FVec F S_ .f32 := constant S_ .f32 0x7F800000#32
  let main_v19 : FVec F S4096x2048 .f32 := broadcastInDim S4096x2048 ![] bcast_S_S4096x2048 main_cst_4
  let main_v20 : IVec S4096x2048 1 := cmpf .olt main_v18 main_v19
  let main_c_5 : IVec S_ 1 := constantI S_ 1 1#1
  let main_v21 : IVec S_ 1 := (fun x v => Host.reduce IntOp.andi x v reducesTo_S4096x2048_S_d0_1 h_S_) main_v20 main_c_5
  let main_v22 : IVec S_ 1 := andi main_v16 main_v21
  main_v22

def fn {F : FTy → Type} [FloatOps F] (main_arg0 : FVec F S4096x2048 .bf16) (main_arg1 : FVec F S4x2048x2816 .bf16) (main_arg2 : FVec F S4x1408x2048 .bf16) (main_arg3 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4x2048x2816 .f32 := (extf .f32 · bitsLt_bf16_f32) main_arg1
  let main_v6 : FVec F S4x2048x2816 .f32 := Host.absf main_v5
  let main_cst_0 : FVec F S_ .f32 := constant S_ .f32 0x7F800000#32
  let main_v7 : FVec F S4x2048x2816 .f32 := broadcastInDim S4x2048x2816 ![] bcast_S_S4x2048x2816 main_cst_0
  let main_v8 : IVec S4x2048x2816 1 := cmpf .olt main_v6 main_v7
  let main_c_1 : IVec S_ 1 := constantI S_ 1 1#1
  let main_v9 : IVec S_ 1 := (fun x v => Host.reduce IntOp.andi x v reducesTo_S4x2048x2816_S_d0_1_2 h_S_) main_v8 main_c_1
  let main_v10 : IVec S_ 1 := andi main_v4 main_v9
  let main_v11 : FVec F S4x1408x2048 .f32 := (extf .f32 · bitsLt_bf16_f32) main_arg2
  let main_v12 : FVec F S4x1408x2048 .f32 := Host.absf main_v11
  let main_cst_2 : FVec F S_ .f32 := constant S_ .f32 0x7F800000#32
  let main_v13 : FVec F S4x1408x2048 .f32 := broadcastInDim S4x1408x2048 ![] bcast_S_S4x1408x2048 main_cst_2
  let main_v14 : IVec S4x1408x2048 1 := cmpf .olt main_v12 main_v13
  let main_c_3 : IVec S_ 1 := constantI S_ 1 1#1
  let main_v15 : IVec S_ 1 := (fun x v => Host.reduce IntOp.andi x v reducesTo_S4x1408x2048_S_d0_1_2 h_S_) main_v14 main_c_3
  let main_v16 : IVec S_ 1 := andi main_v10 main_v15
  let main_v17 : FVec F S4096x2048 .f32 := (extf .f32 · bitsLt_bf16_f32) main_arg3
  fn_part1 (F := F) main_v16 main_v17
-- ==== Pre_finite_and_decaying.lean ====
abbrev S4096x6272 : Shape := ⟨2, ![4096, 6272]⟩
abbrev S4096x1024 : Shape := ⟨2, ![4096, 1024]⟩
abbrev S4096x2048 : Shape := ⟨2, ![4096, 2048]⟩
abbrev S4096x4096 : Shape := ⟨2, ![4096, 4096]⟩
abbrev S_ : Shape := ⟨0, ![]⟩

class Facts : Prop where
  slices_S4096x6272_S4096x4096_0_0 : S4096x6272.Slices ![0, 0] S4096x4096
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x6272 .f32) (main_arg1 : FVec F S4096x1024 .f32) (main_arg2 : FVec F S4096x2048 .f32) : IVec S_ 1 :=
  let main_v0 : FVec F S4096x4096 .f32 := (extractStridedSlice S4096x4096 ![0, 0] · slices_S4096x6272_S4096x4096_0_0) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_c : IVec S_ 1 := constantI S_ 1 1#1
  let main_v4 : IVec S_ 1 := (fun x v => Host.reduce IntOp.andi x v reducesTo_S4096x4096_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  let main_cst_2 : FVec F S_ .f32 := constant S_ .f32 0x00000000#32
  let main_v10 : FVec F S4096x1024 .f32 := broadcastInDim S4096x1024 ![] bcast_S_S4096x1024 main_cst_2
  let main_v11 : IVec S4096x1024 1 := cmpf .olt main_arg1 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v9 main_v12
  let main_v14 : FVec F S4096x2048 .f32 := Host.absf main_arg2
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== Pre_gate_finite.lean ====
abbrev S4096x1024 : Shape := ⟨2, ![4096, 1024]⟩
abbrev S4096x6160 : Shape := ⟨2, ![4096, 6160]⟩
abbrev S16x1024 : Shape := ⟨2, ![16, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x6160 : S_.BroadcastsInDim S4096x6160 (![] : Fin 0 → Fin S4096x6160.rank)
  reducesTo_S4096x6160_S_d0_1 : S4096x6160.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4096x1024 .f32) (main_arg1 : FVec F S4096x6160 .f32) (main_arg2 : FVec F S16x1024 .f32) (main_arg3 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x6160 .f32 := Host.absf main_arg1
  let main_cst_0 : FVec F S_ .f32 := constant S_ .f32 0x7F800000#32
  let main_v5 : FVec F S4096x6160 .f32 := broadcastInDim S4096x6160 ![] bcast_S_S4096x6160 main_cst_0
  let main_v6 : IVec S4096x6160 1 := cmpf .olt main_v4 main_v5
  let main_c_1 : IVec S_ 1 := constantI S_ 1 1#1
  let main_v7 : IVec S_ 1 := (fun x v => Host.reduce IntOp.andi x v reducesTo_S4096x6160_S_d0_1 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_head_norm_finite.lean ====
abbrev S4096x2048 : Shape := ⟨2, ![4096, 2048]⟩
abbrev S4096x6160 : Shape := ⟨2, ![4096, 6160]⟩
abbrev S512 : Shape := ⟨1, ![512]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x6160 : S_.BroadcastsInDim S4096x6160 (![] : Fin 0 → Fin S4096x6160.rank)
  reducesTo_S4096x6160_S_d0_1 : S4096x6160.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v14 : IVec S_ 1) (main_v15 : FVec F S512 .f32) (main_v16 : FVec F S512 .f32) : IVec S_ 1 :=
  let main_v17 : IVec S512 1 := cmpf .olt main_v15 main_v16
  let main_c_5 : IVec S_ 1 := constantI S_ 1 1#1
  let main_v18 : IVec S_ 1 := (fun x v => Host.reduce IntOp.andi x v reducesTo_S512_S_d0 h_S_) main_v17 main_c_5
  let main_v19 : IVec S_ 1 := andi main_v14 main_v18
  main_v19

def fn {F : FTy → Type} [FloatOps F] (main_arg0 : FVec F S4096x2048 .bf16) (main_arg1 : FVec F S4096x2048 .f32) (main_arg2 : FVec F S4096x6160 .f32) (main_arg3 : FVec F S512 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x2048 .f32 := Host.absf main_arg1
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_c_1 : IVec S_ 1 := constantI S_ 1 1#1
  let main_v8 : IVec S_ 1 := (fun x v => Host.reduce IntOp.andi x v reducesTo_S4096x2048_S_d0_1 h_S_) main_v7 main_c_1
  let main_v9 : IVec S_ 1 := andi main_v4 main_v8
  let main_v10 : FVec F S4096x6160 .f32 := Host.absf main_arg2
  let main_cst_2 : FVec F S_ .f32 := constant S_ .f32 0x7F800000#32
  let main_v11 : FVec F S4096x6160 .f32 := broadcastInDim S4096x6160 ![] bcast_S_S4096x6160 main_cst_2
  let main_v12 : IVec S4096x6160 1 := cmpf .olt main_v10 main_v11
  let main_c_3 : IVec S_ 1 := constantI S_ 1 1#1
  let main_v13 : IVec S_ 1 := (fun x v => Host.reduce IntOp.andi x v reducesTo_S4096x6160_S_d0_1 h_S_) main_v12 main_c_3
  let main_v14 : IVec S_ 1 := andi main_v9 main_v13
  let main_v15 : FVec F S512 .f32 := Host.absf main_arg3
  let main_cst_4 : FVec F S_ .f32 := constant S_ .f32 0x7F800000#32
  let main_v16 : FVec F S512 .f32 := broadcastInDim S512 ![] bcast_S_S512 main_cst_4
  fn_part1 (F := F) main_v14 main_v15 main_v16
-- ==== Pre_loss_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048 .f32) (main_arg2 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_norm_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S4096x2048 .f32) (main_arg2 : FVec F S2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x6272 : Shape := ⟨2, ![4096, 6272]⟩
abbrev S4096x1024 : Shape := ⟨2, ![4096, 1024]⟩
abbrev S4096x2048 : Shape := ⟨2, ![4096, 2048]⟩
abbrev S4x32x512x256 : Shape := ⟨4, ![4, 32, 512, 256]⟩
abbrev S128x256 : Shape := ⟨2, ![128, 256]⟩
abbrev S128x512 : Shape := ⟨2, ![128, 512]⟩
abbrev S1x1x512x256 : Shape := ⟨4, ![1, 1, 512, 256]⟩
abbrev S512x256 : Shape := ⟨2, ![512, 256]⟩
abbrev S128x128 : Shape := ⟨2, ![128, 128]⟩
abbrev S256 : Shape := ⟨1, ![256]⟩
abbrev S1x256 : Shape := ⟨2, ![1, 256]⟩

abbrev nBuf : Space → Nat
  | .hbm => 9
  | .vmem => 35
  | .smem => 0
  | _ => 0

abbrev bufTy : (tb : Table) → Fin (tcTables nBuf tb) → BufTy
  | .hbm, ⟨0, _⟩ => ⟨S4096x6272, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S4x32x512x256, .f32⟩
  | .hbm, ⟨5, _⟩ => ⟨S4096x1024, .bf16⟩
  | .hbm, ⟨6, _⟩ => ⟨S4096x1024, .bf16⟩
  | .hbm, ⟨7, _⟩ => ⟨S4096x2048, .bf16⟩
  | .hbm, ⟨8, _⟩ => ⟨S4096x1024, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x512, .f32⟩
  | .local _ .vmem, ⟨5, _⟩ => ⟨S128x512, .f32⟩
  | .local _ .vmem, ⟨6, _⟩ => ⟨S128x256, .f32⟩
  | .local _ .vmem, ⟨7, _⟩ => ⟨S128x256, .f32⟩
  | .local _ .vmem, ⟨8, _⟩ => ⟨S128x512, .f32⟩
  | .local _ .vmem, ⟨9, _⟩ => ⟨S128x512, .f32⟩
  | .local _ .vmem, ⟨10, _⟩ => ⟨S1x1x512x256, .f32⟩
  | .local _ .vmem, ⟨11, _⟩ => ⟨S1x1x512x256, .f32⟩
  | .local _ .vmem, ⟨12, _⟩ => ⟨S512x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x512, .f32⟩
  | .local _ .vmem, ⟨18, _⟩ => ⟨S128x512, .f32⟩
  | .local _ .vmem, ⟨19, _⟩ => ⟨S128x256, .f32⟩
  | .local _ .vmem, ⟨20, _⟩ => ⟨S128x256, .f32⟩
  | .local _ .vmem, ⟨21, _⟩ => ⟨S128x512, .f32⟩
  | .local _ .vmem, ⟨22, _⟩ => ⟨S128x512, .f32⟩
  | .local _ .vmem, ⟨23, _⟩ => ⟨S1x1x512x256, .f32⟩
  | .local _ .vmem, ⟨24, _⟩ => ⟨S1x1x512x256, .f32⟩
  | .local _ .vmem, ⟨25, _⟩ => ⟨S128x256, .bf16⟩
  | .local _ .vmem, ⟨26, _⟩ => ⟨S128x256, .bf16⟩
  | .local _ .vmem, ⟨27, _⟩ => ⟨S128x256, .bf16⟩
  | .local _ .vmem, ⟨28, _⟩ => ⟨S128x256, .bf16⟩
  | .local _ .vmem, ⟨29, _⟩ => ⟨S128x512, .bf16⟩
  | .local _ .vmem, ⟨30, _⟩ => ⟨S128x512, .bf16⟩
  | .local _ .vmem, ⟨31, _⟩ => ⟨S128x256, .f32⟩
  | .local _ .vmem, ⟨32, _⟩ => ⟨S128x256, .f32⟩
  | .local _ .vmem, ⟨33, _⟩ => ⟨S512x256, .f32⟩
  | .local _ .vmem, ⟨34, _⟩ => ⟨S1x256, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_scratch0 : Ref sig .tc := ⟨.vmem, 33, rfl⟩
abbrev cc1_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let v1 : BitVec 32 := Scalar.addi c4_i32 arg0
  let c0_i32 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let v1 : BitVec 32 := Scalar.addi c4_i32 arg0
  let c0_i32 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_4 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_5 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_7 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_8 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_9 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S128x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceIdeal.lean ====
abbrev S4096x6272 : Shape := ⟨2, ![4096, 6272]⟩
abbrev S4096x1024 : Shape := ⟨2, ![4096, 1024]⟩
abbrev S4096x2048 : Shape := ⟨2, ![4096, 2048]⟩
abbrev S1x4096x1024 : Shape := ⟨3, ![1, 4096, 1024]⟩
abbrev S1x4096x2048 : Shape := ⟨3, ![1, 4096, 2048]⟩
abbrev S1x4096x4x256 : Shape := ⟨4, ![1, 4096, 4, 256]⟩
abbrev S1x4x4096x256 : Shape := ⟨4, ![1, 4, 4096, 256]⟩
abbrev S_ : Shape := ⟨0, ![]⟩
abbrev S1x4096x4x512 : Shape := ⟨4, ![1, 4096, 4, 512]⟩
abbrev S1x4x4096x512 : Shape := ⟨4, ![1, 4, 4096, 512]⟩
abbrev S4096x4096 : Shape := ⟨2, ![4096, 4096]⟩
abbrev S4096x4096x1 : Shape := ⟨3, ![4096, 4096, 1]⟩
abbrev S1x4x4096x1x256 : Shape := ⟨5, ![1, 4, 4096, 1, 256]⟩
abbrev S1x4x1x4096x256 : Shape := ⟨5, ![1, 4, 1, 4096, 256]⟩
abbrev S1x4x4096x4096x256 : Shape := ⟨5, ![1, 4, 4096, 4096, 256]⟩
abbrev S1x4x4096x4096 : Shape := ⟨4, ![1, 4, 4096, 4096]⟩
abbrev S1x4x512x4096 : Shape := ⟨4, ![1, 4, 512, 4096]⟩
abbrev S4x4096x256 : Shape := ⟨3, ![4, 4096, 256]⟩

abbrev nBuf : Space → Nat
  | .hbm => 141
  | .vmem => 0
  | .smem => 0
  | _ => 0

abbrev hbmTy0_0 (i : Nat) : BufTy := match i % 128 with
  | 0 => ⟨S4096x6272, .f32⟩
  | 1 => ⟨S4096x1024, .f32⟩
  | 2 => ⟨S4096x2048, .f32⟩
  | 3 => ⟨S4096x1024, .f32⟩
  | 4 => ⟨S1x4096x1024, .f32⟩
  | 5 => ⟨S4096x1024, .f32⟩
  | 6 => ⟨S1x4096x1024, .f32⟩
  | 7 => ⟨S4096x2048, .f32⟩
  | 8 => ⟨S1x4096x2048, .f32⟩
  | 9 => ⟨S1x4096x1024, .f32⟩
  | 10 => ⟨S1x4096x4x256, .f32⟩
  | 11 => ⟨S1x4x4096x256, .f32⟩
  | 12 => ⟨S_, .f32⟩
  | 13 => ⟨S1x4x4096x256, .f32⟩
  | 14 => ⟨S1x4x4096x256, .f32⟩
  | 15 => ⟨S1x4096x4x256, .f32⟩
  | 16 => ⟨S1x4x4096x256, .f32⟩
  | 17 => ⟨S1x4096x4x512, .f32⟩
  | 18 => ⟨S1x4x4096x512, .f32⟩
  | 19 => ⟨S1x4096x4x256, .f32⟩
  | 20 => ⟨S1x4x4096x256, .f32⟩
  | 21 => ⟨S_, .i1⟩
  | 22 => ⟨S4096x4096, .i1⟩
  | 23 => ⟨S4096x4096, .i32⟩
  | 24 => ⟨S_, .i32⟩
  | 25 => ⟨S4096x4096, .i32⟩
  | 26 => ⟨S4096x4096, .i32⟩
  | 27 => ⟨S4096x4096, .i32⟩
  | 28 => ⟨S4096x4096, .i1⟩
  | 29 => ⟨S_, .i1⟩
  | 30 => ⟨S4096x4096, .i1⟩
  | 31 => ⟨S4096x4096, .i1⟩
  | 32 => ⟨S4096x4096x1, .i1⟩
  | 33 => ⟨S_, .f32⟩
  | 34 => ⟨S_, .f32⟩
  | 35 => ⟨S1x4x4096x256, .f32⟩
  | 36 => ⟨S1x4x4096x1x256, .f32⟩
  | 37 => ⟨S1x4x1x4096x256, .f32⟩
  | 38 => ⟨S1x4x4096x4096x256, .f32⟩
  | 39 => ⟨S1x4x4096x4096x256, .f32⟩
  | 40 => ⟨S1x4x4096x4096x256, .f32⟩
  | 41 => ⟨S_, .f32⟩
  | 42 => ⟨S1x4x4096x4096x256, .f32⟩
  | 43 => ⟨S1x4x4096x4096x256, .f32⟩
  | 44 => ⟨S_, .f32⟩
  | 45 => ⟨S1x4x4096x4096x256, .f32⟩
  | 46 => ⟨S1x4x4096x4096x256, .i1⟩
  | 47 => ⟨S_, .f32⟩
  | 48 => ⟨S1x4x4096x4096x256, .f32⟩
  | 49 => ⟨S1x4x4096x4096x256, .i1⟩
  | 50 => ⟨S_, .f32⟩
  | 51 => ⟨S1x4x4096x4096x256, .f32⟩
  | 52 => ⟨S_, .f32⟩
  | 53 => ⟨S1x4x4096x4096x256, .f32⟩
  | 54 => ⟨S_, .f32⟩
  | 55 => ⟨S1x4x4096x4096x256, .f32⟩
  | 56 => ⟨S1x4x4096x4096x256, .f32⟩
  | 57 => ⟨S1x4x4096x4096x256, .f32⟩
  | 58 => ⟨S1x4x4096x4096x256, .f32⟩
  | 59 => ⟨S_, .f32⟩
  | 60 => ⟨S_, .f32⟩
  | 61 => ⟨S1x4x4096x4096x256, .i1⟩
  | 62 => ⟨S1x4x4096x4096x256, .f32⟩
  | 63 => ⟨S1x4x4096x4096x256, .f32⟩
  | 64 => ⟨S_, .f32⟩
  | 65 => ⟨S1x4x4096x4096x256, .f32⟩
  | 66 => ⟨S1x4x4096x1x256, .f32⟩
  | 67 => ⟨S1x4x1x4096x256, .f32⟩
  | 68 => ⟨S1x4x4096x4096x256, .f32⟩
  | 69 => ⟨S1x4x4096x4096x256, .f32⟩
  | 70 => ⟨S1x4x4096x4096x256, .f32⟩
  | 71 => ⟨S1x4x4096x4096x256, .f32⟩
  | 72 => ⟨S_, .f32⟩
  | 73 => ⟨S1x4x4096x4096, .f32⟩
  | 74 => ⟨S1x4x4096x512, .f32⟩
  | 75 => ⟨S1x4096x4x512, .f32⟩
  | 76 => ⟨S1x4096x4x512, .f32⟩
  | 77 => ⟨S1x4x4096x512, .f32⟩
  | 78 => ⟨S1x4x512x4096, .f32⟩
  | 79 => ⟨S1x4x4096x512, .f32⟩
  | 80 => ⟨S1x4x4096x4096, .f32⟩
  | 81 => ⟨S1x4x4096x4096x256, .f32⟩
  | 82 => ⟨S1x4x4096x4096x256, .f32⟩
  | 83 => ⟨S1x4x4096x4096x256, .f32⟩
  | 84 => ⟨S1x4x4096x4096x256, .f32⟩
  | 85 => ⟨S1x4x4096x4096x256, .f32⟩
  | 86 => ⟨S_, .f32⟩
  | 87 => ⟨S1x4x4096x256, .f32⟩
  | 88 => ⟨S1x4x1x4096x256, .f32⟩
  | 89 => ⟨S1x4x4096x4096x256, .f32⟩
  | 90 => ⟨S1x4x4096x4096x256, .f32⟩
  | 91 => ⟨S_, .f32⟩
  | 92 => ⟨S1x4x4096x256, .f32⟩
  | 93 => ⟨S1x4x4096x1x256, .f32⟩
  | 94 => ⟨S_, .f32⟩
  | 95 => ⟨S4x4096x256, .f32⟩
  | 96 => ⟨S1x4x4096x256, .f32⟩
  | 97 => ⟨S_, .f32⟩
  | 98 => ⟨S4x4096x256, .f32⟩
  | 99 => ⟨S1x4x4096x256, .f32⟩
  | 100 => ⟨S_, .f32⟩
  | 101 => ⟨S1x4x4096x4096x256, .f32⟩
  | 102 => ⟨S1x4x4096x4096x256, .f32⟩
  | 103 => ⟨S1x4x4096x4096x256, .f32⟩
  | 104 => ⟨S1x4x4096x4096x256, .f32⟩
  | 105 => ⟨S_, .f32⟩
  | 106 => ⟨S1x4x4096x256, .f32⟩
  | 107 => ⟨S1x4x4096x1x256, .f32⟩
  | 108 => ⟨S1x4x4096x4096x256, .f32⟩
  | 109 => ⟨S_, .f32⟩
  | 110 => ⟨S1x4x4096x256, .f32⟩
  | 111 => ⟨S1x4x1x4096x256, .f32⟩
  | 112 => ⟨S_, .f32⟩
  | 113 => ⟨S4x4096x256, .f32⟩
  | 114 => ⟨S1x4x4096x256, .f32⟩
  | 115 => ⟨S_, .f32⟩
  | 116 => ⟨S4x4096x256, .f32⟩
  | 117 => ⟨S1x4x4096x256, .f32⟩
  | 118 => ⟨S1x4x4096x256, .f32⟩
  | 119 => ⟨S_, .f32⟩
  | 120 => ⟨S_, .f32⟩
  | 121 => ⟨S1x4x4096x256, .f32⟩
  | 122 => ⟨S1x4096x4x256, .f32⟩
  | 123 => ⟨S1x4096x1024, .f32⟩
  | 124 => ⟨S1x4096x4x512, .f32⟩
  | 125 => ⟨S1x4096x2048, .f32⟩
  | 126 => ⟨S1x4096x4x256, .f32⟩
  | 127 => ⟨S1x4096x1024, .f32⟩
  | _ => ⟨S4096x6272, .f32⟩

abbrev hbmTy0_1 (i : Nat) : BufTy := match i % 128 with
  | 0 => ⟨S_, .f32⟩
  | 1 => ⟨S1x4x4096x256, .f32⟩
  | 2 => ⟨S1x4x4096x256, .f32⟩
  | 3 => ⟨S1x4096x4x256, .f32⟩
  | 4 => ⟨S1x4096x1024, .f32⟩
  | 5 => ⟨S4096x2048, .f32⟩
  | 6 => ⟨S4096x1024, .f32⟩
  | 7 => ⟨S4096x1024, .bf16⟩
  | 8 => ⟨S4096x1024, .f32⟩
  | 9 => ⟨S4096x1024, .bf16⟩
  | 10 => ⟨S4096x2048, .f32⟩
  | 11 => ⟨S4096x2048, .bf16⟩
  | 12 => ⟨S4096x1024, .f32⟩
  | _ => ⟨S4096x6272, .f32⟩

abbrev hbmTy (i : Nat) : BufTy := match i / 128 with
  | 0 => hbmTy0_0 i
  | 1 => hbmTy0_1 i
  | _ => ⟨S4096x6272, .f32⟩

abbrev bufTy : (tb : Table) → Fin (tcTables nBuf tb) → BufTy
  | .hbm, ⟨i, _⟩ => hbmTy i
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v18 : Ref sig .tc := ⟨.hbm, 31, rfl⟩
abbrev main_v19 : Ref sig .tc := ⟨.hbm, 32, rfl⟩
abbrev main_call1_call0_cst : Ref sig .tc := ⟨.hbm, 33, rfl⟩
abbrev main_call1_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_0 : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_call2_v0 : Ref sig .tc := ⟨.hbm, 60, rfl⟩
abbrev main_v38_1 : Ref sig .tc := ⟨.hbm, 61, rfl⟩
abbrev main_call2_v2 : Ref sig .tc := ⟨.hbm, 62, rfl⟩
abbrev main_v38_0 : Ref sig .tc := ⟨.hbm, 63, rfl⟩
abbrev main_call2_cst : Ref sig .tc := ⟨.hbm, 64, rfl⟩
abbrev main_v38_2 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_call3_cst : Ref sig .tc := ⟨.hbm, 100, rfl⟩
abbrev main_call3_v0 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_cst_14 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call4_call0_cst : Ref sig .tc := ⟨.hbm, 119, rfl⟩
abbrev main_call4_call0_v0 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_16 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩

abbrev nD : Nat := 1
abbrev τ : Topo := Topo.v7x

variable {F : FTy → Type} [FloatOps F]
-- ==== Kernel2.lean ====
abbrev S4096x2048 : Shape := ⟨2, ![4096, 2048]⟩
abbrev S4x2048x2816 : Shape := ⟨3, ![4, 2048, 2816]⟩
abbrev S4x1408x2048 : Shape := ⟨3, ![4, 1408, 2048]⟩
abbrev S2x4096x5632 : Shape := ⟨3, ![2, 4096, 5632]⟩
abbrev S4096x5632 : Shape := ⟨2, ![4096, 5632]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S2048x1408 : Shape := ⟨2, ![2048, 1408]⟩
abbrev S1x512x1408 : Shape := ⟨3, ![1, 512, 1408]⟩
abbrev S1024x2048 : Shape := ⟨2, ![1024, 2048]⟩
abbrev S1x1408x2048 : Shape := ⟨3, ![1, 1408, 2048]⟩
abbrev S1x1024x1408 : Shape := ⟨3, ![1, 1024, 1408]⟩
abbrev S2x1024x1408 : Shape := ⟨3, ![2, 1024, 1408]⟩
abbrev S1408x2048 : Shape := ⟨2, ![1408, 2048]⟩
abbrev S1024x1408 : Shape := ⟨2, ![1024, 1408]⟩
abbrev S4096x1024 : Shape := ⟨2, ![4096, 1024]⟩
abbrev S1x4096x1408 : Shape := ⟨3, ![1, 4096, 1408]⟩
abbrev S4096x1408 : Shape := ⟨2, ![4096, 1408]⟩

abbrev nBuf : Space → Nat
  | .hbm => 8
  | .vmem => 26
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4x1408x2048, .bf16⟩
  | .hbm, ⟨3, _⟩ => ⟨S4096x2048, .bf16⟩
  | .hbm, ⟨4, _⟩ => ⟨S2x4096x5632, .bf16⟩
  | .hbm, ⟨5, _⟩ => ⟨S4096x5632, .bf16⟩
  | .hbm, ⟨6, _⟩ => ⟨S2x4096x5632, .bf16⟩
  | .hbm, ⟨7, _⟩ => ⟨S4x2048x2816, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S1024x2048, .bf16⟩
  | .local _ .vmem, ⟨11, _⟩ => ⟨S1024x2048, .bf16⟩
  | .local _ .vmem, ⟨12, _⟩ => ⟨S1x1408x2048, .bf16⟩
  | .local _ .vmem, ⟨13, _⟩ => ⟨S1x1408x2048, .bf16⟩
  | .local _ .vmem, ⟨14, _⟩ => ⟨S1x1024x1408, .bf16⟩
  | .local _ .vmem, ⟨15, _⟩ => ⟨S1x1024x1408, .bf16⟩
  | .local _ .vmem, ⟨16, _⟩ => ⟨S1x1024x1408, .bf16⟩
  | .local _ .vmem, ⟨17, _⟩ => ⟨S1x1024x1408, .bf16⟩
  | .local _ .vmem, ⟨18, _⟩ => ⟨S2x1024x1408, .bf16⟩
  | .local _ .vmem, ⟨19, _⟩ => ⟨S2x1024x1408, .bf16⟩
  | .local _ .vmem, ⟨20, _⟩ => ⟨S4096x1024, .bf16⟩
  | .local _ .vmem, ⟨21, _⟩ => ⟨S4096x1024, .bf16⟩
  | .local _ .vmem, ⟨22, _⟩ => ⟨S1x4096x1408, .bf16⟩
  | .local _ .vmem, ⟨23, _⟩ => ⟨S1x4096x1408, .bf16⟩
  | .local _ .vmem, ⟨24, _⟩ => ⟨S1x1024x1408, .bf16⟩
  | .local _ .vmem, ⟨25, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 32 := Scalar.addi c0_i32 v0
  let c2_i32_0 : BitVec 32 := 2#32
  let v2 : BitVec 32 := Scalar.remsi arg0 c2_i32_0
  let c0_i32_1 : BitVec 32 := 0#32
  let c0_i32_2 : BitVec 32 := 0#32
  ![v1.toNat, c0_i32_1.toNat, v2.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c2_i32 : BitVec 32 := 2#32
  let v1 : BitVec 32 := Scalar.divsi v0 c2_i32
  let c0_i32 : BitVec 32 := 0#32
  let v2 : BitVec 32 := Scalar.addi c0_i32 v1
  let c4_i32_0 : BitVec 32 := 4#32
  let v3 : BitVec 32 := Scalar.addi arg0 c4_i32_0
  let c2_i32_1 : BitVec 32 := 2#32
  let v4 : BitVec 32 := Scalar.remsi v3 c2_i32_1
  let c0_i32_2 : BitVec 32 := 0#32
  let c0_i32_3 : BitVec 32 := 0#32
  ![v2.toNat, c0_i32_2.toNat, v4.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S2x1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 32 := Scalar.addi c0_i32 v0
  let c4_i32_0 : BitVec 32 := 4#32
  let v2 : BitVec 32 := Scalar.remsi arg1 c4_i32_0
  let c0_i32_1 : BitVec 32 := 0#32
  ![v1.toNat, arg2.toNat, v2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 32 := Scalar.addi c0_i32 v0
  let c2_i32_0 : BitVec 32 := 2#32
  let v2 : BitVec 32 := Scalar.remsi arg1 c2_i32_0
  let c0_i32_1 : BitVec 32 := 0#32
  ![v1.toNat, arg0.toNat, v2.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x4096x1408 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference2Ideal.lean ====
abbrev S4096x2048 : Shape := ⟨2, ![4096, 2048]⟩
abbrev S4x2048x2816 : Shape := ⟨3, ![4, 2048, 2816]⟩
abbrev S4x1408x2048 : Shape := ⟨3, ![4, 1408, 2048]⟩
abbrev S2048x4x2816 : Shape := ⟨3, ![2048, 4, 2816]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩
abbrev S11264x2048 : Shape := ⟨2, ![11264, 2048]⟩
abbrev S4096x2x5632 : Shape := ⟨3, ![4096, 2, 5632]⟩
abbrev S2x4096x5632 : Shape := ⟨3, ![2, 4096, 5632]⟩

abbrev nBuf : Space → Nat
  | .hbm => 88
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4x1408x2048, .bf16⟩
  | .hbm, ⟨3, _⟩ => ⟨S4096x2048, .bf16⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S4x1408x2048, .f32⟩
  | .hbm, ⟨8, _⟩ => ⟨S5632x2048, .f32⟩
  | .hbm, ⟨9, _⟩ => ⟨S4096x2048, .f32⟩
  | .hbm, ⟨10, _⟩ => ⟨S4096x11264, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x11264, .f32⟩
  | .hbm, ⟨37, _⟩ => ⟨S4096x2048, .f32⟩
  | .hbm, ⟨38, _⟩ => ⟨S4096x11264, .f32⟩
  | .hbm, ⟨39, _⟩ => ⟨S4096x5632, .f32⟩
  | .hbm, ⟨40, _⟩ => ⟨S4096x5632, .f32⟩
  | .hbm, ⟨41, _⟩ => ⟨S4096x5632, .f32⟩
  | .hbm, ⟨42, _⟩ => ⟨S4096x5632, .f32⟩
  | .hbm, ⟨43, _⟩ => ⟨S_, .f32⟩
  | .hbm, ⟨44, _⟩ => ⟨S4096x5632, .f32⟩
  | .hbm, ⟨45, _⟩ => ⟨S4096x5632, .f32⟩
  | .hbm, ⟨46, _⟩ => ⟨S_, .f32⟩
  | .hbm, ⟨47, _⟩ => ⟨S4096x5632, .f32⟩
  | .hbm, ⟨48, _⟩ => ⟨S4096x5632, .f32⟩
  | .hbm, ⟨49, _⟩ => ⟨S_, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S4096x5632, .f32⟩
  | .hbm, ⟨54, _⟩ => ⟨S4096x5632, .f32⟩
  | .hbm, ⟨55, _⟩ => ⟨S4096x2048, .f32⟩
  | .hbm, ⟨56, _⟩ => ⟨S4096x2048, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S4096x5632, .f32⟩
  | .hbm, ⟨61, _⟩ => ⟨S4096x5632, .f32⟩
  | .hbm, ⟨62, _⟩ => ⟨S4096x5632, .f32⟩
  | .hbm, ⟨63, _⟩ => ⟨S4096x5632, .f32⟩
  | .hbm, ⟨64, _⟩ => ⟨S4096x11264, .f32⟩
  | .hbm, ⟨65, _⟩ => ⟨S11264x2048, .f32⟩
  | .hbm, ⟨66, _⟩ => ⟨S2048x11264, .f32⟩
  | .hbm, ⟨67, _⟩ => ⟨S2048x4x2816, .f32⟩
  | .hbm, ⟨68, _⟩ => ⟨S4x2048x2816, .f32⟩
  | .hbm, ⟨69, _⟩ => ⟨S4096x2x5632, .f32⟩
  | .hbm, ⟨70, _⟩ => ⟨S2x4096x5632, .f32⟩
  | .hbm, ⟨71, _⟩ => ⟨S4096x2048, .f32⟩
  | .hbm, ⟨72, _⟩ => ⟨S4096x11264, .f32⟩
  | .hbm, ⟨73, _⟩ => ⟨S4096x5632, .f32⟩
  | .hbm, ⟨74, _⟩ => ⟨S4096x5632, .f32⟩
  | .hbm, ⟨75, _⟩ => ⟨S4096x5632, .f32⟩
  | .hbm, ⟨76, _⟩ => ⟨S4096x5632, .f32⟩
  | .hbm, ⟨77, _⟩ => ⟨S_, .f32⟩
  | .hbm, ⟨78, _⟩ => ⟨S4096x5632, .f32⟩
  | .hbm, ⟨79, _⟩ => ⟨S4096x5632, .f32⟩
  | .hbm, ⟨80, _⟩ => ⟨S_, .f32⟩
  | .hbm, ⟨81, _⟩ => ⟨S4096x5632, .f32⟩
  | .hbm, ⟨82, _⟩ => ⟨S4096x5632, .f32⟩
  | .hbm, ⟨83, _⟩ => ⟨S4096x5632, .f32⟩
  | .hbm, ⟨84, _⟩ => ⟨S4096x5632, .f32⟩
  | .hbm, ⟨85, _⟩ => ⟨S4096x5632, .bf16⟩
  | .hbm, ⟨86, _⟩ => ⟨S2x4096x5632, .bf16⟩
  | .hbm, ⟨87, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v9_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v9_1 : Ref sig .tc := ⟨.hbm, 24, rfl⟩
abbrev main_v9_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_v22_2 : Ref sig .tc := ⟨.hbm, 48, rfl⟩
abbrev main_call2_cst_1 : Ref sig .tc := ⟨.hbm, 49, rfl⟩
abbrev main_call2_v6 : Ref sig .tc := ⟨.hbm, 50, rfl⟩
abbrev main_call2_v7 : Ref sig .tc := ⟨.hbm, 51, rfl⟩
abbrev main_v22_1 : Ref sig .tc := ⟨.hbm, 52, rfl⟩
abbrev main_v22_0 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call4_v0 : Ref sig .tc := ⟨.hbm, 75, rfl⟩
abbrev main_call4_v1 : Ref sig .tc := ⟨.hbm, 76, rfl⟩
abbrev main_call4_cst : Ref sig .tc := ⟨.hbm, 77, rfl⟩
abbrev main_call4_v2 : Ref sig .tc := ⟨.hbm, 78, rfl⟩
abbrev main_call4_v3 : Ref sig .tc := ⟨.hbm, 79, rfl⟩
abbrev main_call4_cst_0 : Ref sig .tc := ⟨.hbm, 80, rfl⟩
abbrev main_call4_v4 : Ref sig .tc := ⟨.hbm, 81, rfl⟩
abbrev main_call4_v5 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩

abbrev nD : Nat := 1
abbrev τ : Topo := Topo.v7x

variable {F : FTy → Type} [FloatOps F]
-- ==== Kernel3.lean ====
abbrev S4096x2048 : Shape := ⟨2, ![4096, 2048]⟩
abbrev S4x2048x2816 : Shape := ⟨3, ![4, 2048, 2816]⟩
abbrev S4x1408x2048 : Shape := ⟨3, ![4, 1408, 2048]⟩
abbrev S2048x4x2816 : Shape := ⟨3, ![2048, 4, 2816]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 25
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x2048x2816, .bf16⟩
  | .hbm, ⟨3, _⟩ => ⟨S4x1408x2048, .bf16⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S4x1408x2048, .f32⟩
  | .hbm, ⟨8, _⟩ => ⟨S5632x2048, .f32⟩
  | .hbm, ⟨9, _⟩ => ⟨S4096x2048, .f32⟩
  | .hbm, ⟨10, _⟩ => ⟨S4096x11264, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .bf16⟩
  | .hbm, ⟨24, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x2048 : Shape := ⟨2, ![4096, 2048]⟩
abbrev S4x2048x2816 : Shape := ⟨3, ![4, 2048, 2816]⟩
abbrev S4x1408x2048 : Shape := ⟨3, ![4, 1408, 2048]⟩
abbrev S2048x4x2816 : Shape := ⟨3, ![2048, 4, 2816]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x2048x2816, .bf16⟩
  | .hbm, ⟨3, _⟩ => ⟨S4x1408x2048, .bf16⟩
  | .hbm, ⟨4, _⟩ => ⟨S4096x2048, .f32⟩
  | .hbm, ⟨5, _⟩ => ⟨S4x2048x2816, .f32⟩
  | .hbm, ⟨6, _⟩ => ⟨S2048x4x2816, .f32⟩
  | .hbm, ⟨7, _⟩ => ⟨S2048x11264, .f32⟩
  | .hbm, ⟨8, _⟩ => ⟨S4x1408x2048, .f32⟩
  | .hbm, ⟨9, _⟩ => ⟨S5632x2048, .f32⟩
  | .hbm, ⟨10, _⟩ => ⟨S4096x11264, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel4.lean ====
abbrev S4096x2048 : Shape := ⟨2, ![4096, 2048]⟩
abbrev S4x2048x2816 : Shape := ⟨3, ![4, 2048, 2816]⟩
abbrev S4x1408x2048 : Shape := ⟨3, ![4, 1408, 2048]⟩
abbrev S2048x4x2816 : Shape := ⟨3, ![2048, 4, 2816]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 25
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4x1408x2048, .bf16⟩
  | .hbm, ⟨3, _⟩ => ⟨S4096x2048, .bf16⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S4x1408x2048, .f32⟩
  | .hbm, ⟨8, _⟩ => ⟨S5632x2048, .f32⟩
  | .hbm, ⟨9, _⟩ => ⟨S4096x2048, .f32⟩
  | .hbm, ⟨10, _⟩ => ⟨S4096x11264, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .bf16⟩
  | .hbm, ⟨24, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4x2048x2816 : Shape := ⟨3, ![4, 2048, 2816]⟩
abbrev S4x1408x2048 : Shape := ⟨3, ![4, 1408, 2048]⟩
abbrev S2048x4x2816 : Shape := ⟨3, ![2048, 4, 2816]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩
abbrev S2048x5632 : Shape := ⟨2, ![2048, 5632]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4x1408x2048, .bf16⟩
  | .hbm, ⟨3, _⟩ => ⟨S4096x2048, .bf16⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S4x1408x2048, .f32⟩
  | .hbm, ⟨8, _⟩ => ⟨S5632x2048, .f32⟩
  | .hbm, ⟨9, _⟩ => ⟨S4096x2048, .f32⟩
  | .hbm, ⟨10, _⟩ => ⟨S4096x11264, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x2048, .f32⟩
  | .hbm, ⟨24, _⟩ => ⟨S4096x2048, .f32⟩
  | .hbm, ⟨25, _⟩ => ⟨S2048x5632, .f32⟩
  | .hbm, ⟨26, _⟩ => ⟨S5632x2048, .f32⟩
  | .hbm, ⟨27, _⟩ => ⟨S5632x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Kernel5.lean ====
abbrev S4096x2048 : Shape := ⟨2, ![4096, 2048]⟩
abbrev S4x2048x2816 : Shape := ⟨3, ![4, 2048, 2816]⟩
abbrev S4x1408x2048 : Shape := ⟨3, ![4, 1408, 2048]⟩
abbrev S2048x4x2816 : Shape := ⟨3, ![2048, 4, 2816]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩
abbrev S4096x2x5632 : Shape := ⟨3, ![4096, 2, 5632]⟩
abbrev S2x4096x5632 : Shape := ⟨3, ![2, 4096, 5632]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 41
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4x1408x2048, .bf16⟩
  | .hbm, ⟨3, _⟩ => ⟨S4096x2048, .bf16⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S4x1408x2048, .f32⟩
  | .hbm, ⟨8, _⟩ => ⟨S5632x2048, .f32⟩
  | .hbm, ⟨9, _⟩ => ⟨S4096x2048, .f32⟩
  | .hbm, ⟨10, _⟩ => ⟨S4096x11264, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x11264, .f32⟩
  | .hbm, ⟨37, _⟩ => ⟨S4096x2x5632, .f32⟩
  | .hbm, ⟨38, _⟩ => ⟨S2x4096x5632, .f32⟩
  | .hbm, ⟨39, _⟩ => ⟨S2x4096x5632, .bf16⟩
  | .hbm, ⟨40, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v9_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v9_1 : Ref sig .tc := ⟨.hbm, 24, rfl⟩
abbrev main_v9_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 32 := Scalar.addi c0_i32 v0
  let c2_i32_0 : BitVec 32 := 2#32
  let v2 : BitVec 32 := Scalar.remsi arg2 c2_i32_0
  let c0_i32_1 : BitVec 32 := 0#32
  ![v1.toNat, arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S4x2048x2816 : Shape := ⟨3, ![4, 2048, 2816]⟩
abbrev S4x1408x2048 : Shape := ⟨3, ![4, 1408, 2048]⟩
abbrev S2048x4x2816 : Shape := ⟨3, ![2048, 4, 2816]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4x1408x2048, .bf16⟩
  | .hbm, ⟨3, _⟩ => ⟨S4096x2048, .bf16⟩
  | .hbm, ⟨4, _⟩ => ⟨S4x2048x2816, .f32⟩
  | .hbm, ⟨5, _⟩ => ⟨S2048x4x2816, .f32⟩
  | .hbm, ⟨6, _⟩ => ⟨S2048x11264, .f32⟩
  | .hbm, ⟨7, _⟩ => ⟨S4x1408x2048, .f32⟩
  | .hbm, ⟨8, _⟩ => ⟨S5632x2048, .f32⟩
  | .hbm, ⟨9, _⟩ => ⟨S4096x2048, .f32⟩
  | .hbm, ⟨10, _⟩ => ⟨S4096x11264, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x2048, .f32⟩
  | .hbm, ⟨28, _⟩ => ⟨S4096x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x11264, .f32⟩
  | .hbm, ⟨37, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v9_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v9_1 : Ref sig .tc := ⟨.hbm, 24, rfl⟩
abbrev main_v9_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== Kernel6.lean ====
abbrev S4096x2048 : Shape := ⟨2, ![4096, 2048]⟩
abbrev S2048x6160 : Shape := ⟨2, ![2048, 6160]⟩
abbrev S_ : Shape := ⟨0, ![]⟩
abbrev S2048x6272 : Shape := ⟨2, ![2048, 6272]⟩
abbrev S4096x6272 : Shape := ⟨2, ![4096, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6160, .bf16⟩
  | .hbm, ⟨2, _⟩ => ⟨S_, .i32⟩
  | .hbm, ⟨3, _⟩ => ⟨S_, .bf16⟩
  | .hbm, ⟨4, _⟩ => ⟨S2048x6272, .bf16⟩
  | .hbm, ⟨5, _⟩ => ⟨S4096x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x6160 : Shape := ⟨2, ![2048, 6160]⟩
abbrev S4096x6160 : Shape := ⟨2, ![4096, 6160]⟩
abbrev S_ : Shape := ⟨0, ![]⟩
abbrev S4096x6272 : Shape := ⟨2, ![4096, 6272]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6160, .bf16⟩
  | .hbm, ⟨2, _⟩ => ⟨S4096x2048, .f32⟩
  | .hbm, ⟨3, _⟩ => ⟨S2048x6160, .f32⟩
  | .hbm, ⟨4, _⟩ => ⟨S4096x6160, .f32⟩
  | .hbm, ⟨5, _⟩ => ⟨S_, .i32⟩
  | .hbm, ⟨6, _⟩ => ⟨S_, .f32⟩
  | .hbm, ⟨7, _⟩ => ⟨S4096x6272, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x2048 : Shape := ⟨2, ![4096, 2048]⟩
abbrev S4x2048x1024 : Shape := ⟨3, ![4, 2048, 1024]⟩
abbrev S2x4096x2048 : Shape := ⟨3, ![2, 4096, 2048]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S2x4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 32 := Scalar.addi c0_i32 v0
  let c2_i32_0 : BitVec 32 := 2#32
  let v2 : BitVec 32 := Scalar.remsi arg1 c2_i32_0
  let c0_i32_1 : BitVec 32 := 0#32
  ![v1.toNat, arg0.toNat, v2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S4096x4096 : Shape := ⟨2, ![4096, 4096]⟩
abbrev S4096x2x2048 : Shape := ⟨3, ![4096, 2, 2048]⟩
abbrev S2x4096x2048 : Shape := ⟨3, ![2, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x2048, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S4096x4096, .f32⟩
  | .hbm, ⟨7, _⟩ => ⟨S4096x2x2048, .f32⟩
  | .hbm, ⟨8, _⟩ => ⟨S2x4096x2048, .f32⟩
  | .hbm, ⟨9, _⟩ => ⟨S2x4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x2048 : Shape := ⟨2, ![4096, 2048]⟩
abbrev S4x2048x1024 : Shape := ⟨3, ![4, 2048, 1024]⟩
abbrev S2x4096x2048 : Shape := ⟨3, ![2, 4096, 2048]⟩
abbrev S4096x1024 : Shape := ⟨2, ![4096, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S2x4096x2048, .bf16⟩
  | .hbm, ⟨3, _⟩ => ⟨S4x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 32 := Scalar.addi c0_i32 v0
  let c2_i32_0 : BitVec 32 := 2#32
  let v2 : BitVec 32 := Scalar.remsi arg1 c2_i32_0
  let c0_i32_1 : BitVec 32 := 0#32
  ![v1.toNat, arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4x2048x1024 : Shape := ⟨3, ![4, 2048, 1024]⟩
abbrev S2x4096x2048 : Shape := ⟨3, ![2, 4096, 2048]⟩
abbrev S2048x4x1024 : Shape := ⟨3, ![2048, 4, 1024]⟩
abbrev S2048x4096 : Shape := ⟨2, ![2048, 4096]⟩
abbrev S4096x2x2048 : Shape := ⟨3, ![4096, 2, 2048]⟩
abbrev S4096x4096 : Shape := ⟨2, ![4096, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S2x4096x2048, .bf16⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S2x4096x2048, .f32⟩
  | .hbm, ⟨7, _⟩ => ⟨S4096x2x2048, .f32⟩
  | .hbm, ⟨8, _⟩ => ⟨S4096x4096, .f32⟩
  | .hbm, ⟨9, _⟩ => ⟨S4096x2048, .f32⟩
  | .hbm, ⟨10, _⟩ => ⟨S4096x4096, .f32⟩
  | .hbm, ⟨11, _⟩ => ⟨S4096x2048, .f32⟩
  | .hbm, ⟨12, _⟩ => ⟨S2048x4096, .f32⟩
  | .hbm, ⟨13, _⟩ => ⟨S4096x2048, .f32⟩
  | .hbm, ⟨14, _⟩ => ⟨S2048x4x1024, .f32⟩
  | .hbm, ⟨15, _⟩ => ⟨S4x2048x1024, .f32⟩
  | .hbm, ⟨16, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel14.lean ====
abbrev S4096x2048 : Shape := ⟨2, ![4096, 2048]⟩
abbrev S4x2048x1024 : Shape := ⟨3, ![4, 2048, 1024]⟩
abbrev S2x4096x2048 : Shape := ⟨3, ![2, 4096, 2048]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S2x4096x2048, .bf16⟩
  | .hbm, ⟨3, _⟩ => ⟨S4096x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 32 := Scalar.addi c0_i32 v0
  let c2_i32_0 : BitVec 32 := 2#32
  let v2 : BitVec 32 := Scalar.remsi arg2 c2_i32_0
  let c0_i32_1 : BitVec 32 := 0#32
  ![v1.toNat, arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4x2048x1024 : Shape := ⟨3, ![4, 2048, 1024]⟩
abbrev S2x4096x2048 : Shape := ⟨3, ![2, 4096, 2048]⟩
abbrev S2048x4x1024 : Shape := ⟨3, ![2048, 4, 1024]⟩
abbrev S2048x4096 : Shape := ⟨2, ![2048, 4096]⟩
abbrev S4096x2x2048 : Shape := ⟨3, ![4096, 2, 2048]⟩
abbrev S4096x4096 : Shape := ⟨2, ![4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S2x4096x2048, .bf16⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S2x4096x2048, .f32⟩
  | .hbm, ⟨7, _⟩ => ⟨S4096x2x2048, .f32⟩
  | .hbm, ⟨8, _⟩ => ⟨S4096x4096, .f32⟩
  | .hbm, ⟨9, _⟩ => ⟨S4096x2048, .f32⟩
  | .hbm, ⟨10, _⟩ => ⟨S4096x4096, .f32⟩
  | .hbm, ⟨11, _⟩ => ⟨S4096x2048, .f32⟩
  | .hbm, ⟨12, _⟩ => ⟨S2048x4096, .f32⟩
  | .hbm, ⟨13, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel15.lean ====
abbrev S4096x2048 : Shape := ⟨2, ![4096, 2048]⟩
abbrev S2048x6160 : Shape := ⟨2, ![2048, 6160]⟩
abbrev S4096x6160 : Shape := ⟨2, ![4096, 6160]⟩
abbrev S_ : Shape := ⟨0, ![]⟩
abbrev S4096x6272 : Shape := ⟨2, ![4096, 6272]⟩
abbrev S2048x6272 : Shape := ⟨2, ![2048, 6272]⟩
abbrev S1024x896 : Shape := ⟨2, ![1024, 896]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x6160, .bf16⟩
  | .hbm, ⟨2, _⟩ => ⟨S4096x6160, .bf16⟩
  | .hbm, ⟨3, _⟩ => ⟨S_, .i32⟩
  | .hbm, ⟨4, _⟩ => ⟨S_, .bf16⟩
  | .hbm, ⟨5, _⟩ => ⟨S4096x6272, .bf16⟩
  | .hbm, ⟨6, _⟩ => ⟨S_, .i32⟩
  | .hbm, ⟨7, _⟩ => ⟨S_, .bf16⟩
  | .hbm, ⟨8, _⟩ => ⟨S2048x6272, .bf16⟩
  | .hbm, ⟨9, _⟩ => ⟨S4096x2048, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 7], ![false, false, false]⟩

def k0_cond3 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x6160 : Shape := ⟨2, ![2048, 6160]⟩
abbrev S4096x6160 : Shape := ⟨2, ![4096, 6160]⟩
abbrev S6160x2048 : Shape := ⟨2, ![6160, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6160, .bf16⟩
  | .hbm, ⟨2, _⟩ => ⟨S4096x6160, .bf16⟩
  | .hbm, ⟨3, _⟩ => ⟨S4096x2048, .f32⟩
  | .hbm, ⟨4, _⟩ => ⟨S2048x6160, .f32⟩
  | .hbm, ⟨5, _⟩ => ⟨S4096x6160, .f32⟩
  | .hbm, ⟨6, _⟩ => ⟨S4096x6160, .f32⟩
  | .hbm, ⟨7, _⟩ => ⟨S6160x2048, .f32⟩
  | .hbm, ⟨8, _⟩ => ⟨S2048x6160, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x2048 : Shape := ⟨2, ![4096, 2048]⟩
abbrev S2048x6160 : Shape := ⟨2, ![2048, 6160]⟩
abbrev S4096x6160 : Shape := ⟨2, ![4096, 6160]⟩
abbrev S_ : Shape := ⟨0, ![]⟩
abbrev S4096x6272 : Shape := ⟨2, ![4096, 6272]⟩
abbrev S2048x6272 : Shape := ⟨2, ![2048, 6272]⟩
abbrev S4096x1024 : Shape := ⟨2, ![4096, 1024]⟩
abbrev S4096x896 : Shape := ⟨2, ![4096, 896]⟩
abbrev S1024x896 : Shape := ⟨2, ![1024, 896]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6160, .bf16⟩
  | .hbm, ⟨2, _⟩ => ⟨S4096x6160, .bf16⟩
  | .hbm, ⟨3, _⟩ => ⟨S_, .i32⟩
  | .hbm, ⟨4, _⟩ => ⟨S_, .bf16⟩
  | .hbm, ⟨5, _⟩ => ⟨S4096x6272, .bf16⟩
  | .hbm, ⟨6, _⟩ => ⟨S2048x6272, .bf16⟩
  | .local _ .vmem, ⟨0, _⟩ => ⟨S4096x1024, .bf16⟩
  | .local _ .vmem, ⟨1, _⟩ => ⟨S4096x1024, .bf16⟩
  | .local _ .vmem, ⟨2, _⟩ => ⟨S4096x896, .bf16⟩
  | .local _ .vmem, ⟨3, _⟩ => ⟨S4096x896, .bf16⟩
  | .local _ .vmem, ⟨4, _⟩ => ⟨S1024x896, .bf16⟩
  | .local _ .vmem, ⟨5, _⟩ => ⟨S1024x896, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S2048x6160 : Shape := ⟨2, ![2048, 6160]⟩
abbrev S4096x6160 : Shape := ⟨2, ![4096, 6160]⟩
abbrev S6160x2048 : Shape := ⟨2, ![6160, 2048]⟩
abbrev S_ : Shape := ⟨0, ![]⟩
abbrev S2048x6272 : Shape := ⟨2, ![2048, 6272]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6160, .bf16⟩
  | .hbm, ⟨2, _⟩ => ⟨S4096x6160, .bf16⟩
  | .hbm, ⟨3, _⟩ => ⟨S4096x2048, .f32⟩
  | .hbm, ⟨4, _⟩ => ⟨S2048x6160, .f32⟩
  | .hbm, ⟨5, _⟩ => ⟨S4096x6160, .f32⟩
  | .hbm, ⟨6, _⟩ => ⟨S4096x6160, .f32⟩
  | .hbm, ⟨7, _⟩ => ⟨S6160x2048, .f32⟩
  | .hbm, ⟨8, _⟩ => ⟨S2048x6160, .f32⟩
  | .hbm, ⟨9, _⟩ => ⟨S4096x2048, .f32⟩
  | .hbm, ⟨10, _⟩ => ⟨S_, .i32⟩
  | .hbm, ⟨11, _⟩ => ⟨S_, .f32⟩
  | .hbm, ⟨12, _⟩ => ⟨S2048x6272, .f32⟩
  | .hbm, ⟨13, _⟩ => ⟨S2048x6272, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel17.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel18.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel19.lean ====
abbrev S4096x6160 : Shape := ⟨2, ![4096, 6160]⟩
abbrev S16x1024 : Shape := ⟨2, ![16, 1024]⟩
abbrev S1024 : Shape := ⟨1, ![1024]⟩
abbrev S_ : Shape := ⟨0, ![]⟩
abbrev S4096x6272 : Shape := ⟨2, ![4096, 6272]⟩
abbrev S128x1024 : Shape := ⟨2, ![128, 1024]⟩
abbrev S1x1024 : Shape := ⟨2, ![1, 1024]⟩
abbrev S4096x1024 : Shape := ⟨2, ![4096, 1024]⟩
abbrev S512x128 : Shape := ⟨2, ![512, 128]⟩
abbrev S512x1024 : Shape := ⟨2, ![512, 1024]⟩

abbrev nBuf : Space → Nat
  | .hbm => 12
  | .vmem => 6
  | .smem => 0
  | _ => 0

abbrev bufTy : (tb : Table) → Fin (tcTables nBuf tb) → BufTy
  | .hbm, ⟨0, _⟩ => ⟨S4096x6160, .f32⟩
  | .hbm, ⟨1, _⟩ => ⟨S16x1024, .f32⟩
  | .hbm, ⟨2, _⟩ => ⟨S1024, .f32⟩
  | .hbm, ⟨3, _⟩ => ⟨S_, .i32⟩
  | .hbm, ⟨4, _⟩ => ⟨S_, .f32⟩
  | .hbm, ⟨5, _⟩ => ⟨S4096x6272, .f32⟩
  | .hbm, ⟨6, _⟩ => ⟨S_, .i32⟩
  | .hbm, ⟨7, _⟩ => ⟨S_, .f32⟩
  | .hbm, ⟨8, _⟩ => ⟨S128x1024, .f32⟩
  | .hbm, ⟨9, _⟩ => ⟨S128x1024, .bf16⟩
  | .hbm, ⟨10, _⟩ => ⟨S1x1024, .f32⟩
  | .hbm, ⟨11, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S128x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S4096x6160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference19Ideal.lean ====
abbrev S4096x6160 : Shape := ⟨2, ![4096, 6160]⟩
abbrev S16x1024 : Shape := ⟨2, ![16, 1024]⟩
abbrev S1024 : Shape := ⟨1, ![1024]⟩
abbrev S4096x16 : Shape := ⟨2, ![4096, 16]⟩
abbrev S4096x1024 : Shape := ⟨2, ![4096, 1024]⟩
abbrev S1x1024 : Shape := ⟨2, ![1, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x6160, .f32⟩
  | .hbm, ⟨1, _⟩ => ⟨S16x1024, .f32⟩
  | .hbm, ⟨2, _⟩ => ⟨S1024, .f32⟩
  | .hbm, ⟨3, _⟩ => ⟨S4096x16, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .i1⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | _, _ => ⟨S4096x6160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩

abbrev nD : Nat := 1
abbrev τ : Topo := Topo.v7x

variable {F : FTy → Type} [FloatOps F]
-- ==== Kernel20.lean ====
abbrev S4096x1024 : Shape := ⟨2, ![4096, 1024]⟩
abbrev S4096x6160 : Shape := ⟨2, ![4096, 6160]⟩
abbrev S16x1024 : Shape := ⟨2, ![16, 1024]⟩
abbrev S1024 : Shape := ⟨1, ![1024]⟩
abbrev S_ : Shape := ⟨0, ![]⟩
abbrev S4096x6272 : Shape := ⟨2, ![4096, 6272]⟩
abbrev S128x1024 : Shape := ⟨2, ![128, 1024]⟩
abbrev S1x1024 : Shape := ⟨2, ![1, 1024]⟩
abbrev S4096x128 : Shape := ⟨2, ![4096, 128]⟩
abbrev S512x1024 : Shape := ⟨2, ![512, 1024]⟩
abbrev S512x128 : Shape := ⟨2, ![512, 128]⟩

abbrev nBuf : Space → Nat
  | .hbm => 15
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x6160, .f32⟩
  | .hbm, ⟨2, _⟩ => ⟨S16x1024, .f32⟩
  | .hbm, ⟨3, _⟩ => ⟨S1024, .f32⟩
  | .hbm, ⟨4, _⟩ => ⟨S_, .i32⟩
  | .hbm, ⟨5, _⟩ => ⟨S_, .f32⟩
  | .hbm, ⟨6, _⟩ => ⟨S4096x6272, .f32⟩
  | .hbm, ⟨7, _⟩ => ⟨S_, .i32⟩
  | .hbm, ⟨8, _⟩ => ⟨S_, .f32⟩
  | .hbm, ⟨9, _⟩ => ⟨S128x1024, .f32⟩
  | .hbm, ⟨10, _⟩ => ⟨S128x1024, .bf16⟩
  | .hbm, ⟨11, _⟩ => ⟨S1x1024, .f32⟩
  | .hbm, ⟨12, _⟩ => ⟨S4096x128, .bf16⟩
  | .hbm, ⟨13, _⟩ => ⟨S128x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S128x1024, .bf16⟩
  | .local _ .vmem, ⟨5, _⟩ => ⟨S1x1024, .f32⟩
  | .local _ .vmem, ⟨6, _⟩ => ⟨S512x128, .bf16⟩
  | .local _ .vmem, ⟨7, _⟩ => ⟨S512x128, .bf16⟩
  | .local _ .vmem, ⟨8, _⟩ => ⟨S128x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_17 : BitVec 32 := 0#32
  let v30 : BitVec 1 := Scalar.cmpi .ne v29 c0_i32_17
  v30

def k0_cond2 (i : grid0.Coords) : BitVec 1 :=
  let arg0 : BitVec 32 := BitVec.ofNat 32 (i 0).val
  let c0_i32_18 : BitVec 32 := 0#32
  let v31 : BitVec 1 := Scalar.cmpi .sgt arg0 c0_i32_18
  let v32 : BitVec 32 := Scalar.extui v31
  let c0_i32_19 : BitVec 32 := 0#32
  let v33 : BitVec 1 := Scalar.cmpi .ne v32 c0_i32_19
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S4096x1024 : Shape := ⟨2, ![4096, 1024]⟩
abbrev S4096x6160 : Shape := ⟨2, ![4096, 6160]⟩
abbrev S16x1024 : Shape := ⟨2, ![16, 1024]⟩
abbrev S1024 : Shape := ⟨1, ![1024]⟩
abbrev S4096x16 : Shape := ⟨2, ![4096, 16]⟩
abbrev S1x1024 : Shape := ⟨2, ![1, 1024]⟩
abbrev S_ : Shape := ⟨0, ![]⟩
abbrev S1024x16 : Shape := ⟨2, ![1024, 16]⟩
abbrev S4096x128 : Shape := ⟨2, ![4096, 128]⟩
abbrev S128x1024 : Shape := ⟨2, ![128, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6160, .f32⟩
  | .hbm, ⟨2, _⟩ => ⟨S16x1024, .f32⟩
  | .hbm, ⟨3, _⟩ => ⟨S1024, .f32⟩
  | .hbm, ⟨4, _⟩ => ⟨S4096x16, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .i1⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .i1⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .i1⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x1024, .f32⟩
  | .hbm, ⟨46, _⟩ => ⟨S4096x1024, .i1⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S1024x16, .f32⟩
  | .hbm, ⟨72, _⟩ => ⟨S16x1024, .f32⟩
  | .hbm, ⟨73, _⟩ => ⟨S4096x16, .f32⟩
  | .hbm, ⟨74, _⟩ => ⟨S_, .i32⟩
  | .hbm, ⟨75, _⟩ => ⟨S_, .f32⟩
  | .hbm, ⟨76, _⟩ => ⟨S4096x128, .f32⟩
  | .hbm, ⟨77, _⟩ => ⟨S4096x128, .bf16⟩
  | .hbm, ⟨78, _⟩ => ⟨S_, .i32⟩
  | .hbm, ⟨79, _⟩ => ⟨S_, .f32⟩
  | .hbm, ⟨80, _⟩ => ⟨S128x1024, .f32⟩
  | .hbm, ⟨81, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1_0 : Ref sig .tc := ⟨.hbm, 23, rfl⟩
abbrev main_call0_call0_cst_0 : Ref sig .tc := ⟨.hbm, 24, rfl⟩
abbrev main_call0_call0_v13 : Ref sig .tc := ⟨.hbm, 25, rfl⟩
abbrev main_call0_call0_v14 : Ref sig .tc := ⟨.hbm, 26, rfl⟩
abbrev main_call0_call0_cst_1 : Ref sig .tc := ⟨.hbm, 27, rfl⟩
abbrev main_call0_call0_v15 : Ref sig .tc := ⟨.hbm, 28, rfl⟩
abbrev main_call0_call0_v16 : Ref sig .tc := ⟨.hbm, 29, rfl⟩
abbrev main_call0_call0_cst_2 : Ref sig .tc := ⟨.hbm, 30, rfl⟩
abbrev main_call0_call0_v17 : Ref sig .tc := ⟨.hbm, 31, rfl⟩
abbrev main_call0_call0_v18 : Ref sig .tc := ⟨.hbm, 32, rfl⟩
abbrev main_call0_call0_cst_3 : Ref sig .tc := ⟨.hbm, 33, rfl⟩
abbrev main_call0_call0_v19 : Ref sig .tc := ⟨.hbm, 34, rfl⟩
abbrev main_call0_call0_v20 : Ref sig .tc := ⟨.hbm, 35, rfl⟩
abbrev main_call0_call0_v21 : Ref sig .tc := ⟨.hbm, 36, rfl⟩
abbrev main_v5_1 : Ref sig .tc := ⟨.hbm, 37, rfl⟩
abbrev main_call0_call0_cst_4 : Ref sig .tc := ⟨.hbm, 38, rfl⟩
abbrev main_call0_call0_cst_5 : Ref sig .tc := ⟨.hbm, 39, rfl⟩
abbrev main_call0_call0_v23 : Ref sig .tc := ⟨.hbm, 40, rfl⟩
abbrev main_call0_call0_cst_6 : Ref sig .tc := ⟨.hbm, 41, rfl⟩
abbrev main_call0_call0_cst_7 : Ref sig .tc := ⟨.hbm, 42, rfl⟩
abbrev main_call0_call0_v24 : Ref sig .tc := ⟨.hbm, 43, rfl⟩
abbrev main_call0_call0_cst_8 : Ref sig .tc := ⟨.hbm, 44, rfl⟩
abbrev main_call0_call0_v25 : Ref sig .tc := ⟨.hbm, 45, rfl⟩
abbrev main_call0_call0_v26 : Ref sig .tc := ⟨.hbm, 46, rfl⟩
abbrev main_call0_call0_cst_9 : Ref sig .tc := ⟨.hbm, 47, rfl⟩
abbrev main_call0_call0_v27 : Ref sig .tc := ⟨.hbm, 48, rfl⟩
abbrev main_call0_call0_v28 : Ref sig .tc := ⟨.hbm, 49, rfl⟩
abbrev main_call0_call0_v29 : Ref sig .tc := ⟨.hbm, 50, rfl⟩
abbrev main_call0_call0_v30 : Ref sig .tc := ⟨.hbm, 51, rfl⟩
abbrev main_call0_call0_v31 : Ref sig .tc := ⟨.hbm, 52, rfl⟩
abbrev main_call0_call0_cst_10 : Ref sig .tc := ⟨.hbm, 53, rfl⟩
abbrev main_call0_call0_v32 : Ref sig .tc := ⟨.hbm, 54, rfl⟩
abbrev main_v5_2 : Ref sig .tc := ⟨.hbm, 55, rfl⟩
abbrev main_v5_0 : Ref sig .tc := ⟨.hbm, 56, rfl⟩
abbrev main_cst : Ref sig .tc := ⟨.hbm, 57, rfl⟩
abbrev main_v6 : Ref sig .tc := ⟨.hbm, 58, rfl⟩
abbrev main_v7 : Ref sig .tc := ⟨.hbm, 59, rfl⟩
abbrev main_cst_0 : Ref sig .tc := ⟨.hbm, 60, rfl⟩
abbrev main_v8 : Ref sig .tc := ⟨.hbm, 61, rfl⟩
abbrev main_v9 : Ref sig .tc := ⟨.hbm, 62, rfl⟩
abbrev main_call1_v0 : Ref sig .tc := ⟨.hbm, 63, rfl⟩
abbrev main_call1_v1 : Ref sig .tc := ⟨.hbm, 64, rfl⟩
abbrev main_v10 : Ref sig .tc := ⟨.hbm, 65, rfl⟩
abbrev main_cst_1 : Ref sig .tc := ⟨.hbm, 66, rfl⟩
abbrev main_v11 : Ref sig .tc := ⟨.hbm, 67, rfl⟩
abbrev main_v12 : Ref sig .tc := ⟨.hbm, 68, rfl⟩
abbrev main_cst_2 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_c : Ref sig .tc := ⟨.hbm, 74, rfl⟩
abbrev main_call2_v0 : Ref sig .tc := ⟨.hbm, 75, rfl⟩
abbrev main_v17 : Ref sig .tc := ⟨.hbm, 76, rfl⟩
abbrev main_v18 : Ref sig .tc := ⟨.hbm, 77, rfl⟩
abbrev main_c_3 : Ref sig .tc := ⟨.hbm, 78, rfl⟩
abbrev main_call3_v0 : Ref sig .tc := ⟨.hbm, 79, rfl⟩
abbrev main_v19 : Ref sig .tc := ⟨.hbm, 80, rfl⟩
abbrev main_v20 : Ref sig .tc := ⟨.hbm, 81, rfl⟩

abbrev nD : Nat := 1
abbrev τ : Topo := Topo.v7x

variable {F : FTy → Type} [FloatOps F]
-- ==== Kernel21.lean ====
abbrev S4096x2048 : Shape := ⟨2, ![4096, 2048]⟩
abbrev S4096x6160 : Shape := ⟨2, ![4096, 6160]⟩
abbrev S512 : Shape := ⟨1, ![512]⟩
abbrev S_ : Shape := ⟨0, ![]⟩
abbrev S4096x6272 : Shape := ⟨2, ![4096, 6272]⟩
abbrev S1x512 : Shape := ⟨2, ![1, 512]⟩
abbrev S512x512 : Shape := ⟨2, ![512, 512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x6160, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S4096x6272, .f32⟩
  | .hbm, ⟨6, _⟩ => ⟨S1x512, .f32⟩
  | .hbm, ⟨7, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference21Ideal.lean ====
abbrev S4096x2048 : Shape := ⟨2, ![4096, 2048]⟩
abbrev S4096x6160 : Shape := ⟨2, ![4096, 6160]⟩
abbrev S512 : Shape := ⟨1, ![512]⟩
abbrev S4096x4x512 : Shape := ⟨3, ![4096, 4, 512]⟩
abbrev S_ : Shape := ⟨0, ![]⟩
abbrev S4096x4 : Shape := ⟨2, ![4096, 4]⟩
abbrev S4096x4x1 : Shape := ⟨3, ![4096, 4, 1]⟩
abbrev S1x1x512 : Shape := ⟨3, ![1, 1, 512]⟩

abbrev nBuf : Space → Nat
  | .hbm => 34
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6160, .f32⟩
  | .hbm, ⟨2, _⟩ => ⟨S512, .f32⟩
  | .hbm, ⟨3, _⟩ => ⟨S4096x2048, .f32⟩
  | .hbm, ⟨4, _⟩ => ⟨S4096x4x512, .f32⟩
  | .hbm, ⟨5, _⟩ => ⟨S4096x4x512, .f32⟩
  | .hbm, ⟨6, _⟩ => ⟨S_, .f32⟩
  | .hbm, ⟨7, _⟩ => ⟨S4096x4, .f32⟩
  | .hbm, ⟨8, _⟩ => ⟨S4096x4x1, .f32⟩
  | .hbm, ⟨9, _⟩ => ⟨S_, .f32⟩
  | .hbm, ⟨10, _⟩ => ⟨S4096x4x1, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S4096x4x1, .f32⟩
  | .hbm, ⟨16, _⟩ => ⟨S4096x4x512, .f32⟩
  | .hbm, ⟨17, _⟩ => ⟨S4096x4x512, .f32⟩
  | .hbm, ⟨18, _⟩ => ⟨S1x1x512, .f32⟩
  | .hbm, ⟨19, _⟩ => ⟨S4096x4x512, .f32⟩
  | .hbm, ⟨20, _⟩ => ⟨S4096x4x512, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x4x512, .f32⟩
  | .hbm, ⟨31, _⟩ => ⟨S4096x4x512, .f32⟩
  | .hbm, ⟨32, _⟩ => ⟨S4096x2048, .f32⟩
  | .hbm, ⟨33, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel22.lean ====
abbrev S4096x2048 : Shape := ⟨2, ![4096, 2048]⟩
abbrev S4096x6160 : Shape := ⟨2, ![4096, 6160]⟩
abbrev S512 : Shape := ⟨1, ![512]⟩
abbrev S_ : Shape := ⟨0, ![]⟩
abbrev S4096x6272 : Shape := ⟨2, ![4096, 6272]⟩
abbrev S1x512 : Shape := ⟨2, ![1, 512]⟩
abbrev S512x512 : Shape := ⟨2, ![512, 512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x6160, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S4096x6272, .f32⟩
  | .hbm, ⟨7, _⟩ => ⟨S1x512, .f32⟩
  | .hbm, ⟨8, _⟩ => ⟨S4096x2048, .f32⟩
  | .hbm, ⟨9, _⟩ => ⟨S4096x2048, .bf16⟩
  | .hbm, ⟨10, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S1x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v59 : BitVec 32 := Scalar.extui v2
  let c0_i32_24 : BitVec 32 := 0#32
  let v60 : BitVec 1 := Scalar.cmpi .ne v59 c0_i32_24
  v60

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v61 : BitVec 1 := Scalar.xori v2 v_true
  let v62 : BitVec 32 := Scalar.extui v61
  let c0_i32_25 : BitVec 32 := 0#32
  let v63 : BitVec 1 := Scalar.cmpi .ne v62 c0_i32_25
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference22Ideal.lean ====
abbrev S4096x2048 : Shape := ⟨2, ![4096, 2048]⟩
abbrev S4096x6160 : Shape := ⟨2, ![4096, 6160]⟩
abbrev S512 : Shape := ⟨1, ![512]⟩
abbrev S4096x4x512 : Shape := ⟨3, ![4096, 4, 512]⟩
abbrev S_ : Shape := ⟨0, ![]⟩
abbrev S4096x4 : Shape := ⟨2, ![4096, 4]⟩
abbrev S4096x4x1 : Shape := ⟨3, ![4096, 4, 1]⟩
abbrev S1x1x512 : Shape := ⟨3, ![1, 1, 512]⟩
abbrev S1x512 : Shape := ⟨2, ![1, 512]⟩

abbrev nBuf : Space → Nat
  | .hbm => 79
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x6160, .f32⟩
  | .hbm, ⟨3, _⟩ => ⟨S512, .f32⟩
  | .hbm, ⟨4, _⟩ => ⟨S4096x2048, .f32⟩
  | .hbm, ⟨5, _⟩ => ⟨S4096x4x512, .f32⟩
  | .hbm, ⟨6, _⟩ => ⟨S4096x4x512, .f32⟩
  | .hbm, ⟨7, _⟩ => ⟨S_, .f32⟩
  | .hbm, ⟨8, _⟩ => ⟨S4096x4, .f32⟩
  | .hbm, ⟨9, _⟩ => ⟨S4096x4x1, .f32⟩
  | .hbm, ⟨10, _⟩ => ⟨S_, .f32⟩
  | .hbm, ⟨11, _⟩ => ⟨S4096x4x1, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S4096x4x1, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S4096x4x512, .f32⟩
  | .hbm, ⟨22, _⟩ => ⟨S4096x4x512, .f32⟩
  | .hbm, ⟨23, _⟩ => ⟨S1x1x512, .f32⟩
  | .hbm, ⟨24, _⟩ => ⟨S4096x4x512, .f32⟩
  | .hbm, ⟨25, _⟩ => ⟨S4096x4x512, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x4x512, .f32⟩
  | .hbm, ⟨40, _⟩ => ⟨S4096x4x512, .f32⟩
  | .hbm, ⟨41, _⟩ => ⟨S4096x2048, .f32⟩
  | .hbm, ⟨42, _⟩ => ⟨S4096x2048, .f32⟩
  | .hbm, ⟨43, _⟩ => ⟨S4096x4x512, .f32⟩
  | .hbm, ⟨44, _⟩ => ⟨S4096x4x512, .f32⟩
  | .hbm, ⟨45, _⟩ => ⟨S4096x4x512, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x4x512, .f32⟩
  | .hbm, ⟨52, _⟩ => ⟨S_, .f32⟩
  | .hbm, ⟨53, _⟩ => ⟨S512, .f32⟩
  | .hbm, ⟨54, _⟩ => ⟨S1x1x512, .f32⟩
  | .hbm, ⟨55, _⟩ => ⟨S4096x4x512, .f32⟩
  | .hbm, ⟨56, _⟩ => ⟨S4096x4x512, .f32⟩
  | .hbm, ⟨57, _⟩ => ⟨S_, .f32⟩
  | .hbm, ⟨58, _⟩ => ⟨S512, .f32⟩
  | .hbm, ⟨59, _⟩ => ⟨S4096x4x512, .f32⟩
  | .hbm, ⟨60, _⟩ => ⟨S_, .f32⟩
  | .hbm, ⟨61, _⟩ => ⟨S4096x4, .f32⟩
  | .hbm, ⟨62, _⟩ => ⟨S4096x4x1, .f32⟩
  | .hbm, ⟨63, _⟩ => ⟨S4096x4x512, .f32⟩
  | .hbm, ⟨64, _⟩ => ⟨S4096x4x512, .f32⟩
  | .hbm, ⟨65, _⟩ => ⟨S4096x4x1, .f32⟩
  | .hbm, ⟨66, _⟩ => ⟨S_, .f32⟩
  | .hbm, ⟨67, _⟩ => ⟨S4096x4x1, .f32⟩
  | .hbm, ⟨68, _⟩ => ⟨S4096x4x1, .f32⟩
  | .hbm, ⟨69, _⟩ => ⟨S_, .f32⟩
  | .hbm, ⟨70, _⟩ => ⟨S4096x4, .f32⟩
  | .hbm, ⟨71, _⟩ => ⟨S4096x4x512, .f32⟩
  | .hbm, ⟨72, _⟩ => ⟨S4096x4x512, .f32⟩
  | .hbm, ⟨73, _⟩ => ⟨S4096x4x512, .f32⟩
  | .hbm, ⟨74, _⟩ => ⟨S4096x4x512, .f32⟩
  | .hbm, ⟨75, _⟩ => ⟨S4096x4x512, .f32⟩
  | .hbm, ⟨76, _⟩ => ⟨S4096x2048, .f32⟩
  | .hbm, ⟨77, _⟩ => ⟨S4096x2048, .bf16⟩
  | .hbm, ⟨78, _⟩ => ⟨S1x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Kernel23.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_21 : BitVec 32 := 0#32
  let v52 : BitVec 1 := Scalar.cmpi .ne v51 c0_i32_21
  v52

def k0_cond2 (i : grid0.Coords) : BitVec 1 :=
  let arg0 : BitVec 32 := BitVec.ofNat 32 (i 0).val
  let c0_i32_22 : BitVec 32 := 0#32
  let v53 : BitVec 1 := Scalar.cmpi .sgt arg0 c0_i32_22
  let v54 : BitVec 32 := Scalar.extui v53
  let c0_i32_23 : BitVec 32 := 0#32
  let v55 : BitVec 1 := Scalar.cmpi .ne v54 c0_i32_23
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference23Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .bf16⟩
  | .hbm, ⟨72, _⟩ => ⟨S1x2048, .f32⟩
  | .hbm, ⟨73, _⟩ => ⟨S4096x2048, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S4096x2048, .f32⟩
  | .hbm, ⟨85, _⟩ => ⟨S4096x2048, .f32⟩
  | .hbm, ⟨86, _⟩ => ⟨S1x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S_, .f32⟩
  | .hbm, ⟨92, _⟩ => ⟨S4096, .f32⟩
  | .hbm, ⟨93, _⟩ => ⟨S_, .f32⟩
  | .hbm, ⟨94, _⟩ => ⟨S4096, .f32⟩
  | .hbm, ⟨95, _⟩ => ⟨S4096, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_16 : Ref sig .tc := ⟨.hbm, 74, rfl⟩
abbrev main_v54 : Ref sig .tc := ⟨.hbm, 75, rfl⟩
abbrev main_v55 : Ref sig .tc := ⟨.hbm, 76, rfl⟩
abbrev main_cst_17 : Ref sig .tc := ⟨.hbm, 77, rfl⟩
abbrev main_v56 : Ref sig .tc := ⟨.hbm, 78, rfl⟩
abbrev main_v57 : Ref sig .tc := ⟨.hbm, 79, rfl⟩
abbrev main_cst_18 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_19 : Ref sig .tc := ⟨.hbm, 91, rfl⟩
abbrev main_v68 : Ref sig .tc := ⟨.hbm, 92, rfl⟩
abbrev main_cst_20 : Ref sig .tc := ⟨.hbm, 93, rfl⟩
abbrev main_v69 : Ref sig .tc := ⟨.hbm, 94, rfl⟩
abbrev main_v70 : Ref sig .tc := ⟨.hbm, 95, rfl⟩
abbrev main_cst_21 : Ref sig .tc := ⟨.hbm, 96, rfl⟩
abbrev main_v71 : Ref sig .tc := ⟨.hbm, 97, rfl⟩
abbrev main_cst_22 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== Proof.FwdRun.lean ====
/- The forward scan body at one grid point: what it leaves in its two result blocks and in the carried state. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.VecWindow
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The carried state the body works with: zero at the first chunk of a head, else what the chunk before left. -/
abbrev firstF (i : grid0.Coords) : Prop :=
  (Scalar.cmpi .ne (Scalar.extui (Scalar.cmpi .eq (BitVec.ofNat 32 (i 1).val) 0#32)) 0#32) = 1#1

/-- The first-chunk condition in closed form over the points. -/
theorem firstF_iff (t : Fin cfg0.N) : firstF (grid0.coords t) ↔ t.val % 32 = 0 := by
  have ht : t.val < 128 := Nat.lt_of_lt_of_eq t.isLt N_0
  have e1 : (grid0.coords t 1).val = t.val / 1 % 32 := Pipeline.Grid.coords_val t 1 (by decide) rfl
  simp only [firstF, e1]
  word_cmp

/-- The state entering the chunk. -/
def fIn (i : grid0.Coords) (s : Vec F S512x256 .f32) : Vec F S512x256 .f32 := if firstF i then k0_pay3 else s

/-- The output block of a chunk, from its blocks of q, k, v, g and the state entering it. -/
def fOut (x0 x1 : Vec F S128x256 .f32) (x2 : Vec F S128x512 .f32) (x3 : Vec F S128x256 .f32) (s : Vec F S512x256 .f32) : Vec F S128x512 .f32 :=
  k0_pay1 (k0_pay13 x2) (k0_pay14 x2) (k0_pay16 (k0_pay4 x0) x1 (k0_pay9 x3) (k0_pay10 x3)) (k0_pay17 (k0_pay4 x0) (k0_pay8 x3) s)

/-- The state leaving a chunk. -/
def fNext (x1 : Vec F S128x256 .f32) (x2 : Vec F S128x512 .f32) (x3 : Vec F S128x256 .f32) (s : Vec F S512x256 .f32) : Vec F S512x256 .f32 :=
  k0_pay2 x1 (k0_pay7 x3) (k0_pay12 (k0_pay11 x3)) (k0_pay13 x2) (k0_pay14 x2) s

set_option maxHeartbeats 1000000 in
/-- The forward body at a point, on whole staging buffers: inputs as they were, the output block, the state block and the carried state as stated. -/
theorem fwd_run (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x512 .f32) (harg4 : arg4.IsWhole) (arg5 : Memref sig .tc .vmem S128x256 .f32) (harg5 : arg5.IsWhole) (arg6 : Memref sig .tc .vmem S128x512 .f32) (harg6 : arg6.IsWhole) (arg7 : Memref sig .tc .vmem S1x1x512x256 .f32) (harg7 : arg7.IsWhole) (arg8 : Memref sig .tc .vmem S512x256 .f32) (harg8 : arg8.IsWhole)
    (x0 : Vec F S128x256 .f32) (x1 : Vec F S128x256 .f32) (x2 : Vec F S128x512 .f32) (x3 : Vec F S128x256 .f32) (s0 : Vec F S512x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare s0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (fOut x0 x1 x2 x3 (fIn i s0)) ∗ owns (c : Thread nD τ) arg7 fullShare (k0_pay15 (fIn i s0)) ∗ owns (c : Thread nD τ) arg8 fullShare (fNext x1 x2 x3 (fIn i s0))) -∗ K ⟨⟩))
      ⊢ wp frame (wpE (defs₀ (F := F)) Variants.none c none) E (cc0_gla_scan i arg2 harg2 arg3 harg3 arg4 harg4 arg5 harg5 arg6 harg6 arg7 harg7 arg8 harg8) K := by
  simp only [cc0_gla_scan_eq_skeleton]; unfold cc0_gla_scan_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg8.eq_unread hfs
  have l2 : arg2.view.readAt (Elt F) (Rect.unit (s := S128x256) ![0, 0] ![128, 256] inb_S128x256_S128x256_0_0).toLoadRect (harg2.unread x0) = x0 :=
    (View.readAt_full arg2.view _ _).trans (harg2.read_unread _)
  have l3 : arg3.view.readAt (Elt F) (Rect.unit (s := S128x256) ![0, 0] ![128, 256] inb_S128x256_S128x256_0_0).toLoadRect (harg3.unread x1) = x1 :=
    (View.readAt_full arg3.view _ _).trans (harg3.read_unread _)
  have l4 : arg4.view.readAt (Elt F) (Rect.unit (s := S128x512) ![0, 0] ![128, 512] inb_S128x512_S128x512_0_0).toLoadRect (harg4.unread x2) = x2 :=
    (View.readAt_full arg4.view _ _).trans (harg4.read_unread _)
  have l5 : arg5.view.readAt (Elt F) (Rect.unit (s := S128x256) ![0, 0] ![128, 256] inb_S128x256_S128x256_0_0).toLoadRect (harg5.unread x3) = x3 :=
    (View.readAt_full arg5.view _ _).trans (harg5.read_unread _)
  have l8 : arg8.view.readAt (Elt F) (Rect.unit (s := S512x256) ![0, 0] ![512, 256] inb_S512x256_S512x256_0_0).toLoadRect (harg8.unread s0) = s0 :=
    (View.readAt_full arg8.view _ _).trans (harg8.read_unread _)
  have z8 : arg8.view.readCov (Val := Elt F) [⟨Rect.unit (s := S512x256) ![0, 0] ![512, 256] inb_S512x256_S512x256_0_0, k0_pay3⟩] (Rect.unit (s := S512x256) ![0, 0] ![512, 256] inb_S512x256_S512x256_0_0).toLoadRect = k0_pay3 :=
    View.readCov_full arg8.view _ _ _ _
  by_cases hc : firstF i
  · simp only [fIn, if_pos hc]
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr [H4]; swap
      · iexact H4
      · ipureintro
        refine (View.read_writes_full _ _ _ _ _).trans ?_
        sl_unfold_words
        try simp only [l2, l3, l4, l5, l8, z8]
        first | done | rfl
    isplitl [H5]
    · iexists _; isplitr [H5]; swap
      · iexact H5
      · ipureintro
        refine (View.read_writes_full _ _ _ _ _).trans ?_
        sl_unfold_words
        try simp only [l2, l3, l4, l5, l8, z8]
        first | done | rfl
    iexists _; isplitr [HS]; swap
    · iexact HS
    · ipureintro
      refine (View.read_writes_full _ _ _ _ _).trans ?_
      sl_unfold_words
      try simp only [l2, l3, l4, l5, l8, z8]
      first | done | rfl
  · simp only [fIn, if_neg hc]
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr [H4]; swap
      · iexact H4
      · ipureintro
        refine (View.read_writes_full _ _ _ _ _).trans ?_
        sl_unfold_words
        try simp only [l2, l3, l4, l5, l8, z8]
        first | done | rfl
    isplitl [H5]
    · iexists _; isplitr [H5]; swap
      · iexact H5
      · ipureintro
        refine (View.read_writes_full _ _ _ _ _).trans ?_
        sl_unfold_words
        try simp only [l2, l3, l4, l5, l8, z8]
        first | done | rfl
    iexists _; isplitr [HS]; swap
    · iexact HS
    · ipureintro
      refine (View.read_writes_full _ _ _ _ _).trans ?_
      sl_unfold_words
      try simp only [l2, l3, l4, l5, l8, z8]
      first | done | rfl

end Cert.KernelIdeal.Run

end
-- ==== Proof.FwdRegion.lean ====
/- The forward scan as a region: its blocks, the carried state, the proof data and the body at every point. -/
module

public import proofs.«01_k».proof.Proof.FwdRun
public import Idealize.ShloMosaic.Lib.Pipeline.Frame
public import Idealize.ShloMosaic.Lib.Pipeline.Regions
public import Idealize.ShloMosaic.Lib.Pipeline.RegionsLoop
public import Idealize.ShloMosaic.Lib.Pipeline.RegionArrays

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf RegionSeg)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-! ## The blocks the windows read -/

/-- Window `w`'s block of its array at point `t`, on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Any contents of window 0's staging buffer. -/
def dflt0_0 : (cfg0.win 0).block.Idx → Elt F (cfg0.win 0).elt := fun _ => Classical.choice inferInstance
/-- Window 0's block at point `t`, as the staging buffer holds it. -/
def X0_0 (c : Dev nD) (t : Fin cfg0.N) : Vec F S128x256 .f32 := (cfg0.win 0).fill (cfg0.grid.coords t) dflt0_0 (iblk0 V c 0 t)
theorem xsize0_0 : ∀ t a, (cfg0.win 0).xsize (cfg0.grid.coords t) a = (cfg0.win 0).size a := by decide +kernel
theorem moved0_0 (t : Fin cfg0.N) (j) : (cfg0.win 0).moved (cfg0.grid.coords t) j = true :=
  ((cfg0.win 0).moved_iff _ j).mpr fun a => by rw [xsize0_0 t a]; exact (j a).isLt
theorem fill0_0 (t : Fin cfg0.N) (d d' : (cfg0.win 0).block.Idx → Elt F (cfg0.win 0).elt) (g) : (cfg0.win 0).fill (cfg0.grid.coords t) d g = (cfg0.win 0).fill (cfg0.grid.coords t) d' g := by
  funext j; unfold Pipeline.Window.fill; rw [dif_pos (moved0_0 t j), dif_pos (moved0_0 t j)]
theorem before0_0_of {c : Dev nD} (dat : Dat τ (Elt F) Unit ℕ (UR sig nD τ) ℕ cfg0 c) (hA : dat.A 0 = V c (Pipeline.arrRef spec0 0))
    (hafter : ∀ t, dat.after 0 t = X0_0 V c t) (t : Fin cfg0.N) (d) : dat.before 0 t d = X0_0 V c t :=
  (dat.before_in_eq_fetched 0 rfl (fun _ => rfl)
    (fun t t' h => funext fun a => congrArg (fun n => Pipeline.Clip.of n ((cfg0.win 0).size a) (S4096x6272.size a)) (congrFun h a))
    (fun t => by rw [hafter]; unfold X0_0; rw [Pipeline.Window.cut_fill]; unfold Dat.blockOf iblk0; rw [hA]; try rfl) t d).trans
  (by unfold Dat.fetched X0_0; rw [fill0_0 t d dflt0_0]; unfold Dat.blockOf iblk0; rw [hA]; try rfl)

/-- Any contents of window 1's staging buffer. -/
def dflt0_1 : (cfg0.win 1).block.Idx → Elt F (cfg0.win 1).elt := fun _ => Classical.choice inferInstance
/-- Window 1's block at point `t`, as the staging buffer holds it. -/
def X0_1 (c : Dev nD) (t : Fin cfg0.N) : Vec F S128x256 .f32 := (cfg0.win 1).fill (cfg0.grid.coords t) dflt0_1 (iblk0 V c 1 t)
theorem xsize0_1 : ∀ t a, (cfg0.win 1).xsize (cfg0.grid.coords t) a = (cfg0.win 1).size a := by decide +kernel
theorem moved0_1 (t : Fin cfg0.N) (j) : (cfg0.win 1).moved (cfg0.grid.coords t) j = true :=
  ((cfg0.win 1).moved_iff _ j).mpr fun a => by rw [xsize0_1 t a]; exact (j a).isLt
theorem fill0_1 (t : Fin cfg0.N) (d d' : (cfg0.win 1).block.Idx → Elt F (cfg0.win 1).elt) (g) : (cfg0.win 1).fill (cfg0.grid.coords t) d g = (cfg0.win 1).fill (cfg0.grid.coords t) d' g := by
  funext j; unfold Pipeline.Window.fill; rw [dif_pos (moved0_1 t j), dif_pos (moved0_1 t j)]
theorem before0_1_of {c : Dev nD} (dat : Dat τ (Elt F) Unit ℕ (UR sig nD τ) ℕ cfg0 c) (hA : dat.A 1 = V c (Pipeline.arrRef spec0 1))
    (hafter : ∀ t, dat.after 1 t = X0_1 V c t) (t : Fin cfg0.N) (d) : dat.before 1 t d = X0_1 V c t :=
  (dat.before_in_eq_fetched 1 rfl (fun _ => rfl)
    (fun t t' h => funext fun a => congrArg (fun n => Pipeline.Clip.of n ((cfg0.win 1).size a) (S4096x6272.size a)) (congrFun h a))
    (fun t => by rw [hafter]; unfold X0_1; rw [Pipeline.Window.cut_fill]; unfold Dat.blockOf iblk0; rw [hA]; try rfl) t d).trans
  (by unfold Dat.fetched X0_1; rw [fill0_1 t d dflt0_1]; unfold Dat.blockOf iblk0; rw [hA]; try rfl)

/-- Any contents of window 2's staging buffer. -/
def dflt0_2 : (cfg0.win 2).block.Idx → Elt F (cfg0.win 2).elt := fun _ => Classical.choice inferInstance
/-- Window 2's block at point `t`, as the staging buffer holds it. -/
def X0_2 (c : Dev nD) (t : Fin cfg0.N) : Vec F S128x512 .f32 := (cfg0.win 2).fill (cfg0.grid.coords t) dflt0_2 (iblk0 V c 2 t)
theorem xsize0_2 : ∀ t a, (cfg0.win 2).xsize (cfg0.grid.coords t) a = (cfg0.win 2).size a := by decide +kernel
theorem moved0_2 (t : Fin cfg0.N) (j) : (cfg0.win 2).moved (cfg0.grid.coords t) j = true :=
  ((cfg0.win 2).moved_iff _ j).mpr fun a => by rw [xsize0_2 t a]; exact (j a).isLt
theorem fill0_2 (t : Fin cfg0.N) (d d' : (cfg0.win 2).block.Idx → Elt F (cfg0.win 2).elt) (g) : (cfg0.win 2).fill (cfg0.grid.coords t) d g = (cfg0.win 2).fill (cfg0.grid.coords t) d' g := by
  funext j; unfold Pipeline.Window.fill; rw [dif_pos (moved0_2 t j), dif_pos (moved0_2 t j)]
theorem before0_2_of {c : Dev nD} (dat : Dat τ (Elt F) Unit ℕ (UR sig nD τ) ℕ cfg0 c) (hA : dat.A 2 = V c (Pipeline.arrRef spec0 2))
    (hafter : ∀ t, dat.after 2 t = X0_2 V c t) (t : Fin cfg0.N) (d) : dat.before 2 t d = X0_2 V c t :=
  (dat.before_in_eq_fetched 2 rfl (fun _ => rfl)
    (fun t t' h => funext fun a => congrArg (fun n => Pipeline.Clip.of n ((cfg0.win 2).size a) (S4096x6272.size a)) (congrFun h a))
    (fun t => by rw [hafter]; unfold X0_2; rw [Pipeline.Window.cut_fill]; unfold Dat.blockOf iblk0; rw [hA]; try rfl) t d).trans
  (by unfold Dat.fetched X0_2; rw [fill0_2 t d dflt0_2]; unfold Dat.blockOf iblk0; rw [hA]; try rfl)

/-- Window 3's block at point `t`. -/
def X0_3 (c : Dev nD) (t : Fin cfg0.N) : Vec F S128x256 .f32 := iblk0 V c 3 t
theorem before0_3_of {c : Dev nD} (dat : Dat τ (Elt F) Unit ℕ (UR sig nD τ) ℕ cfg0 c) (hA : dat.A 3 = V c (Pipeline.arrRef spec0 3))
    (hafter : ∀ t, dat.after 3 t = X0_3 V c t) (t : Fin cfg0.N) (d) : dat.before 3 t d = X0_3 V c t :=
  (dat.before_in_eq_fetched 3 rfl (fun _ => rfl) (fun _ _ _ => rfl)
    (fun t => by rw [hafter]; unfold X0_3 Dat.blockOf iblk0; rw [hA]; try rfl) t d).trans
  (by unfold Dat.fetched X0_3 Dat.blockOf iblk0; rw [hA]; try rfl)

/-! ## What is carried from point to point -/

/-- The state entering point `n`: zero at a head's first chunk, then what the chunk before left. -/
def fState (c : Dev nD) : (n : ℕ) → n < cfg0.N → Vec F S512x256 .f32
  | 0, _ => k0_pay3
  | n + 1, h => if (n + 1) % 32 = 0 then k0_pay3 else
      fNext (X0_1 V c ⟨n, Nat.lt_of_succ_lt h⟩) (X0_2 V c ⟨n, Nat.lt_of_succ_lt h⟩) (X0_3 V c ⟨n, Nat.lt_of_succ_lt h⟩) (fState c n (Nat.lt_of_succ_lt h))
theorem fState_first (c : Dev nD) (n : ℕ) (h : n < cfg0.N) (h0 : n % 32 = 0) : fState V c n h = k0_pay3 := by
  cases n with
  | zero => rfl
  | succ n => rw [fState, if_pos h0]
theorem fState_next (c : Dev nD) (n : ℕ) (h : n + 1 < cfg0.N) (h0 : (n + 1) % 32 ≠ 0) : fState V c (n + 1) h =
      fNext (X0_1 V c ⟨n, Nat.lt_of_succ_lt h⟩) (X0_2 V c ⟨n, Nat.lt_of_succ_lt h⟩) (X0_3 V c ⟨n, Nat.lt_of_succ_lt h⟩) (fState V c n (Nat.lt_of_succ_lt h)) := by
  rw [fState, if_neg h0]
theorem fIn_eq (c : Dev nD) (t : Fin cfg0.N) (s : Vec F S512x256 .f32) (hs : t.val % 32 ≠ 0 → s = fState V c t.val t.isLt) :
    fIn (grid0.coords t) s = fState V c t.val t.isLt := by
  unfold fIn
  by_cases h : t.val % 32 = 0
  · rw [if_pos ((firstF_iff t).mpr h), fState_first V c _ _ h]
  · rw [if_neg (fun h' => h ((firstF_iff t).mp h')), hs h]

/-! ## The proof data -/

/-- Before point `n`: the carried scratch at its contents, the other scoped buffers and the generator register at anything. -/
def Phi0 (c : Dev nD) (n : ℕ) : sProp 𝕄 :=
  iprop((∃ s : Vec F S512x256 .f32, ⌜n % 32 ≠ 0 → ∀ hn : n < cfg0.N, s = fState V c n hn⌝ ∗ owns (c : Thread nD τ) (Memref.whole cc0_scratch0) fullShare s) ∗ Pipeline.scopedRestBut (Ix := Unit) (Name := ℕ) (U := UR sig nD τ) (Lvl := ℕ) (Val := Elt F) spec0 c [cc0_scratch0] ∗ ∃ r, prngReg c r)

/-- The proof data: every window's array on entry, what the body leaves in every staging buffer. -/
def dats0 (c : Dev nD) : Dat τ (Elt F) Unit ℕ (UR sig nD τ) ℕ cfg0 c where
  A w := V c (Pipeline.arrRef spec0 w)
  after w t := match w with
    | ⟨0, _⟩ => (X0_0 V c t)
    | ⟨1, _⟩ => (X0_1 V c t)
    | ⟨2, _⟩ => (X0_2 V c t)
    | ⟨3, _⟩ => (X0_3 V c t)
    | ⟨4, _⟩ => (fOut (X0_0 V c t) (X0_1 V c t) (X0_2 V c t) (X0_3 V c t) (fState V c t.val t.isLt))
    | ⟨5, _⟩ => (k0_pay15 (fState V c t.val t.isLt))
    | ⟨_ + 6, h⟩ => absurd h (Nat.not_lt.2 (Nat.le_add_left _ _))
  Φ t := Phi0 V c t.val
  q w := Pipeline.shareOf spec0 w
  owed _ := 0

theorem after0_0 (c : Dev nD) (t : Fin cfg0.N) : (dats0 V c).after 0 t = (X0_0 V c t) := by dsimp only [dats0]
theorem before0_0 (c : Dev nD) (t : Fin cfg0.N) (d) : (dats0 V c).before 0 t d = X0_0 V c t := before0_0_of V _ rfl (after0_0 V c) t d
theorem after0_1 (c : Dev nD) (t : Fin cfg0.N) : (dats0 V c).after 1 t = (X0_1 V c t) := by dsimp only [dats0]
theorem before0_1 (c : Dev nD) (t : Fin cfg0.N) (d) : (dats0 V c).before 1 t d = X0_1 V c t := before0_1_of V _ rfl (after0_1 V c) t d
theorem after0_2 (c : Dev nD) (t : Fin cfg0.N) : (dats0 V c).after 2 t = (X0_2 V c t) := by dsimp only [dats0]
theorem before0_2 (c : Dev nD) (t : Fin cfg0.N) (d) : (dats0 V c).before 2 t d = X0_2 V c t := before0_2_of V _ rfl (after0_2 V c) t d
theorem after0_3 (c : Dev nD) (t : Fin cfg0.N) : (dats0 V c).after 3 t = (X0_3 V c t) := by dsimp only [dats0]
theorem before0_3 (c : Dev nD) (t : Fin cfg0.N) (d) : (dats0 V c).before 3 t d = X0_3 V c t := before0_3_of V _ rfl (after0_3 V c) t d
theorem after0_4 (c : Dev nD) (t : Fin cfg0.N) : (dats0 V c).after 4 t = (fOut (X0_0 V c t) (X0_1 V c t) (X0_2 V c t) (X0_3 V c t) (fState V c t.val t.isLt)) := by dsimp only [dats0]
theorem after0_5 (c : Dev nD) (t : Fin cfg0.N) : (dats0 V c).after 5 t = (k0_pay15 (fState V c t.val t.isLt)) := by dsimp only [dats0]

abbrev ms0_0 (t : Fin cfg0.N) : Memref sig .tc .vmem S128x256 .f32 := win0_0.stage (cfg0.slots t 0)
abbrev ms0_1 (t : Fin cfg0.N) : Memref sig .tc .vmem S128x256 .f32 := win0_1.stage (cfg0.slots t 1)
abbrev ms0_2 (t : Fin cfg0.N) : Memref sig .tc .vmem S128x512 .f32 := win0_2.stage (cfg0.slots t 2)
abbrev ms0_3 (t : Fin cfg0.N) : Memref sig .tc .vmem S128x256 .f32 := win0_3.stage (cfg0.slots t 3)
abbrev ms0_4 (t : Fin cfg0.N) : Memref sig .tc .vmem S128x512 .f32 := win0_4.stage (cfg0.slots t 4)
abbrev ms0_5 (t : Fin cfg0.N) : Memref sig .tc .vmem S1x1x512x256 .f32 := win0_5.stage (cfg0.slots t 5)

/-! ## The body at a point -/

def bodyPre0 (c : Dev nD) (t : Fin cfg0.N) : sProp 𝕄 :=
  iprop((dats0 V c).Φ t.castSucc ∗ (dats0 V c).owesAt () t.castSucc ∗ (∃ d, owns (c : Thread nD τ) (ms0_0 t) fullShare ((dats0 V c).before 0 t d)) ∗ (∃ d, owns (c : Thread nD τ) (ms0_1 t) fullShare ((dats0 V c).before 1 t d)) ∗ (∃ d, owns (c : Thread nD τ) (ms0_2 t) fullShare ((dats0 V c).before 2 t d)) ∗ (∃ d, owns (c : Thread nD τ) (ms0_3 t) fullShare ((dats0 V c).before 3 t d)) ∗ (∃ d, owns (c : Thread nD τ) (ms0_4 t) fullShare ((dats0 V c).before 4 t d)) ∗ (∃ d, owns (c : Thread nD τ) (ms0_5 t) fullShare ((dats0 V c).before 5 t d)))
def bodyPost0 (c : Dev nD) (t : Fin cfg0.N) : sProp 𝕄 :=
  iprop((dats0 V c).Φ t.succ ∗ (dats0 V c).owesAt () t.succ ∗ owns (c : Thread nD τ) (ms0_0 t) fullShare ((dats0 V c).after 0 t) ∗ owns (c : Thread nD τ) (ms0_1 t) fullShare ((dats0 V c).after 1 t) ∗ owns (c : Thread nD τ) (ms0_2 t) fullShare ((dats0 V c).after 2 t) ∗ owns (c : Thread nD τ) (ms0_3 t) fullShare ((dats0 V c).after 3 t) ∗ owns (c : Thread nD τ) (ms0_4 t) fullShare ((dats0 V c).after 4 t) ∗ owns (c : Thread nD τ) (ms0_5 t) fullShare ((dats0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dats0 V c).owesAt () t.succ = (dats0 V c).owesAt () t.castSucc from rfl,
    after0_0, after0_1, after0_2, after0_3, after0_4, after0_5]
  rw [show (dats0 V c).Φ t.succ = Phi0 V c (t.val + 1) from rfl, show (dats0 V c).Φ t.castSucc = Phi0 V c t.val from rfl]
  unfold Phi0
  iintro ⟨⟨⟨%s0, %hs0, HS0⟩, HR, Hg⟩, Ho, ⟨%d0, H0⟩, ⟨%d1, H1⟩, ⟨%d2, H2⟩, ⟨%d3, H3⟩, ⟨%d4, H4⟩, ⟨%d5, H5⟩⟩
  have e0 := fIn_eq V c t s0 (fun h => hs0 h t.isLt)
  iapply (fwd_run c (grid0.coords t) _ _ _ _ _ _ _ _ _ _ _ _ _ _ (X0_0 V c t) (X0_1 V c t) (X0_2 V c t) (X0_3 V c t) s0 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  iintro ⟨H0, H1, H2, H3, H4, H5, HS0⟩
  rw [e0]
  isplitl [HS0 HR Hg]
  · isplitl [HS0]
    · iexists _; isplitr [HS0]; swap; · iexact HS0
      ipureintro; exact fun h hn => (fState_next V c t.val hn h).symm
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row0 (t : Fin cfg0.N) :
    defs₀ (F := F) .tc cfg0.body (cfg0.bodyArgs t (cfg0.slots t)) = bodyAt0 t := by
  unfold defs₀; rw [Defs.onTc_tc]; try rfl

theorem body_obligation0 (c : Dev nD) : BodyObligation (dats0 V c) (defs₀ (F := F)) Variants.none () Set.univ := fun t => by
  rw [bigSep_W0, bigSep_W0, defs₀_row0]
  exact triple_restated (sound_body0 V c t) rfl .rfl fun _ => .rfl

/-! ## Entering and leaving the invariant -/

/-- The scoped buffers no window stages: the carried scratch and the others. -/
theorem rest_split0 (c : Dev nD) : (Pipeline.scopedRest (Ix := Unit) (Name := ℕ) (U := UR sig nD τ) (Lvl := ℕ) (Val := Elt F) spec0 c : sProp 𝕄)
    = iprop((∃ f : Buf (Elt F) ((c.tc : Thread nD τ).loc cc0_scratch0), ((c.tc : Thread nD τ).loc cc0_scratch0) ↦{fullShare} f) ∗ Pipeline.scopedRestBut (Ix := Unit) (Name := ℕ) (U := UR sig nD τ) (Lvl := ℕ) (Val := Elt F) spec0 c [cc0_scratch0]) :=
  (Pipeline.scopedRest_split_of_list spec0 c [cc0_scratch0] (by decide) (by decide)).trans rfl

theorem Phi0_in (c : Dev nD) : iprop(Pipeline.scopedRest (Ix := Unit) (Name := ℕ) (U := UR sig nD τ) (Lvl := ℕ) (Val := Elt F) spec0 c ∗ ∃ r, prngReg c r) ⊢ Phi0 V c 0 := by
  unfold Phi0
  rw [rest_split0]
  iintro ⟨⟨⟨%f, Hs⟩, HR⟩, Hg⟩
  isplitl [Hs]
  · iexists f
    isplitr; · ipureintro; exact fun h => absurd rfl h
    rw [owns_whole]; iexact Hs
  isplitl [HR]; · iexact HR
  iexact Hg

theorem Phi0_out (c : Dev nD) (n : ℕ) : Phi0 V c n ⊢ iprop(Pipeline.scopedRest (Ix := Unit) (Name := ℕ) (U := UR sig nD τ) (Lvl := ℕ) (Val := Elt F) spec0 c ∗ ∃ r, prngReg c r) := by
  unfold Phi0
  rw [rest_split0]
  iintro ⟨⟨%s, -, Hs⟩, HR, Hg⟩
  isplitl [Hs HR]
  · isplitl [Hs]
    · iexists s
      iapply (Entails.of_eq (owns_whole (c : Thread nD τ) cc0_scratch0 fullShare s)); iexact Hs
    iexact HR
  iexact Hg

end Cert.KernelIdeal.Run

end
-- ==== Proof.BwdRun.lean ====
/- The backward scan body at one grid point: what it leaves in its four result blocks and in its two carried scratches. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.VecWindow
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The first point of a head (its last chunk: the chunks run backwards). -/
abbrev firstB (i : grid1.Coords) : Prop :=
  (Scalar.cmpi .ne (Scalar.extui (Scalar.cmpi .eq (BitVec.ofNat 32 (i 1).val) 0#32)) 0#32) = 1#1

/-- The first-point condition in closed form over the points. -/
theorem firstB_iff (t : Fin cfg1.N) : firstB (grid1.coords t) ↔ t.val % 32 = 0 := by
  have ht : t.val < 128 := Nat.lt_of_lt_of_eq t.isLt N_1
  have e1 : (grid1.coords t 1).val = t.val / 1 % 32 := Pipeline.Grid.coords_val t 1 (by decide) rfl
  simp only [firstB, e1]
  word_cmp

/-- The gradient of the state entering the point. -/
def bIn (i : grid1.Coords) (s : Vec F S512x256 .f32) : Vec F S512x256 .f32 := if firstB i then k1_pay5 else s

/-- The running sum of the decay gradients entering the point. -/
def bInG (i : grid1.Coords) (s : Vec F S1x256 .f32) : Vec F S1x256 .f32 := if firstB i then k1_pay6 else s

/-- The chunk's gradient of v, from its blocks of q, k, v, g, do and the two states. -/
def bDv (x0 x1 : Vec F S128x256 .f32) (x3 : Vec F S128x256 .f32) (x4 : Vec F S128x512 .f32) (s0 : Vec F S512x256 .f32) : Vec F S128x512 .bf16 :=
  k1_pay37 (k1_pay18 x4) (k1_pay19 x4) (k1_pay30 x1 (k1_pay14 x3)) (k1_pay31 x1 (k1_pay14 x3)) (k1_pay32 s0) (k1_pay33 s0) (k1_pay35 (k1_pay7 x0) x1 (k1_pay12 x3) (k1_pay13 x3)) (k1_pay36 (k1_pay7 x0) x1 (k1_pay12 x3) (k1_pay13 x3))

/-- The chunk's gradient of the scaled q. -/
def bDq (x1 : Vec F S128x256 .f32) (x2 : Vec F S128x512 .f32) (x3 : Vec F S128x256 .f32) (x4 : Vec F S128x512 .f32) (x5 : Vec F S1x1x512x256 .f32) : FVec F S128x256 .f32 :=
  k1_pay45 (k1_pay11 x3) (k1_pay18 x4) (k1_pay19 x4) (k1_pay41 (k1_pay12 x3) (k1_pay16 x2) (k1_pay17 x2) (k1_pay18 x4) (k1_pay19 x4) (k1_pay27 x1 (k1_pay13 x3)) (k1_pay28 x1 (k1_pay13 x3))) (k1_pay43 x5) (k1_pay44 x5) (constant S128x256 .f32 0x00000000#32)

/-- The chunk's gradient of k. -/
def bDk (x0 : Vec F S128x256 .f32) (x2 : Vec F S128x512 .f32) (x3 : Vec F S128x256 .f32) (x4 : Vec F S128x512 .f32) (s0 : Vec F S512x256 .f32) : FVec F S128x256 .f32 :=
  k1_pay46 (k1_pay13 x3) (k1_pay15 (k1_pay14 x3)) (k1_pay16 x2) (k1_pay17 x2) (k1_pay24 (k1_pay7 x0) (k1_pay12 x3)) (k1_pay25 (k1_pay7 x0) (k1_pay12 x3)) (k1_pay32 s0) (k1_pay33 s0) (k1_pay39 (k1_pay16 x2) (k1_pay17 x2) (k1_pay18 x4) (k1_pay19 x4)) (k1_pay40 (k1_pay16 x2) (k1_pay17 x2) (k1_pay18 x4) (k1_pay19 x4))

/-- The chunk's gradient of the cumulative log decay. -/
def bDb (x0 x1 : Vec F S128x256 .f32) (x2 : Vec F S128x512 .f32) (x3 : Vec F S128x256 .f32) (x4 : Vec F S128x512 .f32) (x5 : Vec F S1x1x512x256 .f32) (s0 : Vec F S512x256 .f32) : FVec F S128x256 .f32 :=
  k1_pay48 (k1_pay7 x0) x1 (k1_pay11 x3) (k1_pay13 x3) (k1_pay15 (k1_pay14 x3)) (k1_pay16 x2) (k1_pay17 x2) (k1_pay18 x4) (k1_pay19 x4) (k1_pay24 (k1_pay7 x0) (k1_pay12 x3)) (k1_pay25 (k1_pay7 x0) (k1_pay12 x3)) (k1_pay32 s0) (k1_pay33 s0) (k1_pay39 (k1_pay16 x2) (k1_pay17 x2) (k1_pay18 x4) (k1_pay19 x4)) (k1_pay40 (k1_pay16 x2) (k1_pay17 x2) (k1_pay18 x4) (k1_pay19 x4)) (k1_pay41 (k1_pay12 x3) (k1_pay16 x2) (k1_pay17 x2) (k1_pay18 x4) (k1_pay19 x4) (k1_pay27 x1 (k1_pay13 x3)) (k1_pay28 x1 (k1_pay13 x3))) (k1_pay43 x5) (k1_pay44 x5) (constant S128x256 .f32 0x00000000#32)

/-- The chunk's gradient of the log decay. -/
def bDg (x0 x1 : Vec F S128x256 .f32) (x2 : Vec F S128x512 .f32) (x3 : Vec F S128x256 .f32) (x4 : Vec F S128x512 .f32) (x5 : Vec F S1x1x512x256 .f32) (s0 : Vec F S512x256 .f32) (s1 : Vec F S1x256 .f32) : Vec F S128x256 .f32 :=
  k1_pay1 (bDb x0 x1 x2 x3 x4 x5 s0) k1_pay49
    (k1_pay50 (k1_pay7 x0) x1 (k1_pay11 x3) (k1_pay13 x3) (k1_pay15 (k1_pay14 x3)) (k1_pay16 x2) (k1_pay17 x2) (k1_pay18 x4) (k1_pay19 x4) (k1_pay24 (k1_pay7 x0) (k1_pay12 x3)) (k1_pay25 (k1_pay7 x0) (k1_pay12 x3)) (k1_pay32 s0) (k1_pay33 s0) (k1_pay39 (k1_pay16 x2) (k1_pay17 x2) (k1_pay18 x4) (k1_pay19 x4)) (k1_pay40 (k1_pay16 x2) (k1_pay17 x2) (k1_pay18 x4) (k1_pay19 x4)) (k1_pay41 (k1_pay12 x3) (k1_pay16 x2) (k1_pay17 x2) (k1_pay18 x4) (k1_pay19 x4) (k1_pay27 x1 (k1_pay13 x3)) (k1_pay28 x1 (k1_pay13 x3))) (k1_pay43 x5) (k1_pay44 x5) (constant S128x256 .f32 0x00000000#32))
    (k1_pay51 (k1_pay7 x0) x1 (k1_pay11 x3) (k1_pay13 x3) (k1_pay15 (k1_pay14 x3)) (k1_pay16 x2) (k1_pay17 x2) (k1_pay18 x4) (k1_pay19 x4) (k1_pay24 (k1_pay7 x0) (k1_pay12 x3)) (k1_pay25 (k1_pay7 x0) (k1_pay12 x3)) (k1_pay32 s0) (k1_pay33 s0) (k1_pay39 (k1_pay16 x2) (k1_pay17 x2) (k1_pay18 x4) (k1_pay19 x4)) (k1_pay40 (k1_pay16 x2) (k1_pay17 x2) (k1_pay18 x4) (k1_pay19 x4)) (k1_pay41 (k1_pay12 x3) (k1_pay16 x2) (k1_pay17 x2) (k1_pay18 x4) (k1_pay19 x4) (k1_pay27 x1 (k1_pay13 x3)) (k1_pay28 x1 (k1_pay13 x3))) (k1_pay43 x5) (k1_pay44 x5) (constant S128x256 .f32 0x00000000#32)) s1

/-- The gradient of the state leaving the point. -/
def bNext (x0 x3 : Vec F S128x256 .f32) (x4 : Vec F S128x512 .f32) (s0 : Vec F S512x256 .f32) : Vec F S512x256 .f32 :=
  k1_pay47 (k1_pay10 x3) (k1_pay18 x4) (k1_pay19 x4) (k1_pay21 (k1_pay7 x0) (k1_pay11 x3)) (k1_pay22 (k1_pay7 x0) (k1_pay11 x3)) s0

set_option maxHeartbeats 1000000 in
/-- The backward body at a point, on whole staging buffers: inputs as they were, the result blocks and the carried scratches as stated. -/
theorem bwd_run (c : Dev nD) (i : grid1.Coords) (arg2 : Memref sig .tc .vmem S128x256 .f32) (harg2 : arg2.IsWhole) (arg3 : Memref sig .tc .vmem S128x256 .f32) (harg3 : arg3.IsWhole) (arg4 : Memref sig .tc .vmem S128x512 .f32) (harg4 : arg4.IsWhole) (arg5 : Memref sig .tc .vmem S128x256 .f32) (harg5 : arg5.IsWhole) (arg6 : Memref sig .tc .vmem S128x512 .f32) (harg6 : arg6.IsWhole) (arg7 : Memref sig .tc .vmem S1x1x512x256 .f32) (harg7 : arg7.IsWhole) (arg8 : Memref sig .tc .vmem S128x256 .bf16) (harg8 : arg8.IsWhole) (arg9 : Memref sig .tc .vmem S128x256 .bf16) (harg9 : arg9.IsWhole) (arg10 : Memref sig .tc .vmem S128x512 .bf16) (harg10 : arg10.IsWhole) (arg11 : Memref sig .tc .vmem S128x256 .f32) (harg11 : arg11.IsWhole) (arg12 : Memref sig .tc .vmem S512x256 .f32) (harg12 : arg12.IsWhole) (arg13 : Memref sig .tc .vmem S1x256 .f32) (harg13 : arg13.IsWhole)
    (x0 : Vec F S128x256 .f32) (x1 : Vec F S128x256 .f32) (x2 : Vec F S128x512 .f32) (x3 : Vec F S128x256 .f32) (x4 : Vec F S128x512 .f32) (x5 : Vec F S1x1x512x256 .f32) (s0 : Vec F S512x256 .f32) (s1 : Vec F S1x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare s0 ∗ owns (c : Thread nD τ) arg13 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay3 (bDq x1 x2 x3 x4 x5)) ∗ owns (c : Thread nD τ) arg9 fullShare (k1_pay4 (bDk x0 x2 x3 x4 (bIn i s0))) ∗ owns (c : Thread nD τ) arg10 fullShare (bDv x0 x1 x3 x4 (bIn i s0)) ∗ owns (c : Thread nD τ) arg11 fullShare (bDg x0 x1 x2 x3 x4 x5 (bIn i s0) (bInG i s1)) ∗ owns (c : Thread nD τ) arg12 fullShare (bNext x0 x3 x4 (bIn i s0)) ∗ owns (c : Thread nD τ) arg13 fullShare (k1_pay2 (bDb x0 x1 x2 x3 x4 x5 (bIn i s0)) (bInG i s1))) -∗ K ⟨⟩))
      ⊢ wp frame (wpE (defs₀ (F := F)) Variants.none c none) E (cc1_gla_scan_bwd i arg2 harg2 arg3 harg3 arg4 harg4 arg5 harg5 arg6 harg6 arg7 harg7 arg8 harg8 arg9 harg9 arg10 harg10 arg11 harg11 arg12 harg12 arg13 harg13) K := by
  simp only [cc1_gla_scan_bwd_eq_skeleton]; unfold cc1_gla_scan_bwd_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs, %hfs, HS⟩, ⟨%fc, %hfc, HC⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg12.eq_unread hfs; obtain rfl := harg13.eq_unread hfc
  have l2 : arg2.view.readAt (Elt F) (Rect.unit (s := S128x256) ![0, 0] ![128, 256] inb_S128x256_S128x256_0_0).toLoadRect (harg2.unread x0) = x0 :=
    (View.readAt_full arg2.view _ _).trans (harg2.read_unread _)
  have l3 : arg3.view.readAt (Elt F) (Rect.unit (s := S128x256) ![0, 0] ![128, 256] inb_S128x256_S128x256_0_0).toLoadRect (harg3.unread x1) = x1 :=
    (View.readAt_full arg3.view _ _).trans (harg3.read_unread _)
  have l4 : arg4.view.readAt (Elt F) (Rect.unit (s := S128x512) ![0, 0] ![128, 512] inb_S128x512_S128x512_0_0).toLoadRect (harg4.unread x2) = x2 :=
    (View.readAt_full arg4.view _ _).trans (harg4.read_unread _)
  have l5 : arg5.view.readAt (Elt F) (Rect.unit (s := S128x256) ![0, 0] ![128, 256] inb_S128x256_S128x256_0_0).toLoadRect (harg5.unread x3) = x3 :=
    (View.readAt_full arg5.view _ _).trans (harg5.read_unread _)
  have l6 : arg6.view.readAt (Elt F) (Rect.unit (s := S128x512) ![0, 0] ![128, 512] inb_S128x512_S128x512_0_0).toLoadRect (harg6.unread x4) = x4 :=
    (View.readAt_full arg6.view _ _).trans (harg6.read_unread _)
  have l7 : arg7.view.readAt (Elt F) (Rect.unit (s := S1x1x512x256) ![0, 0, 0, 0] S1x1x512x256.size inb_S1x1x512x256_S1x1x512x256_0_0_0_0).toLoadRect (harg7.unread x5) = x5 :=
    (View.readAt_full arg7.view _ _).trans (harg7.read_unread _)
  have l12 : arg12.view.readAt (Elt F) (Rect.unit (s := S512x256) ![0, 0] ![512, 256] inb_S512x256_S512x256_0_0).toLoadRect (harg12.unread s0) = s0 :=
    (View.readAt_full arg12.view _ _).trans (harg12.read_unread _)
  have l13 : arg13.view.readAt (Elt F) (Rect.unit (s := S1x256) ![0, 0] ![1, 256] inb_S1x256_S1x256_0_0).toLoadRect (harg13.unread s1) = s1 :=
    (View.readAt_full arg13.view _ _).trans (harg13.read_unread _)
  have z12 : arg12.view.readCov (Val := Elt F) [⟨Rect.unit (s := S512x256) ![0, 0] ![512, 256] inb_S512x256_S512x256_0_0, k1_pay5⟩] (Rect.unit (s := S512x256) ![0, 0] ![512, 256] inb_S512x256_S512x256_0_0).toLoadRect = k1_pay5 :=
    View.readCov_full arg12.view _ _ _ _
  have z13 : arg13.view.readCov (Val := Elt F) [⟨Rect.unit (s := S1x256) ![0, 0] ![1, 256] inb_S1x256_S1x256_0_0, k1_pay6⟩] (Rect.unit (s := S1x256) ![0, 0] ![1, 256] inb_S1x256_S1x256_0_0).toLoadRect = k1_pay6 :=
    View.readCov_full arg13.view _ _ _ _
  by_cases hc : firstB i
  · simp only [bIn, bInG, if_pos hc]
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr [H6]; swap
      · iexact H6
      · ipureintro
        refine (View.read_writes_full _ _ _ _ _).trans ?_
        sl_unfold_words
        try simp only [l2, l3, l4, l5, l6, l7, l12, l13, z12, z13]
        first | done | rfl
    isplitl [H7]
    · iexists _; isplitr [H7]; swap
      · iexact H7
      · ipureintro
        refine (View.read_writes_full _ _ _ _ _).trans ?_
        sl_unfold_words
        try simp only [l2, l3, l4, l5, l6, l7, l12, l13, z12, z13]
        first | done | rfl
    isplitl [H8]
    · iexists _; isplitr [H8]; swap
      · iexact H8
      · ipureintro
        refine (View.read_writes_full _ _ _ _ _).trans ?_
        sl_unfold_words
        try simp only [l2, l3, l4, l5, l6, l7, l12, l13, z12, z13]
        first | done | rfl
    isplitl [H9]
    · iexists _; isplitr [H9]; swap
      · iexact H9
      · ipureintro
        refine (View.read_writes_full _ _ _ _ _).trans ?_
        sl_unfold_words
        try simp only [l2, l3, l4, l5, l6, l7, l12, l13, z12, z13]
        first | done | rfl
    isplitl [HS]
    · iexists _; isplitr [HS]; swap
      · iexact HS
      · ipureintro
        refine (View.read_writes_full _ _ _ _ _).trans ?_
        sl_unfold_words
        try simp only [l2, l3, l4, l5, l6, l7, l12, l13, z12, z13]
        first | done | rfl
    iexists _; isplitr [HC]; swap
    · iexact HC
    · ipureintro
      refine (View.read_writes_full _ _ _ _ _).trans ?_
      sl_unfold_words
      try simp only [l2, l3, l4, l5, l6, l7, l12, l13, z12, z13]
      first | done | rfl
  · simp only [bIn, bInG, if_neg hc]
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr [H6]; swap
      · iexact H6
      · ipureintro
        refine (View.read_writes_full _ _ _ _ _).trans ?_
        sl_unfold_words
        try simp only [l2, l3, l4, l5, l6, l7, l12, l13, z12, z13]
        first | done | rfl
    isplitl [H7]
    · iexists _; isplitr [H7]; swap
      · iexact H7
      · ipureintro
        refine (View.read_writes_full _ _ _ _ _).trans ?_
        sl_unfold_words
        try simp only [l2, l3, l4, l5, l6, l7, l12, l13, z12, z13]
        first | done | rfl
    isplitl [H8]
    · iexists _; isplitr [H8]; swap
      · iexact H8
      · ipureintro
        refine (View.read_writes_full _ _ _ _ _).trans ?_
        sl_unfold_words
        try simp only [l2, l3, l4, l5, l6, l7, l12, l13, z12, z13]
        first | done | rfl
    isplitl [H9]
    · iexists _; isplitr [H9]; swap
      · iexact H9
      · ipureintro
        refine (View.read_writes_full _ _ _ _ _).trans ?_
        sl_unfold_words
        try simp only [l2, l3, l4, l5, l6, l7, l12, l13, z12, z13]
        first | done | rfl
    isplitl [HS]
    · iexists _; isplitr [HS]; swap
      · iexact HS
      · ipureintro
        refine (View.read_writes_full _ _ _ _ _).trans ?_
        sl_unfold_words
        try simp only [l2, l3, l4, l5, l6, l7, l12, l13, z12, z13]
        first | done | rfl
    iexists _; isplitr [HC]; swap
    · iexact HC
    · ipureintro
      refine (View.read_writes_full _ _ _ _ _).trans ?_
      sl_unfold_words
      try simp only [l2, l3, l4, l5, l6, l7, l12, l13, z12, z13]
      first | done | rfl

end Cert.KernelIdeal.Run

end
-- ==== Proof.BwdRegion.lean ====
/- The backward scan as a region: its blocks, the two carried scratches, the proof data and the body at every point. -/
module

public import proofs.«01_k».proof.Proof.BwdRun
public import Idealize.ShloMosaic.Lib.Pipeline.Frame
public import Idealize.ShloMosaic.Lib.Pipeline.Regions
public import Idealize.ShloMosaic.Lib.Pipeline.RegionsLoop
public import Idealize.ShloMosaic.Lib.Pipeline.RegionArrays

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf RegionSeg)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-! ## The blocks the windows read -/

/-- Window `w`'s block of its array at point `t`, on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Any contents of window 0's staging buffer. -/
def dflt1_0 : (cfg1.win 0).block.Idx → Elt F (cfg1.win 0).elt := fun _ => Classical.choice inferInstance
/-- Window 0's block at point `t`, as the staging buffer holds it. -/
def X1_0 (c : Dev nD) (t : Fin cfg1.N) : Vec F S128x256 .f32 := (cfg1.win 0).fill (cfg1.grid.coords t) dflt1_0 (iblk1 V c 0 t)
theorem xsize1_0 : ∀ t a, (cfg1.win 0).xsize (cfg1.grid.coords t) a = (cfg1.win 0).size a := by decide +kernel
theorem moved1_0 (t : Fin cfg1.N) (j) : (cfg1.win 0).moved (cfg1.grid.coords t) j = true :=
  ((cfg1.win 0).moved_iff _ j).mpr fun a => by rw [xsize1_0 t a]; exact (j a).isLt
theorem fill1_0 (t : Fin cfg1.N) (d d' : (cfg1.win 0).block.Idx → Elt F (cfg1.win 0).elt) (g) : (cfg1.win 0).fill (cfg1.grid.coords t) d g = (cfg1.win 0).fill (cfg1.grid.coords t) d' g := by
  funext j; unfold Pipeline.Window.fill; rw [dif_pos (moved1_0 t j), dif_pos (moved1_0 t j)]
theorem before1_0_of {c : Dev nD} (dat : Dat τ (Elt F) Unit ℕ (UR sig nD τ) ℕ cfg1 c) (hA : dat.A 0 = V c (Pipeline.arrRef spec1 0))
    (hafter : ∀ t, dat.after 0 t = X1_0 V c t) (t : Fin cfg1.N) (d) : dat.before 0 t d = X1_0 V c t :=
  (dat.before_in_eq_fetched 0 rfl (fun _ => rfl)
    (fun t t' h => funext fun a => congrArg (fun n => Pipeline.Clip.of n ((cfg1.win 0).size a) (S4096x6272.size a)) (congrFun h a))
    (fun t => by rw [hafter]; unfold X1_0; rw [Pipeline.Window.cut_fill]; unfold Dat.blockOf iblk1; rw [hA]; try rfl) t d).trans
  (by unfold Dat.fetched X1_0; rw [fill1_0 t d dflt1_0]; unfold Dat.blockOf iblk1; rw [hA]; try rfl)

/-- Any contents of window 1's staging buffer. -/
def dflt1_1 : (cfg1.win 1).block.Idx → Elt F (cfg1.win 1).elt := fun _ => Classical.choice inferInstance
/-- Window 1's block at point `t`, as the staging buffer holds it. -/
def X1_1 (c : Dev nD) (t : Fin cfg1.N) : Vec F S128x256 .f32 := (cfg1.win 1).fill (cfg1.grid.coords t) dflt1_1 (iblk1 V c 1 t)
theorem xsize1_1 : ∀ t a, (cfg1.win 1).xsize (cfg1.grid.coords t) a = (cfg1.win 1).size a := by decide +kernel
theorem moved1_1 (t : Fin cfg1.N) (j) : (cfg1.win 1).moved (cfg1.grid.coords t) j = true :=
  ((cfg1.win 1).moved_iff _ j).mpr fun a => by rw [xsize1_1 t a]; exact (j a).isLt
theorem fill1_1 (t : Fin cfg1.N) (d d' : (cfg1.win 1).block.Idx → Elt F (cfg1.win 1).elt) (g) : (cfg1.win 1).fill (cfg1.grid.coords t) d g = (cfg1.win 1).fill (cfg1.grid.coords t) d' g := by
  funext j; unfold Pipeline.Window.fill; rw [dif_pos (moved1_1 t j), dif_pos (moved1_1 t j)]
theorem before1_1_of {c : Dev nD} (dat : Dat τ (Elt F) Unit ℕ (UR sig nD τ) ℕ cfg1 c) (hA : dat.A 1 = V c (Pipeline.arrRef spec1 1))
    (hafter : ∀ t, dat.after 1 t = X1_1 V c t) (t : Fin cfg1.N) (d) : dat.before 1 t d = X1_1 V c t :=
  (dat.before_in_eq_fetched 1 rfl (fun _ => rfl)
    (fun t t' h => funext fun a => congrArg (fun n => Pipeline.Clip.of n ((cfg1.win 1).size a) (S4096x6272.size a)) (congrFun h a))
    (fun t => by rw [hafter]; unfold X1_1; rw [Pipeline.Window.cut_fill]; unfold Dat.blockOf iblk1; rw [hA]; try rfl) t d).trans
  (by unfold Dat.fetched X1_1; rw [fill1_1 t d dflt1_1]; unfold Dat.blockOf iblk1; rw [hA]; try rfl)

/-- Any contents of window 2's staging buffer. -/
def dflt1_2 : (cfg1.win 2).block.Idx → Elt F (cfg1.win 2).elt := fun _ => Classical.choice inferInstance
/-- Window 2's block at point `t`, as the staging buffer holds it. -/
def X1_2 (c : Dev nD) (t : Fin cfg1.N) : Vec F S128x512 .f32 := (cfg1.win 2).fill (cfg1.grid.coords t) dflt1_2 (iblk1 V c 2 t)
theorem xsize1_2 : ∀ t a, (cfg1.win 2).xsize (cfg1.grid.coords t) a = (cfg1.win 2).size a := by decide +kernel
theorem moved1_2 (t : Fin cfg1.N) (j) : (cfg1.win 2).moved (cfg1.grid.coords t) j = true :=
  ((cfg1.win 2).moved_iff _ j).mpr fun a => by rw [xsize1_2 t a]; exact (j a).isLt
theorem fill1_2 (t : Fin cfg1.N) (d d' : (cfg1.win 2).block.Idx → Elt F (cfg1.win 2).elt) (g) : (cfg1.win 2).fill (cfg1.grid.coords t) d g = (cfg1.win 2).fill (cfg1.grid.coords t) d' g := by
  funext j; unfold Pipeline.Window.fill; rw [dif_pos (moved1_2 t j), dif_pos (moved1_2 t j)]
theorem before1_2_of {c : Dev nD} (dat : Dat τ (Elt F) Unit ℕ (UR sig nD τ) ℕ cfg1 c) (hA : dat.A 2 = V c (Pipeline.arrRef spec1 2))
    (hafter : ∀ t, dat.after 2 t = X1_2 V c t) (t : Fin cfg1.N) (d) : dat.before 2 t d = X1_2 V c t :=
  (dat.before_in_eq_fetched 2 rfl (fun _ => rfl)
    (fun t t' h => funext fun a => congrArg (fun n => Pipeline.Clip.of n ((cfg1.win 2).size a) (S4096x6272.size a)) (congrFun h a))
    (fun t => by rw [hafter]; unfold X1_2; rw [Pipeline.Window.cut_fill]; unfold Dat.blockOf iblk1; rw [hA]; try rfl) t d).trans
  (by unfold Dat.fetched X1_2; rw [fill1_2 t d dflt1_2]; unfold Dat.blockOf iblk1; rw [hA]; try rfl)

/-- Window 3's block at point `t`. -/
def X1_3 (c : Dev nD) (t : Fin cfg1.N) : Vec F S128x256 .f32 := iblk1 V c 3 t
theorem before1_3_of {c : Dev nD} (dat : Dat τ (Elt F) Unit ℕ (UR sig nD τ) ℕ cfg1 c) (hA : dat.A 3 = V c (Pipeline.arrRef spec1 3))
    (hafter : ∀ t, dat.after 3 t = X1_3 V c t) (t : Fin cfg1.N) (d) : dat.before 3 t d = X1_3 V c t :=
  (dat.before_in_eq_fetched 3 rfl (fun _ => rfl) (fun _ _ _ => rfl)
    (fun t => by rw [hafter]; unfold X1_3 Dat.blockOf iblk1; rw [hA]; try rfl) t d).trans
  (by unfold Dat.fetched X1_3 Dat.blockOf iblk1; rw [hA]; try rfl)

/-- Window 4's block at point `t`. -/
def X1_4 (c : Dev nD) (t : Fin cfg1.N) : Vec F S128x512 .f32 := iblk1 V c 4 t
theorem before1_4_of {c : Dev nD} (dat : Dat τ (Elt F) Unit ℕ (UR sig nD τ) ℕ cfg1 c) (hA : dat.A 4 = V c (Pipeline.arrRef spec1 4))
    (hafter : ∀ t, dat.after 4 t = X1_4 V c t) (t : Fin cfg1.N) (d) : dat.before 4 t d = X1_4 V c t :=
  (dat.before_in_eq_fetched 4 rfl (fun _ => rfl) (fun _ _ _ => rfl)
    (fun t => by rw [hafter]; unfold X1_4 Dat.blockOf iblk1; rw [hA]; try rfl) t d).trans
  (by unfold Dat.fetched X1_4 Dat.blockOf iblk1; rw [hA]; try rfl)

/-- Window 5's block at point `t`. -/
def X1_5 (c : Dev nD) (t : Fin cfg1.N) : Vec F S1x1x512x256 .f32 := iblk1 V c 5 t
theorem before1_5_of {c : Dev nD} (dat : Dat τ (Elt F) Unit ℕ (UR sig nD τ) ℕ cfg1 c) (hA : dat.A 5 = V c (Pipeline.arrRef spec1 5))
    (hafter : ∀ t, dat.after 5 t = X1_5 V c t) (t : Fin cfg1.N) (d) : dat.before 5 t d = X1_5 V c t :=
  (dat.before_in_eq_fetched 5 rfl (fun _ => rfl) (fun _ _ _ => rfl)
    (fun t => by rw [hafter]; unfold X1_5 Dat.blockOf iblk1; rw [hA]; try rfl) t d).trans
  (by unfold Dat.fetched X1_5 Dat.blockOf iblk1; rw [hA]; try rfl)

/-! ## What is carried from point to point -/

/-- The gradient of the state leaving the chunk of point `n`: zero at a head's first point (its last chunk), then what the point before left. -/
def bState (c : Dev nD) : (n : ℕ) → n < cfg1.N → Vec F S512x256 .f32
  | 0, _ => k1_pay5
  | n + 1, h => if (n + 1) % 32 = 0 then k1_pay5 else
      bNext (X1_0 V c ⟨n, Nat.lt_of_succ_lt h⟩) (X1_3 V c ⟨n, Nat.lt_of_succ_lt h⟩) (X1_4 V c ⟨n, Nat.lt_of_succ_lt h⟩) (bState c n (Nat.lt_of_succ_lt h))
theorem bState_first (c : Dev nD) (n : ℕ) (h : n < cfg1.N) (h0 : n % 32 = 0) : bState V c n h = k1_pay5 := by
  cases n with
  | zero => rfl
  | succ n => rw [bState, if_pos h0]
theorem bState_next (c : Dev nD) (n : ℕ) (h : n + 1 < cfg1.N) (h0 : (n + 1) % 32 ≠ 0) : bState V c (n + 1) h =
      bNext (X1_0 V c ⟨n, Nat.lt_of_succ_lt h⟩) (X1_3 V c ⟨n, Nat.lt_of_succ_lt h⟩) (X1_4 V c ⟨n, Nat.lt_of_succ_lt h⟩) (bState V c n (Nat.lt_of_succ_lt h)) := by
  rw [bState, if_neg h0]
theorem bIn_eq (c : Dev nD) (t : Fin cfg1.N) (s : Vec F S512x256 .f32) (hs : t.val % 32 ≠ 0 → s = bState V c t.val t.isLt) :
    bIn (grid1.coords t) s = bState V c t.val t.isLt := by
  unfold bIn
  by_cases h : t.val % 32 = 0
  · rw [if_pos ((firstB_iff t).mpr h), bState_first V c _ _ h]
  · rw [if_neg (fun h' => h ((firstB_iff t).mp h')), hs h]
/-- The decay gradient carried to the chunk of point `n`: zero at a head's first point, then the sums of the chunks after it. -/
def gState (c : Dev nD) : (n : ℕ) → n < cfg1.N → Vec F S1x256 .f32
  | 0, _ => k1_pay6
  | n + 1, h => if (n + 1) % 32 = 0 then k1_pay6 else
      k1_pay2 (bDb (X1_0 V c ⟨n, Nat.lt_of_succ_lt h⟩) (X1_1 V c ⟨n, Nat.lt_of_succ_lt h⟩) (X1_2 V c ⟨n, Nat.lt_of_succ_lt h⟩) (X1_3 V c ⟨n, Nat.lt_of_succ_lt h⟩) (X1_4 V c ⟨n, Nat.lt_of_succ_lt h⟩) (X1_5 V c ⟨n, Nat.lt_of_succ_lt h⟩) (bState V c n (Nat.lt_of_succ_lt h))) (gState c n (Nat.lt_of_succ_lt h))
theorem gState_first (c : Dev nD) (n : ℕ) (h : n < cfg1.N) (h0 : n % 32 = 0) : gState V c n h = k1_pay6 := by
  cases n with
  | zero => rfl
  | succ n => rw [gState, if_pos h0]
theorem gState_next (c : Dev nD) (n : ℕ) (h : n + 1 < cfg1.N) (h0 : (n + 1) % 32 ≠ 0) : gState V c (n + 1) h =
      k1_pay2 (bDb (X1_0 V c ⟨n, Nat.lt_of_succ_lt h⟩) (X1_1 V c ⟨n, Nat.lt_of_succ_lt h⟩) (X1_2 V c ⟨n, Nat.lt_of_succ_lt h⟩) (X1_3 V c ⟨n, Nat.lt_of_succ_lt h⟩) (X1_4 V c ⟨n, Nat.lt_of_succ_lt h⟩) (X1_5 V c ⟨n, Nat.lt_of_succ_lt h⟩) (bState V c n (Nat.lt_of_succ_lt h))) (gState V c n (Nat.lt_of_succ_lt h)) := by
  rw [gState, if_neg h0]
theorem bInG_eq (c : Dev nD) (t : Fin cfg1.N) (s : Vec F S1x256 .f32) (hs : t.val % 32 ≠ 0 → s = gState V c t.val t.isLt) :
    bInG (grid1.coords t) s = gState V c t.val t.isLt := by
  unfold bInG
  by_cases h : t.val % 32 = 0
  · rw [if_pos ((firstB_iff t).mpr h), gState_first V c _ _ h]
  · rw [if_neg (fun h' => h ((firstB_iff t).mp h')), hs h]

/-! ## The proof data -/

/-- Before point `n`: the carried scratch at its contents, the other scoped buffers and the generator register at anything. -/
def Phi1 (c : Dev nD) (n : ℕ) : sProp 𝕄 :=
  iprop(((∃ s : Vec F S512x256 .f32, ⌜n % 32 ≠ 0 → ∀ hn : n < cfg1.N, s = bState V c n hn⌝ ∗ owns (c : Thread nD τ) (Memref.whole cc1_scratch0) fullShare s) ∗ (∃ s : Vec F S1x256 .f32, ⌜n % 32 ≠ 0 → ∀ hn : n < cfg1.N, s = gState V c n hn⌝ ∗ owns (c : Thread nD τ) (Memref.whole cc1_scratch1) fullShare s)) ∗ Pipeline.scopedRestBut (Ix := Unit) (Name := ℕ) (U := UR sig nD τ) (Lvl := ℕ) (Val := Elt F) spec1 c [cc1_scratch0, cc1_scratch1] ∗ ∃ r, prngReg c r)

/-- The proof data: every window's array on entry, what the body leaves in every staging buffer. -/
def dats1 (c : Dev nD) : Dat τ (Elt F) Unit ℕ (UR sig nD τ) ℕ cfg1 c where
  A w := V c (Pipeline.arrRef spec1 w)
  after w t := match w with
    | ⟨0, _⟩ => (X1_0 V c t)
    | ⟨1, _⟩ => (X1_1 V c t)
    | ⟨2, _⟩ => (X1_2 V c t)
    | ⟨3, _⟩ => (X1_3 V c t)
    | ⟨4, _⟩ => (X1_4 V c t)
    | ⟨5, _⟩ => (X1_5 V c t)
    | ⟨6, _⟩ => (k1_pay3 (bDq (X1_1 V c t) (X1_2 V c t) (X1_3 V c t) (X1_4 V c t) (X1_5 V c t)))
    | ⟨7, _⟩ => (k1_pay4 (bDk (X1_0 V c t) (X1_2 V c t) (X1_3 V c t) (X1_4 V c t) (bState V c t.val t.isLt)))
    | ⟨8, _⟩ => (bDv (X1_0 V c t) (X1_1 V c t) (X1_3 V c t) (X1_4 V c t) (bState V c t.val t.isLt))
    | ⟨9, _⟩ => (bDg (X1_0 V c t) (X1_1 V c t) (X1_2 V c t) (X1_3 V c t) (X1_4 V c t) (X1_5 V c t) (bState V c t.val t.isLt) (gState V c t.val t.isLt))
    | ⟨_ + 10, h⟩ => absurd h (Nat.not_lt.2 (Nat.le_add_left _ _))
  Φ t := Phi1 V c t.val
  q w := Pipeline.shareOf spec1 w
  owed _ := 0

theorem after1_0 (c : Dev nD) (t : Fin cfg1.N) : (dats1 V c).after 0 t = (X1_0 V c t) := by dsimp only [dats1]
theorem before1_0 (c : Dev nD) (t : Fin cfg1.N) (d) : (dats1 V c).before 0 t d = X1_0 V c t := before1_0_of V _ rfl (after1_0 V c) t d
theorem after1_1 (c : Dev nD) (t : Fin cfg1.N) : (dats1 V c).after 1 t = (X1_1 V c t) := by dsimp only [dats1]
theorem before1_1 (c : Dev nD) (t : Fin cfg1.N) (d) : (dats1 V c).before 1 t d = X1_1 V c t := before1_1_of V _ rfl (after1_1 V c) t d
theorem after1_2 (c : Dev nD) (t : Fin cfg1.N) : (dats1 V c).after 2 t = (X1_2 V c t) := by dsimp only [dats1]
theorem before1_2 (c : Dev nD) (t : Fin cfg1.N) (d) : (dats1 V c).before 2 t d = X1_2 V c t := before1_2_of V _ rfl (after1_2 V c) t d
theorem after1_3 (c : Dev nD) (t : Fin cfg1.N) : (dats1 V c).after 3 t = (X1_3 V c t) := by dsimp only [dats1]
theorem before1_3 (c : Dev nD) (t : Fin cfg1.N) (d) : (dats1 V c).before 3 t d = X1_3 V c t := before1_3_of V _ rfl (after1_3 V c) t d
theorem after1_4 (c : Dev nD) (t : Fin cfg1.N) : (dats1 V c).after 4 t = (X1_4 V c t) := by dsimp only [dats1]
theorem before1_4 (c : Dev nD) (t : Fin cfg1.N) (d) : (dats1 V c).before 4 t d = X1_4 V c t := before1_4_of V _ rfl (after1_4 V c) t d
theorem after1_5 (c : Dev nD) (t : Fin cfg1.N) : (dats1 V c).after 5 t = (X1_5 V c t) := by dsimp only [dats1]
theorem before1_5 (c : Dev nD) (t : Fin cfg1.N) (d) : (dats1 V c).before 5 t d = X1_5 V c t := before1_5_of V _ rfl (after1_5 V c) t d
theorem after1_6 (c : Dev nD) (t : Fin cfg1.N) : (dats1 V c).after 6 t = (k1_pay3 (bDq (X1_1 V c t) (X1_2 V c t) (X1_3 V c t) (X1_4 V c t) (X1_5 V c t))) := by dsimp only [dats1]
theorem after1_7 (c : Dev nD) (t : Fin cfg1.N) : (dats1 V c).after 7 t = (k1_pay4 (bDk (X1_0 V c t) (X1_2 V c t) (X1_3 V c t) (X1_4 V c t) (bState V c t.val t.isLt))) := by dsimp only [dats1]
theorem after1_8 (c : Dev nD) (t : Fin cfg1.N) : (dats1 V c).after 8 t = (bDv (X1_0 V c t) (X1_1 V c t) (X1_3 V c t) (X1_4 V c t) (bState V c t.val t.isLt)) := by dsimp only [dats1]
theorem after1_9 (c : Dev nD) (t : Fin cfg1.N) : (dats1 V c).after 9 t = (bDg (X1_0 V c t) (X1_1 V c t) (X1_2 V c t) (X1_3 V c t) (X1_4 V c t) (X1_5 V c t) (bState V c t.val t.isLt) (gState V c t.val t.isLt)) := by dsimp only [dats1]

abbrev ms1_0 (t : Fin cfg1.N) : Memref sig .tc .vmem S128x256 .f32 := win1_0.stage (cfg1.slots t 0)
abbrev ms1_1 (t : Fin cfg1.N) : Memref sig .tc .vmem S128x256 .f32 := win1_1.stage (cfg1.slots t 1)
abbrev ms1_2 (t : Fin cfg1.N) : Memref sig .tc .vmem S128x512 .f32 := win1_2.stage (cfg1.slots t 2)
abbrev ms1_3 (t : Fin cfg1.N) : Memref sig .tc .vmem S128x256 .f32 := win1_3.stage (cfg1.slots t 3)
abbrev ms1_4 (t : Fin cfg1.N) : Memref sig .tc .vmem S128x512 .f32 := win1_4.stage (cfg1.slots t 4)
abbrev ms1_5 (t : Fin cfg1.N) : Memref sig .tc .vmem S1x1x512x256 .f32 := win1_5.stage (cfg1.slots t 5)
abbrev ms1_6 (t : Fin cfg1.N) : Memref sig .tc .vmem S128x256 .bf16 := win1_6.stage (cfg1.slots t 6)
abbrev ms1_7 (t : Fin cfg1.N) : Memref sig .tc .vmem S128x256 .bf16 := win1_7.stage (cfg1.slots t 7)
abbrev ms1_8 (t : Fin cfg1.N) : Memref sig .tc .vmem S128x512 .bf16 := win1_8.stage (cfg1.slots t 8)
abbrev ms1_9 (t : Fin cfg1.N) : Memref sig .tc .vmem S128x256 .f32 := win1_9.stage (cfg1.slots t 9)

/-! ## The body at a point -/

def bodyPre1 (c : Dev nD) (t : Fin cfg1.N) : sProp 𝕄 :=
  iprop((dats1 V c).Φ t.castSucc ∗ (dats1 V c).owesAt () t.castSucc ∗ (∃ d, owns (c : Thread nD τ) (ms1_0 t) fullShare ((dats1 V c).before 0 t d)) ∗ (∃ d, owns (c : Thread nD τ) (ms1_1 t) fullShare ((dats1 V c).before 1 t d)) ∗ (∃ d, owns (c : Thread nD τ) (ms1_2 t) fullShare ((dats1 V c).before 2 t d)) ∗ (∃ d, owns (c : Thread nD τ) (ms1_3 t) fullShare ((dats1 V c).before 3 t d)) ∗ (∃ d, owns (c : Thread nD τ) (ms1_4 t) fullShare ((dats1 V c).before 4 t d)) ∗ (∃ d, owns (c : Thread nD τ) (ms1_5 t) fullShare ((dats1 V c).before 5 t d)) ∗ (∃ d, owns (c : Thread nD τ) (ms1_6 t) fullShare ((dats1 V c).before 6 t d)) ∗ (∃ d, owns (c : Thread nD τ) (ms1_7 t) fullShare ((dats1 V c).before 7 t d)) ∗ (∃ d, owns (c : Thread nD τ) (ms1_8 t) fullShare ((dats1 V c).before 8 t d)) ∗ (∃ d, owns (c : Thread nD τ) (ms1_9 t) fullShare ((dats1 V c).before 9 t d)))
def bodyPost1 (c : Dev nD) (t : Fin cfg1.N) : sProp 𝕄 :=
  iprop((dats1 V c).Φ t.succ ∗ (dats1 V c).owesAt () t.succ ∗ owns (c : Thread nD τ) (ms1_0 t) fullShare ((dats1 V c).after 0 t) ∗ owns (c : Thread nD τ) (ms1_1 t) fullShare ((dats1 V c).after 1 t) ∗ owns (c : Thread nD τ) (ms1_2 t) fullShare ((dats1 V c).after 2 t) ∗ owns (c : Thread nD τ) (ms1_3 t) fullShare ((dats1 V c).after 3 t) ∗ owns (c : Thread nD τ) (ms1_4 t) fullShare ((dats1 V c).after 4 t) ∗ owns (c : Thread nD τ) (ms1_5 t) fullShare ((dats1 V c).after 5 t) ∗ owns (c : Thread nD τ) (ms1_6 t) fullShare ((dats1 V c).after 6 t) ∗ owns (c : Thread nD τ) (ms1_7 t) fullShare ((dats1 V c).after 7 t) ∗ owns (c : Thread nD τ) (ms1_8 t) fullShare ((dats1 V c).after 8 t) ∗ owns (c : Thread nD τ) (ms1_9 t) fullShare ((dats1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dats1 V c).owesAt () t.succ = (dats1 V c).owesAt () t.castSucc from rfl,
    after1_0, after1_1, after1_2, after1_3, after1_4, after1_5, after1_6, after1_7, after1_8, after1_9]
  rw [show (dats1 V c).Φ t.succ = Phi1 V c (t.val + 1) from rfl, show (dats1 V c).Φ t.castSucc = Phi1 V c t.val from rfl]
  unfold Phi1
  iintro ⟨⟨⟨⟨%s0, %hs0, HS0⟩, ⟨%s1, %hs1, HS1⟩⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e0 := bIn_eq V c t s0 (fun h => hs0 h t.isLt)
  have e1 := bInG_eq V c t s1 (fun h => hs1 h t.isLt)
  iapply (bwd_run c (grid1.coords t) _ _ _ _ _ _ _ _ _ _ _ _ _ _ _ _ _ _ _ _ _ _ _ _ (X1_0 V c t) (X1_1 V c t) (X1_2 V c t) (X1_3 V c t) (X1_4 V c t) (X1_5 V c t) s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  rw [e0, e1]
  isplitl [HS0 HS1 HR Hg]
  · isplitl [HS0 HS1]
    · isplitl [HS0]
      · iexists _; isplitr [HS0]; swap; · iexact HS0
        ipureintro; exact fun h hn => (bState_next V c t.val hn h).symm
      · iexists _; isplitr [HS1]; swap; · iexact HS1
        ipureintro; exact fun h hn => (gState_next V c t.val hn h).symm
    isplitl [HR]; · iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row1 (t : Fin cfg1.N) :
    defs₀ (F := F) .tc cfg1.body (cfg1.bodyArgs t (cfg1.slots t)) = bodyAt1 t := by
  unfold defs₀; rw [Defs.onTc_tc]; try rfl

theorem body_obligation1 (c : Dev nD) : BodyObligation (dats1 V c) (defs₀ (F := F)) Variants.none () Set.univ := fun t => by
  rw [bigSep_W1, bigSep_W1, defs₀_row1]
  exact triple_restated (sound_body1 V c t) rfl .rfl fun _ => .rfl

/-! ## Entering and leaving the invariant -/

/-- The scoped buffers no window stages: the carried scratch and the others. -/
theorem rest_split1 (c : Dev nD) : (Pipeline.scopedRest (Ix := Unit) (Name := ℕ) (U := UR sig nD τ) (Lvl := ℕ) (Val := Elt F) spec1 c : sProp 𝕄)
    = iprop(((∃ f : Buf (Elt F) ((c.tc : Thread nD τ).loc cc1_scratch0), ((c.tc : Thread nD τ).loc cc1_scratch0) ↦{fullShare} f) ∗ (∃ f : Buf (Elt F) ((c.tc : Thread nD τ).loc cc1_scratch1), ((c.tc : Thread nD τ).loc cc1_scratch1) ↦{fullShare} f)) ∗ Pipeline.scopedRestBut (Ix := Unit) (Name := ℕ) (U := UR sig nD τ) (Lvl := ℕ) (Val := Elt F) spec1 c [cc1_scratch0, cc1_scratch1]) :=
  (Pipeline.scopedRest_split_of_list spec1 c [cc1_scratch0, cc1_scratch1] (by decide) (by decide)).trans rfl

theorem Phi1_in (c : Dev nD) : iprop(Pipeline.scopedRest (Ix := Unit) (Name := ℕ) (U := UR sig nD τ) (Lvl := ℕ) (Val := Elt F) spec1 c ∗ ∃ r, prngReg c r) ⊢ Phi1 V c 0 := by
  unfold Phi1
  rw [rest_split1]
  iintro ⟨⟨⟨⟨%f, Hs⟩, ⟨%f1, Hs1⟩⟩, HR⟩, Hg⟩
  isplitl [Hs Hs1]
  · isplitl [Hs]
    · iexists f
      isplitr; · ipureintro; exact fun h => absurd rfl h
      rw [owns_whole]; iexact Hs
    · iexists f1
      isplitr; · ipureintro; exact fun h => absurd rfl h
      rw [owns_whole]; iexact Hs1
  isplitl [HR]; · iexact HR
  iexact Hg

theorem Phi1_out (c : Dev nD) (n : ℕ) : Phi1 V c n ⊢ iprop(Pipeline.scopedRest (Ix := Unit) (Name := ℕ) (U := UR sig nD τ) (Lvl := ℕ) (Val := Elt F) spec1 c ∗ ∃ r, prngReg c r) := by
  unfold Phi1
  rw [rest_split1]
  iintro ⟨⟨⟨%s, -, Hs⟩, ⟨%s1, -, Hs1⟩⟩, HR, Hg⟩
  isplitl [Hs Hs1 HR]
  · isplitl [Hs Hs1]
    · isplitl [Hs]
      · iexists s; iapply (Entails.of_eq (owns_whole (c : Thread nD τ) cc1_scratch0 fullShare s)); iexact Hs
      · iexists s1; iapply (Entails.of_eq (owns_whole (c : Thread nD τ) cc1_scratch1 fullShare s1)); iexact Hs1
    iexact HR
  iexact Hg

end Cert.KernelIdeal.Run

end
-- ==== Proof.RunMain.lean ====
/- The whole run: the forward scan's region, then the backward scan's, from a launch to the five results. -/
module

public import proofs.«01_k».proof.Proof.FwdRegion
public import proofs.«01_k».proof.Proof.BwdRegion
public import proofs.«01_k».proof.Proof.Gen.KernelIdeal.Regions

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg Seg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the regions leave -/

/-- The contents after the forward scan: the launch contents, its two results replaced. -/
abbrev U1 (c : Dev nD) : Valuation τ sig (Elt F) :=
  Function.update (Function.update (V0 m c) main_v0_0 ((dats0 (V0 m) c).arrAt 4 cfg0.N)) main_v0_1 ((dats0 (V0 m) c).arrAt 5 cfg0.N)

/-- The contents after the backward scan: its four results replaced. -/
abbrev U2 (c : Dev nD) : Valuation τ sig (Elt F) :=
  Function.update (Function.update (Function.update (Function.update (U1 m c) main_v1_0 ((dats1 (U1 m) c).arrAt 6 cfg1.N)) main_v1_1 ((dats1 (U1 m) c).arrAt 7 cfg1.N)) main_v1_2 ((dats1 (U1 m) c).arrAt 8 cfg1.N)) main_v1_3 ((dats1 (U1 m) c).arrAt 9 cfg1.N)

theorem U1_of (c : Dev nD) (r : Ref sig .tc) (h : r ∉ ([main_v0_0, main_v0_1] : List (Ref sig .tc))) : U1 m c r = V0 m c r := by
  simp only [List.mem_cons, List.not_mem_nil, or_false, not_or] at h
  exact (Function.update_of_ne (StableHlo.devRef_ne_of_ne h.2) _ _).trans (Function.update_of_ne (StableHlo.devRef_ne_of_ne h.1) _ _)
theorem U1_v0_0 (c : Dev nD) : U1 m c main_v0_0 = (dats0 (V0 m) c).arrAt 4 cfg0.N :=
  (Function.update_of_ne (StableHlo.devRef_ne_of_ne (by decide)) _ _).trans (Function.update_self _ _ _)
theorem U1_v0_1 (c : Dev nD) : U1 m c main_v0_1 = (dats0 (V0 m) c).arrAt 5 cfg0.N := Function.update_self _ _ _
theorem U2_of (c : Dev nD) (r : Ref sig .tc) (h : r ∉ ([main_v1_0, main_v1_1, main_v1_2, main_v1_3] : List (Ref sig .tc))) : U2 m c r = U1 m c r := by
  simp only [List.mem_cons, List.not_mem_nil, or_false, not_or] at h
  exact (Function.update_of_ne (StableHlo.devRef_ne_of_ne h.2.2.2) _ _).trans ((Function.update_of_ne (StableHlo.devRef_ne_of_ne h.2.2.1) _ _).trans
    ((Function.update_of_ne (StableHlo.devRef_ne_of_ne h.2.1) _ _).trans (Function.update_of_ne (StableHlo.devRef_ne_of_ne h.1) _ _)))
theorem U2_v1_3 (c : Dev nD) : U2 m c main_v1_3 = (dats1 (U1 m) c).arrAt 9 cfg1.N := Function.update_self _ _ _
theorem U2_v1_2 (c : Dev nD) : U2 m c main_v1_2 = (dats1 (U1 m) c).arrAt 8 cfg1.N :=
  (Function.update_of_ne (StableHlo.devRef_ne_of_ne (by decide)) _ _).trans (Function.update_self _ _ _)
theorem U2_v1_1 (c : Dev nD) : U2 m c main_v1_1 = (dats1 (U1 m) c).arrAt 7 cfg1.N :=
  (Function.update_of_ne (StableHlo.devRef_ne_of_ne (by decide)) _ _).trans ((Function.update_of_ne (StableHlo.devRef_ne_of_ne (by decide)) _ _).trans (Function.update_self _ _ _))
theorem U2_v1_0 (c : Dev nD) : U2 m c main_v1_0 = (dats1 (U1 m) c).arrAt 6 cfg1.N :=
  (Function.update_of_ne (StableHlo.devRef_ne_of_ne (by decide)) _ _).trans ((Function.update_of_ne (StableHlo.devRef_ne_of_ne (by decide)) _ _).trans
    ((Function.update_of_ne (StableHlo.devRef_ne_of_ne (by decide)) _ _).trans (Function.update_self _ _ _)))

theorem U2_arg0 (c : Dev nD) : U2 m c main_arg0 = m ((c : Thread nD τ).loc main_arg0) := (U2_of m c _ (by decide)).trans (U1_of m c _ (by decide))
theorem U2_arg1 (c : Dev nD) : U2 m c main_arg1 = m ((c : Thread nD τ).loc main_arg1) := (U2_of m c _ (by decide)).trans (U1_of m c _ (by decide))
theorem U2_arg2 (c : Dev nD) : U2 m c main_arg2 = m ((c : Thread nD τ).loc main_arg2) := (U2_of m c _ (by decide)).trans (U1_of m c _ (by decide))
theorem U2_v0_0 (c : Dev nD) : U2 m c main_v0_0 = (dats0 (V0 m) c).arrAt 4 cfg0.N := (U2_of m c _ (by decide)).trans (U1_v0_0 m c)

/-- The proof data of both regions. -/
abbrev pdats : (p : Fin 2) → (c : Dev nD) → Dat τ (Elt F) Unit ℕ (UR sig nD τ) ℕ (cfgs p) c
  | 0 => fun c => dats0 (V0 m) c
  | 1 => fun c => dats1 (U1 m) c
  | ⟨_ + 2, h⟩ => absurd h (Nat.not_lt.2 (Nat.le_add_left _ _))

/-- The one level: every cell of a TensorCore at level 0. -/
abbrev L : GSem nD τ sig → Finset Unit := fun g => if g.1.2 = .tc then Finset.univ else ∅
abbrev lv : GSem nD τ sig → Unit → ℕ := fun _ _ => 0
/-- What a core holds beside the buffers between items: its generator register, and nothing owed. -/
abbrev Rest (c : Dev nD) : sProp 𝕄 := iprop((∃ r, prngReg c r) ∗ ∃ W, owes (c : Thread nD τ) (0 : CellTallies nD τ sig Unit) W)

theorem cut (p : Fin 2) : Pipeline.LevelCut (nD := nD) (τ := τ) (pcfgs (F := F)) adm () L lv p (fun _ => 0) (fun _ => 0) where
  hι c w s := by simp [L]
  hιb c w s := le_refl _
  hD c g i h := absurd h (by simp)

/-- The forward scan's region. -/
abbrev reg0 : RegionSeg (pcfgs (F := F)) adm (pdats m) () defs₀ Variants.none L lv 0 :=
  RegionSeg.ofArrays (pcfgs (F := F)) adm (pdats m) () defs₀ Variants.none L lv 0 (fun _ => 0)
    (fun c => iprop(∃ r, prngReg c r)) (fun c => iprop(∃ r, prngReg c r)) launch₀0.toP rfl
    (fun c => (body_obligation0 (V0 m) c).loose) (fun _ _ => rfl) (fun _ => rfl)
    (fun c => Phi0_in (V0 m) c) (fun c => Phi0_out (V0 m) c _) (fun _ => 0) (cut 0)
    (fun c => Pipeline.unscopedRest spec0 c (fun b => V0 m c b))

/-- The backward scan's region. -/
abbrev reg1 : RegionSeg (pcfgs (F := F)) adm (pdats m) () defs₀ Variants.none L lv 1 :=
  RegionSeg.ofArrays (pcfgs (F := F)) adm (pdats m) () defs₀ Variants.none L lv 1 (fun _ => 0)
    (fun c => iprop(∃ r, prngReg c r)) (fun c => iprop(∃ r, prngReg c r)) launch₀1.toP rfl
    (fun c => (body_obligation1 (U1 m) c).loose) (fun _ _ => rfl) (fun _ => rfl)
    (fun c => Phi1_in (U1 m) c) (fun c => Phi1_out (U1 m) c _) (fun _ => 0) (cut 1)
    (fun c => Pipeline.unscopedRest spec1 c (fun b => U1 m c b))

/-- Region 0's arrays as it leaves them are the contents after it. -/
theorem exit0 (c : Dev nD) : ∀ w : Fin 6, (dats0 (V0 m) c).arrAt w cfg0.N = U1 m c (Pipeline.arrRef spec0 w) := fun w =>
  match w with
    | 0 => ((dats0 (V0 m) c).arrAt_in 0 rfl _).trans (U1_of m c (Pipeline.arrRef spec0 0) (by decide)).symm
    | 1 => ((dats0 (V0 m) c).arrAt_in 1 rfl _).trans (U1_of m c (Pipeline.arrRef spec0 1) (by decide)).symm
    | 2 => ((dats0 (V0 m) c).arrAt_in 2 rfl _).trans (U1_of m c (Pipeline.arrRef spec0 2) (by decide)).symm
    | 3 => ((dats0 (V0 m) c).arrAt_in 3 rfl _).trans (U1_of m c (Pipeline.arrRef spec0 3) (by decide)).symm
    | 4 => (U1_v0_0 m c).symm
    | 5 => (U1_v0_1 m c).symm
    | ⟨_ + 6, h⟩ => absurd h (Nat.not_lt.2 (Nat.le_add_left _ _))

theorem pre0 (c : Dev nD) : iprop(StableHlo.held (c : Thread nD τ) (Pipeline.ucRefs τ sig) (V0 m c) ∗ Rest c) ⊢ (reg0 m).pre c := by
  have hs : (StableHlo.held (c : Thread nD τ) (Pipeline.ucRefs τ sig) (V0 m c) : sProp 𝕄)
      ⊢ iprop((pdats m 0 c).arrays ((pdats m 0 c).arrAt · 0) ∗ Pipeline.unscopedRest spec0 c (fun b => V0 m c b)) := by
    rw [← Pipeline.unscopedBufs_held (Ix := Unit) (Name := ℕ) (U := UR sig nD τ) (Lvl := ℕ) c (V0 m c)]
    exact Pipeline.arrays_of_unscopedBufs_shared (p := 0) (pcfgs (F := F)) adm (pdats m) winFacts₀0 sharedIn0 arr_whole0 c (fun _ _ => rfl) (fun b => V0 m c b) (fun _ => rfl)
  refine BIBase.Entails.trans ?_ (show iprop((pdats m 0 c).arrays ((pdats m 0 c).arrAt · 0) ∗ (∃ r, prngReg c r) ∗ Pipeline.unscopedRest spec0 c (fun b => V0 m c b) ∗ ∃ W, owes (c : Thread nD τ) (0 : CellTallies nD τ sig Unit) W) ⊢ (reg0 m).pre c from .rfl)
  iintro ⟨Hh, Hp, HO⟩
  ihave H := hs $$ Hh
  icases H with ⟨Ha, HR⟩
  isplitl [Ha]; · iexact Ha
  isplitl [Hp]; · iexact Hp
  isplitl [HR]; · iexact HR
  iexact HO

theorem post0 (c : Dev nD) : (reg0 m).post c ⊢ iprop(StableHlo.held (c : Thread nD τ) (Pipeline.ucRefs τ sig) (U1 m c) ∗ Rest c) := by
  have hs : iprop((pdats m 0 c).arrays ((pdats m 0 c).arrAt · cfg0.N) ∗ Pipeline.unscopedRest spec0 c (fun b => V0 m c b))
      ⊢ (StableHlo.held (c : Thread nD τ) (Pipeline.ucRefs τ sig) (U1 m c) : sProp 𝕄) := by
    rw [← Pipeline.unscopedBufs_held (Ix := Unit) (Name := ℕ) (U := UR sig nD τ) (Lvl := ℕ) c (U1 m c)]
    exact Pipeline.unscopedBufs_of_arrays_shared (p := 0) (pcfgs (F := F)) adm winFacts₀0 sharedIn0 arr_whole0 c (pdats m) (fun _ _ => rfl)
      (fun b => V0 m c b) (fun b => U1 m c b) _ (exit0 m c) (fun b hb => U1_of m c b (fun hm => hb ((by decide : ∀ b ∈ ([main_v0_0, main_v0_1] : List (Ref sig .tc)), b ∈ Finset.univ.image (Pipeline.arrRef spec0)) b hm)))
  refine BIBase.Entails.trans (show (reg0 m).post c ⊢ iprop((pdats m 0 c).arrays ((pdats m 0 c).arrAt · cfg0.N) ∗ (∃ r, prngReg c r) ∗ Pipeline.unscopedRest spec0 c (fun b => V0 m c b) ∗ ∃ W, owes (c : Thread nD τ) (0 : CellTallies nD τ sig Unit) W) from .rfl) ?_
  iintro ⟨Ha, HY, HR, HO⟩
  isplitl [Ha HR]
  · iapply hs
    isplitl [Ha]; · iexact Ha
    iexact HR
  isplitl [HY]; · iexact HY
  iexact HO

/-- Region 1's arrays as it leaves them are the contents after it. -/
theorem exit1 (c : Dev nD) : ∀ w : Fin 10, (dats1 (U1 m) c).arrAt w cfg1.N = U2 m c (Pipeline.arrRef spec1 w) := fun w =>
  match w with
    | 0 => ((dats1 (U1 m) c).arrAt_in 0 rfl _).trans (U2_of m c (Pipeline.arrRef spec1 0) (by decide)).symm
    | 1 => ((dats1 (U1 m) c).arrAt_in 1 rfl _).trans (U2_of m c (Pipeline.arrRef spec1 1) (by decide)).symm
    | 2 => ((dats1 (U1 m) c).arrAt_in 2 rfl _).trans (U2_of m c (Pipeline.arrRef spec1 2) (by decide)).symm
    | 3 => ((dats1 (U1 m) c).arrAt_in 3 rfl _).trans (U2_of m c (Pipeline.arrRef spec1 3) (by decide)).symm
    | 4 => ((dats1 (U1 m) c).arrAt_in 4 rfl _).trans (U2_of m c (Pipeline.arrRef spec1 4) (by decide)).symm
    | 5 => ((dats1 (U1 m) c).arrAt_in 5 rfl _).trans (U2_of m c (Pipeline.arrRef spec1 5) (by decide)).symm
    | 6 => (U2_v1_0 m c).symm
    | 7 => (U2_v1_1 m c).symm
    | 8 => (U2_v1_2 m c).symm
    | 9 => (U2_v1_3 m c).symm
    | ⟨_ + 10, h⟩ => absurd h (Nat.not_lt.2 (Nat.le_add_left _ _))

theorem pre1 (c : Dev nD) : iprop(StableHlo.held (c : Thread nD τ) (Pipeline.ucRefs τ sig) (U1 m c) ∗ Rest c) ⊢ (reg1 m).pre c := by
  have hs : (StableHlo.held (c : Thread nD τ) (Pipeline.ucRefs τ sig) (U1 m c) : sProp 𝕄)
      ⊢ iprop((pdats m 1 c).arrays ((pdats m 1 c).arrAt · 0) ∗ Pipeline.unscopedRest spec1 c (fun b => U1 m c b)) := by
    rw [← Pipeline.unscopedBufs_held (Ix := Unit) (Name := ℕ) (U := UR sig nD τ) (Lvl := ℕ) c (U1 m c)]
    exact Pipeline.arrays_of_unscopedBufs_shared (p := 1) (pcfgs (F := F)) adm (pdats m) winFacts₀1 sharedIn1 arr_whole1 c (fun _ _ => rfl) (fun b => U1 m c b) (fun _ => rfl)
  refine BIBase.Entails.trans ?_ (show iprop((pdats m 1 c).arrays ((pdats m 1 c).arrAt · 0) ∗ (∃ r, prngReg c r) ∗ Pipeline.unscopedRest spec1 c (fun b => U1 m c b) ∗ ∃ W, owes (c : Thread nD τ) (0 : CellTallies nD τ sig Unit) W) ⊢ (reg1 m).pre c from .rfl)
  iintro ⟨Hh, Hp, HO⟩
  ihave H := hs $$ Hh
  icases H with ⟨Ha, HR⟩
  isplitl [Ha]; · iexact Ha
  isplitl [Hp]; · iexact Hp
  isplitl [HR]; · iexact HR
  iexact HO

theorem post1 (c : Dev nD) : (reg1 m).post c ⊢ iprop(StableHlo.held (c : Thread nD τ) (Pipeline.ucRefs τ sig) (U2 m c) ∗ Rest c) := by
  have hs : iprop((pdats m 1 c).arrays ((pdats m 1 c).arrAt · cfg1.N) ∗ Pipeline.unscopedRest spec1 c (fun b => U1 m c b))
      ⊢ (StableHlo.held (c : Thread nD τ) (Pipeline.ucRefs τ sig) (U2 m c) : sProp 𝕄) := by
    rw [← Pipeline.unscopedBufs_held (Ix := Unit) (Name := ℕ) (U := UR sig nD τ) (Lvl := ℕ) c (U2 m c)]
    exact Pipeline.unscopedBufs_of_arrays_shared (p := 1) (pcfgs (F := F)) adm winFacts₀1 sharedIn1 arr_whole1 c (pdats m) (fun _ _ => rfl)
      (fun b => U1 m c b) (fun b => U2 m c b) _ (exit1 m c) (fun b hb => U2_of m c b (fun hm => hb ((by decide : ∀ b ∈ ([main_v1_0, main_v1_1, main_v1_2, main_v1_3] : List (Ref sig .tc)), b ∈ Finset.univ.image (Pipeline.arrRef spec1)) b hm)))
  refine BIBase.Entails.trans (show (reg1 m).post c ⊢ iprop((pdats m 1 c).arrays ((pdats m 1 c).arrAt · cfg1.N) ∗ (∃ r, prngReg c r) ∗ Pipeline.unscopedRest spec1 c (fun b => U1 m c b) ∗ ∃ W, owes (c : Thread nD τ) (0 : CellTallies nD τ sig Unit) W) from .rfl) ?_
  iintro ⟨Ha, HY, HR, HO⟩
  isplitl [Ha HR]
  · iapply hs
    isplitl [Ha]; · iexact Ha
    iexact HR
  isplitl [HY]; · iexact HY
  iexact HO

set_option backward.isDefEq.respectTransparency.types false in
theorem run_main (ρ : Dev nD → PrngReg) :
    θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_v0_0) = (dats0 (V0 m) c).arrAt 4 cfg0.N ∧ r.2.mem ((c.tc : Thread nD τ).loc main_v1_0) = (dats1 (U1 m) c).arrAt 6 cfg1.N ∧ r.2.mem ((c.tc : Thread nD τ).loc main_v1_1) = (dats1 (U1 m) c).arrAt 7 cfg1.N ∧ r.2.mem ((c.tc : Thread nD τ).loc main_v1_2) = (dats1 (U1 m) c).arrAt 8 cfg1.N ∧ r.2.mem ((c.tc : Thread nD τ).loc main_v1_3) = (dats1 (U1 m) c).arrAt 9 cfg1.N) ∧ r.2.sem = fun _ => 0) := by
  refine Pipeline.θ_run_regions_kit_dev_sems (pcfgs (F := F)) adm (pdats m) () cellOf_inj emb₁ defs₀ Variants.none L lv m ρ main
    (fun _ => [.region (reg0 m), .region (reg1 m)])
    (fun c Q => by
      rewrite [main_chain c, Seg.run_eq_chain,
        show ([.region (reg0 m), .region (reg1 m)] : List (Seg (pcfgs (F := F)) adm (pdats m) () defs₀ Variants.none L lv)).map Seg.prog = [
          Prog.lift (.customCall (Pipeline.entry 0) ()),
          Prog.lift (.customCall (Pipeline.entry 1) ()) ] from rfl]
      exact .rfl)
    (fun c => by simp only [Seg.pipes_host, Seg.pipes_region, Seg.pipes_nil]; decide)
    (O₀ := 0) (hL := fun g hg => if_neg hg) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(StableHlo.held (c : Thread nD τ) (Pipeline.ucRefs τ sig) (U2 m c) ∗ ∃ r, prngReg c r))
    (hch := fun c => ⟨pre0 m c, (post0 m c).trans (pre1 m c), (post1 m c).trans (by
      iintro ⟨Hh, Hp, HO⟩
      isplitl [Hh Hp]
      · isplitl [Hh]; · iexact Hh
        iexact Hp
      iexact HO)⟩)
    (hinit := by
      refine Pipeline.initEach L lv fun c => ?_
      rw [show unscopedBufs c (fun b => m ((c.tc : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_v0_0) = (dats0 (V0 m) c).arrAt 4 cfg0.N ∧ s.mem ((c.tc : Thread nD τ).loc main_v1_0) = (dats1 (U1 m) c).arrAt 6 cfg1.N ∧ s.mem ((c.tc : Thread nD τ).loc main_v1_1) = (dats1 (U1 m) c).arrAt 7 cfg1.N ∧ s.mem ((c.tc : Thread nD τ).loc main_v1_2) = (dats1 (U1 m) c).arrAt 8 cfg1.N ∧ s.mem ((c.tc : Thread nD τ).loc main_v1_3) = (dats1 (U1 m) c).arrAt 9 cfg1.N)
    (hfin := fun c s' => ?_) (hQ := fun _ h hz => ⟨h, funext fun g => hz g (.inr (regions_no_unscoped g.2))⟩)
  unfold StableHlo.held
  iintro ⟨⟨Hh, -⟩, HSI⟩
  ihave Hr := (pointsTo_read_all (Pipeline.ucRefs τ sig) (fun b => ((c : Thread nD τ).1, b)) (U2 m c) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans (U2_arg0 m c),
        (h (Proc.devRef .tc main_arg1) (Finset.mem_filter.mpr ⟨StableHlo.devRef_mem_tcRefs main_arg1, by decide⟩)).trans (U2_arg1 m c),
        (h (Proc.devRef .tc main_arg2) (Finset.mem_filter.mpr ⟨StableHlo.devRef_mem_tcRefs main_arg2, by decide⟩)).trans (U2_arg2 m c),
        (h (Proc.devRef .tc main_v0_0) (Finset.mem_filter.mpr ⟨StableHlo.devRef_mem_tcRefs main_v0_0, by decide⟩)).trans (U2_v0_0 m c),
        (h (Proc.devRef .tc main_v1_0) (Finset.mem_filter.mpr ⟨StableHlo.devRef_mem_tcRefs main_v1_0, by decide⟩)).trans (U2_v1_0 m c),
        (h (Proc.devRef .tc main_v1_1) (Finset.mem_filter.mpr ⟨StableHlo.devRef_mem_tcRefs main_v1_1, by decide⟩)).trans (U2_v1_1 m c),
        (h (Proc.devRef .tc main_v1_2) (Finset.mem_filter.mpr ⟨StableHlo.devRef_mem_tcRefs main_v1_2, by decide⟩)).trans (U2_v1_2 m c),
        (h (Proc.devRef .tc main_v1_3) (Finset.mem_filter.mpr ⟨StableHlo.devRef_mem_tcRefs main_v1_3, by decide⟩)).trans (U2_v1_3 m c)⟩
  · iexact HSI

end Cert.KernelIdeal.Run

end
-- ==== Proof.Same.lean ====
/- The emitted kernel and its ideal form have the same text: the two body tables and the two
   entry programs are equal, over any float values. -/
module

public import proofs.«01_k».proof.Defs
public import proofs.«01_k».proof.Proof.Gen.Kernel
public import proofs.«01_k».proof.Proof.Gen.KernelIdeal

@[expose] public section

noncomputable section

namespace Cert.Same

open Idealize.ShloMosaic Idealize.SL Idealize.SL.Sem

variable {F : FTy → Type} [FloatOps F]

instance : Cert.Kernel.Facts := Cert.Kernel.Gen.facts

instance : Cert.KernelIdeal.Facts := Cert.KernelIdeal.Gen.facts

set_option backward.isDefEq.respectTransparency false
set_option backward.isDefEq.respectTransparency.types false

/-- The forward body. -/
theorem body0 : Cert.Kernel.cc0_gla_scan (F := F) = Cert.KernelIdeal.cc0_gla_scan (F := F) := rfl

/-- The backward body. -/
theorem body1 : Cert.Kernel.cc1_gla_scan_bwd (F := F) = Cert.KernelIdeal.cc1_gla_scan_bwd (F := F) := rfl

/-- Body tables that agree at every label are equal. -/
theorem onTc_ext {nD : ℕ} {τ : Topo} {sig : RefSig} {Val : EltTy → Type} {Λ : Labels}
    {D E : (ℓ : Λ.Label) → Λ.Args ℓ → Prog (TpuEff nD τ sig Val Λ .tc) (Λ.Result ℓ)} (h : ∀ ℓ a, D ℓ a = E ℓ a) :
    Defs.onTc D = Defs.onTc E := congrArg _ (funext fun ℓ => funext fun a => h ℓ a)

/-- The forward call's body. -/
theorem call0 (t : Fin Cert.KernelIdeal.grid0.N) (s : (w : Fin 6) → Fin (Cert.KernelIdeal.win0 w).nbuf) :
    Cert.Kernel.defs₀ (F := F) .tc (0 : Fin 2) (t, s) = Cert.KernelIdeal.defs₀ (F := F) .tc (0 : Fin 2) (t, s) := by
  unfold Cert.Kernel.defs₀ Cert.KernelIdeal.defs₀
  rw [Defs.onTc_tc, Defs.onTc_tc]
  dsimp only
  rw [body0]
  rfl

/-- The backward call's body. -/
theorem call1 (t : Fin Cert.KernelIdeal.grid1.N) (s : (w : Fin 10) → Fin (Cert.KernelIdeal.win1 w).nbuf) :
    Cert.Kernel.defs₀ (F := F) .tc (1 : Fin 2) (t, s) = Cert.KernelIdeal.defs₀ (F := F) .tc (1 : Fin 2) (t, s) := by
  unfold Cert.Kernel.defs₀ Cert.KernelIdeal.defs₀
  rw [Defs.onTc_tc, Defs.onTc_tc]
  dsimp only
  rw [body1]
  rfl

/-- The two kernels' tables. -/
theorem defs₀_eq : Cert.Kernel.defs₀ (F := F) = Cert.KernelIdeal.defs₀ (F := F) :=
  onTc_ext fun ℓ a => match ℓ, a with
    | 0, (t, s) => call0 t s
    | 1, (t, s) => call1 t s

/-- The whole programs' tables. -/
theorem defs_eq : Cert.Kernel.defs (F := F) = Cert.KernelIdeal.defs (F := F) :=
  congrArg (Pipeline.defs Cert.KernelIdeal.pcfgs) defs₀_eq

/-- The entry programs. -/
theorem main_eq : Cert.Kernel.main (F := F) = Cert.KernelIdeal.main (F := F) := rfl

end Cert.Same

end
-- ==== Proof.Reals.lean ====
/- Arrays of extended reals that hold real matrices, and the scalar laws that carry the operations
   of a block from the extended reals to the reals. -/
module

public import Idealize.ShloMosaic.Lib.Pointwise
public import Idealize.ShloMosaic.Lib.WordCmp
public import Idealize.ShloMosaic.PureOps.Ideal.Laws

@[expose] public section

noncomputable section

namespace Cert.Gla

open Idealize.ShloMosaic Finset

/-- The array holds the real matrix `f`, read at its first rows and columns. -/
def R2 {n m : ℕ} (x : (⟨2, ![n, m]⟩ : Shape).Idx → EReal) (f : ℕ → ℕ → ℝ) : Prop :=
  ∀ (a : Fin n) (b : Fin m), x (ix2 a b) = ((f a b : ℝ) : EReal)

/-- A sum of reals, read as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real minus itself: what is left of a number that its high half holds exactly. -/
theorem coe_sub_self (x : ℝ) : (x : EReal) - (x : EReal) = 0 := by rw [← EReal.coe_sub, sub_self, EReal.coe_zero]

/-- A masked real. -/
theorem ite_coe (p : Prop) [Decidable p] (x : ℝ) : (if p then (x : EReal) else 0) = ((if p then x else 0 : ℝ) : EReal) := by
  split <;> simp

/-- A bit chooses one of two numbers. -/
theorem select_ofBool (p : Prop) [Decidable p] (u v : EReal) : Scalar.select (BitVec.ofBool (decide p)) u v = if p then u else v := by
  by_cases h : p <;> simp [Scalar.select, h]

/-- A comparison `≤` of two small row numbers chooses. -/
theorem sel_sle {a b : ℕ} (ha : a < 2 ^ 31) (hb : b < 2 ^ 31) (u v : EReal) :
    Scalar.select (IntOp.cmpi .sle (BitVec.ofNat 32 a) (BitVec.ofNat 32 b)) u v = if a ≤ b then u else v := by
  rw [WordCmp.cmpi_sle_ofNat (w := 32) ha hb, select_ofBool]

/-- A comparison `≥` of two small row numbers chooses. -/
theorem sel_sge {a b : ℕ} (ha : a < 2 ^ 31) (hb : b < 2 ^ 31) (u v : EReal) :
    Scalar.select (IntOp.cmpi .sge (BitVec.ofNat 32 a) (BitVec.ofNat 32 b)) u v = if b ≤ a then u else v := by
  rw [WordCmp.cmpi_sge_ofNat (w := 32) ha hb, select_ofBool]

/-- A comparison `<` of two small row numbers chooses. -/
theorem sel_slt {a b : ℕ} (ha : a < 2 ^ 31) (hb : b < 2 ^ 31) (u v : EReal) :
    Scalar.select (IntOp.cmpi .slt (BitVec.ofNat 32 a) (BitVec.ofNat 32 b)) u v = if a < b then u else v := by
  rw [WordCmp.cmpi_slt_ofNat (w := 32) ha hb, select_ofBool]

/-- The scale's pattern denotes 1/16. -/
theorem ofBits_sixteenth : Ideal.ofBits .f32 0x3D800000#32 = ((1 / 16 : ℝ) : EReal) := by
  simp [Ideal.ofBits, Ideal.ieee, -EReal.coe_mul]; norm_num

/-- A sum over the rows up to `a`. -/
theorem sum_le {n a : ℕ} (ha : a < n) (f : ℕ → ℝ) : (∑ x : Fin n, if (x : ℕ) ≤ a then f x else 0) = ∑ t ∈ range (a + 1), f t := by
  rw [← Finset.sum_range (fun x => if x ≤ a then f x else 0), ← Finset.sum_filter]
  refine Finset.sum_congr ?_ fun _ _ => rfl
  ext x; simp only [mem_filter, mem_range]; omega

/-- A sum over the rows below `a`. -/
theorem sum_lt {n a : ℕ} (ha : a ≤ n) (f : ℕ → ℝ) : (∑ x : Fin n, if (x : ℕ) < a then f x else 0) = ∑ t ∈ range a, f t := by
  rw [← Finset.sum_range (fun x => if x < a then f x else 0), ← Finset.sum_filter]
  refine Finset.sum_congr ?_ fun _ _ => rfl
  ext x; simp only [mem_filter, mem_range]; omega

/-- A sum over the rows from `a` on. -/
theorem sum_ge {n a : ℕ} (f : ℕ → ℝ) : (∑ x : Fin n, if a ≤ (x : ℕ) then f x else 0) = ∑ t ∈ Ico a n, f t := by
  rw [← Finset.sum_range (fun x => if a ≤ x then f x else 0), ← Finset.sum_filter]
  refine Finset.sum_congr ?_ fun _ _ => rfl
  ext x; simp only [mem_filter, mem_range, mem_Ico]; omega

end Cert.Gla

end

end
-- ==== Proof.Chunk.lean ====
/- One chunk of gated linear attention over the reals: the running log decay, the scores, the
   output and the carried state, and the chunk's gradients. -/
module

public import proofs.«01_k».proof.Proof.Reals

@[expose] public section

noncomputable section

namespace Cert.Gla

open Finset

/-- The log decay accumulated in the chunk up to and including row `r`. -/
def lb (g : ℕ → ℕ → ℝ) (r κ : ℕ) : ℝ := ∑ t ∈ range (r + 1), g t κ

/-- The log decay of the chunk's first 64 rows. -/
def lm (g : ℕ → ℕ → ℝ) (κ : ℕ) : ℝ := ∑ t ∈ range 64, g t κ

/-- The log decay of the whole chunk. -/
def ll (g : ℕ → ℕ → ℝ) (κ : ℕ) : ℝ := ∑ t ∈ range 128, g t κ

/-- The score of row `s` for row `r`. -/
def cA (q k g : ℕ → ℕ → ℝ) (r s : ℕ) : ℝ := ∑ κ ∈ range 256, q r κ * k s κ * Real.exp (lb g r κ - lb g s κ)

/-- The chunk's output. -/
def cO (q k v g st : ℕ → ℕ → ℝ) (r ν : ℕ) : ℝ :=
  ∑ κ ∈ range 256, q r κ * Real.exp (lb g r κ) * st ν κ + ∑ s ∈ range (r + 1), cA q k g r s * v s ν

/-- The state that the chunk leaves. -/
def cSt (k v g st : ℕ → ℕ → ℝ) (ν κ : ℕ) : ℝ :=
  st ν κ * Real.exp (ll g κ) + ∑ s ∈ range 128, v s ν * (k s κ * Real.exp (ll g κ - lb g s κ))

/-- The product of `do` at row `r` with v at row `s`. -/
def cdA (v d : ℕ → ℕ → ℝ) (r s : ℕ) : ℝ := ∑ ν ∈ range 512, d r ν * v s ν

/-- The gradient of v. -/
def cDv (q k g d ds : ℕ → ℕ → ℝ) (s ν : ℕ) : ℝ :=
  ∑ r ∈ Ico s 128, cA q k g r s * d r ν + ∑ κ ∈ range 256, k s κ * Real.exp (ll g κ - lb g s κ) * ds ν κ

/-- The gradient of the scaled q. -/
def cDq (k v g d st : ℕ → ℕ → ℝ) (r κ : ℕ) : ℝ :=
  ∑ s ∈ range (r + 1), cdA v d r s * (k s κ * Real.exp (lb g r κ - lb g s κ)) + (∑ ν ∈ range 512, d r ν * st ν κ) * Real.exp (lb g r κ)

/-- The gradient of k. -/
def cDk (q v g d ds : ℕ → ℕ → ℝ) (s κ : ℕ) : ℝ :=
  ∑ r ∈ Ico s 128, cdA v d r s * (q r κ * Real.exp (lb g r κ - lb g s κ)) + (∑ ν ∈ range 512, v s ν * ds ν κ) * Real.exp (ll g κ - lb g s κ)

/-- The gradient of the state that enters the chunk. -/
def cDs (q g d ds : ℕ → ℕ → ℝ) (ν κ : ℕ) : ℝ :=
  ds ν κ * Real.exp (ll g κ) + ∑ r ∈ range 128, d r ν * (q r κ * Real.exp (lb g r κ))

/-- The gradient of the accumulated log decay. -/
def cDb (q k v g d st ds : ℕ → ℕ → ℝ) (r κ : ℕ) : ℝ := q r κ * cDq k v g d st r κ - k r κ * cDk q v g d ds r κ

/-- Decay from the middle times decay to the middle. -/
theorem exp_mid (x y m : ℝ) : Real.exp (x - m) * Real.exp (m - y) = Real.exp (x - y) := by
  rw [← Real.exp_add]; congr 1; ring

/-- A sum over all rows of a term masked to the rows up to `r`. -/
theorem sum_masked_le {n r : ℕ} (hr : r < n) (A f : ℕ → ℝ) :
    ∑ s ∈ range n, (if s ≤ r then A s else 0) * f s = ∑ s ∈ range (r + 1), A s * f s := by
  simp only [ite_mul, zero_mul]
  rw [Finset.sum_range, sum_le hr fun s => A s * f s]

/-- A sum over all rows of a term masked to the rows from `s` on. -/
theorem sum_masked_ge {n s : ℕ} (A f : ℕ → ℝ) :
    ∑ r ∈ range n, (if s ≤ r then A r else 0) * f r = ∑ r ∈ Ico s n, A r * f r := by
  simp only [ite_mul, zero_mul]
  rw [Finset.sum_range, sum_ge fun r => A r * f r]

/-- The scores by way of the chunk's middle. -/
theorem cA_mid (q k g : ℕ → ℕ → ℝ) (r s : ℕ) :
    ∑ t ∈ range 256, q r t * Real.exp (lb g r t - lm g t) * (k s t * Real.exp (lm g t - lb g s t)) = cA q k g r s := by
  refine Finset.sum_congr rfl fun t _ => ?_
  rw [← exp_mid (lb g r t) (lb g s t) (lm g t)]; ring

/-- The output, from the masked scores. -/
theorem cO_of_masked (q k v g st : ℕ → ℕ → ℝ) (r : ℕ) (hr : r < 128) (ν : ℕ) :
    (∑ t ∈ range 256, q r t * Real.exp (lb g r t) * st ν t)
      + ∑ t ∈ range 128, (if t ≤ r then ∑ u ∈ range 256, q r u * Real.exp (lb g r u - lm g u) * (k t u * Real.exp (lm g u - lb g t u)) else 0) * v t ν
    = cO q k v g st r ν := by
  simp only [cA_mid]
  rw [sum_masked_le hr, cO]

/-- The gradient of v, from the masked scores. -/
theorem cDv_of_masked (q k g d ds : ℕ → ℕ → ℝ) (s ν : ℕ) :
    (∑ t ∈ range 128, (if s ≤ t then ∑ u ∈ range 256, q t u * Real.exp (lb g t u - lm g u) * (k s u * Real.exp (lm g u - lb g s u)) else 0) * d t ν)
      + ∑ t ∈ range 256, k s t * Real.exp (ll g t - lb g s t) * ds ν t
    = cDv q k g d ds s ν := by
  simp only [cA_mid]
  rw [sum_masked_ge, cDv]

/-- The gradient of the scaled q, from the masked products. -/
theorem cDq_of_masked (k v g d st : ℕ → ℕ → ℝ) (r : ℕ) (hr : r < 128) (κ : ℕ) :
    (∑ t ∈ range 128, (if t ≤ r then cdA v d r t else 0) * (k t κ * Real.exp (lm g κ - lb g t κ))) * Real.exp (lb g r κ - lm g κ)
      + (∑ t ∈ range 512, d r t * st t κ) * Real.exp (lb g r κ)
    = cDq k v g d st r κ := by
  rw [sum_masked_le hr, cDq, Finset.sum_mul]
  congr 1
  refine Finset.sum_congr rfl fun t _ => ?_
  rw [← exp_mid (lb g r κ) (lb g t κ) (lm g κ)]; ring

/-- The gradient of k, from the masked products. -/
theorem cDk_of_masked (q v g d ds : ℕ → ℕ → ℝ) (s κ : ℕ) :
    (∑ t ∈ range 128, (if s ≤ t then cdA v d t s else 0) * (q t κ * Real.exp (lb g t κ - lm g κ))) * Real.exp (lm g κ - lb g s κ)
      + (∑ t ∈ range 512, v s t * ds t κ) * Real.exp (ll g κ - lb g s κ)
    = cDk q v g d ds s κ := by
  rw [sum_masked_ge, cDk, Finset.sum_mul]
  congr 1
  refine Finset.sum_congr rfl fun t _ => ?_
  rw [← exp_mid (lb g t κ) (lb g s κ) (lm g κ)]; ring

end Cert.Gla

end

end
-- ==== Proof.BwdBlock.lean ====
/- The backward chunk at real values: each intermediate of a chunk, then its gradients and the
   state gradient that it hands on, as sums of reals. -/
module

public import proofs.«01_k».proof.Proof.BwdRun
public import proofs.«01_k».proof.Proof.Chunk

@[expose] public section

set_option maxRecDepth 16384

noncomputable section

namespace Cert.KernelIdeal.BlockB

open Idealize.ShloMosaic Cert.Gla Finset
open Cert.KernelIdeal Cert.KernelIdeal.Gen Cert.KernelIdeal.Run

variable {x0 x1 x3 : Vec Ideal S128x256 .f32} {x2 x4 : Vec Ideal S128x512 .f32} {x5 : Vec Ideal S1x1x512x256 .f32} {s : Vec Ideal S512x256 .f32} {s1 : Vec Ideal S1x256 .f32}
variable {q k g : ℕ → ℕ → ℝ} {v d st ds : ℕ → ℕ → ℝ} {dgc : ℕ → ℝ}

/-- The scaled q. -/
theorem b7 (h : R2 x0 q) :
    R2 (k1_pay7 (F := Ideal) x0) (fun a b => q a b * (1 / 16)) := by
  intro a b
  have ha := a.isLt; have hb := b.isLt
  pointwise [k1_pay7]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The running sum of the log decays. -/
theorem b8 (h : R2 x3 g) :
    R2 (k1_pay8 (F := Ideal) x3) (fun a b => lb g a b) := by
  intro a b
  have ha := a.isLt; have hb := b.isLt
  pointwise [k1_pay8]
  simp only [h _ _, sel_sle (show _ < 2 ^ 31 from (lt_trans (Fin.isLt _) (by norm_num : 128 < 2 ^ 31))) (show _ < 2 ^ 31 from (lt_trans (Fin.isLt _) (by norm_num : 128 < 2 ^ 31))), ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]
  exact congrArg _ (sum_le a.isLt fun t => g t b)

/-- The sum over the chunk's first half. -/
theorem b9 (h : R2 x3 g) :
    R2 (k1_pay9 (F := Ideal) x3) (fun a b => lm g b) := by
  intro a b
  have ha := a.isLt; have hb := b.isLt
  pointwise [k1_pay9]
  simp only [show ∀ (x : Fin 128) (u w : EReal), Scalar.select (IntOp.cmpi .slt (BitVec.ofNat 32 ↑x) 64#32) u w = if (x : ℕ) < 64 then u else w from fun x u w => sel_slt (lt_trans x.isLt (by norm_num)) (by norm_num) u w]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]
  exact congrArg _ (sum_lt (by norm_num) fun t => g t b)

/-- The sum over the chunk. -/
theorem b10 (h : R2 x3 g) :
    R2 (k1_pay10 (F := Ideal) x3) (fun a b => ll g b) := by
  intro a b
  have ha := a.isLt; have hb := b.isLt
  pointwise [k1_pay10]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]
  exact congrArg _ (Finset.sum_range fun t => g t b).symm

/-- The decay from the chunk's entry. -/
theorem b11 (h : R2 x3 g) :
    R2 (k1_pay11 (F := Ideal) x3) (fun a b => Real.exp (lb g a b)) := by
  intro a b
  have ha := a.isLt; have hb := b.isLt
  pointwise [k1_pay11]
  simp only [b8 h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The decay from the chunk's middle. -/
theorem b12 (h : R2 x3 g) :
    R2 (k1_pay12 (F := Ideal) x3) (fun a b => Real.exp (lb g a b - lm g b)) := by
  intro a b
  have ha := a.isLt; have hb := b.isLt
  pointwise [k1_pay12]
  simp only [b8 h _ _, b9 h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The decay to the chunk's middle. -/
theorem b13 (h : R2 x3 g) :
    R2 (k1_pay13 (F := Ideal) x3) (fun a b => Real.exp (lm g b - lb g a b)) := by
  intro a b
  have ha := a.isLt; have hb := b.isLt
  pointwise [k1_pay13]
  simp only [b8 h _ _, b9 h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The log decay to the chunk's end. -/
theorem b14 (h : R2 x3 g) :
    R2 (k1_pay14 (F := Ideal) x3) (fun a b => ll g b - lb g a b) := by
  intro a b
  have ha := a.isLt; have hb := b.isLt
  pointwise [k1_pay14]
  simp only [b8 h _ _, b10 h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- A decay. -/
theorem b15 {f : ℕ → ℕ → ℝ} (h : R2 x3 f) :
    R2 (k1_pay15 (F := Ideal) x3) (fun a b => Real.exp (f a b)) := by
  intro a b
  have ha := a.isLt; have hb := b.isLt
  pointwise [k1_pay15]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The high half of v. -/
theorem b16 (h : R2 x2 v) :
    R2 (k1_pay16 (F := Ideal) x2) (fun a b => v a b) := by
  intro a b
  have ha := a.isLt; have hb := b.isLt
  pointwise [k1_pay16]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The low half of v. -/
theorem b17 (h : R2 x2 v) :
    R2 (k1_pay17 (F := Ideal) x2) (fun a b => 0) := by
  intro a b
  have ha := a.isLt; have hb := b.isLt
  pointwise [k1_pay17, k1_pay16]
  simp only [h _ _, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The high half of do. -/
theorem b18 (h : R2 x4 d) :
    R2 (k1_pay18 (F := Ideal) x4) (fun a b => d a b) := by
  intro a b
  have ha := a.isLt; have hb := b.isLt
  pointwise [k1_pay18]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The low half of do. -/
theorem b19 (h : R2 x4 d) :
    R2 (k1_pay19 (F := Ideal) x4) (fun a b => 0) := by
  intro a b
  have ha := a.isLt; have hb := b.isLt
  pointwise [k1_pay19, k1_pay18]
  simp only [h _ _, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The high half of a decayed q. -/
theorem b21 {y : Vec Ideal S128x256 .f32} {e : ℕ → ℕ → ℝ} (h : R2 x0 q) (hy : R2 y e) :
    R2 (k1_pay21 (F := Ideal) x0 y) (fun a b => q a b * e a b) := by
  intro a b
  have ha := a.isLt; have hb := b.isLt
  pointwise [k1_pay21, k1_pay20]
  simp only [h _ _, hy _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The low half of a decayed q. -/
theorem b22 {y : Vec Ideal S128x256 .f32} {e : ℕ → ℕ → ℝ} (h : R2 x0 q) (hy : R2 y e) :
    R2 (k1_pay22 (F := Ideal) x0 y) (fun a b => 0) := by
  intro a b
  have ha := a.isLt; have hb := b.isLt
  pointwise [k1_pay22, k1_pay21, k1_pay20]
  simp only [h _ _, hy _ _, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The high half of a decayed q. -/
theorem b24 {y : Vec Ideal S128x256 .f32} {e : ℕ → ℕ → ℝ} (h : R2 x0 q) (hy : R2 y e) :
    R2 (k1_pay24 (F := Ideal) x0 y) (fun a b => q a b * e a b) := by
  intro a b
  have ha := a.isLt; have hb := b.isLt
  pointwise [k1_pay24, k1_pay23]
  simp only [h _ _, hy _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The low half of a decayed q. -/
theorem b25 {y : Vec Ideal S128x256 .f32} {e : ℕ → ℕ → ℝ} (h : R2 x0 q) (hy : R2 y e) :
    R2 (k1_pay25 (F := Ideal) x0 y) (fun a b => 0) := by
  intro a b
  have ha := a.isLt; have hb := b.isLt
  pointwise [k1_pay25, k1_pay24, k1_pay23]
  simp only [h _ _, hy _ _, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The high half of a decayed k. -/
theorem b27 {y : Vec Ideal S128x256 .f32} {e : ℕ → ℕ → ℝ} (h : R2 x1 k) (hy : R2 y e) :
    R2 (k1_pay27 (F := Ideal) x1 y) (fun a b => k a b * e a b) := by
  intro a b
  have ha := a.isLt; have hb := b.isLt
  pointwise [k1_pay27, k1_pay26]
  simp only [h _ _, hy _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The low half of a decayed k. -/
theorem b28 {y : Vec Ideal S128x256 .f32} {e : ℕ → ℕ → ℝ} (h : R2 x1 k) (hy : R2 y e) :
    R2 (k1_pay28 (F := Ideal) x1 y) (fun a b => 0) := by
  intro a b
  have ha := a.isLt; have hb := b.isLt
  pointwise [k1_pay28, k1_pay27, k1_pay26]
  simp only [h _ _, hy _ _, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The high half of k decayed to the chunk's end. -/
theorem b30 {y : Vec Ideal S128x256 .f32} {f : ℕ → ℕ → ℝ} (h : R2 x1 k) (hy : R2 y f) :
    R2 (k1_pay30 (F := Ideal) x1 y) (fun a b => k a b * Real.exp (f a b)) := by
  intro a b
  have ha := a.isLt; have hb := b.isLt
  pointwise [k1_pay30, k1_pay29, k1_pay15]
  simp only [h _ _, hy _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The low half of k decayed to the chunk's end. -/
theorem b31 {y : Vec Ideal S128x256 .f32} {f : ℕ → ℕ → ℝ} (h : R2 x1 k) (hy : R2 y f) :
    R2 (k1_pay31 (F := Ideal) x1 y) (fun a b => 0) := by
  intro a b
  have ha := a.isLt; have hb := b.isLt
  pointwise [k1_pay31, k1_pay30, k1_pay29, k1_pay15]
  simp only [h _ _, hy _ _, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The high half of the state's gradient. -/
theorem b32 (h : R2 s ds) :
    R2 (k1_pay32 (F := Ideal) s) (fun a b => ds a b) := by
  intro a b
  have ha := a.isLt; have hb := b.isLt
  pointwise [k1_pay32]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The low half of the state's gradient. -/
theorem b33 (h : R2 s ds) :
    R2 (k1_pay33 (F := Ideal) s) (fun a b => 0) := by
  intro a b
  have ha := a.isLt; have hb := b.isLt
  pointwise [k1_pay33, k1_pay32]
  simp only [h _ _, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The masked scores. -/
theorem b34 {z w : Vec Ideal S128x256 .f32} {e f : ℕ → ℕ → ℝ} (h0 : R2 x0 q) (h1 : R2 x1 k) (hz : R2 z e) (hw : R2 w f) :
    R2 (k1_pay34 (F := Ideal) x0 x1 z w) (fun a b => if b ≤ a then ∑ t ∈ range 256, q a t * e a t * (k b t * f b t) else 0) := by
  intro a b
  have ha := a.isLt; have hb := b.isLt
  pointwise [k1_pay34]
  simp only [b24 h0 hz _ _, b25 h0 hz _ _, b27 h1 hw _ _, b28 h1 hw _ _, EReal.coe_zero, sel_sge (show _ < 2 ^ 31 from (lt_trans (Fin.isLt _) (by norm_num : 128 < 2 ^ 31))) (show _ < 2 ^ 31 from (lt_trans (Fin.isLt _) (by norm_num : 128 < 2 ^ 31))), Finset.sum_range, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The high half of the masked scores. -/
theorem b35 {z w : Vec Ideal S128x256 .f32} {e f : ℕ → ℕ → ℝ} (h0 : R2 x0 q) (h1 : R2 x1 k) (hz : R2 z e) (hw : R2 w f) :
    R2 (k1_pay35 (F := Ideal) x0 x1 z w) (fun a b => if b ≤ a then ∑ t ∈ range 256, q a t * e a t * (k b t * f b t) else 0) := by
  intro a b
  have ha := a.isLt; have hb := b.isLt
  pointwise [k1_pay35]
  simp only [b34 h0 h1 hz hw _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The low half of the masked scores. -/
theorem b36 {z w : Vec Ideal S128x256 .f32} {e f : ℕ → ℕ → ℝ} (h0 : R2 x0 q) (h1 : R2 x1 k) (hz : R2 z e) (hw : R2 w f) :
    R2 (k1_pay36 (F := Ideal) x0 x1 z w) (fun a b => 0) := by
  intro a b
  have ha := a.isLt; have hb := b.isLt
  pointwise [k1_pay36, k1_pay35]
  simp only [b34 h0 h1 hz hw _ _, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The gradient of v, from the masked scores. -/
theorem b37 {A f : ℕ → ℕ → ℝ} {oh ol : FVec Ideal S128x512 .bf16} (ho : R2 oh d) (ho' : R2 ol fun _ _ => 0) {ch cl : FVec Ideal S128x256 .bf16} (hc : R2 ch f) (hc' : R2 cl fun _ _ => 0) {zh zl : FVec Ideal S512x256 .bf16} (hz : R2 zh ds) (hz' : R2 zl fun _ _ => 0) {mh ml : FVec Ideal S128x128 .bf16} (hm : R2 mh A) (hm' : R2 ml fun _ _ => 0) :
    R2 (k1_pay37 (F := Ideal) oh ol ch cl zh zl mh ml) (fun a b => ∑ t ∈ range 128, A t a * d t b + ∑ t ∈ range 256, f a t * ds b t) := by
  intro a b
  have ha := a.isLt; have hb := b.isLt
  pointwise [k1_pay37]
  simp only [ho _ _, ho' _ _, hc _ _, hc' _ _, hz _ _, hz' _ _, hm _ _, hm' _ _, EReal.coe_zero, Finset.sum_range, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The masked products of do and v. -/
theorem b38 {uh ul : FVec Ideal S128x512 .bf16} (hu : R2 uh v) (hu' : R2 ul fun _ _ => 0) {oh ol : FVec Ideal S128x512 .bf16} (ho : R2 oh d) (ho' : R2 ol fun _ _ => 0) :
    R2 (k1_pay38 (F := Ideal) uh ul oh ol) (fun a b => if b ≤ a then cdA v d a b else 0) := by
  intro a b
  have ha := a.isLt; have hb := b.isLt
  pointwise [k1_pay38]
  simp only [hu _ _, hu' _ _, ho _ _, ho' _ _, EReal.coe_zero, sel_sge (show _ < 2 ^ 31 from (lt_trans (Fin.isLt _) (by norm_num : 128 < 2 ^ 31))) (show _ < 2 ^ 31 from (lt_trans (Fin.isLt _) (by norm_num : 128 < 2 ^ 31))), cdA, Finset.sum_range, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- Their high half. -/
theorem b39 {uh ul : FVec Ideal S128x512 .bf16} (hu : R2 uh v) (hu' : R2 ul fun _ _ => 0) {oh ol : FVec Ideal S128x512 .bf16} (ho : R2 oh d) (ho' : R2 ol fun _ _ => 0) :
    R2 (k1_pay39 (F := Ideal) uh ul oh ol) (fun a b => if b ≤ a then cdA v d a b else 0) := by
  intro a b
  have ha := a.isLt; have hb := b.isLt
  pointwise [k1_pay39]
  simp only [b38 hu hu' ho ho' _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- Their low half. -/
theorem b40 {uh ul : FVec Ideal S128x512 .bf16} (hu : R2 uh v) (hu' : R2 ul fun _ _ => 0) {oh ol : FVec Ideal S128x512 .bf16} (ho : R2 oh d) (ho' : R2 ol fun _ _ => 0) :
    R2 (k1_pay40 (F := Ideal) uh ul oh ol) (fun a b => 0) := by
  intro a b
  have ha := a.isLt; have hb := b.isLt
  pointwise [k1_pay40, k1_pay39]
  simp only [b38 hu hu' ho ho' _ _, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The gradient of q from the chunk's own rows. -/
theorem b41 {w : FVec Ideal S128x256 .f32} {e f : ℕ → ℕ → ℝ} (hw : R2 w e) {uh ul : FVec Ideal S128x512 .bf16} (hu : R2 uh v) (hu' : R2 ul fun _ _ => 0) {oh ol : FVec Ideal S128x512 .bf16} (ho : R2 oh d) (ho' : R2 ol fun _ _ => 0) {ch cl : FVec Ideal S128x256 .bf16} (hc : R2 ch f) (hc' : R2 cl fun _ _ => 0) :
    R2 (k1_pay41 (F := Ideal) w uh ul oh ol ch cl) (fun a b => (∑ t ∈ range 128, (if t ≤ a then cdA v d a t else 0) * f t b) * e a b) := by
  intro a b
  have ha := a.isLt; have hb := b.isLt
  pointwise [k1_pay41]
  simp only [hw _ _, b39 hu hu' ho ho' _ _, b40 hu hu' ho ho' _ _, hc _ _, hc' _ _, EReal.coe_zero, Finset.sum_range, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The high half of the saved state. -/
theorem b43 (h : ∀ (a : Fin 512) (b : Fin 256), x5 (ix4 0 0 a b) = ((st a b : ℝ) : EReal)) :
    R2 (k1_pay43 (F := Ideal) x5) (fun a b => st a b) := by
  intro a b
  have ha := a.isLt; have hb := b.isLt
  pointwise [k1_pay43, k1_pay42]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The low half of the saved state. -/
theorem b44 (h : ∀ (a : Fin 512) (b : Fin 256), x5 (ix4 0 0 a b) = ((st a b : ℝ) : EReal)) :
    R2 (k1_pay44 (F := Ideal) x5) (fun a b => 0) := by
  intro a b
  have ha := a.isLt; have hb := b.isLt
  pointwise [k1_pay44, k1_pay43, k1_pay42]
  simp only [h _ _, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The gradient of the scaled q, from its two parts. -/
theorem b45 {w y z : FVec Ideal S128x256 .f32} {e f : ℕ → ℕ → ℝ} (hw : R2 w e) (hy : R2 y f) (hz : R2 z fun _ _ => 0) {oh ol : FVec Ideal S128x512 .bf16} (ho : R2 oh d) (ho' : R2 ol fun _ _ => 0) {ch cl : FVec Ideal S512x256 .bf16} (hc : R2 ch st) (hc' : R2 cl fun _ _ => 0) :
    R2 (k1_pay45 (F := Ideal) w oh ol y ch cl z) (fun a b => f a b + (∑ t ∈ range 512, d a t * st t b) * e a b) := by
  intro a b
  have ha := a.isLt; have hb := b.isLt
  pointwise [k1_pay45]
  simp only [hw _ _, hy _ _, hz _ _, ho _ _, ho' _ _, hc _ _, hc' _ _, EReal.coe_zero, Finset.sum_range, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The gradient of k, from the masked products. -/
theorem b46 {w y : FVec Ideal S128x256 .f32} {e f h : ℕ → ℕ → ℝ} {A : ℕ → ℕ → ℝ} (hw : R2 w e) (hy : R2 y f) {uh ul : FVec Ideal S128x512 .bf16} (hu : R2 uh v) (hu' : R2 ul fun _ _ => 0) {ch cl : FVec Ideal S128x256 .bf16} (hc : R2 ch h) (hc' : R2 cl fun _ _ => 0) {zh zl : FVec Ideal S512x256 .bf16} (hz : R2 zh ds) (hz' : R2 zl fun _ _ => 0) {mh ml : FVec Ideal S128x128 .bf16} (hm : R2 mh A) (hm' : R2 ml fun _ _ => 0) :
    R2 (k1_pay46 (F := Ideal) w y uh ul ch cl zh zl mh ml) (fun a b => (∑ t ∈ range 128, A t a * h t b) * e a b + (∑ t ∈ range 512, v a t * ds t b) * f a b) := by
  intro a b
  have ha := a.isLt; have hb := b.isLt
  pointwise [k1_pay46]
  simp only [hw _ _, hy _ _, hu _ _, hu' _ _, hc _ _, hc' _ _, hz _ _, hz' _ _, hm _ _, hm' _ _, EReal.coe_zero, Finset.sum_range, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The gradient of the state that enters the chunk. -/
theorem b47 {x : FVec Ideal S1x256 .f32} {e : ℕ → ℝ} {f : ℕ → ℕ → ℝ} (hx : R2 x fun _ b => e b) {oh ol : FVec Ideal S128x512 .bf16} (ho : R2 oh d) (ho' : R2 ol fun _ _ => 0) {ch cl : FVec Ideal S128x256 .bf16} (hc : R2 ch f) (hc' : R2 cl fun _ _ => 0) (hs : R2 s ds) :
    R2 (k1_pay47 (F := Ideal) x oh ol ch cl s) (fun a b => ds a b * Real.exp (e b) + ∑ t ∈ range 128, d t a * f t b) := by
  intro a b
  have ha := a.isLt; have hb := b.isLt
  pointwise [k1_pay47]
  simp only [hx _ _, hs _ _, ho _ _, ho' _ _, hc _ _, hc' _ _, EReal.coe_zero, Finset.sum_range, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The reversed running sum of the decay gradients. -/
theorem b1 {z0 : FVec Ideal S128x256 .bf16} {f : ℕ → ℕ → ℝ} {y z : FVec Ideal S128x256 .f32} (hy : R2 y f) (hz0 : R2 z0 f) (hz : R2 z f) (hs : R2 s1 fun _ b => dgc b) :
    R2 (k1_pay1 (F := Ideal) y k1_pay49 z0 z s1) (fun a b => ∑ t ∈ Ico (a : ℕ) 128, f t b + dgc b) := by
  intro a b
  have ha := a.isLt; have hb := b.isLt
  pointwise [k1_pay1, k1_pay49]
  simp only [hy _ _, hz _ _, hz0 _ _, hs _ _, sel_sle (show _ < 2 ^ 31 from (lt_trans (Fin.isLt _) (by norm_num : 128 < 2 ^ 31))) (show _ < 2 ^ 31 from (lt_trans (Fin.isLt _) (by norm_num : 128 < 2 ^ 31))), sel_sge (show _ < 2 ^ 31 from (lt_trans (Fin.isLt _) (by norm_num : 128 < 2 ^ 31))) (show _ < 2 ^ 31 from (lt_trans (Fin.isLt _) (by norm_num : 128 < 2 ^ 31))), ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]
  exact congrArg (fun r : ℝ => ((r + dgc b : ℝ) : EReal)) (sum_ge fun t => f t b)

/-- The carried sum of the decay gradients. -/
theorem b2 {f : ℕ → ℕ → ℝ} (h : R2 x0 f) (hs : R2 s1 fun _ b => dgc b) :
    R2 (k1_pay2 (F := Ideal) x0 s1) (fun a b => dgc b + ∑ t ∈ range 128, f t b) := by
  intro a b
  have ha := a.isLt; have hb := b.isLt
  pointwise [k1_pay2]
  simp only [h _ _, hs _ _, Finset.sum_range, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The gradient of q before the scale. -/
theorem b3 {f : ℕ → ℕ → ℝ} (h : R2 x0 f) :
    R2 (k1_pay3 (F := Ideal) x0) (fun a b => f a b * (1 / 16)) := by
  intro a b
  have ha := a.isLt; have hb := b.isLt
  pointwise [k1_pay3]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The gradient of k, stored. -/
theorem b4 {f : ℕ → ℕ → ℝ} (h : R2 x0 f) :
    R2 (k1_pay4 (F := Ideal) x0) (fun a b => f a b) := by
  intro a b
  have ha := a.isLt; have hb := b.isLt
  pointwise [k1_pay4]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The state's gradient at the last chunk. -/
theorem b5  :
    R2 (k1_pay5 (F := Ideal)) (fun a b => 0) := by
  intro a b
  have ha := a.isLt; have hb := b.isLt
  pointwise [k1_pay5]
  simp only [EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The carried sum at the last chunk. -/
theorem b6  :
    R2 (k1_pay6 (F := Ideal)) (fun a b => 0) := by
  intro a b
  have ha := a.isLt; have hb := b.isLt
  pointwise [k1_pay6]
  simp only [EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- A zero block. -/
theorem b0 : R2 (constant (F := Ideal) S128x256 .f32 0x00000000#32) (fun _ _ => 0) := by
  intro a b
  pointwise
  exact EReal.coe_zero.symm

/-- The gradient of v. -/
theorem bDv_real (h0 : R2 x0 q) (h1 : R2 x1 k) (h3 : R2 x3 g) (h4 : R2 x4 d) (hs : R2 s ds) :
    R2 (bDv (F := Ideal) x0 x1 x3 x4 s) (cDv (fun a b => q a b * (1 / 16)) k g d ds) := by
  intro a b
  have h := b37 (b18 h4) (b19 h4) (b30 h1 (b14 h3)) (b31 h1 (b14 h3)) (b32 hs) (b33 hs)
    (b35 (b7 h0) h1 (b12 h3) (b13 h3)) (b36 (b7 h0) h1 (b12 h3) (b13 h3)) a b
  exact h.trans (congrArg _ (cDv_of_masked (fun a b => q a b * (1 / 16)) k g d ds _ _))

/-- The gradient of the scaled q. -/
theorem bDq_real (h1 : R2 x1 k) (h2 : R2 x2 v) (h3 : R2 x3 g) (h4 : R2 x4 d) (h5 : ∀ (a : Fin 512) (b : Fin 256), x5 (ix4 0 0 a b) = ((st a b : ℝ) : EReal)) :
    R2 (bDq (F := Ideal) x1 x2 x3 x4 x5) (cDq k v g d st) := by
  intro a b
  have h := b45 (b11 h3) (b41 (b12 h3) (b16 h2) (b17 h2) (b18 h4) (b19 h4) (b27 h1 (b13 h3)) (b28 h1 (b13 h3))) b0
    (b18 h4) (b19 h4) (b43 h5) (b44 h5) a b
  exact h.trans (congrArg _ (cDq_of_masked k v g d st _ a.isLt _))

/-- The gradient of k. -/
theorem bDk_real (h0 : R2 x0 q) (h2 : R2 x2 v) (h3 : R2 x3 g) (h4 : R2 x4 d) (hs : R2 s ds) :
    R2 (bDk (F := Ideal) x0 x2 x3 x4 s) (cDk (fun a b => q a b * (1 / 16)) v g d ds) := by
  intro a b
  have h := b46 (b13 h3) (b15 (b14 h3)) (b16 h2) (b17 h2) (b24 (b7 h0) (b12 h3)) (b25 (b7 h0) (b12 h3)) (b32 hs) (b33 hs)
    (b39 (b16 h2) (b17 h2) (b18 h4) (b19 h4)) (b40 (b16 h2) (b17 h2) (b18 h4) (b19 h4)) a b
  exact h.trans (congrArg _ (cDk_of_masked (fun a b => q a b * (1 / 16)) v g d ds _ _))

/-- The gradient of the accumulated log decay. -/
theorem bDb_real (h0 : R2 x0 q) (h1 : R2 x1 k) (h2 : R2 x2 v) (h3 : R2 x3 g) (h4 : R2 x4 d) (h5 : ∀ (a : Fin 512) (b : Fin 256), x5 (ix4 0 0 a b) = ((st a b : ℝ) : EReal)) (hs : R2 s ds) :
    R2 (bDb (F := Ideal) x0 x1 x2 x3 x4 x5 s) (cDb (fun a b => q a b * (1 / 16)) k v g d st ds) := by
  intro a b
  have hq := bDq_real h1 h2 h3 h4 h5 a b
  have hk := bDk_real h0 h2 h3 h4 hs a b
  have e : bDb (F := Ideal) x0 x1 x2 x3 x4 x5 s (ix2 a b)
      = k1_pay7 x0 (ix2 a b) * bDq x1 x2 x3 x4 x5 (ix2 a b) - x1 (ix2 a b) * bDk x0 x2 x3 x4 s (ix2 a b) := rfl
  rw [e, hq, hk, b7 h0 a b, h1 a b, ← EReal.coe_mul, ← EReal.coe_mul, ← EReal.coe_sub, cDb]

/-- The gradient of the log decay. -/
theorem bDg_real (h0 : R2 x0 q) (h1 : R2 x1 k) (h2 : R2 x2 v) (h3 : R2 x3 g) (h4 : R2 x4 d) (h5 : ∀ (a : Fin 512) (b : Fin 256), x5 (ix4 0 0 a b) = ((st a b : ℝ) : EReal)) (hs : R2 s ds) (hs1 : R2 s1 fun _ b => dgc b) :
    R2 (bDg (F := Ideal) x0 x1 x2 x3 x4 x5 s s1) (fun a b => ∑ t ∈ Ico a 128, cDb (fun a b => q a b * (1 / 16)) k v g d st ds t b + dgc b) :=
  b1 (bDb_real h0 h1 h2 h3 h4 h5 hs) (fun a b => bDb_real h0 h1 h2 h3 h4 h5 hs a b) (fun a b => bDb_real h0 h1 h2 h3 h4 h5 hs a b) hs1

/-- The gradient of the state that enters the chunk. -/
theorem bNext_real (h0 : R2 x0 q) (h3 : R2 x3 g) (h4 : R2 x4 d) (hs : R2 s ds) :
    R2 (bNext (F := Ideal) x0 x3 x4 s) (cDs (fun a b => q a b * (1 / 16)) g d ds) :=
  b47 (b10 h3) (b18 h4) (b19 h4) (b21 (b7 h0) (b11 h3)) (b22 (b7 h0) (b11 h3)) hs

end Cert.KernelIdeal.BlockB

end

end
-- ==== Proof.FwdBlock.lean ====
/- The forward chunk at real values: each intermediate of a chunk, then its output block and the
   state it leaves, as sums of reals. -/
module

public import proofs.«01_k».proof.Proof.FwdRun
public import proofs.«01_k».proof.Proof.Chunk

@[expose] public section

set_option maxRecDepth 16384

noncomputable section

namespace Cert.KernelIdeal.Block

open Idealize.ShloMosaic Cert.Gla Finset
open Cert.KernelIdeal Cert.KernelIdeal.Gen Cert.KernelIdeal.Run

variable {x0 x1 x3 : Vec Ideal S128x256 .f32} {x2 : Vec Ideal S128x512 .f32} {s : Vec Ideal S512x256 .f32}
variable {q k g : ℕ → ℕ → ℝ} {v st : ℕ → ℕ → ℝ}

/-- The scaled q. -/
theorem f4 (h : R2 x0 q) :
    R2 (k0_pay4 (F := Ideal) x0) (fun a b => q a b * (1 / 16)) := by
  intro a b
  have ha := a.isLt; have hb := b.isLt
  pointwise [k0_pay4]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The running sum of the log decays. -/
theorem f5 (h : R2 x3 g) :
    R2 (k0_pay5 (F := Ideal) x3) (fun a b => lb g a b) := by
  intro a b
  have ha := a.isLt; have hb := b.isLt
  pointwise [k0_pay5]
  simp only [h _ _, sel_sle (show _ < 2 ^ 31 from (lt_trans (Fin.isLt _) (by norm_num : 128 < 2 ^ 31))) (show _ < 2 ^ 31 from (lt_trans (Fin.isLt _) (by norm_num : 128 < 2 ^ 31))), ite_self, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]
  exact congrArg _ (sum_le a.isLt fun t => g t b)

/-- The sum over the chunk's first half. -/
theorem f6 (h : R2 x3 g) :
    R2 (k0_pay6 (F := Ideal) x3) (fun a b => lm g b) := by
  intro a b
  have ha := a.isLt; have hb := b.isLt
  pointwise [k0_pay6]
  simp only [show ∀ (x : Fin 128) (u w : EReal), Scalar.select (IntOp.cmpi .slt (BitVec.ofNat 32 ↑x) 64#32) u w = if (x : ℕ) < 64 then u else w from fun x u w => sel_slt (lt_trans x.isLt (by norm_num)) (by norm_num) u w]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]
  exact congrArg _ (sum_lt (by norm_num) fun t => g t b)

/-- The sum over the chunk. -/
theorem f7 (h : R2 x3 g) :
    R2 (k0_pay7 (F := Ideal) x3) (fun a b => ll g b) := by
  intro a b
  have ha := a.isLt; have hb := b.isLt
  pointwise [k0_pay7]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]
  exact congrArg _ (Finset.sum_range fun t => g t b).symm

/-- The decay from the chunk's entry. -/
theorem f8 (h : R2 x3 g) :
    R2 (k0_pay8 (F := Ideal) x3) (fun a b => Real.exp (lb g a b)) := by
  intro a b
  have ha := a.isLt; have hb := b.isLt
  pointwise [k0_pay8]
  simp only [f5 h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The decay from the chunk's middle. -/
theorem f9 (h : R2 x3 g) :
    R2 (k0_pay9 (F := Ideal) x3) (fun a b => Real.exp (lb g a b - lm g b)) := by
  intro a b
  have ha := a.isLt; have hb := b.isLt
  pointwise [k0_pay9]
  simp only [f5 h _ _, f6 h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The decay to the chunk's middle. -/
theorem f10 (h : R2 x3 g) :
    R2 (k0_pay10 (F := Ideal) x3) (fun a b => Real.exp (lm g b - lb g a b)) := by
  intro a b
  have ha := a.isLt; have hb := b.isLt
  pointwise [k0_pay10]
  simp only [f5 h _ _, f6 h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The decay to the chunk's end. -/
theorem f12 (h : R2 x3 g) :
    R2 (k0_pay12 (k0_pay11 (F := Ideal) x3)) (fun a b => Real.exp (ll g b - lb g a b)) := by
  intro a b
  have ha := a.isLt; have hb := b.isLt
  pointwise [k0_pay12, k0_pay11]
  simp only [f5 h _ _, f7 h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The high half of v. -/
theorem f13 (h : R2 x2 v) :
    R2 (k0_pay13 (F := Ideal) x2) (fun a b => v a b) := by
  intro a b
  have ha := a.isLt; have hb := b.isLt
  pointwise [k0_pay13]
  simp only [h _ _, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The low half of v. -/
theorem f14 (h : R2 x2 v) :
    R2 (k0_pay14 (F := Ideal) x2) (fun a b => 0) := by
  intro a b
  have ha := a.isLt; have hb := b.isLt
  pointwise [k0_pay14, k0_pay13]
  simp only [h _ _, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The state entering the first chunk. -/
theorem f3  :
    R2 (k0_pay3 (F := Ideal)) (fun a b => 0) := by
  intro a b
  have ha := a.isLt; have hb := b.isLt
  pointwise [k0_pay3]
  simp only [EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The masked scores. -/
theorem f16 {y z w : Vec Ideal S128x256 .f32} {e f : ℕ → ℕ → ℝ} (h0 : R2 x0 q) (h1 : R2 x1 k) (hz : R2 z e) (hw : R2 w f) :
    R2 (k0_pay16 (F := Ideal) x0 x1 z w) (fun a b => if b ≤ a then ∑ t ∈ range 256, q a t * e a t * (k b t * f b t) else 0) := by
  intro a b
  have ha := a.isLt; have hb := b.isLt
  pointwise [k0_pay16]
  simp only [h0 _ _, h1 _ _, hz _ _, hw _ _, sel_sge (lt_trans ha (by norm_num : 128 < 2 ^ 31)) (lt_trans hb (by norm_num : 128 < 2 ^ 31)), Finset.sum_range, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The part of the output that comes from the state. -/
theorem f17 {w : Vec Ideal S128x256 .f32} {e : ℕ → ℕ → ℝ} (h0 : R2 x0 q) (hw : R2 w e) (hs : R2 s st) :
    R2 (k0_pay17 (F := Ideal) x0 w s) (fun a b => ∑ t ∈ range 256, q a t * e a t * st b t) := by
  intro a b
  have ha := a.isLt; have hb := b.isLt
  pointwise [k0_pay17]
  simp only [h0 _ _, hw _ _, hs _ _, Finset.sum_range, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The output block. -/
theorem f1 {vh vl : FVec Ideal S128x512 .bf16} {x : FVec Ideal S128x128 .f32} {y : FVec Ideal S128x512 .f32} {A o : ℕ → ℕ → ℝ} (hv : R2 vh v) (hl : R2 vl fun _ _ => 0) (hx : R2 x A) (hy : R2 y o) :
    R2 (k0_pay1 (F := Ideal) vh vl x y) (fun a b => o a b + ∑ t ∈ range 128, A a t * v t b) := by
  intro a b
  have ha := a.isLt; have hb := b.isLt
  pointwise [k0_pay1]
  simp only [hv _ _, hl _ _, hx _ _, hy _ _, Finset.sum_range, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The state leaving the chunk. -/
theorem f2 {vh vl : FVec Ideal S128x512 .bf16} {x : FVec Ideal S1x256 .f32} {w : FVec Ideal S128x256 .f32} {e f : ℕ → ℕ → ℝ} (h1 : R2 x1 k) (hx : R2 x fun _ b => e 0 b) (hw : R2 w f) (hv : R2 vh v) (hl : R2 vl fun _ _ => 0) (hs : R2 s st) :
    R2 (k0_pay2 (F := Ideal) x1 x w vh vl s) (fun a b => st a b * Real.exp (e 0 b) + ∑ t ∈ range 128, v t a * (k t b * f t b)) := by
  intro a b
  have ha := a.isLt; have hb := b.isLt
  pointwise [k0_pay2]
  simp only [h1 _ _, hx _ _, hw _ _, hv _ _, hl _ _, hs _ _, Finset.sum_range, EReal.coe_zero, ← EReal.coe_mul, ← EReal.coe_sub, ← EReal.coe_add, coe_sum, sub_self, ite_self, coe_sub_self, ite_coe, Ideal.exp_def, Ideal.exp_coe, ofBits_sixteenth, mul_zero, zero_mul, Finset.sum_const_zero, add_zero, zero_add]

/-- The output block of a chunk. -/
theorem fOut_real (h0 : R2 x0 q) (h1 : R2 x1 k) (h2 : R2 x2 v) (h3 : R2 x3 g) (hs : R2 s st) :
    R2 (fOut (F := Ideal) x0 x1 x2 x3 s) (cO (fun a b => q a b * (1 / 16)) k v g st) := by
  intro a b
  have h := f1 (f13 h2) (f14 h2) (f16 (y := x0) (f4 h0) h1 (f9 h3) (f10 h3)) (f17 (f4 h0) (f8 h3) hs) a b
  refine h.trans (congrArg _ ?_)
  exact cO_of_masked (fun a b => q a b * (1 / 16)) k v g st _ a.isLt _

/-- The state leaving a chunk. -/
theorem fNext_real (h1 : R2 x1 k) (h2 : R2 x2 v) (h3 : R2 x3 g) (hs : R2 s st) :
    R2 (fNext (F := Ideal) x1 x2 x3 s) (cSt k v g st) :=
  fun a b => f2 (e := fun _ b => ll g b) h1 (f7 h3) (f12 h3) (f13 h2) (f14 h2) hs a b

end Cert.KernelIdeal.Block

end

end
-- ==== Proof.Scan.lean ====
/- Gated linear attention over the whole sequence, as sums of reals, and how the chunked recurrence
   computes it: a chunk given the state before it leaves the state after it, and its output and
   gradients are the rows of the whole sequence's. -/
module

public import proofs.«01_k».proof.Proof.Chunk

@[expose] public section

noncomputable section

namespace Cert.Gla

open Finset

/-- The rows of chunk `c`. -/
def sh (c : ℕ) (f : ℕ → ℕ → ℝ) (r x : ℕ) : ℝ := f (128 * c + r) x

/-- The accumulated log decay at row `i`. -/
def bb (g : ℕ → ℕ → ℝ) (i κ : ℕ) : ℝ := ∑ t ∈ range (i + 1), g t κ

/-- The accumulated log decay before chunk `c`. -/
def bc (g : ℕ → ℕ → ℝ) (c κ : ℕ) : ℝ := ∑ t ∈ range (128 * c), g t κ

/-- The score of row `j` for row `i`. -/
def gA (q k g : ℕ → ℕ → ℝ) (i j : ℕ) : ℝ := ∑ κ ∈ range 256, q i κ * k j κ * Real.exp (bb g i κ - bb g j κ)

/-- The output. -/
def gO (q k v g : ℕ → ℕ → ℝ) (i ν : ℕ) : ℝ := ∑ j ∈ range (i + 1), gA q k g i j * v j ν

/-- The gradient of v. -/
def gDv (q k g d : ℕ → ℕ → ℝ) (j ν : ℕ) : ℝ := ∑ i ∈ Ico j 4096, gA q k g i j * d i ν

/-- The gradient of the scaled q. -/
def gDq (k v g d : ℕ → ℕ → ℝ) (i κ : ℕ) : ℝ := ∑ j ∈ range (i + 1), cdA v d i j * (k j κ * Real.exp (bb g i κ - bb g j κ))

/-- The gradient of k. -/
def gDk (q v g d : ℕ → ℕ → ℝ) (j κ : ℕ) : ℝ := ∑ i ∈ Ico j 4096, cdA v d i j * (q i κ * Real.exp (bb g i κ - bb g j κ))

/-- The gradient of the accumulated log decay. -/
def gDb (q k v g d : ℕ → ℕ → ℝ) (i κ : ℕ) : ℝ := q i κ * gDq k v g d i κ - k i κ * gDk q v g d i κ

/-- The gradient of the log decay. -/
def gDg (q k v g d : ℕ → ℕ → ℝ) (i κ : ℕ) : ℝ := ∑ t ∈ Ico i 4096, gDb q k v g d t κ

/-- The state before chunk `c`. -/
def gSt (k v g : ℕ → ℕ → ℝ) (c ν κ : ℕ) : ℝ := ∑ j ∈ range (128 * c), v j ν * (k j κ * Real.exp (bc g c κ - bb g j κ))

/-- The gradient of the state before chunk `c`. -/
def gDs (q g d : ℕ → ℕ → ℝ) (c ν κ : ℕ) : ℝ := ∑ i ∈ Ico (128 * c) 4096, d i ν * (q i κ * Real.exp (bb g i κ - bc g c κ))

/-- The rows below chunk `c + 1` are those below chunk `c` and the chunk's. -/
theorem range_chunk (c n : ℕ) (f : ℕ → ℝ) : ∑ t ∈ range (128 * c + n), f t = ∑ t ∈ range (128 * c), f t + ∑ t ∈ range n, f (128 * c + t) :=
  Finset.sum_range_add f _ _

/-- The rows from a chunk's row on are the chunk's and those of the chunks after it. -/
theorem ico_chunk {c r : ℕ} (hr : r ≤ 128) (hc : c < 32) (f : ℕ → ℝ) :
    ∑ t ∈ Ico (128 * c + r) 4096, f t = ∑ t ∈ Ico r 128, f (128 * c + t) + ∑ t ∈ Ico (128 * (c + 1)) 4096, f t := by
  rw [Finset.sum_Ico_add f r 128 (128 * c), ← Finset.sum_Ico_consecutive f (show 128 * c + r ≤ 128 * (c + 1) by omega) (show 128 * (c + 1) ≤ 4096 by omega)]
  congr 2; congr 1 <;> omega

/-- A chunk's own decays, scores and products are the whole sequence's. -/
theorem lb_sh (g : ℕ → ℕ → ℝ) (c r κ : ℕ) : lb (sh c g) r κ = bb g (128 * c + r) κ - bc g c κ := by
  unfold lb bb bc sh; rw [add_assoc, range_chunk]; ring

/-- A chunk's own decays, scores and products are the whole sequence's. -/
theorem ll_sh (g : ℕ → ℕ → ℝ) (c κ : ℕ) : ll (sh c g) κ = bc g (c + 1) κ - bc g c κ := by
  unfold ll bc sh; rw [show 128 * (c + 1) = 128 * c + 128 by ring, range_chunk]; ring

/-- A chunk's own decays, scores and products are the whole sequence's. -/
theorem cA_sh (q k g : ℕ → ℕ → ℝ) (c r s : ℕ) : cA (sh c q) (sh c k) (sh c g) r s = gA q k g (128 * c + r) (128 * c + s) := by
  unfold cA gA
  simp only [lb_sh, sub_sub_sub_cancel_right]
  rfl

/-- A chunk's own decays, scores and products are the whole sequence's. -/
theorem cdA_sh (v d : ℕ → ℕ → ℝ) (c r s : ℕ) : cdA (sh c v) (sh c d) r s = cdA v d (128 * c + r) (128 * c + s) := rfl

/-- There is no state before the first chunk. -/
theorem gSt_zero (k v g : ℕ → ℕ → ℝ) : gSt k v g 0 = fun _ _ => 0 := by
  funext ν κ; simp [gSt]

/-- No gradient reaches the state after the last chunk. -/
theorem gDs_last (q g d : ℕ → ℕ → ℝ) : gDs q g d 32 = fun _ _ => 0 := by
  funext ν κ; simp [gDs]

/-- A chunk carries the state to the next. -/
theorem cSt_sh (k v g : ℕ → ℕ → ℝ) (c : ℕ) : cSt (sh c k) (sh c v) (sh c g) (gSt k v g c) = gSt k v g (c + 1) := by
  funext ν κ
  unfold cSt gSt
  rw [show 128 * (c + 1) = 128 * c + 128 by ring, range_chunk, Finset.sum_mul]
  congr 1
  · refine Finset.sum_congr rfl fun j _ => ?_
    rw [ll_sh, show bc g (c + 1) κ - bb g j κ = (bc g c κ - bb g j κ) + (bc g (c + 1) κ - bc g c κ) by ring, Real.exp_add]; ring
  · refine Finset.sum_congr rfl fun j _ => ?_
    rw [ll_sh, lb_sh, sub_sub_sub_cancel_right]; rfl

/-- A chunk carries the state's gradient to the chunk before. -/
theorem cDs_sh (q g d : ℕ → ℕ → ℝ) {c : ℕ} (hc : c < 32) : cDs (sh c q) (sh c g) (sh c d) (gDs q g d (c + 1)) = gDs q g d c := by
  funext ν κ
  unfold cDs gDs
  conv_rhs => rw [show 128 * c = 128 * c + 0 by ring]
  rw [ico_chunk (by omega) hc, Finset.sum_mul, add_comm, ← Finset.range_eq_Ico]
  congr 1
  · refine Finset.sum_congr rfl fun j _ => ?_
    rw [lb_sh]; rfl
  · refine Finset.sum_congr rfl fun j _ => ?_
    rw [ll_sh, show bb g j κ - bc g c κ = (bb g j κ - bc g (c + 1) κ) + (bc g (c + 1) κ - bc g c κ) by ring, Real.exp_add]; ring

/-- A chunk's output is the whole sequence's, at its rows. -/
theorem cO_sh (q k v g : ℕ → ℕ → ℝ) (c r ν : ℕ) : cO (sh c q) (sh c k) (sh c v) (sh c g) (gSt k v g c) r ν = gO q k v g (128 * c + r) ν := by
  unfold cO gO
  rw [add_assoc, range_chunk]
  congr 1
  · unfold gSt gA
    simp only [Finset.mul_sum, Finset.sum_mul]
    rw [Finset.sum_comm]
    refine Finset.sum_congr rfl fun j _ => Finset.sum_congr rfl fun κ _ => ?_
    rw [lb_sh, show bb g (128 * c + r) κ - bb g j κ = (bb g (128 * c + r) κ - bc g c κ) + (bc g c κ - bb g j κ) by ring, Real.exp_add]
    unfold sh; ring
  · refine Finset.sum_congr rfl fun s _ => ?_
    rw [cA_sh]; rfl

/-- A chunk's gradient of v is the whole sequence's, at its rows. -/
theorem cDv_sh (q k g d : ℕ → ℕ → ℝ) {c s : ℕ} (hs : s < 128) (hc : c < 32) (ν : ℕ) :
    cDv (sh c q) (sh c k) (sh c g) (sh c d) (gDs q g d (c + 1)) s ν = gDv q k g d (128 * c + s) ν := by
  unfold cDv gDv
  rw [ico_chunk hs.le hc]
  congr 1
  · refine Finset.sum_congr rfl fun i _ => ?_
    rw [cA_sh]; rfl
  · unfold gDs gA
    simp only [Finset.mul_sum, Finset.sum_mul]
    rw [Finset.sum_comm]
    refine Finset.sum_congr rfl fun i _ => Finset.sum_congr rfl fun κ _ => ?_
    rw [ll_sh, lb_sh, sub_sub_sub_cancel_right,
      show bb g i κ - bb g (128 * c + s) κ = (bb g i κ - bc g (c + 1) κ) + (bc g (c + 1) κ - bb g (128 * c + s) κ) by ring, Real.exp_add]
    unfold sh; ring

/-- A chunk's gradient of the scaled q is the whole sequence's, at its rows. -/
theorem cDq_sh (k v g d : ℕ → ℕ → ℝ) (c r κ : ℕ) :
    cDq (sh c k) (sh c v) (sh c g) (sh c d) (gSt k v g c) r κ = gDq k v g d (128 * c + r) κ := by
  unfold cDq gDq
  rw [add_assoc, range_chunk, add_comm]
  congr 1
  · unfold gSt cdA
    simp only [Finset.mul_sum, Finset.sum_mul]
    rw [Finset.sum_comm]
    refine Finset.sum_congr rfl fun j _ => Finset.sum_congr rfl fun ν _ => ?_
    rw [lb_sh, show bb g (128 * c + r) κ - bb g j κ = (bb g (128 * c + r) κ - bc g c κ) + (bc g c κ - bb g j κ) by ring, Real.exp_add]
    unfold sh; ring
  · refine Finset.sum_congr rfl fun s _ => ?_
    rw [cdA_sh, lb_sh, lb_sh, sub_sub_sub_cancel_right]; rfl

/-- A chunk's gradient of k is the whole sequence's, at its rows. -/
theorem cDk_sh (q v g d : ℕ → ℕ → ℝ) {c s : ℕ} (hs : s < 128) (hc : c < 32) (κ : ℕ) :
    cDk (sh c q) (sh c v) (sh c g) (sh c d) (gDs q g d (c + 1)) s κ = gDk q v g d (128 * c + s) κ := by
  unfold cDk gDk
  rw [ico_chunk hs.le hc]
  congr 1
  · refine Finset.sum_congr rfl fun i _ => ?_
    rw [cdA_sh, lb_sh, lb_sh, sub_sub_sub_cancel_right]; rfl
  · unfold gDs cdA
    simp only [Finset.mul_sum, Finset.sum_mul]
    rw [Finset.sum_comm]
    refine Finset.sum_congr rfl fun i _ => Finset.sum_congr rfl fun ν _ => ?_
    rw [ll_sh, lb_sh, sub_sub_sub_cancel_right,
      show bb g i κ - bb g (128 * c + s) κ = (bb g i κ - bc g (c + 1) κ) + (bc g (c + 1) κ - bb g (128 * c + s) κ) by ring, Real.exp_add]
    unfold sh; ring

/-- A chunk's gradient of the accumulated log decay is the whole sequence's, at its rows. -/
theorem cDb_sh (q k v g d : ℕ → ℕ → ℝ) {c r : ℕ} (hr : r < 128) (hc : c < 32) (κ : ℕ) :
    cDb (sh c q) (sh c k) (sh c v) (sh c g) (sh c d) (gSt k v g c) (gDs q g d (c + 1)) r κ = gDb q k v g d (128 * c + r) κ := by
  unfold cDb gDb; rw [cDq_sh, cDk_sh q v g d hr hc]; rfl

/-- A chunk's gradient of the log decay is the whole sequence's, at its rows. -/
theorem cDg_sh (q k v g d : ℕ → ℕ → ℝ) {c r : ℕ} (hr : r < 128) (hc : c < 32) (κ : ℕ) :
    ∑ t ∈ Ico r 128, cDb (sh c q) (sh c k) (sh c v) (sh c g) (sh c d) (gSt k v g c) (gDs q g d (c + 1)) t κ + gDg q k v g d (128 * (c + 1)) κ
      = gDg q k v g d (128 * c + r) κ := by
  unfold gDg
  rw [ico_chunk hr.le hc]
  congr 1
  exact Finset.sum_congr rfl fun t ht => cDb_sh q k v g d (Finset.mem_Ico.mp ht).2 hc κ

/-- A chunk carries the sum of the decay gradients to the chunk before. -/
theorem cDg_carry (q k v g d : ℕ → ℕ → ℝ) {c : ℕ} (hc : c < 32) (κ : ℕ) :
    gDg q k v g d (128 * (c + 1)) κ + ∑ t ∈ range 128, cDb (sh c q) (sh c k) (sh c v) (sh c g) (sh c d) (gSt k v g c) (gDs q g d (c + 1)) t κ
      = gDg q k v g d (128 * c) κ := by
  rw [add_comm, Finset.range_eq_Ico, cDg_sh q k v g d (by omega) hc κ, add_zero]

end Cert.Gla

end
-- ==== Proof.FwdValue.lean ====
/- The forward scan's arrays at real values: each head's output over the whole sequence and the
   state before each chunk. -/
module

public import proofs.«01_k».proof.Proof.FwdRegion
public import proofs.«01_k».proof.Proof.FwdBlock
public import proofs.«01_k».proof.Proof.Scan
public import Idealize.ShloMosaic.Lib.Pipeline.ValueKit

@[expose] public section

set_option maxRecDepth 16384

noncomputable section

namespace Cert.Gla

/-- Head `h`'s q, scaled, in the projection. -/
def hq (A : ℕ → ℕ → ℝ) (h i x : ℕ) : ℝ := A i (256 * h + x) * (1 / 16)
/-- Head `h`'s q, in the projection. -/
def hq0 (A : ℕ → ℕ → ℝ) (h i x : ℕ) : ℝ := A i (256 * h + x)
/-- Head `h`'s k, in the projection. -/
def hk (A : ℕ → ℕ → ℝ) (h i x : ℕ) : ℝ := A i (1024 + 256 * h + x)
/-- Head `h`'s v, in the projection. -/
def hv (A : ℕ → ℕ → ℝ) (h i x : ℕ) : ℝ := A i (2048 + 512 * h + x)
/-- Head `h`'s log decay. -/
def hg (G : ℕ → ℕ → ℝ) (h i x : ℕ) : ℝ := G i (256 * h + x)
/-- Head `h`'s gradient of the output. -/
def hd (D : ℕ → ℕ → ℝ) (h i x : ℕ) : ℝ := D i (512 * h + x)

end Cert.Gla

namespace Cert.KernelIdeal.Run

open Idealize.ShloMosaic Idealize.ShloMosaic.TcCoe Cert.Gla
open Idealize.ShloMosaic.Pipeline (Dat Cfg Window)
open Cert.KernelIdeal Cert.KernelIdeal.Gen Cert.KernelIdeal.Block

variable {V : Dev nD → Valuation τ sig (Elt Ideal)} {c : Dev nD} {A G : ℕ → ℕ → ℝ}

/-- The projection's columns that the scan reads are the reals `A`. -/
def ArgA (x : Vec Ideal S4096x6272 .f32) (A : ℕ → ℕ → ℝ) : Prop :=
  ∀ i : S4096x6272.Idx, (i 1).val < 4096 → x i = ((A (i 0).val (i 1).val : ℝ) : EReal)
/-- The log decays are the reals `G`. -/
def ArgG (x : Vec Ideal S4096x1024 .f32) (G : ℕ → ℕ → ℝ) : Prop :=
  ∀ i : S4096x1024.Idx, x i = ((G (i 0).val (i 1).val : ℝ) : EReal)

theorem e0_0 : ∀ t, win0_0.index t = ![t.val % 32, t.val / 32] := by decide +kernel
theorem e0_1 : ∀ t, win0_1.index t = ![t.val % 32, 4 + t.val / 32] := by decide +kernel
theorem e0_2 : ∀ t, win0_2.index t = ![t.val % 32, 4 + t.val / 32] := by decide +kernel
theorem e0_3 : ∀ t, win0_3.index t = ![t.val % 32, t.val / 32] := by decide +kernel
theorem e0_4 : ∀ t, win0_4.index t = ![t.val % 32, t.val / 32] := by decide +kernel
theorem e0_5 : ∀ t, win0_5.index t = ![t.val / 32, t.val % 32, 0, 0] := by decide +kernel
theorem N0 : cfg0.N = 128 := by decide +kernel

theorem x0_0 (hA : ArgA (V c main_arg0) A) (t : Fin cfg0.N) : R2 (X0_0 V c t) (sh (t.val % 32) (hq0 A (t.val / 32))) := by
  intro a b
  have ht : t.val < 128 := lt_of_lt_of_eq t.isLt N0
  have hb := b.isLt
  unfold X0_0 Pipeline.Window.fill
  rw [dif_pos (moved0_0 t _)]
  refine (hA _ ?_).trans ?_
  · blk_simp [e0_0]
    dsimp
    omega
  · blk_simp [e0_0]
    dsimp [sh, hq0]
    congr 2 <;> omega

theorem x0_1 (hA : ArgA (V c main_arg0) A) (t : Fin cfg0.N) : R2 (X0_1 V c t) (sh (t.val % 32) (hk A (t.val / 32))) := by
  intro a b
  have ht : t.val < 128 := lt_of_lt_of_eq t.isLt N0
  have hb := b.isLt
  unfold X0_1 Pipeline.Window.fill
  rw [dif_pos (moved0_1 t _)]
  refine (hA _ ?_).trans ?_
  · blk_simp [e0_1]
    dsimp
    omega
  · blk_simp [e0_1]
    dsimp [sh, hk]
    congr 2 <;> omega

theorem x0_2 (hA : ArgA (V c main_arg0) A) (t : Fin cfg0.N) : R2 (X0_2 V c t) (sh (t.val % 32) (hv A (t.val / 32))) := by
  intro a b
  have ht : t.val < 128 := lt_of_lt_of_eq t.isLt N0
  have hb := b.isLt
  unfold X0_2 Pipeline.Window.fill
  rw [dif_pos (moved0_2 t _)]
  refine (hA _ ?_).trans ?_
  · blk_simp [e0_2]
    dsimp
    omega
  · blk_simp [e0_2]
    dsimp [sh, hv]
    congr 2 <;> omega

theorem x0_3 (hG : ArgG (V c main_arg1) G) (t : Fin cfg0.N) : R2 (X0_3 V c t) (sh (t.val % 32) (hg G (t.val / 32))) := by
  intro a b
  unfold X0_3 iblk0
  refine (hG _).trans ?_
  blk_simp [e0_3]
  dsimp [sh, hg]
  congr 2 <;> omega

/-- The state carried into a point is the state before its chunk. -/
theorem fState_real (hA : ArgA (V c main_arg0) A) (hG : ArgG (V c main_arg1) G) : ∀ (n : ℕ) (h : n < cfg0.N),
    R2 (fState V c n h) (gSt (hk A (n / 32)) (hv A (n / 32)) (hg G (n / 32)) (n % 32)) := by
  intro n
  induction n with
  | zero => intro h; rw [fState_first V c 0 h rfl]; show R2 _ (gSt _ _ _ 0); rw [gSt_zero]; exact f3
  | succ n ih =>
    intro h
    by_cases h0 : (n + 1) % 32 = 0
    · rw [fState_first V c _ h h0, h0, gSt_zero]; exact f3
    · rw [fState_next V c n h h0, show (n + 1) / 32 = n / 32 by omega, show (n + 1) % 32 = n % 32 + 1 by omega, ← cSt_sh]
      exact fNext_real (x0_1 hA ⟨n, _⟩) (x0_2 hA ⟨n, _⟩) (x0_3 hG ⟨n, _⟩) (ih _)

/-- The output array. -/
theorem out0_4 (hA : ArgA (V c main_arg0) A) (hG : ArgG (V c main_arg1) G) :
    (dats0 V c).arrAt 4 cfg0.N = fun i : S4096x2048.Idx => ((gO (hq A ((i 1).val / 512)) (hk A ((i 1).val / 512)) (hv A ((i 1).val / 512)) (hg G ((i 1).val / 512)) (i 0).val ((i 1).val % 512) : ℝ) : EReal) := by
  refine (dats0 V c).arrAt_eq_of_covers 4 _ (by decide +kernel) fun t hf y => ?_
  have ht : t.val < 128 := lt_of_lt_of_eq t.isLt N0
  blk_simp [e0_4]
  rw [after0_4]
  have key : ∀ z : S128x512.Idx, fOut (X0_0 V c t) (X0_1 V c t) (X0_2 V c t) (X0_3 V c t) (fState V c t.val t.isLt) z
      = ((gO (hq A (t.val / 32)) (hk A (t.val / 32)) (hv A (t.val / 32)) (hg G (t.val / 32)) (128 * (t.val % 32) + (z 0).val) (z 1).val : ℝ) : EReal) := by
    intro z
    idx_vars z
    exact (fOut_real (x0_0 hA t) (x0_1 hA t) (x0_2 hA t) (x0_3 hG t) (fState_real hA hG t.val t.isLt) _ _).trans
      (congrArg _ (cO_sh (hq A (t.val / 32)) _ _ _ _ _ _))
  refine (key y).trans ?_
  have hy : (y 1).val < 512 := (y 1).isLt
  rw [show (t.val / 32 * 512 + (y 1).val) / 512 = t.val / 32 by omega, show (t.val / 32 * 512 + (y 1).val) % 512 = (y 1).val by omega,
    show t.val % 32 * 128 + (y 0).val = 128 * (t.val % 32) + (y 0).val by omega]

/-- The states' array. -/
theorem out0_5 (hA : ArgA (V c main_arg0) A) (hG : ArgG (V c main_arg1) G) :
    (dats0 V c).arrAt 5 cfg0.N = fun i : S4x32x512x256.Idx => ((gSt (hk A (i 0).val) (hv A (i 0).val) (hg G (i 0).val) (i 1).val (i 2).val (i 3).val : ℝ) : EReal) := by
  refine (dats0 V c).arrAt_eq_of_covers 5 _ (by decide +kernel) fun t hf y => ?_
  have ht : t.val < 128 := lt_of_lt_of_eq t.isLt N0
  blk_simp [e0_5]
  rw [after0_5]
  have key : ∀ z : S1x1x512x256.Idx, k0_pay15 (fState V c t.val t.isLt) z
      = ((gSt (hk A (t.val / 32)) (hv A (t.val / 32)) (hg G (t.val / 32)) (t.val % 32) (z 2).val (z 3).val : ℝ) : EReal) := by
    intro z
    idx_vars z
    pointwise [k0_pay15]
    exact fState_real hA hG t.val t.isLt _ _
  exact key y

end Cert.KernelIdeal.Run

end
-- ==== Proof.BwdValue.lean ====
/- The backward scan's arrays at real values: each head's gradients over the whole sequence. -/
module

public import proofs.«01_k».proof.Proof.BwdRegion
public import proofs.«01_k».proof.Proof.BwdBlock
public import proofs.«01_k».proof.Proof.FwdValue

@[expose] public section

set_option maxRecDepth 16384

noncomputable section

namespace Cert.KernelIdeal.Run

open Idealize.ShloMosaic Idealize.ShloMosaic.TcCoe Cert.Gla
open Idealize.ShloMosaic.Pipeline (Dat Cfg Window)
open Cert.KernelIdeal Cert.KernelIdeal.Gen Cert.KernelIdeal.BlockB

variable {V : Dev nD → Valuation τ sig (Elt Ideal)} {c : Dev nD} {A G D : ℕ → ℕ → ℝ}

/-- The gradient of the output is the reals `D`. -/
def ArgD (x : Vec Ideal S4096x2048 .f32) (D : ℕ → ℕ → ℝ) : Prop :=
  ∀ i : S4096x2048.Idx, x i = ((D (i 0).val (i 1).val : ℝ) : EReal)
/-- The saved states are each head's state before each chunk. -/
def ArgS (x : Vec Ideal S4x32x512x256 .f32) (A G : ℕ → ℕ → ℝ) : Prop :=
  ∀ i : S4x32x512x256.Idx, x i = ((gSt (hk A (i 0).val) (hv A (i 0).val) (hg G (i 0).val) (i 1).val (i 2).val (i 3).val : ℝ) : EReal)

/-- The chunk of a point: the last first. -/
def ch (n : ℕ) : ℕ := 31 - n % 32

theorem e1_0 : ∀ t, win1_0.index t = ![ch t.val, t.val / 32] := by decide +kernel
theorem e1_1 : ∀ t, win1_1.index t = ![ch t.val, 4 + t.val / 32] := by decide +kernel
theorem e1_2 : ∀ t, win1_2.index t = ![ch t.val, 4 + t.val / 32] := by decide +kernel
theorem e1_3 : ∀ t, win1_3.index t = ![ch t.val, t.val / 32] := by decide +kernel
theorem e1_4 : ∀ t, win1_4.index t = ![ch t.val, t.val / 32] := by decide +kernel
theorem e1_6 : ∀ t, win1_6.index t = ![ch t.val, t.val / 32] := by decide +kernel
theorem e1_7 : ∀ t, win1_7.index t = ![ch t.val, t.val / 32] := by decide +kernel
theorem e1_8 : ∀ t, win1_8.index t = ![ch t.val, t.val / 32] := by decide +kernel
theorem e1_9 : ∀ t, win1_9.index t = ![ch t.val, t.val / 32] := by decide +kernel
theorem e1_5 : ∀ t, win1_5.index t = ![t.val / 32, ch t.val, 0, 0] := by decide +kernel
theorem N1 : cfg1.N = 128 := by decide +kernel

theorem x1_0 (hA : ArgA (V c main_arg0) A) (t : Fin cfg1.N) : R2 (X1_0 V c t) (sh (ch t.val) (hq0 A (t.val / 32))) := by
  intro a b
  have ht : t.val < 128 := lt_of_lt_of_eq t.isLt N1
  have hb := b.isLt
  unfold X1_0 Pipeline.Window.fill
  rw [dif_pos (moved1_0 t _)]
  refine (hA _ ?_).trans ?_
  · blk_simp [e1_0]
    dsimp
    omega
  · blk_simp [e1_0]
    dsimp [sh, hq0]
    congr 2 <;> omega

theorem x1_1 (hA : ArgA (V c main_arg0) A) (t : Fin cfg1.N) : R2 (X1_1 V c t) (sh (ch t.val) (hk A (t.val / 32))) := by
  intro a b
  have ht : t.val < 128 := lt_of_lt_of_eq t.isLt N1
  have hb := b.isLt
  unfold X1_1 Pipeline.Window.fill
  rw [dif_pos (moved1_1 t _)]
  refine (hA _ ?_).trans ?_
  · blk_simp [e1_1]
    dsimp
    omega
  · blk_simp [e1_1]
    dsimp [sh, hk]
    congr 2 <;> omega

theorem x1_2 (hA : ArgA (V c main_arg0) A) (t : Fin cfg1.N) : R2 (X1_2 V c t) (sh (ch t.val) (hv A (t.val / 32))) := by
  intro a b
  have ht : t.val < 128 := lt_of_lt_of_eq t.isLt N1
  have hb := b.isLt
  unfold X1_2 Pipeline.Window.fill
  rw [dif_pos (moved1_2 t _)]
  refine (hA _ ?_).trans ?_
  · blk_simp [e1_2]
    dsimp
    omega
  · blk_simp [e1_2]
    dsimp [sh, hv]
    congr 2 <;> omega

theorem x1_3 (hG : ArgG (V c main_arg1) G) (t : Fin cfg1.N) : R2 (X1_3 V c t) (sh (ch t.val) (hg G (t.val / 32))) := by
  intro a b
  unfold X1_3 iblk1
  refine (hG _).trans ?_
  blk_simp [e1_3]
  dsimp [sh, hg]
  congr 2 <;> omega

theorem x1_4 (hD : ArgD (V c main_arg2) D) (t : Fin cfg1.N) : R2 (X1_4 V c t) (sh (ch t.val) (hd D (t.val / 32))) := by
  intro a b
  unfold X1_4 iblk1
  refine (hD _).trans ?_
  blk_simp [e1_4]
  dsimp [sh, hd]
  congr 2 <;> omega

theorem x1_5 (hS : ArgS (V c main_v0_1) A G) (t : Fin cfg1.N) (a : Fin 512) (b : Fin 256) : X1_5 V c t (ix4 0 0 a b)
    = ((gSt (hk A (t.val / 32)) (hv A (t.val / 32)) (hg G (t.val / 32)) (ch t.val) a b : ℝ) : EReal) := by
  unfold X1_5 iblk1
  refine (hS _).trans ?_
  blk_simp [e1_5]
  simp

/-- The state gradient carried into a point is that of the state after its chunk. -/
theorem bState_real (hA : ArgA (V c main_arg0) A) (hG : ArgG (V c main_arg1) G) (hD : ArgD (V c main_arg2) D) : ∀ (n : ℕ) (h : n < cfg1.N),
    R2 (bState V c n h) (gDs (hq A (n / 32)) (hg G (n / 32)) (hd D (n / 32)) (ch n + 1)) := by
  intro n
  induction n with
  | zero => intro h; rw [bState_first V c 0 h rfl]; show R2 _ (gDs _ _ _ 32); rw [gDs_last]; exact b5
  | succ n ih =>
    intro h
    by_cases h0 : (n + 1) % 32 = 0
    · rw [bState_first V c _ h h0, show ch (n + 1) + 1 = 32 by unfold ch; omega, gDs_last]; exact b5
    · have hc : ch n < 32 := by unfold ch; omega
      rw [bState_next V c n h h0, show (n + 1) / 32 = n / 32 by omega, show ch (n + 1) + 1 = ch n by unfold ch; omega, ← cDs_sh _ _ _ hc]
      exact bNext_real (x1_0 hA ⟨n, _⟩) (x1_3 hG ⟨n, _⟩) (x1_4 hD ⟨n, _⟩) (ih _)

/-- The decay gradient carried into a point is the sum over the rows after its chunk. -/
theorem gState_real (hA : ArgA (V c main_arg0) A) (hG : ArgG (V c main_arg1) G) (hD : ArgD (V c main_arg2) D) (hS : ArgS (V c main_v0_1) A G) :
    ∀ (n : ℕ) (h : n < cfg1.N),
    R2 (gState V c n h) (fun _ x => gDg (hq A (n / 32)) (hk A (n / 32)) (hv A (n / 32)) (hg G (n / 32)) (hd D (n / 32)) (128 * (ch n + 1)) x) := by
  have z : ∀ q k v g d : ℕ → ℕ → ℝ, (fun _ x => gDg q k v g d 4096 x : ℕ → ℕ → ℝ) = fun _ _ => 0 := fun q k v g d => by
    funext _ x; simp [gDg]
  intro n
  induction n with
  | zero => intro h; rw [gState_first V c 0 h rfl]; show R2 _ (fun _ x => gDg _ _ _ _ _ 4096 x); rw [z]; exact b6
  | succ n ih =>
    intro h
    by_cases h0 : (n + 1) % 32 = 0
    · rw [gState_first V c _ h h0, show 128 * (ch (n + 1) + 1) = 4096 by unfold ch; omega, z]; exact b6
    · have hc : ch n < 32 := by unfold ch; omega
      rw [gState_next V c n h h0, show (n + 1) / 32 = n / 32 by omega, show ch (n + 1) + 1 = ch n by unfold ch; omega]
      intro a b
      refine (b2 (bDb_real (x1_0 hA ⟨n, _⟩) (x1_1 hA ⟨n, _⟩) (x1_2 hA ⟨n, _⟩) (x1_3 hG ⟨n, _⟩) (x1_4 hD ⟨n, _⟩) (x1_5 hS ⟨n, _⟩)
        (bState_real hA hG hD n _)) (ih _) a b).trans (congrArg _ ?_)
      exact cDg_carry (hq A (n / 32)) _ _ _ _ hc _

/-- The array of the gradient of q. -/
theorem out1_6 (hA : ArgA (V c main_arg0) A) (hG : ArgG (V c main_arg1) G) (hD : ArgD (V c main_arg2) D) (hS : ArgS (V c main_v0_1) A G) :
    (dats1 V c).arrAt 6 cfg1.N = fun i : S4096x1024.Idx => ((gDq (hk A ((i 1).val / 256)) (hv A ((i 1).val / 256)) (hg G ((i 1).val / 256)) (hd D ((i 1).val / 256)) ((i 0).val) ((i 1).val % 256) * (1 / 16) : ℝ) : EReal) := by
  refine (dats1 V c).arrAt_eq_of_covers 6 _ (by decide +kernel) fun t hf y => ?_
  have ht : t.val < 128 := lt_of_lt_of_eq t.isLt N1
  have hc : ch t.val < 32 := by unfold ch; omega
  blk_simp [e1_6]
  rw [after1_6]
  have key : ∀ z : S128x256.Idx, k1_pay3 (bDq (X1_1 V c t) (X1_2 V c t) (X1_3 V c t) (X1_4 V c t) (X1_5 V c t)) z
      = ((gDq (hk A (t.val / 32)) (hv A (t.val / 32)) (hg G (t.val / 32)) (hd D (t.val / 32)) (128 * ch t.val + (z 0).val) ((z 1).val) * (1 / 16) : ℝ) : EReal) := by
    intro z
    idx_vars z
    exact (b3 (bDq_real (x1_1 hA t) (x1_2 hA t) (x1_3 hG t) (x1_4 hD t) (x1_5 hS t)) _ _).trans (congrArg _ (congrArg (· * (1 / 16 : ℝ)) (cDq_sh _ _ _ _ _ _ _)))
  refine (key y).trans ?_
  have hy : (y 1).val < 256 := (y 1).isLt
  rw [show (t.val / 32 * 256 + (y 1).val) / 256 = t.val / 32 by omega, show (t.val / 32 * 256 + (y 1).val) % 256 = (y 1).val by omega,
    show ch t.val * 128 + (y 0).val = 128 * ch t.val + (y 0).val by omega]

/-- The array of the gradient of k. -/
theorem out1_7 (hA : ArgA (V c main_arg0) A) (hG : ArgG (V c main_arg1) G) (hD : ArgD (V c main_arg2) D) (hS : ArgS (V c main_v0_1) A G) :
    (dats1 V c).arrAt 7 cfg1.N = fun i : S4096x1024.Idx => ((gDk (hq A ((i 1).val / 256)) (hv A ((i 1).val / 256)) (hg G ((i 1).val / 256)) (hd D ((i 1).val / 256)) ((i 0).val) ((i 1).val % 256) : ℝ) : EReal) := by
  refine (dats1 V c).arrAt_eq_of_covers 7 _ (by decide +kernel) fun t hf y => ?_
  have ht : t.val < 128 := lt_of_lt_of_eq t.isLt N1
  have hc : ch t.val < 32 := by unfold ch; omega
  blk_simp [e1_7]
  rw [after1_7]
  have key : ∀ z : S128x256.Idx, k1_pay4 (bDk (X1_0 V c t) (X1_2 V c t) (X1_3 V c t) (X1_4 V c t) (bState V c t.val t.isLt)) z
      = ((gDk (hq A (t.val / 32)) (hv A (t.val / 32)) (hg G (t.val / 32)) (hd D (t.val / 32)) (128 * ch t.val + (z 0).val) ((z 1).val) : ℝ) : EReal) := by
    intro z
    idx_vars z
    exact (b4 (bDk_real (x1_0 hA t) (x1_2 hA t) (x1_3 hG t) (x1_4 hD t) (bState_real hA hG hD t.val t.isLt)) _ _).trans (congrArg _ (cDk_sh (hq A (t.val / 32)) _ _ _ (Fin.isLt _) hc _))
  refine (key y).trans ?_
  have hy : (y 1).val < 256 := (y 1).isLt
  rw [show (t.val / 32 * 256 + (y 1).val) / 256 = t.val / 32 by omega, show (t.val / 32 * 256 + (y 1).val) % 256 = (y 1).val by omega,
    show ch t.val * 128 + (y 0).val = 128 * ch t.val + (y 0).val by omega]

/-- The array of the gradient of v. -/
theorem out1_8 (hA : ArgA (V c main_arg0) A) (hG : ArgG (V c main_arg1) G) (hD : ArgD (V c main_arg2) D) (hS : ArgS (V c main_v0_1) A G) :
    (dats1 V c).arrAt 8 cfg1.N = fun i : S4096x2048.Idx => ((gDv (hq A ((i 1).val / 512)) (hk A ((i 1).val / 512)) (hg G ((i 1).val / 512)) (hd D ((i 1).val / 512)) ((i 0).val) ((i 1).val % 512) : ℝ) : EReal) := by
  refine (dats1 V c).arrAt_eq_of_covers 8 _ (by decide +kernel) fun t hf y => ?_
  have ht : t.val < 128 := lt_of_lt_of_eq t.isLt N1
  have hc : ch t.val < 32 := by unfold ch; omega
  blk_simp [e1_8]
  rw [after1_8]
  have key : ∀ z : S128x512.Idx, bDv (X1_0 V c t) (X1_1 V c t) (X1_3 V c t) (X1_4 V c t) (bState V c t.val t.isLt) z
      = ((gDv (hq A (t.val / 32)) (hk A (t.val / 32)) (hg G (t.val / 32)) (hd D (t.val / 32)) (128 * ch t.val + (z 0).val) ((z 1).val) : ℝ) : EReal) := by
    intro z
    idx_vars z
    exact (bDv_real (x1_0 hA t) (x1_1 hA t) (x1_3 hG t) (x1_4 hD t) (bState_real hA hG hD t.val t.isLt) _ _).trans (congrArg _ (cDv_sh (hq A (t.val / 32)) _ _ _ (Fin.isLt _) hc _))
  refine (key y).trans ?_
  have hy : (y 1).val < 512 := (y 1).isLt
  rw [show (t.val / 32 * 512 + (y 1).val) / 512 = t.val / 32 by omega, show (t.val / 32 * 512 + (y 1).val) % 512 = (y 1).val by omega,
    show ch t.val * 128 + (y 0).val = 128 * ch t.val + (y 0).val by omega]

/-- The array of the gradient of the log decay. -/
theorem out1_9 (hA : ArgA (V c main_arg0) A) (hG : ArgG (V c main_arg1) G) (hD : ArgD (V c main_arg2) D) (hS : ArgS (V c main_v0_1) A G) :
    (dats1 V c).arrAt 9 cfg1.N = fun i : S4096x1024.Idx => ((gDg (hq A ((i 1).val / 256)) (hk A ((i 1).val / 256)) (hv A ((i 1).val / 256)) (hg G ((i 1).val / 256)) (hd D ((i 1).val / 256)) ((i 0).val) ((i 1).val % 256) : ℝ) : EReal) := by
  refine (dats1 V c).arrAt_eq_of_covers 9 _ (by decide +kernel) fun t hf y => ?_
  have ht : t.val < 128 := lt_of_lt_of_eq t.isLt N1
  have hc : ch t.val < 32 := by unfold ch; omega
  blk_simp [e1_9]
  rw [after1_9]
  have key : ∀ z : S128x256.Idx, bDg (X1_0 V c t) (X1_1 V c t) (X1_2 V c t) (X1_3 V c t) (X1_4 V c t) (X1_5 V c t) (bState V c t.val t.isLt) (gState V c t.val t.isLt) z
      = ((gDg (hq A (t.val / 32)) (hk A (t.val / 32)) (hv A (t.val / 32)) (hg G (t.val / 32)) (hd D (t.val / 32)) (128 * ch t.val + (z 0).val) ((z 1).val) : ℝ) : EReal) := by
    intro z
    idx_vars z
    exact (bDg_real (x1_0 hA t) (x1_1 hA t) (x1_2 hA t) (x1_3 hG t) (x1_4 hD t) (x1_5 hS t) (bState_real hA hG hD t.val t.isLt) (gState_real hA hG hD hS t.val t.isLt) _ _).trans (congrArg _ (cDg_sh (hq A (t.val / 32)) _ _ _ _ (Fin.isLt _) hc _))
  refine (key y).trans ?_
  have hy : (y 1).val < 256 := (y 1).isLt
  rw [show (t.val / 32 * 256 + (y 1).val) / 256 = t.val / 32 by omega, show (t.val / 32 * 256 + (y 1).val) % 256 = (y 1).val by omega,
    show ch t.val * 128 + (y 0).val = 128 * ch t.val + (y 0).val by omega]

end Cert.KernelIdeal.Run

end
-- ==== Proof.Ref.lean ====
/- The reference's arrays at real values: what each part of the forward pass and of its gradient holds
   at an index, for finite arguments and negative log decays. -/
module

public import proofs.«01_k».proof.Proof.Gen.ReferenceIdeal.Run
public import proofs.«01_k».proof.Proof.BwdValue
public import Idealize.ShloMosaic.Lib.Pointwise

@[expose] public section

set_option maxRecDepth 16384

noncomputable section

namespace Cert.Ref

open Idealize.ShloMosaic Idealize.ShloMosaic.TcCoe Cert.Gla Finset
open Cert.ReferenceIdeal Cert.ReferenceIdeal.Gen
open Cert.KernelIdeal.Run (ArgA ArgG ArgD)

/-! ## A running sum -/

theorem foldl_add {n : ℕ} (g : Fin n → EReal) (v : EReal) : (List.finRange n).foldl (fun r m => r + g m) v = v + ∑ m, g m := by
  have h : ∀ (l : List (Fin n)) (w : EReal), l.foldl (fun r m => r + g m) w = w + (l.map g).sum := by
    intro l
    induction l with
    | nil => intro w; simp
    | cons a l ih => intro w; rw [List.foldl_cons, ih, List.map_cons, List.sum_cons, add_assoc]
  rw [h, Fin.sum_univ_def]

/-- A sum over a window, position by position. -/
theorem window_sum {s t : Shape} (window strides lo hi : Fin s.rank → ℕ) (x : s.Idx → EReal) (v : EReal)
    (h : s.ReduceWindows window strides lo hi t) (hu : 0 < (⟨0, ![]⟩ : Shape).numel) (j : t.Idx) :
    Host.reduceWindow (· + ·) window strides lo hi x (fun _ : (⟨0, ![]⟩ : Shape).Idx => v) h hu j
      = v + ∑ p : (⟨s.rank, window⟩ : Shape).Idx,
          (if hin : ∀ a, lo a ≤ (j (a.cast h.1.symm)).val * strides a + (p a).val ∧ (j (a.cast h.1.symm)).val * strides a + (p a).val - lo a < s.size a
            then x (fun a => ⟨(j (a.cast h.1.symm)).val * strides a + (p a).val - lo a, (hin a).2⟩) else v) := by
  unfold Host.reduceWindow
  refine (foldl_add _ _).trans (congrArg (v + ·) ?_)
  exact Fintype.sum_equiv (⟨s.rank, window⟩ : Shape).rowMajor.symm _ _ fun n => by dsimp only; congr

/-- The host's sum over a window, position by position. -/
theorem window_add_sum {s t u : Shape} (window strides lo hi : Fin s.rank → ℕ) (x : FVec Ideal s .f32) (init : u.Idx → EReal)
    (h : s.ReduceWindows window strides lo hi t) (hu : 0 < u.numel) (j : t.Idx) :
    (Host.reduceWindowAdd (F := Ideal) (φ := .f32) window strides lo hi x init h hu j : EReal)
      = init (Shape.Idx.first hu) + ∑ p : (⟨s.rank, window⟩ : Shape).Idx,
          (if hin : ∀ a, lo a ≤ (j (a.cast h.1.symm)).val * strides a + (p a).val ∧ (j (a.cast h.1.symm)).val * strides a + (p a).val - lo a < s.size a
            then x (fun a => ⟨(j (a.cast h.1.symm)).val * strides a + (p a).val - lo a, (hin a).2⟩) else init (Shape.Idx.first hu)) :=
  window_sum window strides lo hi x (init (Shape.Idx.first hu)) h (by decide) j

/-- The positions of a window along the rows. -/
def rows : Fin 4096 ≃ (⟨4, ![1, 1, 4096, 1]⟩ : Shape).Idx where
  toFun y := ix4 0 0 y 0
  invFun p := p 2
  left_inv _ := rfl
  right_inv p := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

/-- An array over heads, rows and columns is the reals `f`. -/
def R4 {n : ℕ} (x : (⟨4, ![1, 4, 4096, n]⟩ : Shape).Idx → EReal) (f : ℕ → ℕ → ℕ → ℝ) : Prop :=
  ∀ (h : Fin 4) (i : Fin 4096) (b : Fin n), x (ix4 0 h i b) = ((f h i b : ℝ) : EReal)
/-- An array over heads, two rows and columns is the reals `f`. -/
def R5 (x : S1x4x4096x4096x256.Idx → EReal) (f : ℕ → ℕ → ℕ → ℕ → ℝ) : Prop :=
  ∀ (h : Fin 4) (i j : Fin 4096) (b : Fin 256), x (ix5 0 h i j b) = ((f h i j b : ℝ) : EReal)

theorem sum_shift (f : ℕ → ℝ) {i : ℕ} (hi : i < 4096) :
    (∑ y : Fin 4096, if 4095 ≤ i + (y : ℕ) then f (i + y - 4095) else 0) = ∑ t ∈ range (i + 1), f t := by
  have e : ∀ y : Fin 4096, (if 4095 ≤ i + (y : ℕ) then f (i + y - 4095) else 0) = if 4095 - i ≤ (y : ℕ) then f (i + y - 4095) else 0 := fun y => by
    split <;> split <;> first | rfl | (exfalso; omega)
  rw [Finset.sum_congr rfl fun y _ => e y]
  rw [sum_ge (fun y => f (i + y - 4095)), Finset.sum_Ico_eq_sum_range, show 4096 - (4095 - i) = i + 1 by omega]
  exact Finset.sum_congr rfl fun k _ => congrArg f (by omega)

theorem sum_shift_rev (f : ℕ → ℝ) {i : ℕ} (hi : i < 4096) :
    (∑ y : Fin 4096, if i + (y : ℕ) < 4096 then f (i + y) else 0) = ∑ t ∈ Ico i 4096, f t := by
  have e : ∀ y : Fin 4096, (if i + (y : ℕ) < 4096 then f (i + y) else 0) = if (y : ℕ) < 4096 - i then f (i + y) else 0 := fun y => by
    split <;> split <;> first | rfl | (exfalso; omega)
  rw [Finset.sum_congr rfl fun y _ => e y]
  rw [sum_lt (by omega) (fun y => f (i + y)), Finset.sum_Ico_eq_sum_range]

/-- The running sum along the rows. -/
def cum (x : S1x4x4096x256.Idx → EReal) : S1x4x4096x256.Idx → EReal :=
  Host.reduceWindowAdd (F := Ideal) (φ := .f32) ![1, 1, 4096, 1] ![1, 1, 1, 1] ![0, 0, 4095, 0] ![0, 0, 0, 0] x (broadcastInDim S_ ![] bcast_S_S_ (constant (F := Ideal) S_ .f32 0x00000000#32)) reduceWindows_S1x4x4096x256_S1x4x4096x256_w1s1p0_0_w1s1p0_0_w4096s1p4095_0_w1s1p0_0 h_S_

theorem cum_real {x : S1x4x4096x256.Idx → EReal} {f : ℕ → ℕ → ℕ → ℝ} (hx : R4 x f) : R4 (cum x) (fun h i b => ∑ t ∈ range (i + 1), f h t b) := by
  intro h i b
  have hz : (broadcastInDim S_ ![] bcast_S_S_ (constant (F := Ideal) S_ .f32 0x00000000#32) : S_.Idx → EReal) (Shape.Idx.first h_S_) = 0 := by
    have : ∀ z : S_.Idx, (broadcastInDim S_ ![] bcast_S_S_ (constant (F := Ideal) S_ .f32 0x00000000#32) : S_.Idx → EReal) z = 0 := fun z => by pointwise
    exact this _
  unfold cum
  rw [window_add_sum, hz, zero_add]
  refine (Fintype.sum_equiv rows.symm _ (fun y : Fin 4096 => (((if 4095 ≤ i.val + (y : ℕ) then f h (i.val + y - 4095) b else 0 : ℝ) : EReal))) fun p => ?_).trans ?_
  · obtain ⟨y, rfl⟩ := rows.surjective p
    rw [Equiv.symm_apply_apply]
    have hi := i.isLt
    have hy := y.isLt
    split
    · next hin =>
      have h2 : 4095 ≤ i.val * 1 + y.val ∧ i.val * 1 + y.val - 4095 < 4096 := hin 2
      rw [if_pos (by omega)]
      refine (congrArg x (funext fun a => Fin.ext ?_)).trans (hx h ⟨i.val + y - 4095, by omega⟩ b)
      match a with
      | ⟨0, _⟩ => rfl
      | ⟨1, _⟩ => show h.val * 1 + 0 - 0 = h.val; omega
      | ⟨2, _⟩ => show i.val * 1 + y.val - 4095 = i.val + y - 4095; omega
      | ⟨3, _⟩ => show b.val * 1 + 0 - 0 = b.val; omega
    · next hin =>
      rw [if_neg fun hc => hin fun a => ?_, EReal.coe_zero]
      match a with
      | ⟨0, _⟩ => exact ⟨Nat.zero_le _, show 0 * 1 + 0 - 0 < 1 by omega⟩
      | ⟨1, _⟩ => exact ⟨Nat.zero_le _, show h.val * 1 + 0 - 0 < 4 by omega⟩
      | ⟨2, _⟩ => exact ⟨show 4095 ≤ i.val * 1 + y.val by omega, show i.val * 1 + y.val - 4095 < 4096 by omega⟩
      | ⟨3, _⟩ => exact ⟨Nat.zero_le _, show b.val * 1 + 0 - 0 < 256 by omega⟩
  · rw [coe_sum]
    exact congrArg _ (sum_shift (fun t => f h t b) i.isLt)

/-- The reversed running sum along the rows. -/
def rev (x : S1x4x4096x256.Idx → EReal) : S1x4x4096x256.Idx → EReal :=
  Host.reduceWindowAdd (F := Ideal) (φ := .f32) ![1, 1, 4096, 1] ![1, 1, 1, 1] ![0, 0, 0, 0] ![0, 0, 4095, 0] x (broadcastInDim S_ ![] bcast_S_S_ (constant (F := Ideal) S_ .f32 0x00000000#32)) reduceWindows_S1x4x4096x256_S1x4x4096x256_w1s1p0_0_w1s1p0_0_w4096s1p0_4095_w1s1p0_0 h_S_

theorem rev_real {x : S1x4x4096x256.Idx → EReal} {f : ℕ → ℕ → ℕ → ℝ} (hx : R4 x f) : R4 (rev x) (fun h i b => ∑ t ∈ Ico i 4096, f h t b) := by
  intro h i b
  have hz : (broadcastInDim S_ ![] bcast_S_S_ (constant (F := Ideal) S_ .f32 0x00000000#32) : S_.Idx → EReal) (Shape.Idx.first h_S_) = 0 := by
    have : ∀ z : S_.Idx, (broadcastInDim S_ ![] bcast_S_S_ (constant (F := Ideal) S_ .f32 0x00000000#32) : S_.Idx → EReal) z = 0 := fun z => by pointwise
    exact this _
  unfold rev
  rw [window_add_sum, hz, zero_add]
  refine (Fintype.sum_equiv rows.symm _ (fun y : Fin 4096 => (((if i.val + (y : ℕ) < 4096 then f h (i.val + y) b else 0 : ℝ) : EReal))) fun p => ?_).trans ?_
  · obtain ⟨y, rfl⟩ := rows.surjective p
    rw [Equiv.symm_apply_apply]
    have hi := i.isLt
    have hy := y.isLt
    split
    · next hin =>
      have h2 : 0 ≤ i.val * 1 + y.val ∧ i.val * 1 + y.val - 0 < 4096 := hin 2
      rw [if_pos (by omega)]
      refine (congrArg x (funext fun a => Fin.ext ?_)).trans (hx h ⟨i.val + y, by omega⟩ b)
      match a with
      | ⟨0, _⟩ => rfl
      | ⟨1, _⟩ => show h.val * 1 + 0 - 0 = h.val; omega
      | ⟨2, _⟩ => show i.val * 1 + y.val - 0 = i.val + y; omega
      | ⟨3, _⟩ => show b.val * 1 + 0 - 0 = b.val; omega
    · next hin =>
      rw [if_neg fun hc => hin fun a => ?_, EReal.coe_zero]
      match a with
      | ⟨0, _⟩ => exact ⟨Nat.zero_le _, show 0 * 1 + 0 - 0 < 1 by omega⟩
      | ⟨1, _⟩ => exact ⟨Nat.zero_le _, show h.val * 1 + 0 - 0 < 4 by omega⟩
      | ⟨2, _⟩ => exact ⟨show 0 ≤ i.val * 1 + y.val by omega, show i.val * 1 + y.val - 0 < 4096 by omega⟩
      | ⟨3, _⟩ => exact ⟨Nat.zero_le _, show b.val * 1 + 0 - 0 < 256 by omega⟩
  · rw [coe_sum]
    exact congrArg _ (sum_shift_rev (fun t => f h t b) i.isLt)

/-! ## Sums of reals -/

theorem sum_coe_all {n : ℕ} {x : Fin n → EReal} {f : ℕ → ℝ} (h : ∀ k, x k = ((f k : ℝ) : EReal)) : ∑ k, x k = ((∑ k ∈ range n, f k : ℝ) : EReal) := by
  rw [Finset.sum_congr rfl fun k _ => h k, coe_sum, ← Finset.sum_range]

theorem sum_coe_le {n a : ℕ} (ha : a < n) {x : Fin n → EReal} {f : ℕ → ℝ} (h : ∀ k : Fin n, x k = ((if (k : ℕ) ≤ a then f k else 0 : ℝ) : EReal)) :
    ∑ k, x k = ((∑ k ∈ range (a + 1), f k : ℝ) : EReal) := by
  rw [Finset.sum_congr rfl fun k _ => h k, coe_sum, sum_le ha]

theorem sum_coe_ge {n a : ℕ} {x : Fin n → EReal} {f : ℕ → ℝ} (h : ∀ k : Fin n, x k = ((if a ≤ (k : ℕ) then f k else 0 : ℝ) : EReal)) :
    ∑ k, x k = ((∑ k ∈ Ico a n, f k : ℝ) : EReal) := by
  rw [Finset.sum_congr rfl fun k _ => h k, coe_sum, sum_ge]

/-- A sum over the rows up to `a`, the last of them halved. -/
theorem sum_half_le {n a : ℕ} (ha : a < n) {x : Fin n → EReal} {f : ℕ → ℝ}
    (h : ∀ k : Fin n, x k = (((if (k : ℕ) ≤ a then f k else 0) - (if a = (k : ℕ) then f k / 2 else 0) : ℝ) : EReal)) :
    ∑ k, x k = ((∑ k ∈ range (a + 1), f k - f a / 2 : ℝ) : EReal) := by
  rw [Finset.sum_congr rfl fun k _ => h k, coe_sum, Finset.sum_sub_distrib, sum_le ha]
  refine congrArg _ (congrArg _ ?_)
  rw [Finset.sum_eq_single (⟨a, ha⟩ : Fin n) (fun k _ hk => if_neg fun hc => hk (Fin.ext hc.symm)) (fun hc => absurd (Finset.mem_univ _) hc)]
  exact if_pos rfl

/-- The opposite of a sum over the rows from `a` on, the first of them halved. -/
theorem sum_half_ge {n a : ℕ} (ha : a < n) {x : Fin n → EReal} {f : ℕ → ℝ}
    (h : ∀ k : Fin n, x k = (((if a ≤ (k : ℕ) then f k else 0) - (if (k : ℕ) = a then f k / 2 else 0) : ℝ) : EReal)) :
    ∑ k, -x k = ((-(∑ k ∈ Ico a n, f k - f a / 2) : ℝ) : EReal) := by
  rw [Finset.sum_congr rfl fun k _ => (congrArg Neg.neg (h k)).trans (EReal.coe_neg _).symm, coe_sum, Finset.sum_neg_distrib, Finset.sum_sub_distrib, sum_ge]
  refine congrArg _ (congrArg _ (congrArg _ ?_))
  rw [Finset.sum_eq_single (⟨a, ha⟩ : Fin n) (fun k _ hk => if_neg fun hc => hk (Fin.ext hc)) (fun hc => absurd (Finset.mem_univ _) hc)]
  exact if_pos rfl

/-- A sum over two axes of one element each is that element. -/
theorem red03 (hr : S1x4x4096x1x256.ReducesTo [0, 3] S4x4096x256) (y : S1x4x4096x1x256.Idx → EReal) (h : Fin 4) (i : Fin 4096) (b : Fin 256) :
    Ideal.hostReduceAdd hr y 0 (ix3 h i b) = y (ix5 0 h i 0 b) := by
  unfold Ideal.hostReduceAdd
  rw [zero_add, Finset.sum_eq_single (ix5 0 h i 0 b)]
  · intro p hp hne
    idx_vars p
    have e := (Finset.mem_filter.mp hp).2
    refine absurd ?_ hne
    have e0 : p1 = h := congrFun e 0
    have e1 : p2 = i := congrFun e 1
    have e2 : p4 = b := congrFun e 2
    rw [Fin.fin_one_eq_zero p0, e0, e1, e2, Fin.fin_one_eq_zero p3]
  · intro hp
    refine absurd (Finset.mem_filter.mpr ⟨Finset.mem_univ _, ?_⟩) hp
    funext a
    match a with
    | ⟨0, _⟩ => rfl
    | ⟨1, _⟩ => rfl
    | ⟨2, _⟩ => rfl

/-- A sum over two axes of one element each is that element. -/
theorem red02 (hr : S1x4x1x4096x256.ReducesTo [0, 2] S4x4096x256) (y : S1x4x1x4096x256.Idx → EReal) (h : Fin 4) (i : Fin 4096) (b : Fin 256) :
    Ideal.hostReduceAdd hr y 0 (ix3 h i b) = y (ix5 0 h 0 i b) := by
  unfold Ideal.hostReduceAdd
  rw [zero_add, Finset.sum_eq_single (ix5 0 h 0 i b)]
  · intro p hp hne
    idx_vars p
    have e := (Finset.mem_filter.mp hp).2
    refine absurd ?_ hne
    have e0 : p1 = h := congrFun e 0
    have e1 : p3 = i := congrFun e 1
    have e2 : p4 = b := congrFun e 2
    rw [Fin.fin_one_eq_zero p0, e0, e1, e2, Fin.fin_one_eq_zero p2]
  · intro hp
    refine absurd (Finset.mem_filter.mpr ⟨Finset.mem_univ _, ?_⟩) hp
    funext a
    match a with
    | ⟨0, _⟩ => rfl
    | ⟨1, _⟩ => rfl
    | ⟨2, _⟩ => rfl

/-! ## The heads -/

/-- Each head's q, scaled. -/
def rQ (x0 : FVec Ideal S4096x6272 .f32) : FVec Ideal S1x4x4096x256 .f32 :=
  (mulf (transpose S1x4x4096x256 [0, 2, 1, 3] (shapeCast S1x4096x4x256 (broadcastInDim S1x4096x1024 ![1, 2] bcast_S4096x1024_S1x4096x1024_1_2 (extractStridedSlice S4096x1024 ![0, 0] x0 slices_S4096x6272_S4096x1024_0_0)) shapeCasts_S1x4096x1024_S1x4096x4x256) transposes_S1x4096x4x256_S1x4x4096x256_0_2_1_3) (broadcastInDim S1x4x4096x256 ![] bcast_S_S1x4x4096x256 (constant (F := Ideal) S_ .f32 0x3D800000#32)))

/-- Each head's k. -/
def rK (x0 : FVec Ideal S4096x6272 .f32) : FVec Ideal S1x4x4096x256 .f32 :=
  (transpose S1x4x4096x256 [0, 2, 1, 3] (shapeCast S1x4096x4x256 (broadcastInDim S1x4096x1024 ![1, 2] bcast_S4096x1024_S1x4096x1024_1_2 (extractStridedSlice S4096x1024 ![0, 1024] x0 slices_S4096x6272_S4096x1024_0_1024)) shapeCasts_S1x4096x1024_S1x4096x4x256) transposes_S1x4096x4x256_S1x4x4096x256_0_2_1_3)

/-- Each head's v. -/
def rV (x0 : FVec Ideal S4096x6272 .f32) : FVec Ideal S1x4x4096x512 .f32 :=
  (transpose S1x4x4096x512 [0, 2, 1, 3] (shapeCast S1x4096x4x512 (broadcastInDim S1x4096x2048 ![1, 2] bcast_S4096x2048_S1x4096x2048_1_2 (extractStridedSlice S4096x2048 ![0, 2048] x0 slices_S4096x6272_S4096x2048_0_2048)) shapeCasts_S1x4096x2048_S1x4096x4x512) transposes_S1x4096x4x512_S1x4x4096x512_0_2_1_3)

/-- Each head's gradient of the output. -/
def rD (x2 : FVec Ideal S4096x2048 .f32) : FVec Ideal S1x4x4096x512 .f32 :=
  (transpose S1x4x4096x512 [0, 2, 1, 3] (shapeCast S1x4096x4x512 x2 shapeCasts_S4096x2048_S1x4096x4x512) transposes_S1x4096x4x512_S1x4x4096x512_0_2_1_3)

/-- Each head's log decay. -/
def rG (x1 : FVec Ideal S4096x1024 .f32) : FVec Ideal S1x4x4096x256 .f32 :=
  (transpose S1x4x4096x256 [0, 2, 1, 3] (shapeCast S1x4096x4x256 (broadcastInDim S1x4096x1024 ![1, 2] bcast_S4096x1024_S1x4096x1024_1_2 x1) shapeCasts_S1x4096x1024_S1x4096x4x256) transposes_S1x4096x4x256_S1x4x4096x256_0_2_1_3)

theorem rK_real {x : FVec Ideal S4096x6272 .f32} {A : ℕ → ℕ → ℝ} (hx : ArgA x A) : R4 (rK x) (hk A) := by
  intro h i b
  pointwise [rK]
  have hh := h.isLt
  have hb := b.isLt
  refine (hx _ (show 1024 + (h.val * 256 + b.val) < 4096 by omega)).trans (congrArg _ ?_)
  show A i.val (1024 + (h.val * 256 + b.val)) = hk A h.val i.val b.val
  unfold hk
  exact congrArg (A i.val) (by omega)

theorem rV_real {x : FVec Ideal S4096x6272 .f32} {A : ℕ → ℕ → ℝ} (hx : ArgA x A) : R4 (rV x) (hv A) := by
  intro h i b
  pointwise [rV]
  have hh := h.isLt
  have hb := b.isLt
  refine (hx _ (show 2048 + (h.val * 512 + b.val) < 4096 by omega)).trans (congrArg _ ?_)
  show A i.val (2048 + (h.val * 512 + b.val)) = hv A h.val i.val b.val
  unfold hv
  exact congrArg (A i.val) (by omega)

theorem rD_real {x : FVec Ideal S4096x2048 .f32} {A : ℕ → ℕ → ℝ} (hx : ArgD x A) : R4 (rD x) (hd A) := by
  intro h i b
  pointwise [rD]
  have hh := h.isLt
  have hb := b.isLt
  refine (hx _ ).trans (congrArg _ ?_)
  show A i.val (h.val * 512 + b.val) = hd A h.val i.val b.val
  unfold hd
  exact congrArg (A i.val) (by omega)

theorem rG_real {x : FVec Ideal S4096x1024 .f32} {A : ℕ → ℕ → ℝ} (hx : ArgG x A) : R4 (rG x) (hg A) := by
  intro h i b
  pointwise [rG]
  have hh := h.isLt
  have hb := b.isLt
  refine (hx _ ).trans (congrArg _ ?_)
  show A i.val (h.val * 256 + b.val) = hg A h.val i.val b.val
  unfold hg
  exact congrArg (A i.val) (by omega)

theorem rQ_real {x : FVec Ideal S4096x6272 .f32} {A : ℕ → ℕ → ℝ} (hx : ArgA x A) : R4 (rQ x) (hq A) := by
  intro h i b
  pointwise [rQ]
  have hh := h.isLt
  have hb := b.isLt
  rw [hx (ix2 i ⟨h.val * 256 + b.val, _⟩) (show h.val * 256 + b.val < 4096 by omega), ofBits_sixteenth, ← EReal.coe_mul]
  show ((A i.val (h.val * 256 + b.val) * (1 / 16) : ℝ) : EReal) = ((hq A h.val i.val b.val : ℝ) : EReal)
  unfold hq
  rw [show h.val * 256 + b.val = 256 * h.val + b.val by omega]

/-! ## The pairs of rows -/

/-- A row's array, at each pair of rows: the later one's. -/
def ri (x : FVec Ideal S1x4x4096x256 .f32) : FVec Ideal S1x4x4096x4096x256 .f32 :=
  (broadcastInDim S1x4x4096x4096x256 ![0, 1, 2, 3, 4] bcast_S1x4x4096x1x256_S1x4x4096x4096x256_0_1_2_3_4 (broadcastInDim S1x4x4096x1x256 ![0, 1, 2, 4] bcast_S1x4x4096x256_S1x4x4096x1x256_0_1_2_4 x))

/-- A row's array, at each pair of rows: the earlier one's. -/
def rj (x : FVec Ideal S1x4x4096x256 .f32) : FVec Ideal S1x4x4096x4096x256 .f32 :=
  (broadcastInDim S1x4x4096x4096x256 ![0, 1, 2, 3, 4] bcast_S1x4x1x4096x256_S1x4x4096x4096x256_0_1_2_3_4 (broadcastInDim S1x4x1x4096x256 ![0, 1, 3, 4] bcast_S1x4x4096x256_S1x4x1x4096x256_0_1_3_4 x))

/-- The pairs whose second row is not after the first. -/
def rMask  : IVec S1x4x4096x4096x256 1 :=
  (broadcastInDim S1x4x4096x4096x256 ![2, 3, 4] bcast_S4096x4096x1_S1x4x4096x4096x256_2_3_4 (broadcastInDim S4096x4096x1 ![0, 1] bcast_S4096x4096_S4096x4096x1_0_1 (select (cmpi .sge (addi (iotaInDim S4096x4096 32 0) (broadcastInDim S4096x4096 ![] bcast_S_S4096x4096 (constantI S_ 32 0#32))) (iotaInDim S4096x4096 32 1)) (broadcastInDim S4096x4096 ![] bcast_S_S4096x4096 (constantI S_ 1 1#1)) (broadcastInDim S4096x4096 ![] bcast_S_S4096x4096 (constantI S_ 1 0#1)))))

/-- The decay between the rows of a pair. -/
def rRel (b : FVec Ideal S1x4x4096x256 .f32) : FVec Ideal S1x4x4096x4096x256 .f32 :=
  subf (ri b) (rj b)

/-- Its exponential, kept at most one. -/
def rEx (b : FVec Ideal S1x4x4096x256 .f32) : FVec Ideal S1x4x4096x4096x256 .f32 :=
  Host.exp (minimumf (rRel b) (broadcastInDim S1x4x4096x4096x256 ![] bcast_S_S1x4x4096x4096x256 (constant (F := Ideal) S_ .f32 0x00000000#32)))

/-- The weight of a pair. -/
def rDec (b : FVec Ideal S1x4x4096x256 .f32) : FVec Ideal S1x4x4096x4096x256 .f32 :=
  select rMask (rEx b) (broadcastInDim S1x4x4096x4096x256 ![] bcast_S_S1x4x4096x4096x256 (id (constant (F := Ideal) S_ .f32 0x00000000#32)))

/-- The gradient of a score, at each column. -/
def rDA (d v : FVec Ideal S1x4x4096x512 .f32) : FVec Ideal S1x4x4096x4096x256 .f32 :=
  (broadcastInDim S1x4x4096x4096x256 ![0, 1, 2, 3] bcast_S1x4x4096x4096_S1x4x4096x4096x256_0_1_2_3 (Host.dotGeneral dot_S1x4x4096x512_S1x4x4096x512_S1x4x4096x4096_3_3_2_2_01_01 none d v))

/-- The product of a pair's q and k. -/
def rQK (q k : FVec Ideal S1x4x4096x256 .f32) : FVec Ideal S1x4x4096x4096x256 .f32 :=
  mulf (ri q) (rj k)

/-- The scores. -/
def rSC (q k b : FVec Ideal S1x4x4096x256 .f32) : FVec Ideal S1x4x4096x4096 .f32 :=
  (Host.reduceAdd (mulf (rQK q k) (rDec b)) (constant (F := Ideal) S_ .f32 0x00000000#32) reducesTo_S1x4x4096x4096x256_S1x4x4096x4096_d4 h_S_)

/-- The share of the gradient that the smaller of a decay and zero passes to the decay. -/
def rSel (b : FVec Ideal S1x4x4096x256 .f32) : FVec Ideal S1x4x4096x4096x256 .f32 :=
  select (cmpf .ogt (broadcastInDim S1x4x4096x4096x256 ![] bcast_S_S1x4x4096x4096x256 (constant (F := Ideal) S_ .f32 0x00000000#32)) (rRel b)) (broadcastInDim S1x4x4096x4096x256 ![] bcast_S_S1x4x4096x4096x256 (constant (F := Ideal) S_ .f32 0x3F800000#32)) (select (cmpf .oeq (broadcastInDim S1x4x4096x4096x256 ![] bcast_S_S1x4x4096x4096x256 (constant (F := Ideal) S_ .f32 0x00000000#32)) (rRel b)) (broadcastInDim S1x4x4096x4096x256 ![] bcast_S_S1x4x4096x4096x256 (constant (F := Ideal) S_ .f32 0x3F000000#32)) (broadcastInDim S1x4x4096x4096x256 ![] bcast_S_S1x4x4096x4096x256 (constant (F := Ideal) S_ .f32 0x00000000#32)))

/-- The gradient of a pair's decay. -/
def rDR (q k b : FVec Ideal S1x4x4096x256 .f32) (d v : FVec Ideal S1x4x4096x512 .f32) : FVec Ideal S1x4x4096x4096x256 .f32 :=
  mulf (mulf (select rMask (mulf (rQK q k) (rDA d v)) (broadcastInDim S1x4x4096x4096x256 ![] bcast_S_S1x4x4096x4096x256 (constant (F := Ideal) S_ .f32 0x00000000#32))) (rEx b)) (rSel b)

theorem rMask_at (h : Fin 4) (i j : Fin 4096) (b : Fin 256) : rMask (ix5 0 h i j b) = BitVec.ofBool (decide (j.val ≤ i.val)) := by
  pointwise [rMask]
  have e : IntOp.addi (BitVec.ofNat 32 i.val) 0#32 = BitVec.ofNat 32 i.val := by simp [IntOp.addi]
  have hi := i.isLt
  have hj := j.isLt
  rw [e, WordCmp.cmpi_sge_ofNat (w := 32) (show i.val < 2 ^ 31 by omega) (show j.val < 2 ^ 31 by omega)]
  by_cases hij : j.val ≤ i.val <;> simp [Scalar.select, hij]

theorem ri_real {x : FVec Ideal S1x4x4096x256 .f32} {f : ℕ → ℕ → ℕ → ℝ} (hx : R4 x f) : R5 (ri x) (fun h i _ b => f h i b) := by
  intro h i j b
  pointwise [ri]
  exact hx h i b

theorem rj_real {x : FVec Ideal S1x4x4096x256 .f32} {f : ℕ → ℕ → ℕ → ℝ} (hx : R4 x f) : R5 (rj x) (fun h _ j b => f h j b) := by
  intro h i j b
  pointwise [rj]
  exact hx h j b

theorem rRel_real {x : FVec Ideal S1x4x4096x256 .f32} {f : ℕ → ℕ → ℕ → ℝ} (hx : R4 x f) : R5 (rRel x) (fun h i j b => f h i b - f h j b) := by
  intro h i j b
  pointwise [rRel]
  rw [ri_real hx, rj_real hx, ← EReal.coe_sub]

theorem rQK_real {x y : FVec Ideal S1x4x4096x256 .f32} {f e : ℕ → ℕ → ℕ → ℝ} (hx : R4 x f) (hy : R4 y e) : R5 (rQK x y) (fun h i j b => f h i b * e h j b) := by
  intro h i j b
  pointwise [rQK]
  rw [ri_real hx, rj_real hy, ← EReal.coe_mul]

theorem rEx_real {x : FVec Ideal S1x4x4096x256 .f32} {f : ℕ → ℕ → ℕ → ℝ} (hx : R4 x f) : R5 (rEx x) (fun h i j b => Real.exp (min (f h i b - f h j b) 0)) := by
  intro h i j b
  pointwise [rEx]
  rw [rRel_real hx]
  rw [← EReal.coe_zero]
  exact (congrArg Ideal.exp (EReal.coe_strictMono.monotone.map_min).symm).trans (Ideal.exp_coe _)

theorem rDec_real {x : FVec Ideal S1x4x4096x256 .f32} {f : ℕ → ℕ → ℕ → ℝ} (hx : R4 x f) : R5 (rDec x) (fun h i j b => if j ≤ i then Real.exp (min (f h i b - f h j b) 0) else 0) := by
  intro h i j b
  pointwise [rDec]
  rw [rMask_at, rEx_real hx]
  rw [select_ofBool, ← ite_coe]
  refine if_congr Iff.rfl rfl ?_
  show (constant (F := Ideal) S_ .f32 0#32 : S_.Idx → EReal) ix0 = 0
  pointwise

theorem rDA_real {x y : FVec Ideal S1x4x4096x512 .f32} {f e : ℕ → ℕ → ℕ → ℝ} (hx : R4 x f) (hy : R4 y e) : R5 (rDA x y) (fun h i j _ => cdA (e h) (f h) i j) := by
  intro h i j b
  pointwise [rDA]
  exact sum_coe_all fun κ => by rw [hx h i κ, hy h j κ, ← EReal.coe_mul]

theorem rSC_real {x y z : FVec Ideal S1x4x4096x256 .f32} {f e g : ℕ → ℕ → ℕ → ℝ} (hx : R4 x f) (hy : R4 y e) (hz : R4 z g) (h : Fin 4) (i j : Fin 4096) :
    rSC x y z (ix4 0 h i j) = ((∑ κ ∈ range 256, f h i κ * e h j κ * (if (j : ℕ) ≤ i then Real.exp (min (g h i κ - g h j κ) 0) else 0) : ℝ) : EReal) := by
  pointwise [rSC]
  exact sum_coe_all (f := fun κ => f h i κ * e h j κ * (if (j : ℕ) ≤ i then Real.exp (min (g h i κ - g h j κ) 0) else 0)) fun κ => by
    rw [rQK_real hx hy h i j κ, rDec_real hz h i j κ, ← EReal.coe_mul]

theorem rSel_real {x : FVec Ideal S1x4x4096x256 .f32} {f : ℕ → ℕ → ℕ → ℝ} (hx : R4 x f) : R5 (rSel x) (fun h i j b => if f h i b - f h j b < 0 then 1 else if f h i b - f h j b = 0 then 1 / 2 else 0) := by
  intro h i j b
  pointwise [rSel]
  rw [rRel_real hx]
  have eh : Ideal.ofBits .f32 0x3F000000#32 = ((1 / 2 : ℝ) : EReal) := by
    simp [Ideal.ofBits, Ideal.ieee, -EReal.coe_mul]; norm_num
  rw [eh]
  dsimp only
  by_cases h1 : f h i b - f h j b < 0
  · rw [if_pos h1, if_pos (EReal.coe_neg'.mpr h1), EReal.coe_one]
  · rw [if_neg h1, if_neg (fun hc => h1 (EReal.coe_neg'.mp hc))]
    by_cases h2 : f h i b - f h j b = 0
    · rw [if_pos h2, if_pos (by rw [h2, EReal.coe_zero])]
    · rw [if_neg h2, if_neg (fun hc => h2 (EReal.coe_eq_zero.mp hc.symm)), EReal.coe_zero]

theorem rDR_real {x y z : FVec Ideal S1x4x4096x256 .f32} {u w : FVec Ideal S1x4x4096x512 .f32} {f e g d v : ℕ → ℕ → ℕ → ℝ}
    (hx : R4 x f) (hy : R4 y e) (hz : R4 z g) (hu : R4 u d) (hw : R4 w v) :
    R5 (rDR x y z u w) (fun h i j b => (if j ≤ i then f h i b * e h j b * cdA (v h) (d h) i j else 0) * Real.exp (min (g h i b - g h j b) 0) *
      (if g h i b - g h j b < 0 then 1 else if g h i b - g h j b = 0 then 1 / 2 else 0)) := by
  intro h i j b
  pointwise [rDR]
  rw [rMask_at, rEx_real hz, rSel_real hz, rQK_real hx hy, rDA_real hu hw]
  rw [select_ofBool, ← EReal.coe_mul, ← EReal.coe_mul, ← EReal.coe_mul, ite_coe]
  refine congrArg _ ?_
  by_cases hij : j.val ≤ i.val
  · rw [if_pos hij, if_pos hij]
  · rw [if_neg hij, if_neg hij, zero_mul, zero_mul]

/-! ## Where the accumulated log decay falls -/

/-- A decay accumulates to ever smaller numbers. -/
def Falls (g : ℕ → ℕ → ℕ → ℝ) : Prop := ∀ (h : Fin 4) (i j : Fin 4096) (b : Fin 256), j.val < i.val → g h i b < g h j b

/-- The contribution of a pair of rows to the gradient of the decay between them. -/
def pE (q k g d v : ℕ → ℕ → ℕ → ℝ) (h i j b : ℕ) : ℝ := q h i b * k h j b * cdA (v h) (d h) i j * Real.exp (g h i b - g h j b)

theorem dec_le {g : ℕ → ℕ → ℕ → ℝ} (hg : Falls g) (h : Fin 4) (i j : Fin 4096) (b : Fin 256) (hij : j.val ≤ i.val) : min (g h i b - g h j b) 0 = g h i b - g h j b := by
  rcases Nat.lt_or_eq_of_le hij with hl | he
  · exact min_eq_left (sub_nonpos.mpr (hg h i j b hl).le)
  · rw [he, sub_self, min_self]

theorem rDec_fall {x : FVec Ideal S1x4x4096x256 .f32} {g : ℕ → ℕ → ℕ → ℝ} (hx : R4 x g) (hg : Falls g) : R5 (rDec x) (fun h i j b => if j ≤ i then Real.exp (g h i b - g h j b) else 0) := by
  intro h i j b
  rw [rDec_real hx h i j b]
  refine congrArg _ ?_
  by_cases hij : j.val ≤ i.val
  · simp only [if_pos hij, dec_le hg h i j b hij]
  · simp only [if_neg hij]

theorem rSC_fall {x y z : FVec Ideal S1x4x4096x256 .f32} {f e g : ℕ → ℕ → ℕ → ℝ} (hx : R4 x f) (hy : R4 y e) (hz : R4 z g) (hg : Falls g) (h : Fin 4) (i j : Fin 4096) :
    rSC x y z (ix4 0 h i j) = ((if (j : ℕ) ≤ i then ∑ κ ∈ range 256, f h i κ * e h j κ * Real.exp (g h i κ - g h j κ) else 0 : ℝ) : EReal) := by
  rw [rSC_real hx hy hz h i j]
  refine congrArg _ ?_
  by_cases hij : j.val ≤ i.val
  · rw [if_pos hij]
    refine Finset.sum_congr rfl fun κ hκ => ?_
    rw [if_pos hij, dec_le hg h i j ⟨κ, Finset.mem_range.mp hκ⟩ hij]
  · rw [if_neg hij]
    exact Finset.sum_eq_zero fun κ _ => by rw [if_neg hij, mul_zero]

theorem rDR_fall {x y z : FVec Ideal S1x4x4096x256 .f32} {u w : FVec Ideal S1x4x4096x512 .f32} {f e g d v : ℕ → ℕ → ℕ → ℝ}
    (hx : R4 x f) (hy : R4 y e) (hz : R4 z g) (hu : R4 u d) (hw : R4 w v) (hg : Falls g) :
    R5 (rDR x y z u w) (fun h i j b => (if j ≤ i then pE f e g d v h i j b else 0) - (if i = j then pE f e g d v h i j b / 2 else 0)) := by
  intro h i j b
  rw [rDR_real hx hy hz hu hw h i j b]
  refine congrArg _ ?_
  dsimp only
  by_cases hij : j.val ≤ i.val
  · rw [if_pos hij, if_pos hij, dec_le hg h i j b hij]
    rcases Nat.lt_or_eq_of_le hij with hl | he
    · rw [if_pos (sub_neg.mpr (hg h i j b hl)), if_neg (by omega)]
      unfold pE
      ring
    · rw [he, sub_self, if_neg (lt_irrefl _), if_pos rfl, if_pos rfl]
      unfold pE
      rw [sub_self]
      ring
  · rw [if_neg hij, if_neg hij, if_neg (show ¬i.val = j.val by omega), zero_mul, zero_mul, sub_zero]

/-! ## The gradients, head by head -/

/-- The output. -/
def pO (q k b : FVec Ideal S1x4x4096x256 .f32) (v : FVec Ideal S1x4x4096x512 .f32) : FVec Ideal S1x4x4096x512 .f32 :=
  (Host.dotGeneral dot_S1x4x4096x4096_S1x4x4096x512_S1x4x4096x512_3_2_2_3_01_01 none (rSC q k b) v)

/-- The gradient of q. -/
def pDq (k b : FVec Ideal S1x4x4096x256 .f32) (d v : FVec Ideal S1x4x4096x512 .f32) : FVec Ideal S1x4x4096x256 .f32 :=
  (mulf (broadcastInDim S1x4x4096x256 ![1, 2, 3] bcast_S4x4096x256_S1x4x4096x256_1_2_3 (Host.reduceAdd (shapeCast S1x4x4096x1x256 (Host.reduceAdd (mulf (mulf (rDA d v) (rDec b)) (rj k)) (constant (F := Ideal) S_ .f32 0x00000000#32) reducesTo_S1x4x4096x4096x256_S1x4x4096x256_d3 h_S_) shapeCasts_S1x4x4096x256_S1x4x4096x1x256) (constant (F := Ideal) S_ .f32 0x00000000#32) reducesTo_S1x4x4096x1x256_S4x4096x256_d0_3 h_S_)) (broadcastInDim S1x4x4096x256 ![] bcast_S_S1x4x4096x256 (constant (F := Ideal) S_ .f32 0x3D800000#32)))

/-- The gradient of k. -/
def pDk (q b : FVec Ideal S1x4x4096x256 .f32) (d v : FVec Ideal S1x4x4096x512 .f32) : FVec Ideal S1x4x4096x256 .f32 :=
  (broadcastInDim S1x4x4096x256 ![1, 2, 3] bcast_S4x4096x256_S1x4x4096x256_1_2_3 (Host.reduceAdd (shapeCast S1x4x1x4096x256 (Host.reduceAdd (mulf (ri q) (mulf (rDA d v) (rDec b))) (constant (F := Ideal) S_ .f32 0x00000000#32) reducesTo_S1x4x4096x4096x256_S1x4x4096x256_d2 h_S_) shapeCasts_S1x4x4096x256_S1x4x1x4096x256) (constant (F := Ideal) S_ .f32 0x00000000#32) reducesTo_S1x4x1x4096x256_S4x4096x256_d0_2 h_S_))

/-- The gradient of v. -/
def pDv (q k b : FVec Ideal S1x4x4096x256 .f32) (d : FVec Ideal S1x4x4096x512 .f32) : FVec Ideal S1x4x4096x512 .f32 :=
  (transpose S1x4x4096x512 [0, 1, 3, 2] (Host.dotGeneral dot_S1x4x4096x512_S1x4x4096x4096_S1x4x512x4096_2_2_3_3_01_01 none d (rSC q k b)) transposes_S1x4x512x4096_S1x4x4096x512_0_1_3_2)

/-- The gradient of the accumulated log decay. -/
def pDb (q k b : FVec Ideal S1x4x4096x256 .f32) (d v : FVec Ideal S1x4x4096x512 .f32) : FVec Ideal S1x4x4096x256 .f32 :=
  (addf (broadcastInDim S1x4x4096x256 ![1, 2, 3] bcast_S4x4096x256_S1x4x4096x256_1_2_3 (Host.reduceAdd (shapeCast S1x4x1x4096x256 (Host.reduceAdd (Host.negf (rDR q k b d v)) (constant (F := Ideal) S_ .f32 0x00000000#32) reducesTo_S1x4x4096x4096x256_S1x4x4096x256_d2 h_S_) shapeCasts_S1x4x4096x256_S1x4x1x4096x256) (constant (F := Ideal) S_ .f32 0x00000000#32) reducesTo_S1x4x1x4096x256_S4x4096x256_d0_2 h_S_)) (broadcastInDim S1x4x4096x256 ![1, 2, 3] bcast_S4x4096x256_S1x4x4096x256_1_2_3 (Host.reduceAdd (shapeCast S1x4x4096x1x256 (Host.reduceAdd (rDR q k b d v) (constant (F := Ideal) S_ .f32 0x00000000#32) reducesTo_S1x4x4096x4096x256_S1x4x4096x256_d3 h_S_) shapeCasts_S1x4x4096x256_S1x4x4096x1x256) (constant (F := Ideal) S_ .f32 0x00000000#32) reducesTo_S1x4x4096x1x256_S4x4096x256_d0_3 h_S_)))

theorem pO_real {q k b : FVec Ideal S1x4x4096x256 .f32} {d v : FVec Ideal S1x4x4096x512 .f32} {f e g r w : ℕ → ℕ → ℕ → ℝ} (hq : R4 q f) (hk : R4 k e) (hb : R4 b (fun h => bb (g h))) (hd : R4 d r) (hv : R4 v w) (hg : Falls (fun h => bb (g h))) : R4 (pO q k b v) (fun h => gO (f h) (e h) (w h) (g h)) := by
  intro h i x
  pointwise [pO]
  exact sum_coe_le i.isLt fun j => by rw [rSC_fall hq hk hb hg h i j, hv h j x, ← EReal.coe_mul, ite_mul, zero_mul]; rfl

theorem pDq_real {q k b : FVec Ideal S1x4x4096x256 .f32} {d v : FVec Ideal S1x4x4096x512 .f32} {f e g r w : ℕ → ℕ → ℕ → ℝ} (hq : R4 q f) (hk : R4 k e) (hb : R4 b (fun h => bb (g h))) (hd : R4 d r) (hv : R4 v w) (hg : Falls (fun h => bb (g h))) : R4 (pDq k b d v) (fun h i κ => gDq (e h) (w h) (g h) (r h) i κ * (1 / 16)) := by
  intro h i x
  pointwise [pDq]
  rw [red03]
  pointwise
  rw [ofBits_sixteenth, EReal.coe_mul]
  refine congrArg (· * _) ?_
  exact sum_coe_le i.isLt fun j => by
    rw [rDA_real hd hv h i j x, rDec_fall hb hg h i j x, rj_real hk h i j x, ← EReal.coe_mul, ← EReal.coe_mul]
    refine congrArg _ ?_
    dsimp only
    by_cases hij : j.val ≤ i.val
    · rw [if_pos hij, if_pos hij]; ring
    · rw [if_neg hij, if_neg hij]; ring

theorem pDk_real {q k b : FVec Ideal S1x4x4096x256 .f32} {d v : FVec Ideal S1x4x4096x512 .f32} {f e g r w : ℕ → ℕ → ℕ → ℝ} (hq : R4 q f) (hk : R4 k e) (hb : R4 b (fun h => bb (g h))) (hd : R4 d r) (hv : R4 v w) (hg : Falls (fun h => bb (g h))) : R4 (pDk q b d v) (fun h => gDk (f h) (w h) (g h) (r h)) := by
  intro h i x
  pointwise [pDk]
  rw [red02]
  pointwise
  exact sum_coe_ge fun j => by
    rw [rDA_real hd hv h j i x, rDec_fall hb hg h j i x, ri_real hq h j i x, ← EReal.coe_mul, ← EReal.coe_mul]
    refine congrArg _ ?_
    dsimp only
    by_cases hij : i.val ≤ j.val
    · rw [if_pos hij, if_pos hij]; ring
    · rw [if_neg hij, if_neg hij]; ring

theorem pDv_real {q k b : FVec Ideal S1x4x4096x256 .f32} {d v : FVec Ideal S1x4x4096x512 .f32} {f e g r w : ℕ → ℕ → ℕ → ℝ} (hq : R4 q f) (hk : R4 k e) (hb : R4 b (fun h => bb (g h))) (hd : R4 d r) (hv : R4 v w) (hg : Falls (fun h => bb (g h))) : R4 (pDv q k b d) (fun h => gDv (f h) (e h) (g h) (r h)) := by
  intro h i x
  pointwise [pDv]
  exact sum_coe_ge fun j => by rw [rSC_fall hq hk hb hg h j i, hd h j x, ← EReal.coe_mul, mul_comm, ite_mul, zero_mul]; rfl

theorem pDb_real {q k b : FVec Ideal S1x4x4096x256 .f32} {d v : FVec Ideal S1x4x4096x512 .f32} {f e g r w : ℕ → ℕ → ℕ → ℝ} (hq : R4 q f) (hk : R4 k e) (hb : R4 b (fun h => bb (g h))) (hd : R4 d r) (hv : R4 v w) (hg : Falls (fun h => bb (g h))) : R4 (pDb q k b d v) (fun h => gDb (f h) (e h) (w h) (g h) (r h)) := by
  intro h i x
  pointwise [pDb]
  rw [red03, red02]
  pointwise
  rw [sum_half_ge i.isLt (f := fun j => pE f e (fun h => bb (g h)) r w h j i x) fun j => rDR_fall hq hk hb hd hv hg h j i x,
    sum_half_le i.isLt (f := fun j => pE f e (fun h => bb (g h)) r w h i j x) fun j => rDR_fall hq hk hb hd hv hg h i j x, ← EReal.coe_add]
  refine congrArg _ ?_
  unfold gDb gDq gDk
  rw [Finset.mul_sum, Finset.mul_sum]
  have e1 : ∀ t, f h i x * (cdA (w h) (r h) i t * (e h t x * Real.exp (bb (g h) i x - bb (g h) t x))) = pE f e (fun h => bb (g h)) r w h i t x := fun t => by unfold pE; ring
  have e2 : ∀ t, e h i x * (cdA (w h) (r h) t i * (f h t x * Real.exp (bb (g h) t x - bb (g h) i x))) = pE f e (fun h => bb (g h)) r w h t i x := fun t => by unfold pE; ring
  rw [Finset.sum_congr rfl fun t _ => e1 t, Finset.sum_congr rfl fun t _ => e2 t]
  ring

/-- The output's array. -/
def out92 (x0 : FVec Ideal S4096x6272 .f32) (x1 : FVec Ideal S4096x1024 .f32) : FVec Ideal S4096x2048 .f32 :=
  shapeCast S4096x2048 (transpose S1x4096x4x512 [0, 2, 1, 3] (pO (rQ x0) (rK x0) (cum (rG x1)) (rV x0)) transposes_S1x4x4096x512_S1x4096x4x512_0_2_1_3) shapeCasts_S1x4096x4x512_S4096x2048

/-- The array of q's gradient. -/
def out94 (x0 : FVec Ideal S4096x6272 .f32) (x1 : FVec Ideal S4096x1024 .f32) (x2 : FVec Ideal S4096x2048 .f32) : FVec Ideal S4096x1024 .bf16 :=
  truncf .bf16 (shapeCast S4096x1024 (shapeCast S1x4096x1024 (transpose S1x4096x4x256 [0, 2, 1, 3] (pDq (rK x0) (cum (rG x1)) (rD x2) (rV x0)) transposes_S1x4x4096x256_S1x4096x4x256_0_2_1_3) shapeCasts_S1x4096x4x256_S1x4096x1024) shapeCasts_S1x4096x1024_S4096x1024) bitsLt_bf16_f32

/-- The array of k's gradient. -/
def out96 (x0 : FVec Ideal S4096x6272 .f32) (x1 : FVec Ideal S4096x1024 .f32) (x2 : FVec Ideal S4096x2048 .f32) : FVec Ideal S4096x1024 .bf16 :=
  truncf .bf16 (shapeCast S4096x1024 (shapeCast S1x4096x1024 (transpose S1x4096x4x256 [0, 2, 1, 3] (pDk (rQ x0) (cum (rG x1)) (rD x2) (rV x0)) transposes_S1x4x4096x256_S1x4096x4x256_0_2_1_3) shapeCasts_S1x4096x4x256_S1x4096x1024) shapeCasts_S1x4096x1024_S4096x1024) bitsLt_bf16_f32

/-- The array of v's gradient. -/
def out98 (x0 : FVec Ideal S4096x6272 .f32) (x1 : FVec Ideal S4096x1024 .f32) (x2 : FVec Ideal S4096x2048 .f32) : FVec Ideal S4096x2048 .bf16 :=
  truncf .bf16 (shapeCast S4096x2048 (shapeCast S1x4096x2048 (transpose S1x4096x4x512 [0, 2, 1, 3] (pDv (rQ x0) (rK x0) (cum (rG x1)) (rD x2)) transposes_S1x4x4096x512_S1x4096x4x512_0_2_1_3) shapeCasts_S1x4096x4x512_S1x4096x2048) shapeCasts_S1x4096x2048_S4096x2048) bitsLt_bf16_f32

/-- The array of the log decay's gradient. -/
def out99 (x0 : FVec Ideal S4096x6272 .f32) (x1 : FVec Ideal S4096x1024 .f32) (x2 : FVec Ideal S4096x2048 .f32) : FVec Ideal S4096x1024 .f32 :=
  shapeCast S4096x1024 (shapeCast S1x4096x1024 (transpose S1x4096x4x256 [0, 2, 1, 3] (rev (pDb (rQ x0) (rK x0) (cum (rG x1)) (rD x2) (rV x0))) transposes_S1x4x4096x256_S1x4096x4x256_0_2_1_3) shapeCasts_S1x4096x4x256_S1x4096x1024) shapeCasts_S1x4096x1024_S4096x1024

theorem out92_real {x0 : FVec Ideal S4096x6272 .f32} {x1 : FVec Ideal S4096x1024 .f32} {A G : ℕ → ℕ → ℝ} (hA : ArgA x0 A) (hG : ArgG x1 G) (hg : Falls (fun h => bb (Gla.hg G h))) (i : Fin 4096) (c : Fin 2048) : out92 x0 x1 (ix2 i c) = ((gO (hq A (c / 512)) (hk A (c / 512)) (hv A (c / 512)) (Gla.hg G (c / 512)) i (c % 512) : ℝ) : EReal) := by
  pointwise [out92]
  exact pO_real (rQ_real hA) (rK_real hA) (cum_real (rG_real hG)) (d := rV x0) (rV_real hA) (rV_real hA) hg _ _ _

theorem out94_real {x0 : FVec Ideal S4096x6272 .f32} {x1 : FVec Ideal S4096x1024 .f32} {x2 : FVec Ideal S4096x2048 .f32} {A G D : ℕ → ℕ → ℝ} (hA : ArgA x0 A) (hG : ArgG x1 G) (hD : ArgD x2 D) (hg : Falls (fun h => bb (Gla.hg G h))) (i : Fin 4096) (c : Fin 1024) : out94 x0 x1 x2 (ix2 i c) = ((gDq (hk A (c / 256)) (hv A (c / 256)) (Gla.hg G (c / 256)) (Gla.hd D (c / 256)) i (c % 256) * (1 / 16) : ℝ) : EReal) := by
  pointwise [out94]
  exact pDq_real (rQ_real hA) (rK_real hA) (cum_real (rG_real hG)) (rD_real hD) (rV_real hA) hg _ _ _

theorem out96_real {x0 : FVec Ideal S4096x6272 .f32} {x1 : FVec Ideal S4096x1024 .f32} {x2 : FVec Ideal S4096x2048 .f32} {A G D : ℕ → ℕ → ℝ} (hA : ArgA x0 A) (hG : ArgG x1 G) (hD : ArgD x2 D) (hg : Falls (fun h => bb (Gla.hg G h))) (i : Fin 4096) (c : Fin 1024) : out96 x0 x1 x2 (ix2 i c) = ((gDk (hq A (c / 256)) (hv A (c / 256)) (Gla.hg G (c / 256)) (Gla.hd D (c / 256)) i (c % 256) : ℝ) : EReal) := by
  pointwise [out96]
  exact pDk_real (rQ_real hA) (rK_real hA) (cum_real (rG_real hG)) (rD_real hD) (rV_real hA) hg _ _ _

theorem out98_real {x0 : FVec Ideal S4096x6272 .f32} {x1 : FVec Ideal S4096x1024 .f32} {x2 : FVec Ideal S4096x2048 .f32} {A G D : ℕ → ℕ → ℝ} (hA : ArgA x0 A) (hG : ArgG x1 G) (hD : ArgD x2 D) (hg : Falls (fun h => bb (Gla.hg G h))) (i : Fin 4096) (c : Fin 2048) : out98 x0 x1 x2 (ix2 i c) = ((gDv (hq A (c / 512)) (hk A (c / 512)) (Gla.hg G (c / 512)) (Gla.hd D (c / 512)) i (c % 512) : ℝ) : EReal) := by
  pointwise [out98]
  exact pDv_real (rQ_real hA) (rK_real hA) (cum_real (rG_real hG)) (rD_real hD) (rV_real hA) hg _ _ _

theorem out99_real {x0 : FVec Ideal S4096x6272 .f32} {x1 : FVec Ideal S4096x1024 .f32} {x2 : FVec Ideal S4096x2048 .f32} {A G D : ℕ → ℕ → ℝ} (hA : ArgA x0 A) (hG : ArgG x1 G) (hD : ArgD x2 D) (hg : Falls (fun h => bb (Gla.hg G h))) (i : Fin 4096) (c : Fin 1024) : out99 x0 x1 x2 (ix2 i c) = ((gDg (hq A (c / 256)) (hk A (c / 256)) (hv A (c / 256)) (Gla.hg G (c / 256)) (Gla.hd D (c / 256)) i (c % 256) : ℝ) : EReal) := by
  pointwise [out99]
  exact rev_real (pDb_real (rQ_real hA) (rK_real hA) (cum_real (rG_real hG)) (rD_real hD) (rV_real hA) hg) _ _ _

/-- Negative log decays accumulate to ever smaller numbers. -/
theorem falls_of_neg {G : ℕ → ℕ → ℝ} (hG : ∀ i x, i < 4096 → x < 1024 → G i x < 0) : Falls (fun h => bb (hg G h)) := by
  intro h i j b hij
  have hh := h.isLt
  have hb := b.isLt
  have hi := i.isLt
  show bb (hg G h) i b < bb (hg G h) j b
  unfold bb
  rw [← Finset.sum_range_add_sum_Ico _ (show j.val + 1 ≤ i.val + 1 by omega)]
  have : ∑ t ∈ Ico (j.val + 1) (i.val + 1), hg G h t b < 0 :=
    Finset.sum_neg (fun t ht => by
      have := Finset.mem_Ico.mp ht
      unfold hg
      exact hG _ _ (by omega) (by omega)) ⟨i.val, Finset.mem_Ico.mpr ⟨by omega, by omega⟩⟩
  linarith

end Cert.Ref

end
-- ==== Proof.Equal.lean ====
/- Where the arguments hold reals and the log decays are negative, the arrays that the kernel leaves
   are the reference's. -/
module

public import proofs.«01_k».proof.Proof.Ref
public import proofs.«01_k».proof.Proof.RunMain

@[expose] public section

set_option maxRecDepth 16384

noncomputable section

namespace Cert.Equal

open Idealize.ShloMosaic Idealize.ShloMosaic.TcCoe Cert.Gla Cert.Ref Cert.KernelIdeal.Run
open Cert.KernelIdeal Cert.KernelIdeal.Gen

variable {m : (ℓ : Loc nD τ sig) → Buf (Elt Ideal) ℓ} {c : Dev nD} {A G D : ℕ → ℕ → ℝ}

/-- The arguments of a device, as reals. -/
structure Args (m : (ℓ : Loc nD τ sig) → Buf (Elt Ideal) ℓ) (c : Dev nD) (A G D : ℕ → ℕ → ℝ) : Prop where
  a : ArgA (m ((c.tc : Thread nD τ).loc main_arg0)) A
  g : ArgG (m ((c.tc : Thread nD τ).loc main_arg1)) G
  d : ArgD (m ((c.tc : Thread nD τ).loc main_arg2)) D
  neg : ∀ i x, i < 4096 → x < 1024 → G i x < 0

theorem u_a (h : Args m c A G D) : ArgA (U1 m c main_arg0) A := by
  rw [U1_of m c main_arg0 (by decide)]
  exact h.a

theorem u_g (h : Args m c A G D) : ArgG (U1 m c main_arg1) G := by
  rw [U1_of m c main_arg1 (by decide)]
  exact h.g

theorem u_d (h : Args m c A G D) : ArgD (U1 m c main_arg2) D := by
  rw [U1_of m c main_arg2 (by decide)]
  exact h.d

/-- The states that the forward call saves are what the backward call reads. -/
theorem u_s (h : Args m c A G D) : ArgS (U1 m c main_v0_1) A G := by
  rw [U1_v0_1]
  exact fun i => congrFun (out0_5 (V := V0 m) (c := c) h.a h.g) i

theorem eq_o (h : Args m c A G D) :
    out92 (m ((c.tc : Thread nD τ).loc main_arg0)) (m ((c.tc : Thread nD τ).loc main_arg1)) = (dats0 (V0 m) c).arrAt 4 cfg0.N := by
  refine Eq.trans ?_ (out0_4 (V := V0 m) (c := c) h.a h.g).symm
  funext i
  idx_vars i
  exact out92_real h.a h.g (falls_of_neg h.neg) i0 i1

theorem eq_dq (h : Args m c A G D) :
    out94 (m ((c.tc : Thread nD τ).loc main_arg0)) (m ((c.tc : Thread nD τ).loc main_arg1)) (m ((c.tc : Thread nD τ).loc main_arg2)) = (dats1 (U1 m) c).arrAt 6 cfg1.N := by
  refine Eq.trans ?_ (out1_6 (V := U1 m) (c := c) (u_a h) (u_g h) (u_d h) (u_s h)).symm
  funext i
  idx_vars i
  exact out94_real h.a h.g h.d (falls_of_neg h.neg) i0 i1

theorem eq_dk (h : Args m c A G D) :
    out96 (m ((c.tc : Thread nD τ).loc main_arg0)) (m ((c.tc : Thread nD τ).loc main_arg1)) (m ((c.tc : Thread nD τ).loc main_arg2)) = (dats1 (U1 m) c).arrAt 7 cfg1.N := by
  refine Eq.trans ?_ (out1_7 (V := U1 m) (c := c) (u_a h) (u_g h) (u_d h) (u_s h)).symm
  funext i
  idx_vars i
  exact out96_real h.a h.g h.d (falls_of_neg h.neg) i0 i1

theorem eq_dv (h : Args m c A G D) :
    out98 (m ((c.tc : Thread nD τ).loc main_arg0)) (m ((c.tc : Thread nD τ).loc main_arg1)) (m ((c.tc : Thread nD τ).loc main_arg2)) = (dats1 (U1 m) c).arrAt 8 cfg1.N := by
  refine Eq.trans ?_ (out1_8 (V := U1 m) (c := c) (u_a h) (u_g h) (u_d h) (u_s h)).symm
  funext i
  idx_vars i
  exact out98_real h.a h.g h.d (falls_of_neg h.neg) i0 i1

theorem eq_dg (h : Args m c A G D) :
    out99 (m ((c.tc : Thread nD τ).loc main_arg0)) (m ((c.tc : Thread nD τ).loc main_arg1)) (m ((c.tc : Thread nD τ).loc main_arg2)) = (dats1 (U1 m) c).arrAt 9 cfg1.N := by
  refine Eq.trans ?_ (out1_9 (V := U1 m) (c := c) (u_a h) (u_g h) (u_d h) (u_s h)).symm
  funext i
  idx_vars i
  exact out99_real h.a h.g h.d (falls_of_neg h.neg) i0 i1

end Cert.Equal

end

end
-- ==== Proof.RefRun.lean ====
/- The reference's run, its results named by the arrays of Ref.lean. -/
module

public import proofs.«01_k».proof.Proof.Ref

@[expose] public section

set_option maxRecDepth 16384

noncomputable section

namespace Cert.Ref

open Idealize.ShloMosaic Idealize.ShloMosaic.TcCoe
open Cert.ReferenceIdeal Cert.ReferenceIdeal.Gen Cert.ReferenceIdeal.Value

variable (m : (ℓ : Loc nD τ sig) → Buf (Elt Ideal) ℓ) (c : Dev nD)

theorem log_decay_eq : res_main_v99 m c = out99 (m ((c.tc : Thread nD τ).loc main_arg0)) (m ((c.tc : Thread nD τ).loc main_arg1)) (m ((c.tc : Thread nD τ).loc main_arg2)) := by
  unfold res_main_v99
  rfl

theorem run_ref (ρ : Dev nD → PrngReg) :
    θ_run defs (onTc (τ := τ) (main (F := Ideal))) ⟨m, fun _ => 0, ρ⟩ fun r => ∀ c : Dev nD,
      r.2.mem ((c.tc : Thread nD τ).loc main_v92) = out92 (m ((c.tc : Thread nD τ).loc main_arg0)) (m ((c.tc : Thread nD τ).loc main_arg1))
      ∧ r.2.mem ((c.tc : Thread nD τ).loc main_v94) = out94 (m ((c.tc : Thread nD τ).loc main_arg0)) (m ((c.tc : Thread nD τ).loc main_arg1)) (m ((c.tc : Thread nD τ).loc main_arg2))
      ∧ r.2.mem ((c.tc : Thread nD τ).loc main_v96) = out96 (m ((c.tc : Thread nD τ).loc main_arg0)) (m ((c.tc : Thread nD τ).loc main_arg1)) (m ((c.tc : Thread nD τ).loc main_arg2))
      ∧ r.2.mem ((c.tc : Thread nD τ).loc main_v98) = out98 (m ((c.tc : Thread nD τ).loc main_arg0)) (m ((c.tc : Thread nD τ).loc main_arg1)) (m ((c.tc : Thread nD τ).loc main_arg2))
      ∧ r.2.mem ((c.tc : Thread nD τ).loc main_v99) = out99 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1, (h c).2.1, (h c).2.2.1, (h c).2.2.2.1, (h c).2.2.2.2.1.trans (log_decay_eq m c), (h c).2.2.2.2.2⟩) (run (F := Ideal) m ρ)

end Cert.Ref

end

end
-- ==== Proof.Pre.lean ====
/- What the precondition gives: the arguments hold reals, and the log decays are negative. -/
module

public import proofs.«01_k».proof.Pre_finite_and_decaying
public import proofs.«01_k».proof.Proof.BwdValue
public import Idealize.ShloMosaic.Lib.ReduceAll
public import Idealize.ShloMosaic.Lib.Pointwise

@[expose] public section

set_option maxRecDepth 16384

noncomputable section

namespace Cert.Bounds

open Idealize.ShloMosaic Cert.Gla
open Cert.Pre_finite_and_decaying Cert.Pre_finite_and_decaying.Facts
open Cert.KernelIdeal.Run (ArgA ArgG ArgD)

theorem andi_one : ∀ {x y : BitVec 1}, IntOp.andi x y = 1#1 → x = 1#1 ∧ y = 1#1 := by decide

theorem ofBits_inf : Ideal.ofBits .f32 0x7F800000#32 = ⊤ := by
  simp [Ideal.ofBits, Ideal.ieee]

theorem ofBool_one {p : Prop} [Decidable p] (h : BitVec.ofBool (decide p) = 1#1) : p := by
  by_contra hp
  simp [hp] at h

/-- A number whose absolute value is below infinity is a real. -/
theorem real_of_abs_lt {x : EReal} (h : max x (-x) < ⊤) : x = ((x.toReal : ℝ) : EReal) := by
  refine (EReal.coe_toReal ?_ ?_).symm
  · rintro rfl
    simp at h
  · rintro rfl
    simp at h

instance : Subsingleton S_.Idx := ⟨fun a b => funext fun i => i.elim0⟩

/-- The reals an array holds in its first `k` columns. -/
def re {n m : ℕ} (k : ℕ) (hk : k ≤ m) (x : (⟨2, ![n, m]⟩ : Shape).Idx → EReal) (i j : ℕ) : ℝ :=
  if h : i < n ∧ j < k then (x (ix2 ⟨i, h.1⟩ ⟨j, h.2.trans_le hk⟩)).toReal else 0

theorem re_at {n m k : ℕ} (hk : k ≤ m) (x : (⟨2, ![n, m]⟩ : Shape).Idx → EReal) {i j : ℕ} (hi : i < n) (hj : j < k) :
    re k hk x i j = (x (ix2 ⟨i, hi⟩ ⟨j, hj.trans_le hk⟩)).toReal := dif_pos ⟨hi, hj⟩

variable [Facts]

theorem pre_reals (x0 : FVec Ideal S4096x6272 .f32) (x1 : FVec Ideal S4096x1024 .f32) (x2 : FVec Ideal S4096x2048 .f32)
    (e : fn (F := Ideal) x0 x1 x2 = fun _ => 1#1) :
    ∃ A G D : ℕ → ℕ → ℝ, ArgA x0 A ∧ ArgG x1 G ∧ ArgD x2 D ∧ ∀ i x, i < 4096 → x < 1024 → G i x < 0 := by
  have e := congrFun e ix0
  unfold fn fn_part1 at e
  dsimp only at e
  obtain ⟨e, e2⟩ := andi_one e
  obtain ⟨e, e1'⟩ := andi_one e
  obtain ⟨e0, e1⟩ := andi_one e
  have h0 := Host.reduce_andi_all _ _ _ _ _ e0
  have h1 := Host.reduce_andi_all _ _ _ _ _ e1
  have h1' := Host.reduce_andi_all _ _ _ _ _ e1'
  have h2 := Host.reduce_andi_all _ _ _ _ _ e2
  have r0 : ∀ (a : Fin 4096) (b : Fin 4096), x0 (ix2 a ⟨b.val, by omega⟩) = (((x0 (ix2 a ⟨b.val, by omega⟩)).toReal : ℝ) : EReal) := by
    intro a b
    have h := h0 (ix2 a b)
    pointwise at h
    rw [ofBits_inf] at h
    exact real_of_abs_lt (ofBool_one h)
  have r1 : ∀ (a : Fin 4096) (b : Fin 1024), x1 (ix2 a b) = (((x1 (ix2 a b)).toReal : ℝ) : EReal) := by
    intro a b
    have h := h1 (ix2 a b)
    pointwise at h
    rw [ofBits_inf] at h
    exact real_of_abs_lt (ofBool_one h)
  have n1 : ∀ (a : Fin 4096) (b : Fin 1024), x1 (ix2 a b) < 0 := by
    intro a b
    have h := h1' (ix2 a b)
    pointwise at h
    exact ofBool_one h
  have r2 : ∀ (a : Fin 4096) (b : Fin 2048), x2 (ix2 a b) = (((x2 (ix2 a b)).toReal : ℝ) : EReal) := by
    intro a b
    have h := h2 (ix2 a b)
    pointwise at h
    rw [ofBits_inf] at h
    exact real_of_abs_lt (ofBool_one h)
  refine ⟨re 4096 (by norm_num) x0, re 1024 le_rfl x1, re 2048 le_rfl x2, ?_, ?_, ?_, ?_⟩
  · intro i hi
    idx_vars i
    have hb : i1.val < 4096 := hi
    exact (r0 i0 ⟨i1.val, hb⟩).trans (congrArg (fun z : ℝ => (z : EReal)) (re_at (by norm_num) x0 i0.isLt hb).symm)
  · intro i
    idx_vars i
    exact (r1 i0 i1).trans (congrArg (fun z : ℝ => (z : EReal)) (re_at le_rfl x1 i0.isLt i1.isLt).symm)
  · intro i
    idx_vars i
    exact (r2 i0 i1).trans (congrArg (fun z : ℝ => (z : EReal)) (re_at le_rfl x2 i0.isLt i1.isLt).symm)
  · intro i x hi hx
    rw [re_at le_rfl x1 hi hx]
    have h := n1 ⟨i, hi⟩ ⟨x, hx⟩
    rw [r1 ⟨i, hi⟩ ⟨x, hx⟩] at h
    exact EReal.coe_neg'.mp h

end Cert.Bounds

end

end
-- ==== Proof.FfnFrames.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run

/-! The frames of the feed-forward layer's programs. -/

@[expose] public section

noncomputable section

namespace Cert.Ffn

open Idealize.ShloMosaic Idealize.SL.Sem

theorem no_sem2 : ∀ sm : SemLoc Cert.Reference2Ideal.sig, False := by decide

theorem frame_kernel2 : Cert.quiescent_Kernel2 := fun m ρ _ => Cert.Kernel2.Gen.frame (F := Bits) m ρ

theorem frame_ideal2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun _ h => ⟨fun c => (h c).2.2.2, funext fun g => (no_sem2 g.2).elim⟩) (Cert.Reference2Ideal.Value.run (F := Ideal) m ρ)

theorem no_sem3 : ∀ sm : SemLoc Cert.Reference3Ideal.sig, False := by decide

theorem frame_kernel3 : Cert.quiescent_Kernel3 := fun m ρ _ => Cert.Kernel3.Gen.frame (F := Bits) m ρ

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun _ h => ⟨fun c => (h c).2, funext fun g => (no_sem3 g.2).elim⟩) (Cert.Reference3Ideal.Value.run (F := Ideal) m ρ)

theorem no_sem4 : ∀ sm : SemLoc Cert.Reference4Ideal.sig, False := by decide

theorem frame_kernel4 : Cert.quiescent_Kernel4 := fun m ρ _ => Cert.Kernel4.Gen.frame (F := Bits) m ρ

theorem frame_ideal4 : Cert.quiescent_Kernel4Ideal := fun m ρ _ => Cert.Kernel4Ideal.Gen.frame (F := Ideal) m ρ

theorem frame_reference4 : Cert.quiescent_Reference4Ideal := fun m ρ _ =>
  (θ_run Cert.Reference4Ideal.defs _ _).mono (fun _ h => ⟨fun c => (h c).2, funext fun g => (no_sem4 g.2).elim⟩) (Cert.Reference4Ideal.Value.run (F := Ideal) m ρ)

theorem no_sem5 : ∀ sm : SemLoc Cert.Reference5Ideal.sig, False := by decide

theorem frame_kernel5 : Cert.quiescent_Kernel5 := fun m ρ _ => Cert.Kernel5.Gen.frame (F := Bits) m ρ

theorem frame_ideal5 : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono (fun _ h => ⟨fun c => (h c).2, funext fun g => (no_sem5 g.2).elim⟩) (Cert.Reference5Ideal.Value.run (F := Ideal) m ρ)

end Cert.Ffn
-- ==== Proof.Ffn2Value.lean ====
module

public import proofs.«01_k».proof.Proof.Gen.Kernel2Ideal
public import proofs.«01_k».proof.Proof.Gen.Kernel2Ideal.Frame
public import Idealize.ShloMosaic.Lib.Claim
public import Idealize.ShloMosaic.Lib.Pipeline.ReadBack
public import Idealize.ShloMosaic.Lib.Pipeline.ValueKit
public import Idealize.ShloMosaic.Lib.Pointwise

/-! What the three feed-forward calls leave in their result arrays, as functions of the arrays they read. -/

@[expose] public section

set_option maxRecDepth 16384

noncomputable section

open Idealize.ShloMosaic Idealize.ShloMosaic.TcCoe Idealize.SL.Sem
open Idealize.ShloMosaic.Pipeline (Dat)
open Cert.Kernel2Ideal Cert.Kernel2Ideal.Gen

namespace Cert.Kernel2Ideal.Ffn

variable (V : (c : Dev nD) → (b : Ref sig .tc) → Buf (Elt Ideal) ((c : Thread nD τ).loc b))

/-- The logistic function. -/
def sg (x : EReal) : EReal := Ideal.div 1 (1 + Ideal.exp (0 - x))

/-! ## One grid point of each call -/

theorem gate_at (x : FVec Ideal S512x2048 .bf16) (w : FVec Ideal S1x2048x1408 .bf16) (j : S512x1408.Idx) :
    k0_pay1 (F := Ideal) x w j = ∑ k : Fin 2048, x (ix2 (j 0) k) * w (ix3 0 k (j 1)) := by
  pointwise [k0_pay1]

theorem up_at (x : FVec Ideal S512x2048 .bf16) (w : FVec Ideal S1x2048x1408 .bf16) (j : S512x1408.Idx) :
    k0_pay2 (F := Ideal) x w j = ∑ k : Fin 2048, x (ix2 (j 0) k) * w (ix3 0 k (j 1)) := by
  pointwise [k0_pay2]

theorem act_at (x : FVec Ideal S512x2048 .bf16) (w u : FVec Ideal S1x2048x1408 .bf16) (j : S512x1408.Idx) :
    k0_pay5 (F := Ideal) x w u j = k0_pay1 (F := Ideal) x w j * sg (k0_pay1 (F := Ideal) x w j) * k0_pay2 (F := Ideal) x u j := by
  unfold sg
  pointwise [k0_pay5]

/-- The two halves a point of the first call writes. -/
theorem halves_at (x0 : Vec Ideal S512x2048 .bf16) (x1 x2 : Vec Ideal S1x2048x1408 .bf16) (y : S2x512x1408.Idx) :
    out0_3 (F := Ideal) x0 x1 x2 y = ∑ k : Fin 2048, x0 (ix2 (y 1) k) * (if (y 0).val = 0 then x1 else x2) (ix3 0 k (y 2)) := by
  unfold out0_3
  canon_tiles x h
  · rw [if_neg (by omega)]
    pointwise [k0_pay4, up_at]
    refine Fin.sum_fin_congr fun k => ?_
    blk_point []
  · rw [if_pos (by omega)]
    pointwise [k0_pay3, gate_at]
    refine Fin.sum_fin_congr fun k => ?_
    blk_point []

theorem down_at (x : FVec Ideal S1024x2048 .bf16) (w : FVec Ideal S1x1408x2048 .bf16) (j : S1024x1408.Idx) :
    k1_pay2 (F := Ideal) x w j = ∑ k : Fin 2048, x (ix2 (j 0) k) * w (ix3 0 (j 1) k) := by
  pointwise [k1_pay2]

theorem dw_at (x : FVec Ideal S4096x1024 .bf16) (w : FVec Ideal S1x4096x1408 .bf16) (y : S1x1024x1408.Idx) :
    k2_pay1 (F := Ideal) x w y = ∑ k : Fin 4096, x (ix2 k (y 1)) * w (ix3 0 k (y 2)) := by
  pointwise [k2_pay1]

theorem dgate_at (x0 : FVec Ideal S1024x2048 .bf16) (x1 : FVec Ideal S1x1408x2048 .bf16) (x2 x3 : FVec Ideal S1x1024x1408 .bf16) (y : S1x1024x1408.Idx) :
    k1_pay5 (F := Ideal) x0 x1 x2 x3 y = k1_pay2 (F := Ideal) x0 x1 (ix2 (y 1) (y 2)) * x3 y * sg (x2 y) * (1 + x2 y * (1 - sg (x2 y))) := by
  unfold sg
  pointwise [k1_pay5, k1_pay3, k1_pay4]

theorem dup_at (x0 : FVec Ideal S1024x2048 .bf16) (x1 : FVec Ideal S1x1408x2048 .bf16) (x2 : FVec Ideal S1x1024x1408 .bf16) (y : S1x1024x1408.Idx) :
    k1_pay1 (F := Ideal) (k1_pay6 (F := Ideal) x0 x1 x2) y = k1_pay2 (F := Ideal) x0 x1 (ix2 (y 1) (y 2)) * x2 y * sg (x2 y) := by
  unfold sg
  pointwise [k1_pay1, k1_pay6, k1_pay3, k1_pay4]

/-- The two halves a point of the second call writes. -/
theorem dhalf_at (x0 : Vec Ideal S1024x2048 .bf16) (x1 : Vec Ideal S1x1408x2048 .bf16) (x2 x3 : Vec Ideal S1x1024x1408 .bf16) (y : S2x1024x1408.Idx) :
    out1_4 (F := Ideal) x0 x1 x2 x3 y =
      if (y 0).val = 0 then (∑ k : Fin 2048, x0 (ix2 (y 1) k) * x1 (ix3 0 (y 2) k)) * x3 (ix3 0 (y 1) (y 2)) * sg (x2 (ix3 0 (y 1) (y 2))) * (1 + x2 (ix3 0 (y 1) (y 2)) * (1 - sg (x2 (ix3 0 (y 1) (y 2)))))
      else (∑ k : Fin 2048, x0 (ix2 (y 1) k) * x1 (ix3 0 (y 2) k)) * x2 (ix3 0 (y 1) (y 2)) * sg (x2 (ix3 0 (y 1) (y 2))) := by
  have e : ∀ x : S1x1024x1408.Idx, (y 1).val = (x 1).val → (y 2).val = (x 2).val → x = ix3 0 (y 1) (y 2) := fun x h1 h2 => by
    funext a
    fin_cases a
    · exact Fin.ext (by have := (x 0).isLt; change (x 0).val < 1 at this; change (x 0).val = 0; omega)
    · exact Fin.ext h1.symm
    · exact Fin.ext h2.symm
  have l0 : View.ld x0 r1_0 = x0 := View.ld_unit_lit _ _ (by decide)
  have l1 : View.ld x1 r1_1 = x1 := View.ld_unit_lit _ _ (by decide)
  have l2 : ∀ z : Vec Ideal S1x1024x1408 .bf16, View.ld z r1_2 = z := fun z => View.ld_unit_lit _ _ (by decide)
  unfold out1_4
  canon_tiles x h
  · rw [if_neg (by omega), dup_at, down_at]
    have hx := e x h1 h2
    subst hx
    rw [l0, l1, l2]
    rfl
  · rw [if_pos (by omega), dgate_at, down_at]
    have hx := e x h1 h2
    subst hx
    rw [l0, l1, l2, l2]
    rfl

/-! ## The blocks a point reads and writes -/

theorem idx0 : ∀ t : Fin cfg0.N, win0_0.index t = ![t.val % 8, 0] ∧ win0_1.index t = ![t.val / 8 / 2, 0, t.val / 8 % 2]
    ∧ win0_2.index t = ![(t.val / 8 + 4) / 2, 0, t.val / 8 % 2] ∧ win0_3.index t = ![0, t.val % 8, t.val / 8] ∧ win0_4.index t = ![t.val % 8, t.val / 8] ∧ t.val / 8 < 4 :=
  (by decide +kernel : ∀ t : Fin grid0.N, _)

theorem idx1 : ∀ t : Fin cfg1.N, win1_0.index t = ![t.val / 4, 0] ∧ win1_1.index t = ![t.val % 4, 0, 0]
    ∧ win1_2.index t = ![0, t.val / 4, t.val % 4] ∧ win1_3.index t = ![1, t.val / 4, t.val % 4] ∧ win1_4.index t = ![0, t.val / 4, t.val % 4] ∧ t.val / 4 < 4 :=
  (by decide +kernel : ∀ t : Fin grid1.N, _)

theorem idx2 : ∀ t : Fin cfg2.N, win2_0.index t = ![0, t.val / 8] ∧ win2_1.index t = ![t.val % 8 / 4, 0, t.val % 8 % 4]
    ∧ win2_2.index t = ![t.val % 8 / 2, t.val / 8, t.val % 8 % 2] ∧ t.val / 8 < 2 :=
  (by decide +kernel : ∀ t : Fin grid2.N, _)

/-! ## The arrays -/

/-- The gate and up products side by side: the gate's columns, then the up's. -/
def gateUp (f : FVec Ideal S4096x2048 .bf16) (w : FVec Ideal S4x2048x2816 .bf16) (r : Fin 4096) (q : Fin 11264) : EReal :=
  ∑ k : Fin 2048, f (ix2 r k) * w (ix3 (⟨q.val / 2816, by omega⟩ : Fin 4) k (⟨q.val % 2816, by omega⟩ : Fin 2816))

/-- Column `q` of half `a`. -/
def side (a : Fin 2) (q : Fin 5632) : Fin 11264 := ⟨a.val * 5632 + q.val, by omega⟩

/-- The two products, as the two halves of one array. -/
def halves (f : FVec Ideal S4096x2048 .bf16) (w : FVec Ideal S4x2048x2816 .bf16) : FVec Ideal S2x4096x5632 .bf16 := fun i =>
  gateUp f w (i 1) (side (i 0) (i 2))

/-- The gated product of the two halves. -/
def gated (f : FVec Ideal S4096x2048 .bf16) (w : FVec Ideal S4x2048x2816 .bf16) : FVec Ideal S4096x5632 .bf16 := fun i =>
  gateUp f w (i 0) (side 0 (i 1)) * sg (gateUp f w (i 0) (side 0 (i 1))) * gateUp f w (i 0) (side 1 (i 1))

/-- The gradient of the gated product. -/
def down (d : FVec Ideal S4096x2048 .bf16) (w : FVec Ideal S4x1408x2048 .bf16) (r : Fin 4096) (q : Fin 5632) : EReal :=
  ∑ k : Fin 2048, d (ix2 r k) * w (ix3 (⟨q.val / 1408, by omega⟩ : Fin 4) (⟨q.val % 1408, by omega⟩ : Fin 1408) k)

/-- The gradients of the two halves. -/
def dhalves (d : FVec Ideal S4096x2048 .bf16) (w : FVec Ideal S4x1408x2048 .bf16) (z : FVec Ideal S2x4096x5632 .bf16) : FVec Ideal S2x4096x5632 .bf16 := fun i =>
  if (i 0).val = 0 then down d w (i 1) (i 2) * z (ix3 1 (i 1) (i 2)) * sg (z (ix3 0 (i 1) (i 2))) * (1 + z (ix3 0 (i 1) (i 2)) * (1 - sg (z (ix3 0 (i 1) (i 2)))))
  else down d w (i 1) (i 2) * z (ix3 0 (i 1) (i 2)) * sg (z (ix3 0 (i 1) (i 2)))

/-- The gradient of the gate and up weights. -/
def dweights (f : FVec Ideal S4096x2048 .bf16) (z : FVec Ideal S2x4096x5632 .bf16) : FVec Ideal S4x2048x2816 .bf16 := fun i =>
  ∑ r : Fin 4096, f (ix2 r (i 1)) * z (ix3 (⟨(i 0).val / 2, by have := (i 0).isLt; change (i 0).val < 4 at this; omega⟩ : Fin 2) r
    (⟨(i 0).val % 2 * 2816 + (i 2).val, by have := (i 2).isLt; change (i 2).val < 2816 at this; omega⟩ : Fin 5632))

theorem final_halves (c : Dev nD) : (dat0 (F := Ideal) V c).arrAt 3 cfg0.N = halves (V c main_arg0) (V c main_arg1) := by
  refine (dat0 (F := Ideal) V c).arrAt_eq_of_covers 3 _ (by decide +kernel) fun t hf y => ?_
  blk_simp
  rw [after0_3, halves_at]
  unfold halves gateUp side
  refine Fin.sum_fin_congr fun k => ?_
  by_cases hy : (y 0).val = 0
  · rw [if_pos hy]
    blk_point [iblk0, idx0 t]
  · rw [if_neg hy]
    blk_point [iblk0, idx0 t]

theorem final_gated (c : Dev nD) : (dat0 (F := Ideal) V c).arrAt 4 cfg0.N = gated (V c main_arg0) (V c main_arg1) := by
  refine (dat0 (F := Ideal) V c).arrAt_eq_of_covers 4 _ (by decide +kernel) fun t hf y => ?_
  blk_simp
  rw [after0_4]
  unfold out0_4
  frame_out
  rw [act_at, gate_at, up_at]
  unfold gated gateUp side
  refine congr (congrArg HMul.hMul (congr (congrArg HMul.hMul ?_) (congrArg sg ?_))) ?_
  all_goals
    refine Fin.sum_fin_congr fun k => ?_
    blk_point [iblk0, idx0 t]

theorem final_dhalves (c : Dev nD) : (dat1 (F := Ideal) V c).arrAt 4 cfg1.N = dhalves (V c main_arg3) (V c main_arg2) (V c main_v0_0) := by
  refine (dat1 (F := Ideal) V c).arrAt_eq_of_covers 4 _ (by decide +kernel) fun t hf y => ?_
  blk_simp
  rw [after1_4, dhalf_at]
  unfold dhalves
  by_cases hy : (y 0).val = 0
  · rw [if_pos hy, if_pos (by blk_simp [idx1 t]; omega)]
    refine congr (congrArg HMul.hMul (congr (congrArg HMul.hMul (congr (congrArg HMul.hMul ?_) ?_)) (congrArg sg ?_))) (congrArg (fun z : EReal => 1 + z * (1 - sg z)) ?_)
    · unfold down
      refine Fin.sum_fin_congr fun k => ?_
      blk_point [iblk1, idx1 t]
    all_goals blk_point [iblk1, idx1 t]
  · rw [if_neg hy, if_neg (by blk_simp [idx1 t]; omega)]
    refine congr (congrArg HMul.hMul (congr (congrArg HMul.hMul ?_) ?_)) (congrArg sg ?_)
    · unfold down
      refine Fin.sum_fin_congr fun k => ?_
      blk_point [iblk1, idx1 t]
    all_goals blk_point [iblk1, idx1 t]

theorem final_dweights (c : Dev nD) : (dat2 (F := Ideal) V c).arrAt 2 cfg2.N = dweights (V c main_arg0) (V c main_v1) := by
  refine (dat2 (F := Ideal) V c).arrAt_eq_of_covers 2 _ (by decide +kernel) fun t hf y => ?_
  blk_simp
  rw [after2_2]
  unfold out2_2
  frame_out
  rw [dw_at]
  unfold dweights
  refine Fin.sum_fin_congr fun k => ?_
  blk_point [iblk2, idx2 t]

end Cert.Kernel2Ideal.Ffn

end
-- ==== Proof.Ffn2Ref.lean ====
module

public import proofs.«01_k».proof.Proof.Gen.Reference2Ideal
public import proofs.«01_k».proof.Proof.Gen.Reference2Ideal.Run
public import proofs.«01_k».proof.Proof.Ffn2Value

/-! The reference's feed-forward results, read at a row and a column. -/

@[expose] public section

set_option maxRecDepth 16384

noncomputable section

open Idealize.ShloMosaic Idealize.ShloMosaic.TcCoe Idealize.SL.Sem
open Cert.Kernel2Ideal.Ffn (sg gateUp down side)

namespace Cert.Reference2Ideal.Ffn

open Cert.Reference2Ideal Cert.Reference2Ideal.Gen

theorem sg_neg (x : EReal) : Ideal.div 1 (1 + Ideal.exp (-x)) = sg x := by
  unfold sg
  rw [sub_eq_add_neg, zero_add]

/-- The gate and up products. -/
theorem gateUp_eq (f : FVec Ideal S4096x2048 .bf16) (w : FVec Ideal S4x2048x2816 .bf16) :
    Host.dotGeneral (F := Ideal) dot_S4096x2048_S2048x11264_S4096x11264_1_0_0_1_n_n none (extf .f32 f bitsLt_bf16_f32) (shapeCast _ (transpose S2048x4x2816 [1, 0, 2] (extf .f32 w bitsLt_bf16_f32) transposes_S4x2048x2816_S2048x4x2816_1_0_2) shapeCasts_S2048x4x2816_S2048x11264)
      = fun i => gateUp f w (i 0) (i 1) := by
  funext i
  idx_vars i
  pointwise []
  unfold gateUp
  refine Fin.sum_fin_congr fun k => ?_
  blk_point []

/-- The gradient of the gated product. -/
theorem down_eq (d : FVec Ideal S4096x2048 .bf16) (w : FVec Ideal S4x1408x2048 .bf16) :
    Host.dotGeneral (F := Ideal) dot_S4096x2048_S5632x2048_S4096x5632_1_1_0_0_n_n none (extf .f32 d bitsLt_bf16_f32) (shapeCast _ (extf .f32 w bitsLt_bf16_f32) shapeCasts_S4x1408x2048_S5632x2048)
      = fun i => down d w (i 0) (i 1) := by
  funext i
  idx_vars i
  pointwise []
  unfold down
  refine Fin.sum_fin_congr fun k => ?_
  blk_point []

/-- The gate's columns of the two products. -/
def gateOf (Z : FVec Ideal S4096x11264 .f32) : FVec Ideal S4096x5632 .f32 := extractStridedSlice S4096x5632 ![0, 0] Z slices_S4096x11264_S4096x5632_0_0

/-- The up columns. -/
def upOf (Z : FVec Ideal S4096x11264 .f32) : FVec Ideal S4096x5632 .f32 := extractStridedSlice S4096x5632 ![0, 5632] Z slices_S4096x11264_S4096x5632_0_5632

/-- The gate's logistic values. -/
def sigma (Z : FVec Ideal S4096x11264 .f32) : FVec Ideal S4096x5632 .f32 :=
  Host.divf (broadcastInDim S4096x5632 ![] bcast_S_S4096x5632 (constant S_ .f32 0x3F800000#32)) (addf (broadcastInDim S4096x5632 ![] bcast_S_S4096x5632 (constant S_ .f32 0x3F800000#32)) (Host.exp (Host.negf (gateOf Z))))

/-- The gradient of the gate's products. -/
def dgate (Z : FVec Ideal S4096x11264 .f32) (R : FVec Ideal S4096x5632 .f32) : FVec Ideal S4096x5632 .f32 :=
  addf (mulf (mulf R (upOf Z)) (sigma Z)) (mulf (mulf (gateOf Z) (mulf R (upOf Z))) (mulf (sigma Z) (subf (broadcastInDim S4096x5632 ![] bcast_S_S4096x5632 (constant S_ .f32 0x3F800000#32)) (sigma Z))))

/-- The gradient of the up products. -/
def dup (Z : FVec Ideal S4096x11264 .f32) (R : FVec Ideal S4096x5632 .f32) : FVec Ideal S4096x5632 .f32 :=
  mulf (mulf (gateOf Z) (sigma Z)) R

/-- Both gradients side by side. -/
def joined (A B : FVec Ideal S4096x5632 .f32) : FVec Ideal S4096x11264 .f32 :=
  concatenate S4096x11264 1 [⟨S4096x5632, A⟩, ⟨S4096x5632, B⟩] concatenates_S4096x5632_S4096x5632_S4096x11264_d1

theorem gateOf_at (Z : FVec Ideal S4096x11264 .f32) (r : Fin 4096) (q : Fin 5632) : gateOf Z (ix2 r q) = Z (ix2 r (side 0 q)) := by
  pointwise [gateOf]
  unfold side
  blk_ext []

theorem upOf_at (Z : FVec Ideal S4096x11264 .f32) (r : Fin 4096) (q : Fin 5632) : upOf Z (ix2 r q) = Z (ix2 r (side 1 q)) := by
  pointwise [upOf]
  unfold side
  blk_ext []

theorem sigma_at (Z : FVec Ideal S4096x11264 .f32) (r : Fin 4096) (q : Fin 5632) : sigma Z (ix2 r q) = sg (Z (ix2 r (side 0 q))) := by
  rw [← sg_neg, ← gateOf_at Z]
  pointwise [sigma]

theorem dgate_at (Z : FVec Ideal S4096x11264 .f32) (R : FVec Ideal S4096x5632 .f32) (r : Fin 4096) (q : Fin 5632) :
    dgate Z R (ix2 r q) = R (ix2 r q) * Z (ix2 r (side 1 q)) * sg (Z (ix2 r (side 0 q)))
      + Z (ix2 r (side 0 q)) * (R (ix2 r q) * Z (ix2 r (side 1 q))) * (sg (Z (ix2 r (side 0 q))) * (1 - sg (Z (ix2 r (side 0 q))))) := by
  rw [← sigma_at Z, ← gateOf_at Z, ← upOf_at Z]
  pointwise [dgate]

theorem dup_at (Z : FVec Ideal S4096x11264 .f32) (R : FVec Ideal S4096x5632 .f32) (r : Fin 4096) (q : Fin 5632) :
    dup Z R (ix2 r q) = Z (ix2 r (side 0 q)) * sg (Z (ix2 r (side 0 q))) * R (ix2 r q) := by
  rw [← sigma_at Z, ← gateOf_at Z]
  pointwise [dup]

theorem joined_left_of (A B : FVec Ideal S4096x5632 .f32) (r : Fin 4096) (k : Fin 11264) (q : Fin 5632) (hk : k.val = q.val) : joined A B (ix2 r k) = A (ix2 r q) := by
  have hq := q.isLt
  pointwise [joined]
  rw [dif_pos (by omega)]
  blk_ext []

theorem joined_right_of (A B : FVec Ideal S4096x5632 .f32) (r : Fin 4096) (k : Fin 11264) (q : Fin 5632) (hk : k.val = 5632 + q.val) : joined A B (ix2 r k) = B (ix2 r q) := by
  have hq := q.isLt
  pointwise [joined]
  rw [dif_neg (by omega)]
  blk_ext []

theorem joined_left (A B : FVec Ideal S4096x5632 .f32) (r : Fin 4096) (q : Fin 5632) : joined A B (ix2 r (side 0 q)) = A (ix2 r q) :=
  joined_left_of A B r _ q (by unfold side; dsimp only; rw [Fin.val_zero]; omega)

theorem joined_right (A B : FVec Ideal S4096x5632 .f32) (r : Fin 4096) (q : Fin 5632) : joined A B (ix2 r (side 1 q)) = B (ix2 r q) :=
  joined_right_of A B r _ q (by unfold side; dsimp only; rw [Fin.val_one])

/-- The layout of the two halves. -/
theorem halves_at (Z : FVec Ideal S4096x11264 .f32) (a : Fin 2) (r : Fin 4096) (q : Fin 5632) :
    truncf (F := Ideal) .bf16 (transpose S2x4096x5632 [1, 0, 2] (shapeCast S4096x2x5632 Z shapeCasts_S4096x11264_S4096x2x5632) transposes_S4096x2x5632_S2x4096x5632_1_0_2) bitsLt_bf16_f32 (ix3 a r q)
      = Z (ix2 r (side a q)) := by
  pointwise []
  unfold side
  blk_ext []

/-- The gradient of the weights, in the four chips' columns. -/
theorem weights_at (Z : FVec Ideal S4096x11264 .f32) (f : FVec Ideal S4096x2048 .bf16) (e : Fin 4) (d : Fin 2048) (q : Fin 2816) :
    truncf (F := Ideal) .bf16 (transpose S4x2048x2816 [1, 0, 2] (shapeCast S2048x4x2816 (transpose S2048x11264 [1, 0] (Host.dotGeneral dot_S4096x11264_S4096x2048_S11264x2048_0_0_1_1_n_n none Z (extf .f32 f bitsLt_bf16_f32)) transposes_S11264x2048_S2048x11264_1_0) shapeCasts_S2048x11264_S2048x4x2816) transposes_S2048x4x2816_S4x2048x2816_1_0_2) bitsLt_bf16_f32 (ix3 e d q)
      = ∑ r : Fin 4096, f (ix2 r d) * Z (ix2 r (side ⟨e.val / 2, by omega⟩ ⟨e.val % 2 * 2816 + q.val, by omega⟩)) := by
  pointwise []
  unfold side
  refine Fin.sum_fin_congr fun r => ?_
  refine (mul_comm _ _).trans ?_
  blk_point []

end Cert.Reference2Ideal.Ffn

end
-- ==== Proof.Ffn2Run.lean ====
module

public import proofs.«01_k».proof.Proof.Gen.Kernel2Ideal
public import proofs.«01_k».proof.Proof.Gen.Kernel2Ideal.Frame

/-! The run of the three feed-forward calls in sequence, with what each leaves in its result arrays. -/

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

namespace Cert.Kernel2Ideal.Ffn

variable {F : FTy → Type} [FloatOps F]
variable (m : (ℓ : Loc nD τ sig) → Buf (Elt F) ℓ) (ρ : Dev nD → PrngReg)

local notation "𝕄" => MT nD τ sig Unit (Elt F) ℕ (UR sig nD τ) ℕ

/-- What the products stay in to the end: the later calls do not write them. -/
theorem act_stays (c : Dev nD) : W3 m ρ c (Proc.devRef .tc main_v0_1) = (dat0 (V0 m ρ) c).arrAt 4 cfg0.N :=
  (W3_of m ρ c main_v0_1 (by decide)).trans ((W2_of m ρ c main_v0_1 (by decide)).trans (W1_arr m ρ c 4))

theorem dgu_stays (c : Dev nD) : W3 m ρ c (Proc.devRef .tc main_v1) = (dat1 (V1 m ρ) c).arrAt 4 cfg1.N :=
  (W3_of m ρ c main_v1 (by decide)).trans (W2_arr m ρ c 4)

theorem dw_stays (c : Dev nD) : W3 m ρ c (Proc.devRef .tc main_v2) = (dat2 (V2 m ρ) c).arrAt 2 cfg2.N :=
  W3_arr m ρ c 2

-- the launch lemma's implicit arguments are found by unifying its conclusion with this one
set_option backward.isDefEq.respectTransparency.types false in
/-- From any memory with zero counters the program ends with the three results as its calls leave them and the arguments unchanged. -/
theorem run : θ_run defs (onTc (τ := τ) (main (F := F))) ⟨m, fun _ => 0, ρ⟩ (fun r => ∀ c : Dev nD,
      r.2.mem ((c.tc : Thread nD τ).loc main_v0_1) = (dat0 (V0 m ρ) c).arrAt 4 cfg0.N
      ∧ r.2.mem ((c.tc : Thread nD τ).loc main_v1) = (dat1 (V1 m ρ) c).arrAt 4 cfg1.N
      ∧ r.2.mem ((c.tc : Thread nD τ).loc main_v2) = (dat2 (V2 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v0_1 (by decide))).trans (act_stays m ρ c),
       (h c _ (mem_uc main_v1 (by decide))).trans (dgu_stays m ρ c),
       (h c _ (mem_uc main_v2 (by decide))).trans (dw_stays m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Kernel2Ideal.Ffn

end
-- ==== Proof.Ffn2.lean ====
module

public import proofs.«01_k».proof.Proof.Ffn2Ref
public import proofs.«01_k».proof.Proof.Ffn2Run
public import proofs.«01_k».proof.Proof.Pre
public import proofs.«01_k».proof.Proof.Gen.Pre_finite
public import proofs.«01_k».proof.Defs

/-! The three feed-forward calls and the reference end with the same arrays, from arguments that hold reals. -/

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen
open Cert.Bounds (andi_one ofBits_inf ofBool_one real_of_abs_lt)

/-! ## Reals -/

/-- A number that is a real. -/
def IsR (x : EReal) : Prop := ∃ r : ℝ, x = (r : EReal)

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.sum {ι : Type} (s : Finset ι) (f : ι → EReal) (h : ∀ i, IsR (f i)) : IsR (∑ i ∈ s, f i) := by
  choose g hg using h
  exact ⟨∑ i ∈ s, g i, (Finset.sum_congr rfl fun i _ => hg i).trans (Cert.Gla.coe_sum s g)⟩

theorem IsR.sg {x : EReal} (hx : IsR x) : IsR (Ffn.sg x) := by
  obtain ⟨a, rfl⟩ := hx
  refine ⟨1 * (1 + Real.exp (0 - a))⁻¹, ?_⟩
  have hp : (0 : ℝ) < 1 + Real.exp (0 - a) := by have := Real.exp_pos (0 - a); linarith
  have e : (1 : EReal) + Ideal.exp (0 - (a : EReal)) = ((1 + Real.exp (0 - a) : ℝ) : EReal) := by
    rw [← EReal.coe_zero, ← EReal.coe_sub, EReal.coe_add, EReal.coe_one]
    rfl
  unfold Ffn.sg
  rw [e, Ideal.div, if_neg (by rw [← EReal.coe_zero]; exact fun h => hp.ne' (EReal.coe_injective h)), EReal.coe_mul, EReal.coe_one, EReal.coe_inv]

/-- The two forms of the gate's gradient agree on reals. -/
theorem gate_law {r u g s : EReal} (hr : IsR r) (hu : IsR u) (hg : IsR g) (hs : IsR s) :
    r * u * s * (1 + g * (1 - s)) = r * u * s + g * (r * u) * (s * (1 - s)) := by
  obtain ⟨r, rfl⟩ := hr
  obtain ⟨u, rfl⟩ := hu
  obtain ⟨g, rfl⟩ := hg
  obtain ⟨s, rfl⟩ := hs
  simp only [← EReal.coe_one, ← EReal.coe_mul, ← EReal.coe_sub, ← EReal.coe_add]
  congr 1
  ring

variable {f : FVec Ideal S4096x2048 .bf16} {w : FVec Ideal S4x2048x2816 .bf16} {v : FVec Ideal S4x1408x2048 .bf16} {d : FVec Ideal S4096x2048 .bf16}

theorem gateUp_real (hf : ∀ i, IsR (f i)) (hw : ∀ i, IsR (w i)) (r : Fin 4096) (q : Fin 11264) : IsR (gateUp f w r q) := by
  unfold gateUp
  exact IsR.sum _ _ fun k => (hf _).mul (hw _)

theorem down_real (hd : ∀ i, IsR (d i)) (hv : ∀ i, IsR (v i)) (r : Fin 4096) (q : Fin 5632) : IsR (down d v r q) := by
  unfold down
  exact IsR.sum _ _ fun k => (hd _).mul (hv _)

/-- What the precondition says of the four arguments. -/
theorem reals (x0 : FVec Ideal S4096x2048 .bf16) (x1 : FVec Ideal S4x2048x2816 .bf16) (x2 : FVec Ideal S4x1408x2048 .bf16) (x3 : FVec Ideal S4096x2048 .bf16)
    (e : Cert.Pre_finite.fn (F := Ideal) x0 x1 x2 x3 = fun _ => 1#1) :
    (∀ i, IsR (x0 i)) ∧ (∀ i, IsR (x1 i)) ∧ (∀ i, IsR (x2 i)) ∧ (∀ i, IsR (x3 i)) := by
  have e := congrFun e ix0
  unfold Cert.Pre_finite.fn Cert.Pre_finite.fn_part1 at e
  dsimp only at e
  obtain ⟨e, e3⟩ := andi_one e
  obtain ⟨e, e2⟩ := andi_one e
  obtain ⟨e0, e1⟩ := andi_one e
  have h0 := Host.reduce_andi_all _ _ _ _ _ e0
  have h1 := Host.reduce_andi_all _ _ _ _ _ e1
  have h2 := Host.reduce_andi_all _ _ _ _ _ e2
  have h3 := Host.reduce_andi_all _ _ _ _ _ e3
  refine ⟨fun i => ?_, fun i => ?_, fun i => ?_, fun i => ?_⟩
  · have h := h0 i
    pointwise at h
    rw [ofBits_inf] at h
    exact ⟨_, real_of_abs_lt (ofBool_one h)⟩
  · have h := h1 i
    pointwise at h
    rw [ofBits_inf] at h
    exact ⟨_, real_of_abs_lt (ofBool_one h)⟩
  · have h := h2 i
    pointwise at h
    rw [ofBits_inf] at h
    exact ⟨_, real_of_abs_lt (ofBool_one h)⟩
  · have h := h3 i
    pointwise at h
    rw [ofBits_inf] at h
    exact ⟨_, real_of_abs_lt (ofBool_one h)⟩

/-! ## The kernel's arrays are the reference's -/

open Cert.Reference2Ideal.Ffn (gateOf upOf sigma dgate dup joined)

/-- The reference's gate and up products. -/
abbrev products (f : FVec Ideal S4096x2048 .bf16) (w : FVec Ideal S4x2048x2816 .bf16) : FVec Ideal Cert.Reference2Ideal.S4096x11264 .f32 := fun i => gateUp f w (i 0) (i 1)

/-- The reference's gradient of the gated product. -/
abbrev downs (d : FVec Ideal S4096x2048 .bf16) (v : FVec Ideal S4x1408x2048 .bf16) : FVec Ideal Cert.Reference2Ideal.S4096x5632 .f32 := fun i => down d v (i 0) (i 1)

/-- The reference's gradient of the products. -/
abbrev dproducts (f : FVec Ideal S4096x2048 .bf16) (w : FVec Ideal S4x2048x2816 .bf16) (d : FVec Ideal S4096x2048 .bf16) (v : FVec Ideal S4x1408x2048 .bf16) : FVec Ideal Cert.Reference2Ideal.S4096x11264 .f32 :=
  joined (dgate (products f w) (downs d v)) (dup (products f w) (downs d v))

theorem gated_eq (f : FVec Ideal S4096x2048 .bf16) (w : FVec Ideal S4x2048x2816 .bf16) :
    truncf (F := Ideal) .bf16 (mulf (mulf (gateOf (products f w)) (sigma (products f w))) (upOf (products f w))) Cert.Reference2Ideal.Gen.bitsLt_bf16_f32 = gated f w := by
  funext i
  idx_vars i
  pointwise [Cert.Reference2Ideal.Ffn.gateOf_at, Cert.Reference2Ideal.Ffn.upOf_at, Cert.Reference2Ideal.Ffn.sigma_at]
  rfl

theorem dproducts_at (hf : ∀ i, IsR (f i)) (hw : ∀ i, IsR (w i)) (hd : ∀ i, IsR (d i)) (hv : ∀ i, IsR (v i)) (a : Fin 2) (r : Fin 4096) (q : Fin 5632) :
    dproducts f w d v (ix2 r (side a q)) = dhalves d v (halves f w) (ix3 a r q) := by
  by_cases ha : a = 0
  · subst ha
    refine (Cert.Reference2Ideal.Ffn.joined_left _ _ r q).trans ((Cert.Reference2Ideal.Ffn.dgate_at _ _ r q).trans ?_)
    exact (gate_law (down_real hd hv r q) (gateUp_real hf hw r (side 1 q)) (gateUp_real hf hw r (side 0 q)) (gateUp_real hf hw r (side 0 q)).sg).symm
  · obtain rfl : a = 1 := by omega
    refine (Cert.Reference2Ideal.Ffn.joined_right _ _ r q).trans ((Cert.Reference2Ideal.Ffn.dup_at _ _ r q).trans ?_)
    exact (mul_comm _ _).trans (mul_assoc _ _ _).symm

theorem dhalves_eq (hf : ∀ i, IsR (f i)) (hw : ∀ i, IsR (w i)) (hd : ∀ i, IsR (d i)) (hv : ∀ i, IsR (v i)) :
    truncf (F := Ideal) .bf16 (transpose Cert.Reference2Ideal.S2x4096x5632 [1, 0, 2] (shapeCast Cert.Reference2Ideal.S4096x2x5632 (dproducts f w d v) Cert.Reference2Ideal.Gen.shapeCasts_S4096x11264_S4096x2x5632) Cert.Reference2Ideal.Gen.transposes_S4096x2x5632_S2x4096x5632_1_0_2) Cert.Reference2Ideal.Gen.bitsLt_bf16_f32
      = dhalves d v (halves f w) := by
  funext i
  idx_vars i
  exact (Cert.Reference2Ideal.Ffn.halves_at _ _ _ _).trans (dproducts_at hf hw hd hv _ _ _)

theorem dweights_eq (hf : ∀ i, IsR (f i)) (hw : ∀ i, IsR (w i)) (hd : ∀ i, IsR (d i)) (hv : ∀ i, IsR (v i)) :
    truncf (F := Ideal) .bf16 (transpose Cert.Reference2Ideal.S4x2048x2816 [1, 0, 2] (shapeCast Cert.Reference2Ideal.S2048x4x2816 (transpose Cert.Reference2Ideal.S2048x11264 [1, 0] (Host.dotGeneral Cert.Reference2Ideal.dot_S4096x11264_S4096x2048_S11264x2048_0_0_1_1_n_n none (dproducts f w d v) (extf .f32 f Cert.Reference2Ideal.Gen.bitsLt_bf16_f32)) Cert.Reference2Ideal.Gen.transposes_S11264x2048_S2048x11264_1_0) Cert.Reference2Ideal.Gen.shapeCasts_S2048x11264_S2048x4x2816) Cert.Reference2Ideal.Gen.transposes_S2048x4x2816_S4x2048x2816_1_0_2) Cert.Reference2Ideal.Gen.bitsLt_bf16_f32
      = dweights f (dhalves d v (halves f w)) := by
  funext i
  idx_vars i
  refine (Cert.Reference2Ideal.Ffn.weights_at _ f _ _ _).trans ?_
  unfold dweights
  refine Fin.sum_fin_congr fun r => congrArg (fun z : EReal => f (ix2 r _) * z) ?_
  exact dproducts_at hf hw hd hv _ _ _

/-! ## The claim -/

variable (m : (ℓ : Loc nD τ sig) → Buf (Elt Ideal) ℓ) (ρ : Dev nD → PrngReg)

theorem halves_after (c : Dev nD) : V1 m ρ c main_v0_0 = halves (m ((c : Thread nD τ).loc main_arg0)) (m ((c : Thread nD τ).loc main_arg1)) :=
  (W1_arr m ρ c 3).trans (final_halves (V0 m ρ) c)

theorem gated_after (c : Dev nD) : (dat0 (V0 m ρ) c).arrAt 4 cfg0.N = gated (m ((c : Thread nD τ).loc main_arg0)) (m ((c : Thread nD τ).loc main_arg1)) :=
  final_gated (V0 m ρ) c

theorem dhalves_after (c : Dev nD) : (dat1 (V1 m ρ) c).arrAt 4 cfg1.N
    = dhalves (m ((c : Thread nD τ).loc main_arg3)) (m ((c : Thread nD τ).loc main_arg2)) (halves (m ((c : Thread nD τ).loc main_arg0)) (m ((c : Thread nD τ).loc main_arg1))) := by
  rw [final_dhalves, halves_after, show V1 m ρ c main_arg3 = m ((c : Thread nD τ).loc main_arg3) from W1_args m ρ c main_arg3 (by decide),
    show V1 m ρ c main_arg2 = m ((c : Thread nD τ).loc main_arg2) from W1_args m ρ c main_arg2 (by decide)]

theorem dweights_after (c : Dev nD) : (dat2 (V2 m ρ) c).arrAt 2 cfg2.N
    = dweights (m ((c : Thread nD τ).loc main_arg0)) (dhalves (m ((c : Thread nD τ).loc main_arg3)) (m ((c : Thread nD τ).loc main_arg2)) (halves (m ((c : Thread nD τ).loc main_arg0)) (m ((c : Thread nD τ).loc main_arg1)))) := by
  rw [final_dweights, show V2 m ρ c main_arg0 = m ((c : Thread nD τ).loc main_arg0) from W2_args m ρ c main_arg0 (by decide),
    show V2 m ρ c main_v1 = _ from (W2_arr m ρ c 4).trans (dhalves_after m ρ c)]

/-- The kernel and the reference end with the same three arrays. -/
theorem algebraic : Cert.algebraic_Kernel2Ideal_Reference2Ideal_pre_finite := fun m ρ m' ρ' hp hag => by
  refine ⟨fun c => (dat0 (V0 m ρ) c).arrAt 4 cfg0.N, fun c => (dat1 (V1 m ρ) c).arrAt 4 cfg1.N, fun c => (dat2 (V2 m ρ) c).arrAt 2 cfg2.N, run m ρ, ?_⟩
  refine (θ_run (Cert.Reference2Ideal.defs (F := Ideal)) _ _).mono (fun _ h c => ?_) (Cert.Reference2Ideal.Value.run (F := Ideal) m' ρ')
  obtain ⟨a0, a1, a2, a3⟩ := hag c
  obtain ⟨r0, r1, r2, r3⟩ := reals _ _ _ _ (hp c)
  obtain ⟨h0, h1, h2, hr⟩ := h c
  refine ⟨h0.trans (Eq.trans ?_ (gated_after m ρ c).symm), h1.trans (Eq.trans ?_ (dhalves_after m ρ c).symm), h2.trans (Eq.trans ?_ (dweights_after m ρ c).symm), hr⟩
  · rw [a0, a1, Cert.Reference2Ideal.Ffn.gateUp_eq]
    exact gated_eq _ _
  · unfold Cert.Reference2Ideal.Value.res_main_v44
    rw [a0, a1, a2, a3, Cert.Reference2Ideal.Ffn.gateUp_eq, Cert.Reference2Ideal.Ffn.down_eq]
    exact dhalves_eq r0 r1 r3 r2
  · unfold Cert.Reference2Ideal.Value.res_main_v45
    rw [a0, a1, a2, a3, Cert.Reference2Ideal.Ffn.gateUp_eq, Cert.Reference2Ideal.Ffn.down_eq]
    exact dweights_eq r0 r1 r3 r2

end Cert.Kernel2Ideal.Ffn

end
-- ==== Proof.Ffn3.lean ====
module

public import proofs.«01_k».proof.Proof.Gen.Kernel3Ideal.Value
public import proofs.«01_k».proof.Proof.Gen.Reference3Ideal
public import proofs.«01_k».proof.Proof.Gen.Reference3Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The feed-forward layer's output: one product over the hidden columns, made in four blocks, and the residual added. -/

@[expose] public section

set_option maxRecDepth 16384

noncomputable section

open Idealize.ShloMosaic Idealize.ShloMosaic.TcCoe Idealize.SL.Sem
open Idealize.ShloMosaic.Pipeline (Dat)

namespace Cert.Kernel3Ideal.Ffn

open Cert.Kernel3Ideal Cert.Kernel3Ideal.Gen

variable (m : (ℓ : Loc nD τ sig) → Buf (Elt Ideal) ℓ)

/-- One block's product at a row and a column. -/
theorem part_at (x : FVec Ideal S1024x1408 .bf16) (w : FVec Ideal S1x1408x1024 .bf16) (j : S1024x1024.Idx) :
    k0_pay1 (F := Ideal) x w j = ∑ l : Fin 1408, x (ix2 (j 0) l) * w (ix3 0 l (j 1)) := by
  pointwise [k0_pay1]

theorem first_at (x w j) : k0_pay2 (F := Ideal) x w j = 0 + k0_pay1 (F := Ideal) x w j := by
  rw [zero_add]; pointwise [k0_pay2]

theorem next_at (x w a j) : k0_pay3 (F := Ideal) x w a j = a j + k0_pay1 (F := Ideal) x w j := by
  pointwise [k0_pay3]

theorem last_at (a h j) : k0_pay4 (F := Ideal) a h j = h j + a j := by
  pointwise [k0_pay4]; exact add_comm _ _

theorem idx : ∀ t : Fin cfg0.N, win0_0.index t = ![t.val / 8, t.val % 4] ∧ win0_1.index t = ![t.val % 4, 0, t.val / 4 % 2]
    ∧ win0_2.index t = ![t.val / 8, t.val / 4 % 2] ∧ win0_3.index t = ![t.val / 8, t.val / 4 % 2] ∧ t.val / 8 < 4 :=
  (by decide +kernel : ∀ t : Fin grid0.N, _)

/-- The product in 4 blocks of hidden columns, and the residual. -/
def blocks (H : FVec Ideal S4096x2048 .f32) (X : FVec Ideal S4096x5632 .bf16) (W : FVec Ideal S4x1408x2048 .bf16) : FVec Ideal S4096x2048 .f32 := fun i =>
  H i + ∑ s : Fin 4, ∑ l : Fin 1408, X (ix2 (i 0) (⟨s.val * 1408 + l.val, by omega⟩ : Fin 5632)) * W (ix3 s l (i 1))

/-- What the carried sum holds when its run of 4 points ends. -/
theorem carried (c : Dev nD) (t : Fin cfg0.N) (hf : t.val % 4 = 4 - 1) (j : S1024x1024.Idx) :
    (outsAt0 m c t.val t.isLt).2 j = ∑ s : Fin 4, k0_pay1 (F := Ideal) (iblk m c 0 ⟨4 * (t.val / 4) + s.val, Pipeline.run_point_lt_of_flush t hf s⟩)
      (iblk m c 1 ⟨4 * (t.val / 4) + s.val, Pipeline.run_point_lt_of_flush t hf s⟩) j := by
  rw [Pipeline.eq_sum_fin_of_reset_step_apply_of_flush (fun n h => (outsAt0 m c n h).2) 4 (fun _ => (0 : EReal))
    (fun p j => k0_pay1 (F := Ideal) (iblk m c 0 p) (iblk m c 1 p) j)
    (fun t h j => by rw [outsAt0_A m c t h (by omega) (by omega)]; frame_out; rw [first_at])
    (fun t h j => by
      by_cases h2 : t.val % 4 = 3
      · rw [outsAt0_C m c t h (by omega) h2]; frame_out; rw [next_at, read_unread_whole]
      · rw [outsAt0_B m c t h (by omega) h2]; frame_out; rw [next_at, read_unread_whole])
    t hf j, zero_add]

/-- The array after the run. -/
theorem final (c : Dev nD) : (dats m 0 c).arrAt 3 cfg0.N = blocks (m ((c : Thread nD τ).loc main_arg0)) (V m c main_v11) (m ((c : Thread nD τ).loc main_arg3)) := by
  refine (dats m 0 c).arrAt_eq_of_covers 3 _ (by decide +kernel) fun t hf y => ?_
  have hf' := (flush0_3 t).mp hf
  have e : (outsAt0 m c t.val t.isLt).1 = k0_pay4 (F := Ideal) (outsAt0 m c t.val t.isLt).2 (iblk m c 2 t) := by
    rw [outsAt0_C m c t (by omega) (by omega) hf']; frame_out
  blk_simp
  rw [after0_3, e, last_at, carried m c t hf']
  refine congr (congrArg HAdd.hAdd (by blk_point [iblk, V, idx t])) ?_
  refine Fin.sum_fin_congr fun s => ?_
  rw [part_at]
  refine Fin.sum_fin_congr fun l => ?_
  blk_point [iblk, V, idx t, idx ⟨_, Pipeline.run_point_lt_of_flush t hf' s⟩]

/-- The blocks make up the whole product. -/
theorem whole_at (H : FVec Ideal S4096x2048 .f32) (A : FVec Ideal S4096x5632 .f32) (W : FVec Ideal S4x1408x2048 .bf16) (r : Fin 4096) (n : Fin 2048) :
    blocks H (truncf (F := Ideal) .bf16 A bitsLt_bf16_f32) W (ix2 r n)
      = addf H (Host.dotGeneral (F := Ideal) Cert.Reference3Ideal.dot_S4096x5632_S5632x2048_S4096x2048_1_0_0_1_n_n none A
        (shapeCast _ (extf .f32 W Cert.Reference3Ideal.Gen.bitsLt_bf16_f32) Cert.Reference3Ideal.Gen.shapeCasts_S4x1408x2048_S5632x2048)) (ix2 r n) := by
  pointwise []
  unfold blocks
  refine congr (congrArg HAdd.hAdd (by blk_point [])) (Fin.sum_mul_add_congr fun s l hl => ?_)
  pointwise []
  blk_point []

theorem whole (H : FVec Ideal S4096x2048 .f32) (A : FVec Ideal S4096x5632 .f32) (W : FVec Ideal S4x1408x2048 .bf16) :
    blocks H (truncf (F := Ideal) .bf16 A bitsLt_bf16_f32) W
      = addf H (Host.dotGeneral (F := Ideal) Cert.Reference3Ideal.dot_S4096x5632_S5632x2048_S4096x2048_1_0_0_1_n_n none A
        (shapeCast _ (extf .f32 W Cert.Reference3Ideal.Gen.bitsLt_bf16_f32) Cert.Reference3Ideal.Gen.shapeCasts_S4x1408x2048_S5632x2048)) := by
  funext i
  idx_vars i
  exact whole_at H A W _ _

/-- The kernel and the reference end with the same array. -/
theorem algebraic : Cert.algebraic_Kernel3Ideal_Reference3Ideal := fun m ρ m' ρ' _ hag => by
  refine ⟨fun c => (dats m 0 c).arrAt 3 cfg0.N, Value.run_blocks m ρ, ?_⟩
  refine (θ_run (Cert.Reference3Ideal.defs (F := Ideal)) _ _).mono (fun _ h c => ⟨(h c).1.trans (Eq.trans ?_ (final m c).symm), (h c).2⟩) (Cert.Reference3Ideal.Value.run (F := Ideal) m' ρ')
  obtain ⟨a0, a1, a2, a3⟩ := hag c
  simp only [V, hostOps0, hostOps0_1, hostOps0_2, List.flatten_cons, List.flatten_nil, List.append_nil, List.cons_append, List.nil_append]
  entry_read
  simp only [StableHlo.TRef.toBuf, StableHlo.TRef.ofBuf, cast_eq]
  refine Eq.trans ?_ (whole _ _ _).symm
  rw [a0, a1, a2, a3]
  rfl

end Cert.Kernel3Ideal.Ffn

end
-- ==== Proof.Ffn4.lean ====
module

public import proofs.«01_k».proof.Proof.Gen.Kernel4Ideal.Value
public import proofs.«01_k».proof.Proof.Gen.Reference4Ideal
public import proofs.«01_k».proof.Proof.Gen.Reference4Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of the feed-forward layer's second weight: one product over all rows, made in two blocks. -/

@[expose] public section

set_option maxRecDepth 16384

noncomputable section

open Idealize.ShloMosaic Idealize.ShloMosaic.TcCoe Idealize.SL.Sem
open Idealize.ShloMosaic.Pipeline (Dat)

namespace Cert.Kernel4Ideal.Ffn

open Cert.Kernel4Ideal Cert.Kernel4Ideal.Gen

variable (m : (ℓ : Loc nD τ sig) → Buf (Elt Ideal) ℓ)

/-- One block's product at a row and a column. -/
theorem part_at (x : FVec Ideal S2048x1408 .bf16) (w : FVec Ideal S2048x1024 .bf16) (j : S1408x1024.Idx) :
    k0_pay1 (F := Ideal) x w j = ∑ l : Fin 2048, x (ix2 l (j 0)) * w (ix2 l (j 1)) := by
  pointwise [k0_pay1]

theorem first_at (x w j) : k0_pay2 (F := Ideal) x w j = 0 + k0_pay1 (F := Ideal) x w j := by
  rw [zero_add]; pointwise [k0_pay2]

theorem next_at (x w a j) : k0_pay3 (F := Ideal) x w a j = a j + k0_pay1 (F := Ideal) x w j := by
  pointwise [k0_pay3]

theorem last_at (a j) : k0_pay4 (F := Ideal) a j = a j := by
  pointwise [k0_pay4]

theorem idx : ∀ t : Fin cfg0.N, win0_0.index t = ![t.val % 2, t.val / 4] ∧ win0_1.index t = ![t.val % 2, t.val / 2 % 2]
    ∧ win0_2.index t = ![t.val / 4, t.val / 2 % 2] ∧ t.val / 4 < 4 :=
  (by decide +kernel : ∀ t : Fin grid0.N, _)

/-- The product in 2 blocks of rows. -/
def blocks (X : FVec Ideal S4096x5632 .bf16) (D : FVec Ideal S4096x2048 .bf16) : FVec Ideal S5632x2048 .bf16 := fun i =>
  ∑ s : Fin 2, ∑ l : Fin 2048, X (ix2 (⟨s.val * 2048 + l.val, by omega⟩ : Fin 4096) (i 0)) * D (ix2 (⟨s.val * 2048 + l.val, by omega⟩ : Fin 4096) (i 1))

/-- What the carried sum holds when its run of 2 points ends. -/
theorem carried (c : Dev nD) (t : Fin cfg0.N) (hf : t.val % 2 = 2 - 1) (j : S1408x1024.Idx) :
    (outsAt0 m c t.val t.isLt).2 j = ∑ s : Fin 2, k0_pay1 (F := Ideal) (iblk m c 0 ⟨2 * (t.val / 2) + s.val, Pipeline.run_point_lt_of_flush t hf s⟩)
      (iblk m c 1 ⟨2 * (t.val / 2) + s.val, Pipeline.run_point_lt_of_flush t hf s⟩) j := by
  rw [Pipeline.eq_sum_fin_of_reset_step_apply_of_flush (fun n h => (outsAt0 m c n h).2) 2 (fun _ => (0 : EReal))
    (fun p j => k0_pay1 (F := Ideal) (iblk m c 0 p) (iblk m c 1 p) j)
    (fun t h j => by rw [outsAt0_A m c t h (by omega) (by omega)]; frame_out; rw [first_at])
    (fun t h j => by
      rw [outsAt0_B m c t h (by omega) (by omega)]; frame_out; rw [next_at, read_unread_whole])
    t hf j, zero_add]

/-- The array after the run. -/
theorem final (c : Dev nD) : (dats m 0 c).arrAt 2 cfg0.N = blocks (V m c main_v11) (m ((c : Thread nD τ).loc main_arg3)) := by
  refine (dats m 0 c).arrAt_eq_of_covers 2 _ (by decide +kernel) fun t hf y => ?_
  have hf' := (flush0_2 t).mp hf
  have e : (outsAt0 m c t.val t.isLt).1 = k0_pay4 (F := Ideal) (outsAt0 m c t.val t.isLt).2 := by
    rw [outsAt0_B m c t (by omega) (by omega) hf']; frame_out
  blk_simp
  rw [after0_2, e, last_at, carried m c t hf']
  refine Fin.sum_fin_congr fun s => ?_
  rw [part_at]
  refine Fin.sum_fin_congr fun l => ?_
  blk_point [iblk, V, idx t, idx ⟨_, Pipeline.run_point_lt_of_flush t hf' s⟩]

/-- The blocks make up the whole product. -/
theorem whole_at (A : FVec Ideal S4096x5632 .f32) (D : FVec Ideal S4096x2048 .bf16) (r : Fin 5632) (n : Fin 2048) :
    blocks (truncf (F := Ideal) .bf16 A bitsLt_bf16_f32) D (ix2 r n)
      = truncf .bf16 (transpose Cert.Reference4Ideal.S5632x2048 [1, 0] (Host.dotGeneral (F := Ideal) Cert.Reference4Ideal.dot_S4096x2048_S4096x5632_S2048x5632_0_0_1_1_n_n none
        (extf .f32 D Cert.Reference4Ideal.Gen.bitsLt_bf16_f32) A) Cert.Reference4Ideal.Gen.transposes_S2048x5632_S5632x2048_1_0) Cert.Reference4Ideal.Gen.bitsLt_bf16_f32 (ix2 r n) := by
  pointwise []
  unfold blocks
  refine Fin.sum_mul_add_congr fun s l hl => ?_
  refine (mul_comm _ _).trans ?_
  pointwise []

theorem whole (A : FVec Ideal S4096x5632 .f32) (D : FVec Ideal S4096x2048 .bf16) :
    blocks (truncf (F := Ideal) .bf16 A bitsLt_bf16_f32) D
      = truncf .bf16 (transpose Cert.Reference4Ideal.S5632x2048 [1, 0] (Host.dotGeneral (F := Ideal) Cert.Reference4Ideal.dot_S4096x2048_S4096x5632_S2048x5632_0_0_1_1_n_n none
        (extf .f32 D Cert.Reference4Ideal.Gen.bitsLt_bf16_f32) A) Cert.Reference4Ideal.Gen.transposes_S2048x5632_S5632x2048_1_0) Cert.Reference4Ideal.Gen.bitsLt_bf16_f32 := by
  funext i
  idx_vars i
  exact whole_at A D _ _

/-- The kernel and the reference end with the same array. -/
theorem algebraic : Cert.algebraic_Kernel4Ideal_Reference4Ideal := fun m ρ m' ρ' _ hag => by
  refine ⟨fun c => (dats m 0 c).arrAt 2 cfg0.N, Value.run_blocks m ρ, ?_⟩
  refine (θ_run (Cert.Reference4Ideal.defs (F := Ideal)) _ _).mono (fun _ h c => ⟨(h c).1.trans (Eq.trans ?_ (final m c).symm), (h c).2⟩) (Cert.Reference4Ideal.Value.run (F := Ideal) m' ρ')
  obtain ⟨a0, a1, a2, a3⟩ := hag c
  simp only [V, hostOps0, hostOps0_1, hostOps0_2, List.flatten_cons, List.flatten_nil, List.append_nil, List.cons_append, List.nil_append]
  entry_read
  simp only [StableHlo.TRef.toBuf, StableHlo.TRef.ofBuf, cast_eq]
  refine Eq.trans ?_ (whole _ _).symm
  rw [a0, a1, a3]
  rfl

end Cert.Kernel4Ideal.Ffn

end
-- ==== Proof.Ffn5.lean ====
module

public import proofs.«01_k».proof.Proof.Gen.Kernel5Ideal.Value
public import proofs.«01_k».proof.Proof.Gen.Reference5Ideal
public import proofs.«01_k».proof.Proof.Gen.Reference5Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of the feed-forward layer's input: one product over all columns, made in four blocks. -/

@[expose] public section

set_option maxRecDepth 16384

noncomputable section

open Idealize.ShloMosaic Idealize.ShloMosaic.TcCoe Idealize.SL.Sem
open Idealize.ShloMosaic.Pipeline (Dat)

namespace Cert.Kernel5Ideal.Ffn

open Cert.Kernel5Ideal Cert.Kernel5Ideal.Gen

variable (m : (ℓ : Loc nD τ sig) → Buf (Elt Ideal) ℓ)

/-- One block's product at a row and a column. -/
theorem part_at (x : FVec Ideal S1x1024x2816 .bf16) (w : FVec Ideal S1x1024x2816 .bf16) (j : S1024x1024.Idx) :
    k0_pay1 (F := Ideal) x w j = ∑ l : Fin 2816, x (ix3 0 (j 0) l) * w (ix3 0 (j 1) l) := by
  pointwise [k0_pay1]

theorem first_at (x w j) : k0_pay2 (F := Ideal) x w j = 0 + k0_pay1 (F := Ideal) x w j := by
  rw [zero_add]; pointwise [k0_pay2]

theorem next_at (x w a j) : k0_pay3 (F := Ideal) x w a j = a j + k0_pay1 (F := Ideal) x w j := by
  pointwise [k0_pay3]

theorem idx : ∀ t : Fin cfg0.N, win0_0.index t = ![t.val % 4 / 2, t.val / 8, t.val % 4 % 2] ∧ win0_1.index t = ![t.val % 4, t.val / 4 % 2, 0]
    ∧ win0_2.index t = ![t.val / 8, t.val / 4 % 2] ∧ t.val / 8 < 4 :=
  (by decide +kernel : ∀ t : Fin grid0.N, _)

/-- The product in 4 blocks of columns. -/
def blocks (X : FVec Ideal S2x4096x5632 .bf16) (W : FVec Ideal S4x2048x2816 .bf16) : FVec Ideal S4096x2048 .f32 := fun i =>
  ∑ s : Fin 4, ∑ l : Fin 2816, X (ix3 (⟨s.val / 2, by omega⟩ : Fin 2) (i 0) (⟨s.val % 2 * 2816 + l.val, by omega⟩ : Fin 5632)) * W (ix3 s (i 1) l)

/-- What the carried sum holds when its run of 4 points ends. -/
theorem carried (c : Dev nD) (t : Fin cfg0.N) (hf : t.val % 4 = 4 - 1) (j : S1024x1024.Idx) :
    (outsAt0 m c t.val t.isLt).2 j = ∑ s : Fin 4, k0_pay1 (F := Ideal) (iblk m c 0 ⟨4 * (t.val / 4) + s.val, Pipeline.run_point_lt_of_flush t hf s⟩)
      (iblk m c 1 ⟨4 * (t.val / 4) + s.val, Pipeline.run_point_lt_of_flush t hf s⟩) j := by
  rw [Pipeline.eq_sum_fin_of_reset_step_apply_of_flush (fun n h => (outsAt0 m c n h).2) 4 (fun _ => (0 : EReal))
    (fun p j => k0_pay1 (F := Ideal) (iblk m c 0 p) (iblk m c 1 p) j)
    (fun t h j => by rw [outsAt0_A m c t h (by omega) (by omega)]; frame_out; rw [first_at])
    (fun t h j => by
      by_cases h2 : t.val % 4 = 3
      · rw [outsAt0_C m c t h (by omega) h2]; frame_out; rw [next_at, read_unread_whole]
      · rw [outsAt0_B m c t h (by omega) h2]; frame_out; rw [next_at, read_unread_whole])
    t hf j, zero_add]

/-- The array after the run. -/
theorem final (c : Dev nD) : (dats m 0 c).arrAt 2 cfg0.N = blocks (V m c main_v20) (m ((c : Thread nD τ).loc main_arg1)) := by
  refine (dats m 0 c).arrAt_eq_of_covers 2 _ (by decide +kernel) fun t hf y => ?_
  have hf' := (flush0_2 t).mp hf
  have e : (outsAt0 m c t.val t.isLt).1 = (outsAt0 m c t.val t.isLt).2 := by
    rw [outsAt0_C m c t (by omega) (by omega) hf']; frame_out
  blk_simp
  rw [after0_2, e, carried m c t hf']
  refine Fin.sum_fin_congr fun s => ?_
  rw [part_at]
  refine Fin.sum_fin_congr fun l => ?_
  blk_point [iblk, V, idx t, idx ⟨_, Pipeline.run_point_lt_of_flush t hf' s⟩]

/-- The host's layout of the two halves holds the rows of the joined array. -/
theorem halves_at (Z : FVec Ideal S4096x11264 .f32) (a : Fin 2) (r : Fin 4096) (q : Fin 5632) (k : Fin 11264) (hk : k.val = a.val * 5632 + q.val) :
    truncf (F := Ideal) .bf16 (transpose S2x4096x5632 [1, 0, 2] (shapeCast S4096x2x5632 Z shapeCasts_S4096x11264_S4096x2x5632) transposes_S4096x2x5632_S2x4096x5632_1_0_2) bitsLt_bf16_f32 (ix3 a r q)
      = Z (ix2 r k) := by
  pointwise []
  blk_ext []

/-- The blocks make up the whole product. -/
theorem whole_at (Z : FVec Ideal S4096x11264 .f32) (W : FVec Ideal S4x2048x2816 .bf16) (r : Fin 4096) (n : Fin 2048) :
    blocks (truncf (F := Ideal) .bf16 (transpose S2x4096x5632 [1, 0, 2] (shapeCast S4096x2x5632 Z shapeCasts_S4096x11264_S4096x2x5632) transposes_S4096x2x5632_S2x4096x5632_1_0_2) bitsLt_bf16_f32) W (ix2 r n)
      = Host.dotGeneral (F := Ideal) Cert.Reference5Ideal.dot_S4096x11264_S2048x11264_S4096x2048_1_1_0_0_n_n none Z
        (shapeCast _ (transpose Cert.Reference5Ideal.S2048x4x2816 [1, 0, 2] (extf .f32 W Cert.Reference5Ideal.Gen.bitsLt_bf16_f32) Cert.Reference5Ideal.Gen.transposes_S4x2048x2816_S2048x4x2816_1_0_2) Cert.Reference5Ideal.Gen.shapeCasts_S2048x4x2816_S2048x11264) (ix2 r n) := by
  pointwise []
  unfold blocks
  refine Fin.sum_mul_add_congr fun s l hl => ?_
  refine congr (congrArg HMul.hMul (halves_at Z (⟨s.val / 2, by omega⟩ : Fin 2) r (⟨s.val % 2 * 2816 + l.val, by omega⟩ : Fin 5632) ⟨s.val * 2816 + l.val, hl⟩ (by dsimp only; omega))) ?_
  blk_point []

theorem whole (Z : FVec Ideal S4096x11264 .f32) (W : FVec Ideal S4x2048x2816 .bf16) :
    blocks (truncf (F := Ideal) .bf16 (transpose S2x4096x5632 [1, 0, 2] (shapeCast S4096x2x5632 Z shapeCasts_S4096x11264_S4096x2x5632) transposes_S4096x2x5632_S2x4096x5632_1_0_2) bitsLt_bf16_f32) W
      = Host.dotGeneral (F := Ideal) Cert.Reference5Ideal.dot_S4096x11264_S2048x11264_S4096x2048_1_1_0_0_n_n none Z
        (shapeCast _ (transpose Cert.Reference5Ideal.S2048x4x2816 [1, 0, 2] (extf .f32 W Cert.Reference5Ideal.Gen.bitsLt_bf16_f32) Cert.Reference5Ideal.Gen.transposes_S4x2048x2816_S2048x4x2816_1_0_2) Cert.Reference5Ideal.Gen.shapeCasts_S2048x4x2816_S2048x11264) := by
  funext i
  idx_vars i
  exact whole_at Z W _ _

/-- The kernel and the reference end with the same array. -/
theorem algebraic : Cert.algebraic_Kernel5Ideal_Reference5Ideal := fun m ρ m' ρ' _ hag => by
  refine ⟨fun c => (dats m 0 c).arrAt 2 cfg0.N, Value.run_blocks m ρ, ?_⟩
  refine (θ_run (Cert.Reference5Ideal.defs (F := Ideal)) _ _).mono (fun _ h c => ⟨(h c).1.trans (Eq.trans ?_ (final m c).symm), (h c).2⟩) (Cert.Reference5Ideal.Value.run (F := Ideal) m' ρ')
  obtain ⟨a0, a1, a2, a3⟩ := hag c
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  refine Eq.trans ?_ (whole _ _).symm
  unfold Cert.Reference5Ideal.Value.res_main_v18
  rw [a0, a1, a2, a3]
  rfl

end Cert.Kernel5Ideal.Ffn

end
-- ==== Proof.LinFrames.lean ====
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run

/-! The frames of the projections' programs. -/

@[expose] public section

noncomputable section

namespace Cert.Lin

open Idealize.ShloMosaic Idealize.SL.Sem

theorem no_sem6 : ∀ sm : SemLoc Cert.Reference6Ideal.sig, False := by decide

theorem frame_kernel6 : Cert.quiescent_Kernel6 := fun m ρ _ => Cert.Kernel6.Gen.frame (F := Bits) m ρ

theorem frame_ideal6 : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono (fun _ h => ⟨fun c => (h c).2, funext fun g => (no_sem6 g.2).elim⟩) (Cert.Reference6Ideal.Value.run (F := Ideal) m ρ)

theorem no_sem7 : ∀ sm : SemLoc Cert.Reference7Ideal.sig, False := by decide

theorem frame_kernel7 : Cert.quiescent_Kernel7 := fun m ρ _ => Cert.Kernel7.Gen.frame (F := Bits) m ρ

theorem frame_ideal7 : Cert.quiescent_Kernel7Ideal := fun m ρ _ => Cert.Kernel7Ideal.Gen.frame (F := Ideal) m ρ

theorem frame_reference7 : Cert.quiescent_Reference7Ideal := fun m ρ _ =>
  (θ_run Cert.Reference7Ideal.defs _ _).mono (fun _ h => ⟨fun c => (h c).2, funext fun g => (no_sem7 g.2).elim⟩) (Cert.Reference7Ideal.Value.run (F := Ideal) m ρ)

theorem no_sem8 : ∀ sm : SemLoc Cert.Reference8Ideal.sig, False := by decide

theorem frame_kernel8 : Cert.quiescent_Kernel8 := fun m ρ _ => Cert.Kernel8.Gen.frame (F := Bits) m ρ

theorem frame_ideal8 : Cert.quiescent_Kernel8Ideal := fun m ρ _ => Cert.Kernel8Ideal.Gen.frame (F := Ideal) m ρ

theorem frame_reference8 : Cert.quiescent_Reference8Ideal := fun m ρ _ =>
  (θ_run Cert.Reference8Ideal.defs _ _).mono (fun _ h => ⟨fun c => (h c).2, funext fun g => (no_sem8 g.2).elim⟩) (Cert.Reference8Ideal.Value.run (F := Ideal) m ρ)

theorem no_sem9 : ∀ sm : SemLoc Cert.Reference9Ideal.sig, False := by decide

theorem frame_kernel9 : Cert.quiescent_Kernel9 := fun m ρ _ => Cert.Kernel9.Gen.frame (F := Bits) m ρ

theorem frame_ideal9 : Cert.quiescent_Kernel9Ideal := fun m ρ _ => Cert.Kernel9Ideal.Gen.frame (F := Ideal) m ρ

theorem frame_reference9 : Cert.quiescent_Reference9Ideal := fun m ρ _ =>
  (θ_run Cert.Reference9Ideal.defs _ _).mono (fun _ h => ⟨fun c => (h c).2, funext fun g => (no_sem9 g.2).elim⟩) (Cert.Reference9Ideal.Value.run (F := Ideal) m ρ)

theorem no_sem10 : ∀ sm : SemLoc Cert.Reference10Ideal.sig, False := by decide

theorem frame_kernel10 : Cert.quiescent_Kernel10 := fun m ρ _ => Cert.Kernel10.Gen.frame (F := Bits) m ρ

theorem frame_ideal10 : Cert.quiescent_Kernel10Ideal := fun m ρ _ => Cert.Kernel10Ideal.Gen.frame (F := Ideal) m ρ

theorem frame_reference10 : Cert.quiescent_Reference10Ideal := fun m ρ _ =>
  (θ_run Cert.Reference10Ideal.defs _ _).mono (fun _ h => ⟨fun c => (h c).2, funext fun g => (no_sem10 g.2).elim⟩) (Cert.Reference10Ideal.Value.run (F := Ideal) m ρ)

theorem no_sem11 : ∀ sm : SemLoc Cert.Reference11Ideal.sig, False := by decide

theorem frame_kernel11 : Cert.quiescent_Kernel11 := fun m ρ _ => Cert.Kernel11.Gen.frame (F := Bits) m ρ

theorem frame_ideal11 : Cert.quiescent_Kernel11Ideal := fun m ρ _ => Cert.Kernel11Ideal.Gen.frame (F := Ideal) m ρ

theorem frame_reference11 : Cert.quiescent_Reference11Ideal := fun m ρ _ =>
  (θ_run Cert.Reference11Ideal.defs _ _).mono (fun _ h => ⟨fun c => (h c).2, funext fun g => (no_sem11 g.2).elim⟩) (Cert.Reference11Ideal.Value.run (F := Ideal) m ρ)

theorem no_sem12 : ∀ sm : SemLoc Cert.Reference12Ideal.sig, False := by decide

theorem frame_kernel12 : Cert.quiescent_Kernel12 := fun m ρ _ => Cert.Kernel12.Gen.frame (F := Bits) m ρ

theorem frame_ideal12 : Cert.quiescent_Kernel12Ideal := fun m ρ _ => Cert.Kernel12Ideal.Gen.frame (F := Ideal) m ρ

theorem frame_reference12 : Cert.quiescent_Reference12Ideal := fun m ρ _ =>
  (θ_run Cert.Reference12Ideal.defs _ _).mono (fun _ h => ⟨fun c => (h c).2, funext fun g => (no_sem12 g.2).elim⟩) (Cert.Reference12Ideal.Value.run (F := Ideal) m ρ)

theorem no_sem13 : ∀ sm : SemLoc Cert.Reference13Ideal.sig, False := by decide

theorem frame_kernel13 : Cert.quiescent_Kernel13 := fun m ρ _ => Cert.Kernel13.Gen.frame (F := Bits) m ρ

theorem frame_ideal13 : Cert.quiescent_Kernel13Ideal := fun m ρ _ => Cert.Kernel13Ideal.Gen.frame (F := Ideal) m ρ

theorem frame_reference13 : Cert.quiescent_Reference13Ideal := fun m ρ _ =>
  (θ_run Cert.Reference13Ideal.defs _ _).mono (fun _ h => ⟨fun c => (h c).2, funext fun g => (no_sem13 g.2).elim⟩) (Cert.Reference13Ideal.Value.run (F := Ideal) m ρ)

theorem no_sem14 : ∀ sm : SemLoc Cert.Reference14Ideal.sig, False := by decide

theorem frame_kernel14 : Cert.quiescent_Kernel14 := fun m ρ _ => Cert.Kernel14.Gen.frame (F := Bits) m ρ

theorem frame_ideal14 : Cert.quiescent_Kernel14Ideal := fun m ρ _ => Cert.Kernel14Ideal.Gen.frame (F := Ideal) m ρ

theorem frame_reference14 : Cert.quiescent_Reference14Ideal := fun m ρ _ =>
  (θ_run Cert.Reference14Ideal.defs _ _).mono (fun _ h => ⟨fun c => (h c).2, funext fun g => (no_sem14 g.2).elim⟩) (Cert.Reference14Ideal.Value.run (F := Ideal) m ρ)

theorem no_sem15 : ∀ sm : SemLoc Cert.Reference15Ideal.sig, False := by decide

theorem frame_kernel15 : Cert.quiescent_Kernel15 := fun m ρ _ => Cert.Kernel15.Gen.frame (F := Bits) m ρ

theorem frame_ideal15 : Cert.quiescent_Kernel15Ideal := fun m ρ _ => Cert.Kernel15Ideal.Gen.frame (F := Ideal) m ρ

theorem frame_reference15 : Cert.quiescent_Reference15Ideal := fun m ρ _ =>
  (θ_run Cert.Reference15Ideal.defs _ _).mono (fun _ h => ⟨fun c => (h c).2, funext fun g => (no_sem15 g.2).elim⟩) (Cert.Reference15Ideal.Value.run (F := Ideal) m ρ)

theorem no_sem16 : ∀ sm : SemLoc Cert.Reference16Ideal.sig, False := by decide

theorem frame_kernel16 : Cert.quiescent_Kernel16 := fun m ρ _ => Cert.Kernel16.Gen.frame (F := Bits) m ρ

theorem frame_ideal16 : Cert.quiescent_Kernel16Ideal := fun m ρ _ => Cert.Kernel16Ideal.Gen.frame (F := Ideal) m ρ

theorem frame_reference16 : Cert.quiescent_Reference16Ideal := fun m ρ _ =>
  (θ_run Cert.Reference16Ideal.defs _ _).mono (fun _ h => ⟨fun c => (h c).2, funext fun g => (no_sem16 g.2).elim⟩) (Cert.Reference16Ideal.Value.run (F := Ideal) m ρ)

end Cert.Lin
-- ==== Proof.Lin6.lean ====
module

public import proofs.«01_k».proof.Proof.Gen.Kernel6Ideal.Value
public import proofs.«01_k».proof.Proof.Gen.Reference6Ideal
public import proofs.«01_k».proof.Proof.Gen.Reference6Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The first attention's input projection: one product, with columns of zeros behind. -/

@[expose] public section

set_option maxRecDepth 16384

noncomputable section

open Idealize.ShloMosaic Idealize.ShloMosaic.TcCoe Idealize.SL.Sem
open Idealize.ShloMosaic.Pipeline (Dat)

namespace Cert.Kernel6Ideal.Lin

open Cert.Kernel6Ideal Cert.Kernel6Ideal.Gen

variable (m : (ℓ : Loc nD τ sig) → Buf (Elt Ideal) ℓ)

/-- One block's product at a row and a column. -/
theorem part_at (x : FVec Ideal S1024x2048 .bf16) (w : FVec Ideal S2048x896 .bf16) (j : S1024x896.Idx) :
    k0_pay1 (F := Ideal) x w j = ∑ l : Fin 2048, x (ix2 (j 0) l) * w (ix2 l (j 1)) := by
  pointwise [k0_pay1]

theorem idx : ∀ t : Fin cfg0.N, win0_0.index t = ![t.val / 7, 0] ∧ win0_1.index t = ![0, t.val % 7] ∧ win0_2.index t = ![t.val / 7, t.val % 7] ∧ t.val / 7 < 4 :=
  (by decide +kernel : ∀ t : Fin grid0.N, _)

/-- The product. -/
def prod (X : FVec Ideal S4096x2048 .bf16) (W : FVec Ideal S2048x6272 .bf16) : FVec Ideal S4096x6272 .f32 := fun i =>
  ∑ l : Fin 2048, X (ix2 (i 0) l) * W (ix2 l (i 1))

/-- The array after the run. -/
theorem final (c : Dev nD) : (dats m 0 c).arrAt 2 cfg0.N = prod (m ((c : Thread nD τ).loc main_arg0)) (V m c main_v0) := by
  refine (dats m 0 c).arrAt_eq_of_covers 2 _ (by decide +kernel) fun t hf y => ?_
  blk_simp
  rw [after0_2]
  unfold out0_2
  frame_out
  rw [part_at]
  unfold prod
  refine Fin.sum_fin_congr fun l => ?_
  blk_point [iblk, V, idx t]

/-- The reference's array at an index. -/
theorem whole_at (X : FVec Ideal S4096x2048 .bf16) (W : FVec Ideal S2048x6160 .bf16) (r : Fin 4096) (n : Fin 6272) :
    prod X (pad Cert.Kernel6Ideal.S2048x6272 ![0, 0] ![0, 112] ![0, 0] W (sitofp .bf16 (constantI Cert.Kernel6Ideal.S_ 32 0#32)) Cert.Kernel6Ideal.Gen.pads_S2048x6160_S2048x6272_000_01120 Cert.Kernel6Ideal.Gen.h_S_) (ix2 r n)
      = pad Cert.Reference6Ideal.S4096x6272 ![0, 0] ![0, 112] ![0, 0] (Host.dotGeneral (F := Ideal) Cert.Reference6Ideal.dot_S4096x2048_S2048x6160_S4096x6160_1_0_0_1_n_n none (extf .f32 X Cert.Reference6Ideal.Gen.bitsLt_bf16_f32) (extf .f32 W Cert.Reference6Ideal.Gen.bitsLt_bf16_f32)) (sitofp .f32 (constantI Cert.Reference6Ideal.S_ 32 0#32)) Cert.Reference6Ideal.Gen.pads_S4096x6160_S4096x6272_000_01120 Cert.Reference6Ideal.Gen.h_S_ (ix2 r n) := by
  unfold prod
  pointwise []
  have z : ∀ ty : FTy, (FloatOps.sitofp ty (0#32) : Ideal ty) = (0 : EReal) := fun ty => by
    change ((((0#32 : BitVec 32).toInt : ℝ)) : EReal) = 0
    simp
  simp only [z]
  by_cases h : n.val < 6160
  · simp only [dif_pos h]
  · simp only [dif_neg h]
    exact Finset.sum_eq_zero fun x _ => mul_zero _

theorem whole (X : FVec Ideal S4096x2048 .bf16) (W : FVec Ideal S2048x6160 .bf16) :
    prod X (pad Cert.Kernel6Ideal.S2048x6272 ![0, 0] ![0, 112] ![0, 0] W (sitofp .bf16 (constantI Cert.Kernel6Ideal.S_ 32 0#32)) Cert.Kernel6Ideal.Gen.pads_S2048x6160_S2048x6272_000_01120 Cert.Kernel6Ideal.Gen.h_S_) = pad Cert.Reference6Ideal.S4096x6272 ![0, 0] ![0, 112] ![0, 0] (Host.dotGeneral (F := Ideal) Cert.Reference6Ideal.dot_S4096x2048_S2048x6160_S4096x6160_1_0_0_1_n_n none (extf .f32 X Cert.Reference6Ideal.Gen.bitsLt_bf16_f32) (extf .f32 W Cert.Reference6Ideal.Gen.bitsLt_bf16_f32)) (sitofp .f32 (constantI Cert.Reference6Ideal.S_ 32 0#32)) Cert.Reference6Ideal.Gen.pads_S4096x6160_S4096x6272_000_01120 Cert.Reference6Ideal.Gen.h_S_ := by
  funext i
  idx_vars i
  exact whole_at X W _ _

/-- The kernel and the reference end with the same array. -/
theorem algebraic : Cert.algebraic_Kernel6Ideal_Reference6Ideal := fun m ρ m' ρ' _ hag => by
  refine ⟨fun c => (dats m 0 c).arrAt 2 cfg0.N, Value.run_blocks m ρ, ?_⟩
  refine (θ_run (Cert.Reference6Ideal.defs (F := Ideal)) _ _).mono (fun _ h c => ⟨(h c).1.trans (Eq.trans ?_ (final m c).symm), (h c).2⟩) (Cert.Reference6Ideal.Value.run (F := Ideal) m' ρ')
  obtain ⟨a0, a1⟩ := hag c
  simp only [V, hostOps0, hostOps0_1, List.flatten_cons, List.flatten_nil, List.append_nil, List.cons_append, List.nil_append]
  entry_read
  simp only [StableHlo.TRef.toBuf, StableHlo.TRef.ofBuf, cast_eq]
  refine Eq.trans ?_ (whole _ _).symm
  rw [a0, a1]

end Cert.Kernel6Ideal.Lin

end
-- ==== Proof.Lin7.lean ====
module

public import proofs.«01_k».proof.Proof.Gen.Kernel7Ideal.Value
public import proofs.«01_k».proof.Proof.Gen.Reference7Ideal
public import proofs.«01_k».proof.Proof.Gen.Reference7Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! An attention's output projection with the residual: one product. -/

@[expose] public section

set_option maxRecDepth 16384

noncomputable section

open Idealize.ShloMosaic Idealize.ShloMosaic.TcCoe Idealize.SL.Sem
open Idealize.ShloMosaic.Pipeline (Dat)

namespace Cert.Kernel7Ideal.Lin

open Cert.Kernel7Ideal Cert.Kernel7Ideal.Gen

variable (m : (ℓ : Loc nD τ sig) → Buf (Elt Ideal) ℓ)

/-- One block's product at a row and a column, and the residual. -/
theorem part_at (x : FVec Ideal S1024x2048 .bf16) (w : FVec Ideal S2048x1024 .bf16) (h : FVec Ideal S1024x1024 .f32) (j : S1024x1024.Idx) :
    k0_pay1 (F := Ideal) x w h j = h j + ∑ l : Fin 2048, x (ix2 (j 0) l) * w (ix2 l (j 1)) := by
  pointwise [k0_pay1]; exact add_comm _ _

theorem idx : ∀ t : Fin cfg0.N, win0_0.index t = ![t.val / 2, 0] ∧ win0_1.index t = ![0, t.val % 2] ∧ win0_2.index t = ![t.val / 2, t.val % 2] ∧ win0_3.index t = ![t.val / 2, t.val % 2] ∧ t.val / 2 < 4 :=
  (by decide +kernel : ∀ t : Fin grid0.N, _)

/-- The product and the residual. -/
def prod (H : FVec Ideal S4096x2048 .f32) (X : FVec Ideal S4096x2048 .bf16) (W : FVec Ideal S2048x2048 .bf16) : FVec Ideal S4096x2048 .f32 := fun i =>
  H i + ∑ l : Fin 2048, X (ix2 (i 0) l) * W (ix2 l (i 1))

/-- The array after the run. -/
theorem final (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  rw [part_at]
  unfold prod
  refine congr (congrArg HAdd.hAdd (by blk_point [iblk, V, idx t])) ?_
  refine Fin.sum_fin_congr fun l => ?_
  blk_point [iblk, V, idx t]

/-- The reference's array at an index. -/
theorem whole_at (H : FVec Ideal S4096x2048 .f32) (X : FVec Ideal S4096x2048 .bf16) (W : FVec Ideal S2048x2048 .bf16) (r : Fin 4096) (n : Fin 2048) :
    prod H X W (ix2 r n)
      = addf H (Host.dotGeneral (F := Ideal) Cert.Reference7Ideal.dot_S4096x2048_S2048x2048_S4096x2048_1_0_0_1_n_n none (extf .f32 X Cert.Reference7Ideal.Gen.bitsLt_bf16_f32) (extf .f32 W Cert.Reference7Ideal.Gen.bitsLt_bf16_f32)) (ix2 r n) := by
  unfold prod
  pointwise []

theorem whole (H : FVec Ideal S4096x2048 .f32) (X : FVec Ideal S4096x2048 .bf16) (W : FVec Ideal S2048x2048 .bf16) :
    prod H X W = addf H (Host.dotGeneral (F := Ideal) Cert.Reference7Ideal.dot_S4096x2048_S2048x2048_S4096x2048_1_0_0_1_n_n none (extf .f32 X Cert.Reference7Ideal.Gen.bitsLt_bf16_f32) (extf .f32 W Cert.Reference7Ideal.Gen.bitsLt_bf16_f32)) := by
  funext i
  idx_vars i
  exact whole_at H X W _ _

/-- The kernel and the reference end with the same array. -/
theorem algebraic : Cert.algebraic_Kernel7Ideal_Reference7Ideal := fun m ρ m' ρ' _ hag => by
  refine ⟨fun c => (dats m 0 c).arrAt 3 cfg0.N, Value.run_blocks m ρ, ?_⟩
  refine (θ_run (Cert.Reference7Ideal.defs (F := Ideal)) _ _).mono (fun _ h c => ⟨(h c).1.trans (Eq.trans ?_ (final m c).symm), (h c).2⟩) (Cert.Reference7Ideal.Value.run (F := Ideal) m' ρ')
  obtain ⟨a0, a1, a2⟩ := hag c
  refine Eq.trans ?_ (whole _ _ _).symm
  rw [a0, a1, a2]

end Cert.Kernel7Ideal.Lin

end
-- ==== Proof.Lin8.lean ====
module

public import proofs.«01_k».proof.Proof.Gen.Kernel8Ideal.Value
public import proofs.«01_k».proof.Proof.Gen.Reference8Ideal
public import proofs.«01_k».proof.Proof.Gen.Reference8Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The queries' projection: one product. -/

@[expose] public section

set_option maxRecDepth 16384

noncomputable section

open Idealize.ShloMosaic Idealize.ShloMosaic.TcCoe Idealize.SL.Sem
open Idealize.ShloMosaic.Pipeline (Dat)

namespace Cert.Kernel8Ideal.Lin

open Cert.Kernel8Ideal Cert.Kernel8Ideal.Gen

variable (m : (ℓ : Loc nD τ sig) → Buf (Elt Ideal) ℓ)

/-- One block's product at a row and a column. -/
theorem part_at (x : FVec Ideal S1024x2048 .bf16) (w : FVec Ideal S2048x1024 .bf16) (j : S1024x1024.Idx) :
    k0_pay1 (F := Ideal) x w j = ∑ l : Fin 2048, x (ix2 (j 0) l) * w (ix2 l (j 1)) := by
  pointwise [k0_pay1]

theorem idx : ∀ t : Fin cfg0.N, win0_0.index t = ![t.val / 2, 0] ∧ win0_1.index t = ![0, t.val % 2] ∧ win0_2.index t = ![t.val / 2, t.val % 2] ∧ t.val / 2 < 4 :=
  (by decide +kernel : ∀ t : Fin grid0.N, _)

/-- The product. -/
def prod (X : FVec Ideal S4096x2048 .bf16) (W : FVec Ideal S2048x2048 .bf16) : FVec Ideal S4096x2048 .bf16 := fun i =>
  ∑ l : Fin 2048, X (ix2 (i 0) l) * W (ix2 l (i 1))

/-- The array after the run. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  rw [part_at]
  unfold prod
  refine Fin.sum_fin_congr fun l => ?_
  blk_point [iblk, V, idx t]

/-- The reference's array at an index. -/
theorem whole_at (X : FVec Ideal S4096x2048 .bf16) (W : FVec Ideal S2048x2048 .bf16) (r : Fin 4096) (n : Fin 2048) :
    prod X W (ix2 r n)
      = truncf .bf16 (Host.dotGeneral (F := Ideal) Cert.Reference8Ideal.dot_S4096x2048_S2048x2048_S4096x2048_1_0_0_1_n_n none (extf .f32 X Cert.Reference8Ideal.Gen.bitsLt_bf16_f32) (extf .f32 W Cert.Reference8Ideal.Gen.bitsLt_bf16_f32)) Cert.Reference8Ideal.Gen.bitsLt_bf16_f32 (ix2 r n) := by
  unfold prod
  pointwise []

theorem whole (X : FVec Ideal S4096x2048 .bf16) (W : FVec Ideal S2048x2048 .bf16) :
    prod X W = truncf .bf16 (Host.dotGeneral (F := Ideal) Cert.Reference8Ideal.dot_S4096x2048_S2048x2048_S4096x2048_1_0_0_1_n_n none (extf .f32 X Cert.Reference8Ideal.Gen.bitsLt_bf16_f32) (extf .f32 W Cert.Reference8Ideal.Gen.bitsLt_bf16_f32)) Cert.Reference8Ideal.Gen.bitsLt_bf16_f32 := by
  funext i
  idx_vars i
  exact whole_at X W _ _

/-- The kernel and the reference end with the same array. -/
theorem algebraic : Cert.algebraic_Kernel8Ideal_Reference8Ideal := fun m ρ m' ρ' _ hag => by
  refine ⟨fun c => (dats m 0 c).arrAt 2 cfg0.N, Value.run_blocks m ρ, ?_⟩
  refine (θ_run (Cert.Reference8Ideal.defs (F := Ideal)) _ _).mono (fun _ h c => ⟨(h c).1.trans (Eq.trans ?_ (final m c).symm), (h c).2⟩) (Cert.Reference8Ideal.Value.run (F := Ideal) m' ρ')
  obtain ⟨a0, a1⟩ := hag c
  refine Eq.trans ?_ (whole _ _).symm
  rw [a0, a1]

end Cert.Kernel8Ideal.Lin

end
-- ==== Proof.Lin9.lean ====
module

public import proofs.«01_k».proof.Proof.Gen.Kernel9Ideal.Value
public import proofs.«01_k».proof.Proof.Gen.Reference9Ideal
public import proofs.«01_k».proof.Proof.Gen.Reference9Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The shared keys and values: one product, its columns in the two halves of the result. -/

@[expose] public section

set_option maxRecDepth 16384

noncomputable section

open Idealize.ShloMosaic Idealize.ShloMosaic.TcCoe Idealize.SL.Sem
open Idealize.ShloMosaic.Pipeline (Dat)

namespace Cert.Kernel9Ideal.Lin

open Cert.Kernel9Ideal Cert.Kernel9Ideal.Gen

variable (m : (ℓ : Loc nD τ sig) → Buf (Elt Ideal) ℓ)

/-- One block's product at a row and a column. -/
theorem part_at (x : FVec Ideal S1024x2048 .bf16) (w : FVec Ideal S1x2048x1024 .bf16) (j : S1x1024x1024.Idx) :
    k0_pay1 (F := Ideal) x w j = ∑ l : Fin 2048, x (ix2 (j 1) l) * w (ix3 0 l (j 2)) := by
  pointwise [k0_pay1]

theorem idx : ∀ t : Fin cfg0.N, win0_0.index t = ![t.val / 4, 0] ∧ win0_1.index t = ![t.val % 4, 0, 0] ∧ win0_2.index t = ![t.val % 4 / 2, t.val / 4, t.val % 2] ∧ t.val / 4 < 4 :=
  (by decide +kernel : ∀ t : Fin grid0.N, _)

/-- The product. -/
def prod (X : FVec Ideal S4096x2048 .bf16) (W : FVec Ideal S4x2048x1024 .bf16) : FVec Ideal S2x4096x2048 .bf16 := fun i =>
  ∑ l : Fin 2048, X (ix2 (i 1) l) * W (ix3 (⟨((i 0).val * 2048 + (i 2).val) / 1024, by have := (i 0).isLt; have := (i 2).isLt; change (i 0).val < 2 at *; change (i 2).val < 2048 at *; omega⟩ : Fin 4) l (⟨((i 0).val * 2048 + (i 2).val) % 1024, by omega⟩ : Fin 1024))

/-- The array after the run. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  rw [part_at]
  unfold prod
  refine Fin.sum_fin_congr fun l => ?_
  blk_point [iblk, V, idx t]

/-- The reference's array at an index. -/
theorem whole_at (X : FVec Ideal S4096x2048 .bf16) (W : FVec Ideal S4x2048x1024 .bf16) (p : Fin 2) (r : Fin 4096) (n : Fin 2048) :
    prod X W (ix3 p r n)
      = truncf .bf16 (transpose Cert.Reference9Ideal.S2x4096x2048 [1, 0, 2] (shapeCast _ (Host.dotGeneral (F := Ideal) Cert.Reference9Ideal.dot_S4096x2048_S2048x4096_S4096x4096_1_0_0_1_n_n none (extf .f32 X Cert.Reference9Ideal.Gen.bitsLt_bf16_f32) (shapeCast _ (transpose Cert.Reference9Ideal.S2048x4x1024 [1, 0, 2] (extf .f32 W Cert.Reference9Ideal.Gen.bitsLt_bf16_f32) Cert.Reference9Ideal.Gen.transposes_S4x2048x1024_S2048x4x1024_1_0_2) Cert.Reference9Ideal.Gen.shapeCasts_S2048x4x1024_S2048x4096)) Cert.Reference9Ideal.Gen.shapeCasts_S4096x4096_S4096x2x2048) Cert.Reference9Ideal.Gen.transposes_S4096x2x2048_S2x4096x2048_1_0_2) Cert.Reference9Ideal.Gen.bitsLt_bf16_f32 (ix3 p r n) := by
  unfold prod
  pointwise []

theorem whole (X : FVec Ideal S4096x2048 .bf16) (W : FVec Ideal S4x2048x1024 .bf16) :
    prod X W = truncf .bf16 (transpose Cert.Reference9Ideal.S2x4096x2048 [1, 0, 2] (shapeCast _ (Host.dotGeneral (F := Ideal) Cert.Reference9Ideal.dot_S4096x2048_S2048x4096_S4096x4096_1_0_0_1_n_n none (extf .f32 X Cert.Reference9Ideal.Gen.bitsLt_bf16_f32) (shapeCast _ (transpose Cert.Reference9Ideal.S2048x4x1024 [1, 0, 2] (extf .f32 W Cert.Reference9Ideal.Gen.bitsLt_bf16_f32) Cert.Reference9Ideal.Gen.transposes_S4x2048x1024_S2048x4x1024_1_0_2) Cert.Reference9Ideal.Gen.shapeCasts_S2048x4x1024_S2048x4096)) Cert.Reference9Ideal.Gen.shapeCasts_S4096x4096_S4096x2x2048) Cert.Reference9Ideal.Gen.transposes_S4096x2x2048_S2x4096x2048_1_0_2) Cert.Reference9Ideal.Gen.bitsLt_bf16_f32 := by
  funext i
  idx_vars i
  exact whole_at X W _ _ _

/-- The kernel and the reference end with the same array. -/
theorem algebraic : Cert.algebraic_Kernel9Ideal_Reference9Ideal := fun m ρ m' ρ' _ hag => by
  refine ⟨fun c => (dats m 0 c).arrAt 2 cfg0.N, Value.run_blocks m ρ, ?_⟩
  refine (θ_run (Cert.Reference9Ideal.defs (F := Ideal)) _ _).mono (fun _ h c => ⟨(h c).1.trans (Eq.trans ?_ (final m c).symm), (h c).2⟩) (Cert.Reference9Ideal.Value.run (F := Ideal) m' ρ')
  obtain ⟨a0, a1⟩ := hag c
  refine Eq.trans ?_ (whole _ _).symm
  rw [a0, a1]

end Cert.Kernel9Ideal.Lin

end
-- ==== Proof.Lin10.lean ====
module

public import proofs.«01_k».proof.Proof.Gen.Kernel10Ideal.Value
public import proofs.«01_k».proof.Proof.Gen.Reference10Ideal
public import proofs.«01_k».proof.Proof.Gen.Reference10Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of a projection's input: one product with the weight's rows. -/

@[expose] public section

set_option maxRecDepth 16384

noncomputable section

open Idealize.ShloMosaic Idealize.ShloMosaic.TcCoe Idealize.SL.Sem
open Idealize.ShloMosaic.Pipeline (Dat)

namespace Cert.Kernel10Ideal.Lin

open Cert.Kernel10Ideal Cert.Kernel10Ideal.Gen

variable (m : (ℓ : Loc nD τ sig) → Buf (Elt Ideal) ℓ)

/-- One block's product at a row and a column. -/
theorem part_at (x : FVec Ideal S1024x2048 .bf16) (w : FVec Ideal S1024x2048 .bf16) (j : S1024x1024.Idx) :
    k0_pay1 (F := Ideal) x w j = ∑ l : Fin 2048, x (ix2 (j 0) l) * w (ix2 (j 1) l) := by
  pointwise [k0_pay1]

theorem idx : ∀ t : Fin cfg0.N, win0_0.index t = ![t.val / 2, 0] ∧ win0_1.index t = ![t.val % 2, 0] ∧ win0_2.index t = ![t.val / 2, t.val % 2] ∧ t.val / 2 < 4 :=
  (by decide +kernel : ∀ t : Fin grid0.N, _)

/-- The product. -/
def prod (X : FVec Ideal S4096x2048 .bf16) (W : FVec Ideal S2048x2048 .bf16) : FVec Ideal S4096x2048 .bf16 := fun i =>
  ∑ l : Fin 2048, X (ix2 (i 0) l) * W (ix2 (i 1) l)

/-- The array after the run. -/
theorem final (c : Dev nD) : (dats m 0 c).arrAt 2 cfg0.N = prod (m ((c : Thread nD τ).loc main_arg2)) (m ((c : Thread nD τ).loc main_arg1)) := by
  refine (dats m 0 c).arrAt_eq_of_covers 2 _ (by decide +kernel) fun t hf y => ?_
  blk_simp
  rw [after0_2]
  unfold out0_2
  frame_out
  rw [part_at]
  unfold prod
  refine Fin.sum_fin_congr fun l => ?_
  blk_point [iblk, V, idx t]

/-- The reference's array at an index. -/
theorem whole_at (X : FVec Ideal S4096x2048 .bf16) (W : FVec Ideal S2048x2048 .bf16) (r : Fin 4096) (n : Fin 2048) :
    prod X W (ix2 r n)
      = truncf .bf16 (Host.dotGeneral (F := Ideal) Cert.Reference10Ideal.dot_S4096x2048_S2048x2048_S4096x2048_1_1_0_0_n_n none (extf .f32 X Cert.Reference10Ideal.Gen.bitsLt_bf16_f32) (extf .f32 W Cert.Reference10Ideal.Gen.bitsLt_bf16_f32)) Cert.Reference10Ideal.Gen.bitsLt_bf16_f32 (ix2 r n) := by
  unfold prod
  pointwise []

theorem whole (X : FVec Ideal S4096x2048 .bf16) (W : FVec Ideal S2048x2048 .bf16) :
    prod X W = truncf .bf16 (Host.dotGeneral (F := Ideal) Cert.Reference10Ideal.dot_S4096x2048_S2048x2048_S4096x2048_1_1_0_0_n_n none (extf .f32 X Cert.Reference10Ideal.Gen.bitsLt_bf16_f32) (extf .f32 W Cert.Reference10Ideal.Gen.bitsLt_bf16_f32)) Cert.Reference10Ideal.Gen.bitsLt_bf16_f32 := by
  funext i
  idx_vars i
  exact whole_at X W _ _

/-- The kernel and the reference end with the same array. -/
theorem algebraic : Cert.algebraic_Kernel10Ideal_Reference10Ideal := fun m ρ m' ρ' _ hag => by
  refine ⟨fun c => (dats m 0 c).arrAt 2 cfg0.N, Value.run_blocks m ρ, ?_⟩
  refine (θ_run (Cert.Reference10Ideal.defs (F := Ideal)) _ _).mono (fun _ h c => ⟨(h c).1.trans (Eq.trans ?_ (final m c).symm), (h c).2⟩) (Cert.Reference10Ideal.Value.run (F := Ideal) m' ρ')
  obtain ⟨a0, a1, a2⟩ := hag c
  refine Eq.trans ?_ (whole _ _).symm
  rw [a1, a2]

end Cert.Kernel10Ideal.Lin

end
-- ==== Proof.Lin11.lean ====
module

public import proofs.«01_k».proof.Proof.Gen.Kernel11Ideal.Value
public import proofs.«01_k».proof.Proof.Gen.Reference11Ideal
public import proofs.«01_k».proof.Proof.Gen.Reference11Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of a projection's input: one product with the weight's rows. -/

@[expose] public section

set_option maxRecDepth 16384

noncomputable section

open Idealize.ShloMosaic Idealize.ShloMosaic.TcCoe Idealize.SL.Sem
open Idealize.ShloMosaic.Pipeline (Dat)

namespace Cert.Kernel11Ideal.Lin

open Cert.Kernel11Ideal Cert.Kernel11Ideal.Gen

variable (m : (ℓ : Loc nD τ sig) → Buf (Elt Ideal) ℓ)

/-- One block's product at a row and a column. -/
theorem part_at (x : FVec Ideal S1024x2048 .bf16) (w : FVec Ideal S1024x2048 .bf16) (j : S1024x1024.Idx) :
    k0_pay1 (F := Ideal) x w j = ∑ l : Fin 2048, x (ix2 (j 0) l) * w (ix2 (j 1) l) := by
  pointwise [k0_pay1]

theorem idx : ∀ t : Fin cfg0.N, win0_0.index t = ![t.val / 2, 0] ∧ win0_1.index t = ![t.val % 2, 0] ∧ win0_2.index t = ![t.val / 2, t.val % 2] ∧ t.val / 2 < 4 :=
  (by decide +kernel : ∀ t : Fin grid0.N, _)

/-- The product. -/
def prod (X : FVec Ideal S4096x2048 .bf16) (W : FVec Ideal S2048x2048 .bf16) : FVec Ideal S4096x2048 .f32 := fun i =>
  ∑ l : Fin 2048, X (ix2 (i 0) l) * W (ix2 (i 1) l)

/-- The array after the run. -/
theorem final (c : Dev nD) : (dats m 0 c).arrAt 2 cfg0.N = prod (m ((c : Thread nD τ).loc main_arg2)) (m ((c : Thread nD τ).loc main_arg1)) := by
  refine (dats m 0 c).arrAt_eq_of_covers 2 _ (by decide +kernel) fun t hf y => ?_
  blk_simp
  rw [after0_2]
  unfold out0_2
  frame_out
  rw [part_at]
  unfold prod
  refine Fin.sum_fin_congr fun l => ?_
  blk_point [iblk, V, idx t]

/-- The reference's array at an index. -/
theorem whole_at (X : FVec Ideal S4096x2048 .bf16) (W : FVec Ideal S2048x2048 .bf16) (r : Fin 4096) (n : Fin 2048) :
    prod X W (ix2 r n)
      = Host.dotGeneral (F := Ideal) Cert.Reference11Ideal.dot_S4096x2048_S2048x2048_S4096x2048_1_1_0_0_n_n none (extf .f32 X Cert.Reference11Ideal.Gen.bitsLt_bf16_f32) (extf .f32 W Cert.Reference11Ideal.Gen.bitsLt_bf16_f32) (ix2 r n) := by
  unfold prod
  pointwise []

theorem whole (X : FVec Ideal S4096x2048 .bf16) (W : FVec Ideal S2048x2048 .bf16) :
    prod X W = Host.dotGeneral (F := Ideal) Cert.Reference11Ideal.dot_S4096x2048_S2048x2048_S4096x2048_1_1_0_0_n_n none (extf .f32 X Cert.Reference11Ideal.Gen.bitsLt_bf16_f32) (extf .f32 W Cert.Reference11Ideal.Gen.bitsLt_bf16_f32) := by
  funext i
  idx_vars i
  exact whole_at X W _ _

/-- The kernel and the reference end with the same array. -/
theorem algebraic : Cert.algebraic_Kernel11Ideal_Reference11Ideal := fun m ρ m' ρ' _ hag => by
  refine ⟨fun c => (dats m 0 c).arrAt 2 cfg0.N, Value.run_blocks m ρ, ?_⟩
  refine (θ_run (Cert.Reference11Ideal.defs (F := Ideal)) _ _).mono (fun _ h c => ⟨(h c).1.trans (Eq.trans ?_ (final m c).symm), (h c).2⟩) (Cert.Reference11Ideal.Value.run (F := Ideal) m' ρ')
  obtain ⟨a0, a1, a2⟩ := hag c
  refine Eq.trans ?_ (whole _ _).symm
  rw [a1, a2]

end Cert.Kernel11Ideal.Lin

end
-- ==== Proof.Lin12.lean ====
module

public import proofs.«01_k».proof.Proof.Gen.Kernel12Ideal.Value
public import proofs.«01_k».proof.Proof.Gen.Reference12Ideal
public import proofs.«01_k».proof.Proof.Gen.Reference12Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of a projection's weight: one product over all rows. -/

@[expose] public section

set_option maxRecDepth 16384

noncomputable section

open Idealize.ShloMosaic Idealize.ShloMosaic.TcCoe Idealize.SL.Sem
open Idealize.ShloMosaic.Pipeline (Dat)

namespace Cert.Kernel12Ideal.Lin

open Cert.Kernel12Ideal Cert.Kernel12Ideal.Gen

variable (m : (ℓ : Loc nD τ sig) → Buf (Elt Ideal) ℓ)

/-- One block's product at a row and a column. -/
theorem part_at (x : FVec Ideal S4096x1024 .bf16) (w : FVec Ideal S4096x1024 .bf16) (j : S1024x1024.Idx) :
    k0_pay1 (F := Ideal) x w j = ∑ l : Fin 4096, x (ix2 l (j 0)) * w (ix2 l (j 1)) := by
  pointwise [k0_pay1]

theorem idx : ∀ t : Fin cfg0.N, win0_0.index t = ![0, t.val / 2] ∧ win0_1.index t = ![0, t.val % 2] ∧ win0_2.index t = ![t.val / 2, t.val % 2] ∧ t.val / 2 < 2 :=
  (by decide +kernel : ∀ t : Fin grid0.N, _)

/-- The product. -/
def prod (X : FVec Ideal S4096x2048 .bf16) (W : FVec Ideal S4096x2048 .bf16) : FVec Ideal S2048x2048 .bf16 := fun i =>
  ∑ l : Fin 4096, X (ix2 l (i 0)) * W (ix2 l (i 1))

/-- The array after the run. -/
theorem final (c : Dev nD) : (dats m 0 c).arrAt 2 cfg0.N = prod (m ((c : Thread nD τ).loc main_arg0)) (m ((c : Thread nD τ).loc main_arg2)) := by
  refine (dats m 0 c).arrAt_eq_of_covers 2 _ (by decide +kernel) fun t hf y => ?_
  blk_simp
  rw [after0_2]
  unfold out0_2
  frame_out
  rw [part_at]
  unfold prod
  refine Fin.sum_fin_congr fun l => ?_
  blk_point [iblk, V, idx t]

/-- The reference's array at an index. -/
theorem whole_at (X : FVec Ideal S4096x2048 .bf16) (W : FVec Ideal S4096x2048 .bf16) (r : Fin 2048) (n : Fin 2048) :
    prod X W (ix2 r n)
      = truncf .bf16 (transpose Cert.Reference12Ideal.S2048x2048 [1, 0] (Host.dotGeneral (F := Ideal) Cert.Reference12Ideal.dot_S4096x2048_S4096x2048_S2048x2048_0_0_1_1_n_n none (extf .f32 W Cert.Reference12Ideal.Gen.bitsLt_bf16_f32) (extf .f32 X Cert.Reference12Ideal.Gen.bitsLt_bf16_f32)) Cert.Reference12Ideal.Gen.transposes_S2048x2048_S2048x2048_1_0) Cert.Reference12Ideal.Gen.bitsLt_bf16_f32 (ix2 r n) := by
  unfold prod
  pointwise []
  refine Fin.sum_fin_congr fun l => ?_
  exact (mul_comm _ _).trans (by pointwise [])

theorem whole (X : FVec Ideal S4096x2048 .bf16) (W : FVec Ideal S4096x2048 .bf16) :
    prod X W = truncf .bf16 (transpose Cert.Reference12Ideal.S2048x2048 [1, 0] (Host.dotGeneral (F := Ideal) Cert.Reference12Ideal.dot_S4096x2048_S4096x2048_S2048x2048_0_0_1_1_n_n none (extf .f32 W Cert.Reference12Ideal.Gen.bitsLt_bf16_f32) (extf .f32 X Cert.Reference12Ideal.Gen.bitsLt_bf16_f32)) Cert.Reference12Ideal.Gen.transposes_S2048x2048_S2048x2048_1_0) Cert.Reference12Ideal.Gen.bitsLt_bf16_f32 := by
  funext i
  idx_vars i
  exact whole_at X W _ _

/-- The kernel and the reference end with the same array. -/
theorem algebraic : Cert.algebraic_Kernel12Ideal_Reference12Ideal := fun m ρ m' ρ' _ hag => by
  refine ⟨fun c => (dats m 0 c).arrAt 2 cfg0.N, Value.run_blocks m ρ, ?_⟩
  refine (θ_run (Cert.Reference12Ideal.defs (F := Ideal)) _ _).mono (fun _ h c => ⟨(h c).1.trans (Eq.trans ?_ (final m c).symm), (h c).2⟩) (Cert.Reference12Ideal.Value.run (F := Ideal) m' ρ')
  obtain ⟨a0, a1, a2⟩ := hag c
  refine Eq.trans ?_ (whole _ _).symm
  rw [a0, a2]

end Cert.Kernel12Ideal.Lin

end
-- ==== Proof.Lin13.lean ====
module

public import proofs.«01_k».proof.Proof.Gen.Kernel13Ideal.Value
public import proofs.«01_k».proof.Proof.Gen.Reference13Ideal
public import proofs.«01_k».proof.Proof.Gen.Reference13Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of the weight of the shared keys and values, in the blocks of the four chips. -/

@[expose] public section

set_option maxRecDepth 16384

noncomputable section

open Idealize.ShloMosaic Idealize.ShloMosaic.TcCoe Idealize.SL.Sem
open Idealize.ShloMosaic.Pipeline (Dat)

namespace Cert.Kernel13Ideal.Lin

open Cert.Kernel13Ideal Cert.Kernel13Ideal.Gen

variable (m : (ℓ : Loc nD τ sig) → Buf (Elt Ideal) ℓ)

/-- One block's product at a row and a column. -/
theorem part_at (x : FVec Ideal S4096x1024 .bf16) (w : FVec Ideal S1x4096x1024 .bf16) (j : S1x1024x1024.Idx) :
    k0_pay1 (F := Ideal) x w j = ∑ l : Fin 4096, x (ix2 l (j 1)) * w (ix3 0 l (j 2)) := by
  pointwise [k0_pay1]

theorem idx : ∀ t : Fin cfg0.N, win0_0.index t = ![0, t.val / 4] ∧ win0_1.index t = ![t.val % 4 / 2, 0, t.val % 2] ∧ win0_2.index t = ![t.val % 4, t.val / 4, 0] ∧ t.val / 4 < 2 :=
  (by decide +kernel : ∀ t : Fin grid0.N, _)

/-- The product. -/
def prod (X : FVec Ideal S4096x2048 .bf16) (W : FVec Ideal S2x4096x2048 .bf16) : FVec Ideal S4x2048x1024 .bf16 := fun i =>
  ∑ l : Fin 4096, X (ix2 l (i 1)) * W (ix3 (⟨((i 0).val * 1024 + (i 2).val) / 2048, by have := (i 0).isLt; have := (i 2).isLt; change (i 0).val < 4 at *; change (i 2).val < 1024 at *; omega⟩ : Fin 2) l (⟨((i 0).val * 1024 + (i 2).val) % 2048, by omega⟩ : Fin 2048))

/-- The array after the run. -/
theorem final (c : Dev nD) : (dats m 0 c).arrAt 2 cfg0.N = prod (m ((c : Thread nD τ).loc main_arg0)) (m ((c : Thread nD τ).loc main_arg2)) := by
  refine (dats m 0 c).arrAt_eq_of_covers 2 _ (by decide +kernel) fun t hf y => ?_
  blk_simp
  rw [after0_2]
  unfold out0_2
  frame_out
  rw [part_at]
  unfold prod
  refine Fin.sum_fin_congr fun l => ?_
  blk_point [iblk, V, idx t]

/-- The reference's array at an index. -/
theorem whole_at (X : FVec Ideal S4096x2048 .bf16) (W : FVec Ideal S2x4096x2048 .bf16) (p : Fin 4) (r : Fin 2048) (n : Fin 1024) :
    prod X W (ix3 p r n)
      = truncf .bf16 (transpose Cert.Reference13Ideal.S4x2048x1024 [1, 0, 2] (shapeCast _ (transpose Cert.Reference13Ideal.S2048x4096 [1, 0] (Host.dotGeneral (F := Ideal) Cert.Reference13Ideal.dot_S4096x4096_S4096x2048_S4096x2048_0_0_1_1_n_n none (shapeCast _ (transpose Cert.Reference13Ideal.S4096x2x2048 [1, 0, 2] (extf .f32 W Cert.Reference13Ideal.Gen.bitsLt_bf16_f32) Cert.Reference13Ideal.Gen.transposes_S2x4096x2048_S4096x2x2048_1_0_2) Cert.Reference13Ideal.Gen.shapeCasts_S4096x2x2048_S4096x4096) (extf .f32 X Cert.Reference13Ideal.Gen.bitsLt_bf16_f32)) Cert.Reference13Ideal.Gen.transposes_S4096x2048_S2048x4096_1_0) Cert.Reference13Ideal.Gen.shapeCasts_S2048x4096_S2048x4x1024) Cert.Reference13Ideal.Gen.transposes_S2048x4x1024_S4x2048x1024_1_0_2) Cert.Reference13Ideal.Gen.bitsLt_bf16_f32 (ix3 p r n) := by
  unfold prod
  pointwise []
  refine Fin.sum_fin_congr fun l => ?_
  refine (mul_comm _ _).trans ?_
  blk_ext []

theorem whole (X : FVec Ideal S4096x2048 .bf16) (W : FVec Ideal S2x4096x2048 .bf16) :
    prod X W = truncf .bf16 (transpose Cert.Reference13Ideal.S4x2048x1024 [1, 0, 2] (shapeCast _ (transpose Cert.Reference13Ideal.S2048x4096 [1, 0] (Host.dotGeneral (F := Ideal) Cert.Reference13Ideal.dot_S4096x4096_S4096x2048_S4096x2048_0_0_1_1_n_n none (shapeCast _ (transpose Cert.Reference13Ideal.S4096x2x2048 [1, 0, 2] (extf .f32 W Cert.Reference13Ideal.Gen.bitsLt_bf16_f32) Cert.Reference13Ideal.Gen.transposes_S2x4096x2048_S4096x2x2048_1_0_2) Cert.Reference13Ideal.Gen.shapeCasts_S4096x2x2048_S4096x4096) (extf .f32 X Cert.Reference13Ideal.Gen.bitsLt_bf16_f32)) Cert.Reference13Ideal.Gen.transposes_S4096x2048_S2048x4096_1_0) Cert.Reference13Ideal.Gen.shapeCasts_S2048x4096_S2048x4x1024) Cert.Reference13Ideal.Gen.transposes_S2048x4x1024_S4x2048x1024_1_0_2) Cert.Reference13Ideal.Gen.bitsLt_bf16_f32 := by
  funext i
  idx_vars i
  exact whole_at X W _ _ _

/-- The kernel and the reference end with the same array. -/
theorem algebraic : Cert.algebraic_Kernel13Ideal_Reference13Ideal := fun m ρ m' ρ' _ hag => by
  refine ⟨fun c => (dats m 0 c).arrAt 2 cfg0.N, Value.run_blocks m ρ, ?_⟩
  refine (θ_run (Cert.Reference13Ideal.defs (F := Ideal)) _ _).mono (fun _ h c => ⟨(h c).1.trans (Eq.trans ?_ (final m c).symm), (h c).2⟩) (Cert.Reference13Ideal.Value.run (F := Ideal) m' ρ')
  obtain ⟨a0, a1, a2⟩ := hag c
  refine Eq.trans ?_ (whole _ _).symm
  rw [a0, a2]

end Cert.Kernel13Ideal.Lin

end
-- ==== Proof.Lin14.lean ====
module

public import proofs.«01_k».proof.Proof.Gen.Kernel14Ideal.Value
public import proofs.«01_k».proof.Proof.Gen.Reference14Ideal
public import proofs.«01_k».proof.Proof.Gen.Reference14Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of the rows that the shared keys and values come from: one product over all columns, made in four blocks. -/

@[expose] public section

set_option maxRecDepth 16384

noncomputable section

open Idealize.ShloMosaic Idealize.ShloMosaic.TcCoe Idealize.SL.Sem
open Idealize.ShloMosaic.Pipeline (Dat)

namespace Cert.Kernel14Ideal.Lin

open Cert.Kernel14Ideal Cert.Kernel14Ideal.Gen

variable (m : (ℓ : Loc nD τ sig) → Buf (Elt Ideal) ℓ)

/-- One block's product at a row and a column. -/
theorem part_at (x : FVec Ideal S1x1024x1024 .bf16) (w : FVec Ideal S1x1024x1024 .bf16) (j : S1024x1024.Idx) :
    k0_pay1 (F := Ideal) x w j = ∑ l : Fin 1024, x (ix3 0 (j 0) l) * w (ix3 0 (j 1) l) := by
  pointwise [k0_pay1]

theorem first_at (x w j) : k0_pay2 (F := Ideal) x w j = 0 + k0_pay1 (F := Ideal) x w j := by
  rw [zero_add]; pointwise [k0_pay2]

theorem next_at (x w a j) : k0_pay3 (F := Ideal) x w a j = a j + k0_pay1 (F := Ideal) x w j := by
  pointwise [k0_pay3]

theorem idx : ∀ t : Fin cfg0.N, win0_0.index t = ![t.val % 4 / 2, t.val / 8, t.val % 4 % 2] ∧ win0_1.index t = ![t.val % 4, t.val / 4 % 2, 0]
    ∧ win0_2.index t = ![t.val / 8, t.val / 4 % 2] ∧ t.val / 8 < 4 :=
  (by decide +kernel : ∀ t : Fin grid0.N, _)

/-- The product in 4 blocks of columns. -/
def blocks (X : FVec Ideal S2x4096x2048 .bf16) (W : FVec Ideal S4x2048x1024 .bf16) : FVec Ideal S4096x2048 .f32 := fun i =>
  ∑ s : Fin 4, ∑ l : Fin 1024, X (ix3 (⟨s.val / 2, by omega⟩ : Fin 2) (i 0) (⟨s.val % 2 * 1024 + l.val, by omega⟩ : Fin 2048)) * W (ix3 s (i 1) l)

/-- What the carried sum holds when its run of 4 points ends. -/
theorem carried (c : Dev nD) (t : Fin cfg0.N) (hf : t.val % 4 = 4 - 1) (j : S1024x1024.Idx) :
    (outsAt0 m c t.val t.isLt).2 j = ∑ s : Fin 4, k0_pay1 (F := Ideal) (iblk m c 0 ⟨4 * (t.val / 4) + s.val, Pipeline.run_point_lt_of_flush t hf s⟩)
      (iblk m c 1 ⟨4 * (t.val / 4) + s.val, Pipeline.run_point_lt_of_flush t hf s⟩) j := by
  rw [Pipeline.eq_sum_fin_of_reset_step_apply_of_flush (fun n h => (outsAt0 m c n h).2) 4 (fun _ => (0 : EReal))
    (fun p j => k0_pay1 (F := Ideal) (iblk m c 0 p) (iblk m c 1 p) j)
    (fun t h j => by rw [outsAt0_A m c t h (by omega) (by omega)]; frame_out; rw [first_at])
    (fun t h j => by
      by_cases h2 : t.val % 4 = 3
      · rw [outsAt0_C m c t h (by omega) h2]; frame_out; rw [next_at, read_unread_whole]
      · rw [outsAt0_B m c t h (by omega) h2]; frame_out; rw [next_at, read_unread_whole])
    t hf j, zero_add]

/-- The array after the run. -/
theorem final (c : Dev nD) : (dats m 0 c).arrAt 2 cfg0.N = blocks (m ((c : Thread nD τ).loc main_arg2)) (m ((c : Thread nD τ).loc main_arg1)) := by
  refine (dats m 0 c).arrAt_eq_of_covers 2 _ (by decide +kernel) fun t hf y => ?_
  have hf' := (flush0_2 t).mp hf
  have e : (outsAt0 m c t.val t.isLt).1 = (outsAt0 m c t.val t.isLt).2 := by
    rw [outsAt0_C m c t (by omega) (by omega) hf']; frame_out
  blk_simp
  rw [after0_2, e, carried m c t hf']
  refine Fin.sum_fin_congr fun s => ?_
  rw [part_at]
  refine Fin.sum_fin_congr fun l => ?_
  blk_point [iblk, V, idx t, idx ⟨_, Pipeline.run_point_lt_of_flush t hf' s⟩]

/-- The blocks make up the whole product. -/
theorem whole_at (Z : FVec Ideal S2x4096x2048 .bf16) (W : FVec Ideal S4x2048x1024 .bf16) (r : Fin 4096) (n : Fin 2048) :
    blocks Z W (ix2 r n)
      = Host.dotGeneral (F := Ideal) Cert.Reference14Ideal.dot_S4096x4096_S2048x4096_S4096x2048_1_1_0_0_n_n none (shapeCast _ (transpose Cert.Reference14Ideal.S4096x2x2048 [1, 0, 2] (extf .f32 Z Cert.Reference14Ideal.Gen.bitsLt_bf16_f32) Cert.Reference14Ideal.Gen.transposes_S2x4096x2048_S4096x2x2048_1_0_2) Cert.Reference14Ideal.Gen.shapeCasts_S4096x2x2048_S4096x4096) (shapeCast _ (transpose Cert.Reference14Ideal.S2048x4x1024 [1, 0, 2] (extf .f32 W Cert.Reference14Ideal.Gen.bitsLt_bf16_f32) Cert.Reference14Ideal.Gen.transposes_S4x2048x1024_S2048x4x1024_1_0_2) Cert.Reference14Ideal.Gen.shapeCasts_S2048x4x1024_S2048x4096) (ix2 r n) := by
  pointwise []
  unfold blocks
  refine Fin.sum_mul_add_congr fun s l hl => ?_
  refine congr (congrArg HMul.hMul ?_) ?_
  · blk_point []
  · blk_point []

theorem whole (Z : FVec Ideal S2x4096x2048 .bf16) (W : FVec Ideal S4x2048x1024 .bf16) :
    blocks Z W
      = Host.dotGeneral (F := Ideal) Cert.Reference14Ideal.dot_S4096x4096_S2048x4096_S4096x2048_1_1_0_0_n_n none (shapeCast _ (transpose Cert.Reference14Ideal.S4096x2x2048 [1, 0, 2] (extf .f32 Z Cert.Reference14Ideal.Gen.bitsLt_bf16_f32) Cert.Reference14Ideal.Gen.transposes_S2x4096x2048_S4096x2x2048_1_0_2) Cert.Reference14Ideal.Gen.shapeCasts_S4096x2x2048_S4096x4096) (shapeCast _ (transpose Cert.Reference14Ideal.S2048x4x1024 [1, 0, 2] (extf .f32 W Cert.Reference14Ideal.Gen.bitsLt_bf16_f32) Cert.Reference14Ideal.Gen.transposes_S4x2048x1024_S2048x4x1024_1_0_2) Cert.Reference14Ideal.Gen.shapeCasts_S2048x4x1024_S2048x4096) := by
  funext i
  idx_vars i
  exact whole_at Z W _ _

/-- The kernel and the reference end with the same array. -/
theorem algebraic : Cert.algebraic_Kernel14Ideal_Reference14Ideal := fun m ρ m' ρ' _ hag => by
  refine ⟨fun c => (dats m 0 c).arrAt 2 cfg0.N, Value.run_blocks m ρ, ?_⟩
  refine (θ_run (Cert.Reference14Ideal.defs (F := Ideal)) _ _).mono (fun _ h c => ⟨(h c).1.trans (Eq.trans ?_ (final m c).symm), (h c).2⟩) (Cert.Reference14Ideal.Value.run (F := Ideal) m' ρ')
  obtain ⟨a0, a1, a2⟩ := hag c
  refine Eq.trans ?_ (whole _ _).symm
  rw [a1, a2]

end Cert.Kernel14Ideal.Lin

end
-- ==== Proof.Lin15.lean ====
module

public import proofs.«01_k».proof.Proof.Gen.Kernel15Ideal.Value
public import proofs.«01_k».proof.Proof.Gen.Reference15Ideal
public import proofs.«01_k».proof.Proof.Gen.Reference15Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of the first attention's rows: one product over all columns, made in seven blocks, the last with columns of zeros. -/

@[expose] public section

set_option maxRecDepth 16384

noncomputable section

open Idealize.ShloMosaic Idealize.ShloMosaic.TcCoe Idealize.SL.Sem
open Idealize.ShloMosaic.Pipeline (Dat)

namespace Cert.Kernel15Ideal.Lin

open Cert.Kernel15Ideal Cert.Kernel15Ideal.Gen

variable (m : (ℓ : Loc nD τ sig) → Buf (Elt Ideal) ℓ)

/-- One block's product at a row and a column. -/
theorem part_at (x : FVec Ideal S1024x896 .bf16) (w : FVec Ideal S1024x896 .bf16) (j : S1024x1024.Idx) :
    k0_pay1 (F := Ideal) x w j = ∑ l : Fin 896, x (ix2 (j 0) l) * w (ix2 (j 1) l) := by
  pointwise [k0_pay1]

theorem first_at (x w j) : k0_pay2 (F := Ideal) x w j = 0 + k0_pay1 (F := Ideal) x w j := by
  rw [zero_add]; pointwise [k0_pay2]

theorem next_at (x w a j) : k0_pay3 (F := Ideal) x w a j = a j + k0_pay1 (F := Ideal) x w j := by
  pointwise [k0_pay3]

theorem idx : ∀ t : Fin cfg0.N, win0_0.index t = ![t.val / 14, t.val % 7] ∧ win0_1.index t = ![t.val / 7 % 2, t.val % 7]
    ∧ win0_2.index t = ![t.val / 14, t.val / 7 % 2] ∧ t.val / 14 < 4 :=
  (by decide +kernel : ∀ t : Fin grid0.N, _)

/-- The product in 7 blocks of columns. -/
def blocks (X : FVec Ideal S4096x6272 .bf16) (W : FVec Ideal S2048x6272 .bf16) : FVec Ideal S4096x2048 .f32 := fun i =>
  ∑ s : Fin 7, ∑ l : Fin 896, X (ix2 (i 0) (⟨s.val * 896 + l.val, by omega⟩ : Fin 6272)) * W (ix2 (i 1) (⟨s.val * 896 + l.val, by omega⟩ : Fin 6272))

/-- What the carried sum holds when its run of 7 points ends. -/
theorem carried (c : Dev nD) (t : Fin cfg0.N) (hf : t.val % 7 = 7 - 1) (j : S1024x1024.Idx) :
    (outsAt0 m c t.val t.isLt).2 j = ∑ s : Fin 7, k0_pay1 (F := Ideal) (iblk m c 0 ⟨7 * (t.val / 7) + s.val, Pipeline.run_point_lt_of_flush t hf s⟩)
      (iblk m c 1 ⟨7 * (t.val / 7) + s.val, Pipeline.run_point_lt_of_flush t hf s⟩) j := by
  rw [Pipeline.eq_sum_fin_of_reset_step_apply_of_flush (fun n h => (outsAt0 m c n h).2) 7 (fun _ => (0 : EReal))
    (fun p j => k0_pay1 (F := Ideal) (iblk m c 0 p) (iblk m c 1 p) j)
    (fun t h j => by rw [outsAt0_A m c t h (by omega) (by omega)]; frame_out; rw [first_at])
    (fun t h j => by
      by_cases h2 : t.val % 7 = 6
      · rw [outsAt0_C m c t h (by omega) h2]; frame_out; rw [next_at, read_unread_whole]
      · rw [outsAt0_B m c t h (by omega) h2]; frame_out; rw [next_at, read_unread_whole])
    t hf j, zero_add]

/-- The array after the run. -/
theorem final (c : Dev nD) : (dats m 0 c).arrAt 2 cfg0.N = blocks (V m c main_v0) (V m c main_v1) := by
  refine (dats m 0 c).arrAt_eq_of_covers 2 _ (by decide +kernel) fun t hf y => ?_
  have hf' := (flush0_2 t).mp hf
  have e : (outsAt0 m c t.val t.isLt).1 = (outsAt0 m c t.val t.isLt).2 := by
    rw [outsAt0_C m c t (by omega) (by omega) hf']; frame_out
  blk_simp
  rw [after0_2, e, carried m c t hf']
  refine Fin.sum_fin_congr fun s => ?_
  rw [part_at]
  refine Fin.sum_fin_congr fun l => ?_
  blk_point [iblk, V, idx t, idx ⟨_, Pipeline.run_point_lt_of_flush t hf' s⟩]

/-- The columns of the padded arrays that are not zero. -/
theorem joined_at (Z : FVec Ideal S4096x6160 .bf16) (W : FVec Ideal S2048x6160 .bf16) (r : Fin 4096) (n : Fin 2048) :
    ∑ k : Fin 6272, (pad S4096x6272 ![0, 0] ![0, 112] ![0, 0] Z (sitofp .bf16 (constantI S_ 32 0#32)) pads_S4096x6160_S4096x6272_000_01120 h_S_) (ix2 r k) * (pad S2048x6272 ![0, 0] ![0, 112] ![0, 0] W (sitofp .bf16 (constantI S_ 32 0#32)) pads_S2048x6160_S2048x6272_000_01120 h_S_) (ix2 n k) = ∑ k : Fin 6160, Z (ix2 r k) * W (ix2 n k) := by
  have z : (FloatOps.sitofp .bf16 (0#32) : Ideal .bf16) = (0 : EReal) := by
    change ((((0#32 : BitVec 32).toInt : ℝ)) : EReal) = 0
    simp
  pointwise []
  simp only [z]
  refine Eq.trans (congrArg (_ + ·) (Finset.sum_eq_zero fun _ _ => ?_)) (add_zero _)
  exact mul_zero (0 : EReal)

/-- The blocks make up the whole product. -/
theorem whole_at (Z : FVec Ideal S4096x6160 .bf16) (W : FVec Ideal S2048x6160 .bf16) (r : Fin 4096) (n : Fin 2048) :
    blocks (pad S4096x6272 ![0, 0] ![0, 112] ![0, 0] Z (sitofp .bf16 (constantI S_ 32 0#32)) pads_S4096x6160_S4096x6272_000_01120 h_S_) (pad S2048x6272 ![0, 0] ![0, 112] ![0, 0] W (sitofp .bf16 (constantI S_ 32 0#32)) pads_S2048x6160_S2048x6272_000_01120 h_S_) (ix2 r n)
      = Host.dotGeneral (F := Ideal) Cert.Reference15Ideal.dot_S4096x6160_S2048x6160_S4096x2048_1_1_0_0_n_n none (extf .f32 Z Cert.Reference15Ideal.Gen.bitsLt_bf16_f32) (extf .f32 W Cert.Reference15Ideal.Gen.bitsLt_bf16_f32) (ix2 r n) := by
  refine Eq.trans ?_ ((joined_at Z W r n).trans ?_)
  · unfold blocks
    exact Fin.sum_mul_add_congr fun s l hl => rfl
  · pointwise []

theorem whole (Z : FVec Ideal S4096x6160 .bf16) (W : FVec Ideal S2048x6160 .bf16) :
    blocks (pad S4096x6272 ![0, 0] ![0, 112] ![0, 0] Z (sitofp .bf16 (constantI S_ 32 0#32)) pads_S4096x6160_S4096x6272_000_01120 h_S_) (pad S2048x6272 ![0, 0] ![0, 112] ![0, 0] W (sitofp .bf16 (constantI S_ 32 0#32)) pads_S2048x6160_S2048x6272_000_01120 h_S_)
      = Host.dotGeneral (F := Ideal) Cert.Reference15Ideal.dot_S4096x6160_S2048x6160_S4096x2048_1_1_0_0_n_n none (extf .f32 Z Cert.Reference15Ideal.Gen.bitsLt_bf16_f32) (extf .f32 W Cert.Reference15Ideal.Gen.bitsLt_bf16_f32) := by
  funext i
  idx_vars i
  exact whole_at Z W _ _

/-- The kernel and the reference end with the same array. -/
theorem algebraic : Cert.algebraic_Kernel15Ideal_Reference15Ideal := fun m ρ m' ρ' _ hag => by
  refine ⟨fun c => (dats m 0 c).arrAt 2 cfg0.N, Value.run_blocks m ρ, ?_⟩
  refine (θ_run (Cert.Reference15Ideal.defs (F := Ideal)) _ _).mono (fun _ h c => ⟨(h c).1.trans (Eq.trans ?_ (final m c).symm), (h c).2⟩) (Cert.Reference15Ideal.Value.run (F := Ideal) m' ρ')
  obtain ⟨a0, a1, a2⟩ := hag c
  simp only [V, hostOps0, hostOps0_1, hostOps0_2, hostOps0_3, List.flatten_cons, List.flatten_nil, List.append_nil, List.cons_append, List.nil_append]
  entry_read
  simp only [StableHlo.TRef.toBuf, StableHlo.TRef.ofBuf, cast_eq]
  refine Eq.trans ?_ (whole _ _).symm
  rw [a1, a2]

end Cert.Kernel15Ideal.Lin

end
-- ==== Proof.Lin16.lean ====
module

public import proofs.«01_k».proof.Proof.Gen.Kernel16Ideal.Value
public import proofs.«01_k».proof.Proof.Gen.Reference16Ideal
public import proofs.«01_k».proof.Proof.Gen.Reference16Ideal.Run
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of the first attention's input weight: one product over all rows, with columns of zeros behind. -/

@[expose] public section

set_option maxRecDepth 16384

noncomputable section

open Idealize.ShloMosaic Idealize.ShloMosaic.TcCoe Idealize.SL.Sem
open Idealize.ShloMosaic.Pipeline (Dat)

namespace Cert.Kernel16Ideal.Lin

open Cert.Kernel16Ideal Cert.Kernel16Ideal.Gen

variable (m : (ℓ : Loc nD τ sig) → Buf (Elt Ideal) ℓ)

/-- One block's product at a row and a column. -/
theorem part_at (x : FVec Ideal S4096x1024 .bf16) (w : FVec Ideal S4096x896 .bf16) (j : S1024x896.Idx) :
    k0_pay1 (F := Ideal) x w j = ∑ l : Fin 4096, x (ix2 l (j 0)) * w (ix2 l (j 1)) := by
  pointwise [k0_pay1]

theorem idx : ∀ t : Fin cfg0.N, win0_0.index t = ![0, t.val / 7] ∧ win0_1.index t = ![0, t.val % 7] ∧ win0_2.index t = ![t.val / 7, t.val % 7] ∧ t.val / 7 < 2 :=
  (by decide +kernel : ∀ t : Fin grid0.N, _)

/-- The product. -/
def prod (X : FVec Ideal S4096x2048 .bf16) (W : FVec Ideal S4096x6272 .bf16) : FVec Ideal S2048x6272 .bf16 := fun i =>
  ∑ l : Fin 4096, X (ix2 l (i 0)) * W (ix2 l (i 1))

/-- The array after the run. -/
theorem final (c : Dev nD) : (dats m 0 c).arrAt 2 cfg0.N = prod (m ((c : Thread nD τ).loc main_arg0)) (V m c main_v0) := by
  refine (dats m 0 c).arrAt_eq_of_covers 2 _ (by decide +kernel) fun t hf y => ?_
  blk_simp
  rw [after0_2]
  unfold out0_2
  frame_out
  rw [part_at]
  unfold prod
  refine Fin.sum_fin_congr fun l => ?_
  blk_point [iblk, V, idx t]

/-- The reference's array at an index. -/
theorem whole_at (X : FVec Ideal S4096x2048 .bf16) (W : FVec Ideal S4096x6160 .bf16) (r : Fin 2048) (n : Fin 6272) :
    prod X (pad Cert.Kernel16Ideal.S4096x6272 ![0, 0] ![0, 112] ![0, 0] W (sitofp .bf16 (constantI Cert.Kernel16Ideal.S_ 32 0#32)) Cert.Kernel16Ideal.Gen.pads_S4096x6160_S4096x6272_000_01120 Cert.Kernel16Ideal.Gen.h_S_) (ix2 r n)
      = truncf .bf16 (pad Cert.Reference16Ideal.S2048x6272 ![0, 0] ![0, 112] ![0, 0] (transpose Cert.Reference16Ideal.S2048x6160 [1, 0] (Host.dotGeneral (F := Ideal) Cert.Reference16Ideal.dot_S4096x6160_S4096x2048_S6160x2048_0_0_1_1_n_n none (extf .f32 W Cert.Reference16Ideal.Gen.bitsLt_bf16_f32) (extf .f32 X Cert.Reference16Ideal.Gen.bitsLt_bf16_f32)) Cert.Reference16Ideal.Gen.transposes_S6160x2048_S2048x6160_1_0) (sitofp .f32 (constantI Cert.Reference16Ideal.S_ 32 0#32)) Cert.Reference16Ideal.Gen.pads_S2048x6160_S2048x6272_000_01120 Cert.Reference16Ideal.Gen.h_S_) Cert.Reference16Ideal.Gen.bitsLt_bf16_f32 (ix2 r n) := by
  unfold prod
  pointwise []
  have z : ∀ ty : FTy, (FloatOps.sitofp ty (0#32) : Ideal ty) = (0 : EReal) := fun ty => by
    change ((((0#32 : BitVec 32).toInt : ℝ)) : EReal) = 0
    simp
  simp only [z]
  by_cases h : n.val < 6160
  · simp only [dif_pos h]
    exact Fin.sum_fin_congr fun l => mul_comm _ _
  · simp only [dif_neg h]
    exact Finset.sum_eq_zero fun x _ => mul_zero _

theorem whole (X : FVec Ideal S4096x2048 .bf16) (W : FVec Ideal S4096x6160 .bf16) :
    prod X (pad Cert.Kernel16Ideal.S4096x6272 ![0, 0] ![0, 112] ![0, 0] W (sitofp .bf16 (constantI Cert.Kernel16Ideal.S_ 32 0#32)) Cert.Kernel16Ideal.Gen.pads_S4096x6160_S4096x6272_000_01120 Cert.Kernel16Ideal.Gen.h_S_) = truncf .bf16 (pad Cert.Reference16Ideal.S2048x6272 ![0, 0] ![0, 112] ![0, 0] (transpose Cert.Reference16Ideal.S2048x6160 [1, 0] (Host.dotGeneral (F := Ideal) Cert.Reference16Ideal.dot_S4096x6160_S4096x2048_S6160x2048_0_0_1_1_n_n none (extf .f32 W Cert.Reference16Ideal.Gen.bitsLt_bf16_f32) (extf .f32 X Cert.Reference16Ideal.Gen.bitsLt_bf16_f32)) Cert.Reference16Ideal.Gen.transposes_S6160x2048_S2048x6160_1_0) (sitofp .f32 (constantI Cert.Reference16Ideal.S_ 32 0#32)) Cert.Reference16Ideal.Gen.pads_S2048x6160_S2048x6272_000_01120 Cert.Reference16Ideal.Gen.h_S_) Cert.Reference16Ideal.Gen.bitsLt_bf16_f32 := by
  funext i
  idx_vars i
  exact whole_at X W _ _

/-- The kernel and the reference end with the same array. -/
theorem algebraic : Cert.algebraic_Kernel16Ideal_Reference16Ideal := fun m ρ m' ρ' _ hag => by
  refine ⟨fun c => (dats m 0 c).arrAt 2 cfg0.N, Value.run_blocks m ρ, ?_⟩
  refine (θ_run (Cert.Reference16Ideal.defs (F := Ideal)) _ _).mono (fun _ h c => ⟨(h c).1.trans (Eq.trans ?_ (final m c).symm), (h c).2⟩) (Cert.Reference16Ideal.Value.run (F := Ideal) m' ρ')
  obtain ⟨a0, a1, a2⟩ := hag c
  simp only [V, hostOps0, hostOps0_1, List.flatten_cons, List.flatten_nil, List.append_nil, List.cons_append, List.nil_append]
  entry_read
  simp only [StableHlo.TRef.toBuf, StableHlo.TRef.ofBuf, cast_eq]
  refine Eq.trans ?_ (whole _ _).symm
  rw [a0, a2]

end Cert.Kernel16Ideal.Lin

end
-- ==== Proof.NormFrames.lean ====
module

public import proofs.«01_k».proof.Defs
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run

/-! The frames of the norms' and gates' programs and of the loss. -/

@[expose] public section

noncomputable section

namespace Cert.Norm

open Idealize.ShloMosaic Idealize.SL.Sem

theorem no_sem17 : ∀ sm : SemLoc Cert.Reference17Ideal.sig, False := by decide

theorem frame_kernel17 : Cert.quiescent_Kernel17 := fun m ρ _ => Cert.Kernel17.Gen.frame (F := Bits) m ρ

theorem frame_ideal17 : Cert.quiescent_Kernel17Ideal := fun m ρ _ => Cert.Kernel17Ideal.Gen.frame (F := Ideal) m ρ

theorem frame_reference17 : Cert.quiescent_Reference17Ideal := fun m ρ _ =>
  (θ_run Cert.Reference17Ideal.defs _ _).mono (fun _ h => ⟨fun c => (h c).2, funext fun g => (no_sem17 g.2).elim⟩) (Cert.Reference17Ideal.Value.run (F := Ideal) m ρ)

theorem no_sem18 : ∀ sm : SemLoc Cert.Reference18Ideal.sig, False := by decide

theorem frame_kernel18 : Cert.quiescent_Kernel18 := fun m ρ _ => Cert.Kernel18.Gen.frame (F := Bits) m ρ

theorem frame_ideal18 : Cert.quiescent_Kernel18Ideal := fun m ρ _ => Cert.Kernel18Ideal.Gen.frame (F := Ideal) m ρ

theorem frame_reference18 : Cert.quiescent_Reference18Ideal := fun m ρ _ =>
  (θ_run Cert.Reference18Ideal.defs _ _).mono (fun _ h => ⟨fun c => (h c).2.2.2, funext fun g => (no_sem18 g.2).elim⟩) (Cert.Reference18Ideal.Value.run (F := Ideal) m ρ)

theorem no_sem19 : ∀ sm : SemLoc Cert.Reference19Ideal.sig, False := by decide

theorem frame_kernel19 : Cert.quiescent_Kernel19 := fun m ρ _ => Cert.Kernel19.Gen.frame (F := Bits) m ρ

theorem frame_ideal19 : Cert.quiescent_Kernel19Ideal := fun m ρ _ => Cert.Kernel19Ideal.Gen.frame (F := Ideal) m ρ

theorem frame_reference19 : Cert.quiescent_Reference19Ideal := fun m ρ _ =>
  (θ_run Cert.Reference19Ideal.defs _ _).mono (fun _ h => ⟨fun c => (h c).2, funext fun g => (no_sem19 g.2).elim⟩) (Cert.Reference19Ideal.Value.run (F := Ideal) m ρ)

theorem no_sem20 : ∀ sm : SemLoc Cert.Reference20Ideal.sig, False := by decide

theorem frame_kernel20 : Cert.quiescent_Kernel20 := fun m ρ _ => Cert.Kernel20.Gen.frame (F := Bits) m ρ

theorem frame_ideal20 : Cert.quiescent_Kernel20Ideal := fun m ρ _ => Cert.Kernel20Ideal.Gen.frame (F := Ideal) m ρ

theorem frame_reference20 : Cert.quiescent_Reference20Ideal := fun m ρ _ =>
  (θ_run Cert.Reference20Ideal.defs _ _).mono (fun _ h => ⟨fun c => (h c).2.2.2, funext fun g => (no_sem20 g.2).elim⟩) (Cert.Reference20Ideal.Value.run (F := Ideal) m ρ)

theorem no_sem21 : ∀ sm : SemLoc Cert.Reference21Ideal.sig, False := by decide

theorem frame_kernel21 : Cert.quiescent_Kernel21 := fun m ρ _ => Cert.Kernel21.Gen.frame (F := Bits) m ρ

theorem frame_ideal21 : Cert.quiescent_Kernel21Ideal := fun m ρ _ => Cert.Kernel21Ideal.Gen.frame (F := Ideal) m ρ

theorem frame_reference21 : Cert.quiescent_Reference21Ideal := fun m ρ _ =>
  (θ_run Cert.Reference21Ideal.defs _ _).mono (fun _ h => ⟨fun c => (h c).2, funext fun g => (no_sem21 g.2).elim⟩) (Cert.Reference21Ideal.Value.run (F := Ideal) m ρ)

theorem no_sem22 : ∀ sm : SemLoc Cert.Reference22Ideal.sig, False := by decide

theorem frame_kernel22 : Cert.quiescent_Kernel22 := fun m ρ _ => Cert.Kernel22.Gen.frame (F := Bits) m ρ

theorem frame_ideal22 : Cert.quiescent_Kernel22Ideal := fun m ρ _ => Cert.Kernel22Ideal.Gen.frame (F := Ideal) m ρ

theorem frame_reference22 : Cert.quiescent_Reference22Ideal := fun m ρ _ =>
  (θ_run Cert.Reference22Ideal.defs _ _).mono (fun _ h => ⟨fun c => (h c).2.2.2, funext fun g => (no_sem22 g.2).elim⟩) (Cert.Reference22Ideal.Value.run (F := Ideal) m ρ)

theorem no_sem23 : ∀ sm : SemLoc Cert.Reference23Ideal.sig, False := by decide

theorem frame_kernel23 : Cert.quiescent_Kernel23 := fun m ρ _ => Cert.Kernel23.Gen.frame (F := Bits) m ρ

theorem frame_ideal23 : Cert.quiescent_Kernel23Ideal := fun m ρ _ => Cert.Kernel23Ideal.Gen.frame (F := Ideal) m ρ

theorem frame_reference23 : Cert.quiescent_Reference23Ideal := fun m ρ _ =>
  (θ_run Cert.Reference23Ideal.defs _ _).mono (fun _ h => ⟨fun c => (h c).2.2.2.2, funext fun g => (no_sem23 g.2).elim⟩) (Cert.Reference23Ideal.Value.run (F := Ideal) m ρ)

end Cert.Norm
-- ==== Proof.Norm.lean ====
module

public import proofs.«01_k».proof.Proof.Ffn2
public import Idealize.ShloMosaic.Lib.Pointwise

/-! Root-mean-square normalisation in exact arithmetic: the factor of a row, and the law of its gradient on reals. -/

@[expose] public section

set_option maxRecDepth 16384

noncomputable section

open Idealize.ShloMosaic

namespace Cert.Norm

open Cert.Kernel2Ideal.Ffn (IsR)

/-- The mean of the squares of a row, and the small number added to it. -/
def ms {n : ℕ} (N : EReal) (x : Fin n → EReal) : EReal := Ideal.div (∑ k, x k * x k) N + Ideal.ofBits .f32 897988541#32

/-- The factor that normalises a row. -/
def inv {n : ℕ} (N : EReal) (x : Fin n → EReal) : EReal := Ideal.rsqrt (ms N x)

/-- The gradient of a normalised row's entry, as the kernel computes it; `y` is the gradient times the weight. -/
def grad {n : ℕ} (N : EReal) (y x : Fin n → EReal) (k : Fin n) : EReal :=
  inv N x * (y k - x k * inv N x * Ideal.div (∑ l, y l * (x l * inv N x)) N)

/-- The mean's part of the gradient, as differentiation of the plain formula gives it. -/
def back {n : ℕ} (N : EReal) (y x : Fin n → EReal) : EReal :=
  ∑ _ : Fin 1, Ideal.div ((∑ l, x l * y l) * (Ideal.ofBits .f32 3204448256#32 * Ideal.div (inv N x) (ms N x))) N

theorem grad_congr {n : ℕ} {N : EReal} {y y' x x' : Fin n → EReal} (hy : ∀ l, y l = y' l) (hx : ∀ l, x l = x' l) (k : Fin n) : grad N y x k = grad N y' x' k := by
  rw [funext hy, funext hx]

theorem mul_eq {a a' b b' : EReal} (ha : a = a') (hb : b = b') : a * b = a' * b' := by
  rw [ha, hb]

theorem ofBits_2048 : Ideal.ofBits .f32 1157627904#32 = ((2048 : ℝ) : EReal) := by
  simp [Ideal.ofBits, Ideal.ieee, -EReal.coe_mul]; norm_num

theorem ofBits_512 : Ideal.ofBits .f32 1140850688#32 = ((512 : ℝ) : EReal) := by
  simp [Ideal.ofBits, Ideal.ieee, -EReal.coe_mul]; norm_num

theorem ofBits_neg_half : Ideal.ofBits .f32 3204448256#32 = ((-(1 / 2) : ℝ) : EReal) := by
  simp [Ideal.ofBits, Ideal.ieee, -EReal.coe_mul]; norm_num

/-- The small number is a positive real. -/
theorem ofBits_eps : ∃ e : ℝ, 0 < e ∧ Ideal.ofBits .f32 897988541#32 = (e : EReal) := by
  refine ⟨8796093 / 8796093022208, by norm_num, ?_⟩
  simp [Ideal.ofBits, Ideal.ieee, -EReal.coe_mul]; norm_num

theorem div_real (a b : ℝ) (hb : b ≠ 0) : Ideal.div (a : EReal) (b : EReal) = ((a / b : ℝ) : EReal) := by
  rw [Ideal.div, if_neg (by rw [← EReal.coe_zero]; exact fun h => hb (EReal.coe_injective h)), ← EReal.coe_inv, ← EReal.coe_mul]
  rfl

theorem rsqrt_real (a : ℝ) (ha : 0 < a) : Ideal.rsqrt (a : EReal) = (((Real.sqrt a)⁻¹ : ℝ) : EReal) := by
  change (if a < 0 then ⊥ else if a = 0 then ⊤ else (((Real.sqrt a)⁻¹ : ℝ) : EReal)) = _
  rw [if_neg (not_lt.mpr ha.le), if_neg ha.ne']

/-- On reals the mean of squares is a positive real, and the factor is a real whose square is its reciprocal. -/
theorem inv_real {n : ℕ} {N : ℝ} (hN : 0 < N) (x : Fin n → ℝ) : ∃ u r : ℝ, 0 < u ∧ r * r = u⁻¹ ∧ ms (N : EReal) (fun k => (x k : EReal)) = (u : EReal)
    ∧ inv (N : EReal) (fun k => (x k : EReal)) = (r : EReal) := by
  obtain ⟨e, he, hb⟩ := ofBits_eps
  have hs : 0 ≤ (∑ k, x k * x k) / N := div_nonneg (Finset.sum_nonneg fun k _ => mul_self_nonneg _) hN.le
  have hu : 0 < (∑ k, x k * x k) / N + e := by linarith
  have hm : ms (N : EReal) (fun k => (x k : EReal)) = (((∑ k, x k * x k) / N + e : ℝ) : EReal) := by
    unfold ms
    simp only [← EReal.coe_mul]
    rw [Cert.Gla.coe_sum, div_real _ _ hN.ne', hb, EReal.coe_add]
  refine ⟨_, (Real.sqrt ((∑ k, x k * x k) / N + e))⁻¹, hu, ?_, hm, ?_⟩
  · rw [← mul_inv, Real.mul_self_sqrt hu.le]
  · unfold inv
    rw [hm, rsqrt_real _ hu]

/-- The factor of a row of reals is a real. -/
theorem isR_inv {n : ℕ} {N : ℝ} (hN : 0 < N) {x : Fin n → EReal} (hx : ∀ k, IsR (x k)) : IsR (inv (N : EReal) x) := by
  choose x' hx using hx
  obtain rfl : x = fun k => (x' k : EReal) := funext hx
  obtain ⟨u, r, hu, hr, e1, e2⟩ := inv_real hN x'
  exact ⟨r, e2⟩

/-- The two forms of the gradient agree on reals. -/
theorem grad_law {n : ℕ} {N : ℝ} (hN : 0 < N) {y x : Fin n → EReal} (hy : ∀ k, IsR (y k)) (hx : ∀ k, IsR (x k)) (k : Fin n) :
    grad (N : EReal) y x k = y k * inv (N : EReal) x + x k * back (N : EReal) y x + back (N : EReal) y x * x k := by
  choose y' hy using hy
  choose x' hx using hx
  obtain rfl : y = fun k => (y' k : EReal) := funext hy
  obtain rfl : x = fun k => (x' k : EReal) := funext hx
  obtain ⟨u, r, hu, hr, e1, e2⟩ := inv_real hN x'
  have s1 : (∑ l, y' l * (x' l * r)) = r * ∑ l, x' l * y' l := by
    rw [Finset.mul_sum]; exact Finset.sum_congr rfl fun l _ => by ring
  unfold grad back
  rw [e1, e2, ofBits_neg_half, div_real _ _ hu.ne']
  simp only [← EReal.coe_mul]
  rw [Cert.Gla.coe_sum, Cert.Gla.coe_sum, s1, Fin.sum_univ_one, ← EReal.coe_mul, div_real _ _ hN.ne', div_real _ _ hN.ne']
  simp only [← EReal.coe_mul, ← EReal.coe_sub, ← EReal.coe_add]
  congr 1
  rw [div_eq_mul_inv r u, ← hr]
  ring

theorem isR_sub {a b : EReal} (ha : IsR a) (hb : IsR b) : IsR (a - b) := by
  obtain ⟨a, rfl⟩ := ha
  obtain ⟨b, rfl⟩ := hb
  exact ⟨a - b, (EReal.coe_sub a b).symm⟩

end Cert.Norm

end
-- ==== Proof.Norm17.lean ====
module

public import proofs.«01_k».proof.Proof.Gen.Kernel17Ideal.Value
public import proofs.«01_k».proof.Proof.Gen.Reference17Ideal
public import proofs.«01_k».proof.Proof.Gen.Reference17Ideal.Run
public import proofs.«01_k».proof.Proof.Norm
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The normalisation of the residual stream, one block of rows at a time. -/

@[expose] public section

set_option maxRecDepth 16384

noncomputable section

open Idealize.ShloMosaic Idealize.ShloMosaic.TcCoe Idealize.SL.Sem
open Idealize.ShloMosaic.Pipeline (Dat)

namespace Cert.Kernel17Ideal.Norm

open Cert.Kernel17Ideal Cert.Kernel17Ideal.Gen

variable (m : (ℓ : Loc nD τ sig) → Buf (Elt Ideal) ℓ)

/-- One block's entry at a row and a column. -/
theorem row_at (x : FVec Ideal S512x2048 .f32) (w : FVec Ideal S1x2048 .f32) (j : S512x2048.Idx) :
    k0_pay1 (F := Ideal) x w j = x (ix2 (j 0) (j 1)) * Norm.inv (Ideal.ofBits .f32 1157627904#32) (fun l : Fin 2048 => x (ix2 (j 0) l)) * w (ix2 0 (j 1)) := by
  unfold Norm.inv Norm.ms
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- The normalised rows. -/
def rows (X : FVec Ideal S4096x2048 .f32) (W : FVec Ideal S1x2048 .f32) : FVec Ideal S4096x2048 .bf16 := fun i =>
  X (ix2 (i 0) (i 1)) * Norm.inv (Ideal.ofBits .f32 1157627904#32) (fun l : Fin 2048 => X (ix2 (i 0) l)) * W (ix2 0 (i 1))

/-- The array after the run. -/
theorem final (c : Dev nD) : (dats m 0 c).arrAt 2 cfg0.N = rows (m ((c : Thread nD τ).loc main_arg0)) (V m c main_v0) := by
  refine (dats m 0 c).arrAt_eq_of_covers 2 _ (by decide +kernel) fun t hf y => ?_
  blk_simp
  rw [after0_2]
  unfold out0_2
  frame_out
  rw [row_at]
  unfold rows
  refine congr (congrArg HMul.hMul (congr (congrArg HMul.hMul ?_) (congrArg (Norm.inv _) (funext fun l => ?_)))) ?_
  · blk_point [iblk, V, idx t]
  · blk_point [iblk, V, idx t]
  · blk_point [iblk, V, idx t]

/-- The kernel and the reference end with the same array. -/
theorem algebraic : Cert.algebraic_Kernel17Ideal_Reference17Ideal := fun m ρ m' ρ' _ hag => by
  refine ⟨fun c => (dats m 0 c).arrAt 2 cfg0.N, Value.run_blocks m ρ, ?_⟩
  refine (θ_run (Cert.Reference17Ideal.defs (F := Ideal)) _ _).mono (fun _ h c => ⟨(h c).1.trans (Eq.trans ?_ (final m c).symm), (h c).2⟩) (Cert.Reference17Ideal.Value.run (F := Ideal) m' ρ')
  obtain ⟨a0, a1⟩ := hag c
  simp only [V, hostOps0, List.flatten_cons, List.flatten_nil, List.append_nil, List.cons_append, List.nil_append]
  entry_read
  rw [a0, a1]
  funext i
  idx_vars i
  unfold rows Norm.inv Norm.ms
  pointwise []

end Cert.Kernel17Ideal.Norm

end
-- ==== Proof.Norm18.lean ====
module

public import proofs.«01_k».proof.Proof.Gen.Kernel18Ideal.Value
public import proofs.«01_k».proof.Proof.Gen.Reference18Ideal
public import proofs.«01_k».proof.Proof.Gen.Reference18Ideal.Run
public import proofs.«01_k».proof.Proof.Norm
public import proofs.«01_k».proof.Proof.Gen.Pre_norm_finite
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of the residual stream's normalisation: rows' gradients block by block, the weight's gradient carried over the blocks. -/

@[expose] public section

set_option maxRecDepth 16384

noncomputable section

open Idealize.ShloMosaic Idealize.ShloMosaic.TcCoe Idealize.SL.Sem
open Idealize.ShloMosaic.Pipeline (Dat)

namespace Cert.Kernel18Ideal.Norm

open Cert.Kernel18Ideal Cert.Kernel18Ideal.Gen
open Cert.Kernel2Ideal.Ffn (IsR)
open Cert.Bounds (andi_one ofBits_inf ofBool_one real_of_abs_lt)

variable (m : (ℓ : Loc nD τ sig) → Buf (Elt Ideal) ℓ)

/-- The number of columns. -/
abbrev cols : EReal := Ideal.ofBits .f32 1157627904#32

/-- One block's gradient at a row and a column. -/
theorem dx_at (x y : FVec Ideal S512x2048 .f32) (w : FVec Ideal S1x2048 .f32) (d : FVec Ideal S512x2048 .f32) (j : S512x2048.Idx) :
    k0_pay4 (F := Ideal) x y w d j = d (ix2 (j 0) (j 1)) + Norm.grad cols (fun l : Fin 2048 => y (ix2 (j 0) l) * w (ix2 0 l)) (fun l => x (ix2 (j 0) l)) (j 1) := by
  unfold Norm.grad Norm.inv Norm.ms
  pointwise [k0_pay4, k0_pay3, k0_pay2]

theorem dx16_at (x y w d j) : k0_pay5 (F := Ideal) x y w d j = k0_pay4 (F := Ideal) x y w d j := by
  pointwise [k0_pay5]

/-- One block's part of the weight's gradient at a column. -/
theorem part_at (x y : FVec Ideal S512x2048 .f32) (j : S1x2048.Idx) :
    k0_pay6 (F := Ideal) x y j = ∑ l : Fin 512, y (ix2 l (j 1)) * (x (ix2 l (j 1)) * Norm.inv cols (fun k : Fin 2048 => x (ix2 l k))) := by
  unfold Norm.inv Norm.ms
  pointwise [k0_pay6, k0_pay3, k0_pay2]

theorem next_at (p a j) : k0_pay1 (F := Ideal) p a j = a j + p j := by
  pointwise [k0_pay1]

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

/-- The rows' gradients. -/
def dx (Y X : FVec Ideal S4096x2048 .f32) (W : FVec Ideal S1x2048 .f32) (D : FVec Ideal S4096x2048 .f32) (r : Fin 4096) (q : Fin 2048) : EReal :=
  D (ix2 r q) + Norm.grad cols (fun l : Fin 2048 => Y (ix2 r l) * W (ix2 0 l)) (fun l => X (ix2 r l)) q

/-- The weight's gradient, eight blocks of rows. -/
def dw (Y X : FVec Ideal S4096x2048 .f32) (q : Fin 2048) : EReal :=
  ∑ s : Fin 8, ∑ l : Fin 512, Y (ix2 (⟨s.val * 512 + l.val, by omega⟩ : Fin 4096) q)
    * (X (ix2 (⟨s.val * 512 + l.val, by omega⟩ : Fin 4096) q) * Norm.inv cols (fun k : Fin 2048 => X (ix2 (⟨s.val * 512 + l.val, by omega⟩ : Fin 4096) k)))

/-- What a point leaves in the rows' block. -/
theorem out4 (c : Dev nD) (t : Fin cfg0.N) : (outsAt0 m c t.val t.isLt).1 = k0_pay4 (F := Ideal) (iblk m c 1 t) (iblk m c 0 t) (iblk m c 2 t) (iblk m c 3 t) := by
  have hN : t.val < 8 := t.isLt
  by_cases h : t.val % 8 = 0
  · rw [outsAt0_A m c t h (by omega)]; frame_out
  · rw [outsAt0_B m c t h (by omega)]; frame_out

theorem out5 (c : Dev nD) (t : Fin cfg0.N) : (outsAt0 m c t.val t.isLt).2.1 = k0_pay5 (F := Ideal) (iblk m c 1 t) (iblk m c 0 t) (iblk m c 2 t) (iblk m c 3 t) := by
  have hN : t.val < 8 := t.isLt
  by_cases h : t.val % 8 = 0
  · rw [outsAt0_A m c t h (by omega)]; frame_out
  · rw [outsAt0_B m c t h (by omega)]; frame_out

/-- A block's entry, read in the arrays. -/
theorem block_at (c : Dev nD) (t : Fin cfg0.N) (y : S512x2048.Idx) (r : Fin 4096) (q : Fin 2048) (hr : r.val = t.val * 512 + (y 0).val) (hq : q.val = (y 1).val) :
    k0_pay4 (F := Ideal) (iblk m c 1 t) (iblk m c 0 t) (iblk m c 2 t) (iblk m c 3 t) y
      = dx (m ((c : Thread nD τ).loc main_arg0)) (m ((c : Thread nD τ).loc main_arg1)) (V m c main_v0) (m ((c : Thread nD τ).loc main_arg3)) r q := by
  obtain rfl : q = y 1 := Fin.ext hq
  rw [dx_at]
  unfold dx
  refine congr (congrArg HAdd.hAdd ?_) (Norm.grad_congr (fun l => Norm.mul_eq ?_ ?_) (fun l => ?_) _)
  · blk_point [iblk, V, idx t]
  · blk_point [iblk, V, idx t]
  · blk_point [iblk, V, idx t]
  · blk_point [iblk, V, idx t]

theorem final4 (c : Dev nD) : (dats m 0 c).arrAt 4 cfg0.N = fun i => dx (m ((c : Thread nD τ).loc main_arg0)) (m ((c : Thread nD τ).loc main_arg1)) (V m c main_v0) (m ((c : Thread nD τ).loc main_arg3)) (i 0) (i 1) := by
  refine (dats m 0 c).arrAt_eq_of_covers 4 _ (by decide +kernel) fun t hf y => ?_
  blk_simp
  rw [after0_4, out4]
  refine block_at m c t y _ _ ?_ ?_
  · blk_point [idx t]
  · blk_point [idx t]

theorem final5 (c : Dev nD) : (dats m 0 c).arrAt 5 cfg0.N = fun i => dx (m ((c : Thread nD τ).loc main_arg0)) (m ((c : Thread nD τ).loc main_arg1)) (V m c main_v0) (m ((c : Thread nD τ).loc main_arg3)) (i 0) (i 1) := by
  refine (dats m 0 c).arrAt_eq_of_covers 5 _ (by decide +kernel) fun t hf y => ?_
  blk_simp
  rw [after0_5, out5, dx16_at]
  refine block_at m c t y _ _ ?_ ?_
  · blk_point [idx t]
  · blk_point [idx t]

/-- What the carried sum holds when its run of 8 points ends. -/
theorem carried (c : Dev nD) (t : Fin cfg0.N) (hf : t.val % 8 = 8 - 1) (j : S1x2048.Idx) :
    (outsAt0 m c t.val t.isLt).2.2 j = ∑ s : Fin 8, k0_pay6 (F := Ideal) (iblk m c 1 ⟨8 * (t.val / 8) + s.val, Pipeline.run_point_lt_of_flush t hf s⟩)
      (iblk m c 0 ⟨8 * (t.val / 8) + s.val, Pipeline.run_point_lt_of_flush t hf s⟩) j := by
  rw [Pipeline.eq_sum_fin_of_reset_step_apply_of_flush (fun n h => (outsAt0 m c n h).2.2) 8 (fun _ => (0 : EReal))
    (fun p j => k0_pay6 (F := Ideal) (iblk m c 1 p) (iblk m c 0 p) j)
    (fun t h j => by
      have hN : t.val < 8 := t.isLt
      rw [outsAt0_A m c t h (by omega)]; frame_out; rw [zero_add])
    (fun t h j => by
      rw [outsAt0_B m c t h (by omega)]; frame_out; rw [next_at])
    t hf j, zero_add]

theorem final6 (c : Dev nD) : (dats m 0 c).arrAt 6 cfg0.N = fun i => dw (m ((c : Thread nD τ).loc main_arg0)) (m ((c : Thread nD τ).loc main_arg1)) (i 1) := by
  refine (dats m 0 c).arrAt_eq_of_covers 6 _ (by decide +kernel) fun t hf y => ?_
  have hf' := (flush0_6 t).mp hf
  have hN : t.val < 8 := t.isLt
  blk_simp
  rw [after0_6, carried m c t hf']
  unfold dw
  refine Fin.sum_fin_congr fun s => ?_
  rw [part_at]
  refine Fin.sum_fin_congr fun l => ?_
  refine congr (congrArg HMul.hMul ?_) (congr (congrArg HMul.hMul ?_) (congrArg (Norm.inv _) (funext fun k => ?_)))
  · blk_point [iblk, V, idx t, idx ⟨_, Pipeline.run_point_lt_of_flush t hf' s⟩]
  · blk_point [iblk, V, idx t, idx ⟨_, Pipeline.run_point_lt_of_flush t hf' s⟩]
  · blk_point [iblk, V, idx t, idx ⟨_, Pipeline.run_point_lt_of_flush t hf' s⟩]

/-- What the precondition says of the arguments. -/
theorem reals (x0 x1 : FVec Ideal S4096x2048 .f32) (x2 : FVec Ideal S2048 .f32) (x3 : FVec Ideal S4096x2048 .f32)
    (e : Cert.Pre_norm_finite.fn (F := Ideal) x0 x1 x2 x3 = fun _ => 1#1) :
    (∀ i, IsR (x0 i)) ∧ (∀ i, IsR (x1 i)) ∧ (∀ i, IsR (x2 i)) := by
  have e := congrFun e ix0
  unfold Cert.Pre_norm_finite.fn at e
  dsimp only at e
  obtain ⟨e, e2⟩ := andi_one e
  obtain ⟨e0, e1⟩ := andi_one e
  have h0 := Host.reduce_andi_all _ _ _ _ _ e0
  have h1 := Host.reduce_andi_all _ _ _ _ _ e1
  have h2 := Host.reduce_andi_all _ _ _ _ _ e2
  refine ⟨fun i => ?_, fun i => ?_, fun i => ?_⟩
  · have h := h0 i
    pointwise at h
    rw [ofBits_inf] at h
    exact ⟨_, real_of_abs_lt (ofBool_one h)⟩
  · have h := h1 i
    pointwise at h
    rw [ofBits_inf] at h
    exact ⟨_, real_of_abs_lt (ofBool_one h)⟩
  · have h := h2 i
    pointwise at h
    rw [ofBits_inf] at h
    exact ⟨_, real_of_abs_lt (ofBool_one h)⟩

/-- The rows' gradients, written as the reference does. -/
theorem dx_law (Y X : FVec Ideal S4096x2048 .f32) (W : FVec Ideal S1x2048 .f32) (D : FVec Ideal S4096x2048 .f32) (hY : ∀ i, IsR (Y i)) (hX : ∀ i, IsR (X i)) (hW : ∀ i, IsR (W i))
    (r : Fin 4096) (q : Fin 2048) :
    dx Y X W D r q = D (ix2 r q) + (Y (ix2 r q) * W (ix2 0 q) * Norm.inv cols (fun l : Fin 2048 => X (ix2 r l))
      + X (ix2 r q) * Norm.back cols (fun l : Fin 2048 => Y (ix2 r l) * W (ix2 0 l)) (fun l => X (ix2 r l))
      + Norm.back cols (fun l : Fin 2048 => Y (ix2 r l) * W (ix2 0 l)) (fun l => X (ix2 r l)) * X (ix2 r q)) := by
  unfold dx cols
  rw [Norm.ofBits_2048, Norm.grad_law (by norm_num) (fun k => (hY _).mul (hW _)) (fun k => hX _)]

/-- The kernel and the reference end with the same arrays. -/
theorem algebraic : Cert.algebraic_Kernel18Ideal_Reference18Ideal_pre_norm_finite := fun m ρ m' ρ' hp hag => by
  refine ⟨_, _, _, Value.run_blocks m ρ, ?_⟩
  refine (θ_run (Cert.Reference18Ideal.defs (F := Ideal)) _ _).mono (fun _ h c => ⟨(h c).1.trans (Eq.trans ?_ (final4 m c).symm), (h c).2.1.trans (Eq.trans ?_ (final5 m c).symm),
    (h c).2.2.1.trans (Eq.trans ?_ (final6 m c).symm), (h c).2.2.2⟩) (Cert.Reference18Ideal.Value.run (F := Ideal) m' ρ')
  all_goals
    obtain ⟨a0, a1, a2, a3⟩ := hag c
    obtain ⟨r0, r1, r2⟩ := reals _ _ _ _ (hp c)
    simp only [V, hostOps0, List.flatten_cons, List.flatten_nil, List.append_nil, List.cons_append, List.nil_append]
    try entry_read
    rw [a0, a1]
    try rw [a2, a3]
    funext i
    idx_vars i
  · rw [dx_law _ _ _ _ r0 r1 (fun i => by idx_vars i; pointwise []; exact r2 _)]
    unfold Norm.back Norm.inv Norm.ms
    pointwise []
  · rw [dx_law _ _ _ _ r0 r1 (fun i => by idx_vars i; pointwise []; exact r2 _)]
    unfold Norm.back Norm.inv Norm.ms
    pointwise []
  · unfold dw Norm.inv Norm.ms
    pointwise []
    rw [Fin.sum_univ_one]
    refine (Fin.sum_mul_add_congr fun s l hl => ?_).symm
    exact mul_comm _ _

end Cert.Kernel18Ideal.Norm

end
-- ==== Proof.Gate.lean ====
module

public import proofs.«01_k».proof.Proof.Norm
public import proofs.«01_k».proof.Proof.Pre

/-! The log-sigmoid of the gate in exact arithmetic: two ways to write it, and two ways to write its derivative. -/

@[expose] public section

noncomputable section

open Idealize.ShloMosaic

namespace Cert.Gate

open Cert.Kernel2Ideal.Ffn (IsR)

/-- `log (1 + exp (-z))`, written so that the exponential stays below one. -/
def soft (z : EReal) : EReal := max (-z) 0 + Ideal.log1p (Ideal.exp (-(max (-z) (- -z))))

theorem ofBits_16 : Ideal.ofBits .f32 1098907648#32 = ((16 : ℝ) : EReal) := by
  simp [Ideal.ofBits, Ideal.ieee, -EReal.coe_mul]; norm_num

theorem ofBits_16th : Ideal.ofBits .f32 1031798784#32 = ((1 / 16 : ℝ) : EReal) := by
  simp [Ideal.ofBits, Ideal.ieee, -EReal.coe_mul]; norm_num

/-- Division by sixteen is multiplication by a sixteenth. -/
theorem div_16 (x : EReal) : Ideal.div x (Ideal.ofBits .f32 1098907648#32) = x * Ideal.ofBits .f32 1031798784#32 := by
  rw [ofBits_16, ofBits_16th, Ideal.div, if_neg (by rw [← EReal.coe_zero]; exact fun h => by norm_num at h), ← EReal.coe_inv]
  norm_num

theorem log_real (r : ℝ) (hr : 0 < r) : Ideal.log (r : EReal) = ((Real.log r : ℝ) : EReal) := by
  change (if r ≤ 0 then (⊥ : EReal) else ((Real.log r : ℝ) : EReal)) = _
  rw [if_neg (not_le.mpr hr)]

theorem log_exp_real (a : ℝ) : Ideal.log (1 + Ideal.exp (a : EReal)) = ((Real.log (1 + Real.exp a) : ℝ) : EReal) := by
  have hp : (0 : ℝ) < 1 + Real.exp a := by have := Real.exp_pos a; linarith
  rw [← log_real _ hp, EReal.coe_add, EReal.coe_one]
  rfl

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem coe_min (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

theorem log_one : Ideal.log (1 + Ideal.exp ⊥) = 0 := by
  have e : (1 : EReal) + Ideal.exp ⊥ = ((1 : ℝ) : EReal) := by
    rw [EReal.coe_one]
    exact add_zero _
  rw [e, log_real _ one_pos, Real.log_one, EReal.coe_zero]

theorem soft_top : soft ⊤ = 0 := by
  unfold soft Ideal.log1p
  rw [EReal.neg_top, EReal.neg_bot, max_eq_right bot_le, max_eq_right bot_le, EReal.neg_top, log_one, add_zero]

theorem soft_bot : soft ⊥ = ⊤ := by
  unfold soft Ideal.log1p
  rw [EReal.neg_bot, EReal.neg_top, max_eq_left le_top, max_eq_left le_top, EReal.neg_top, log_one, add_zero]

theorem soft_real (z : ℝ) : soft (z : EReal) = ((max (-z) 0 + Real.log (1 + Real.exp (-(max z (-z)))) : ℝ) : EReal) := by
  unfold soft Ideal.log1p
  rw [neg_neg, ← EReal.coe_neg, ← EReal.coe_zero, coe_max, coe_max, ← EReal.coe_neg, log_exp_real, ← EReal.coe_add, max_comm (-z) z]

/-- The two ways to write the log-sigmoid, at any number. -/
theorem ls_law (z : EReal) : min z 0 - Ideal.log (1 + Ideal.exp (0 - max z (-z))) = -soft z := by
  rw [zero_sub]
  induction z using EReal.rec with
  | bot =>
    rw [soft_bot, EReal.neg_bot, max_eq_right bot_le, EReal.neg_top, log_one, min_eq_left bot_le, sub_zero]
  | coe z =>
    rw [soft_real, ← EReal.coe_neg, ← EReal.coe_zero, coe_max, coe_min, ← EReal.coe_neg, log_exp_real, ← EReal.coe_sub, ← EReal.coe_neg]
    congr 1
    have h : min z 0 = -max (-z) 0 := by
      rcases le_total z 0 with h | h
      · rw [min_eq_left h, max_eq_left (by linarith), neg_neg]
      · rw [min_eq_right h, max_eq_right (by linarith), neg_zero]
    rw [h]
    ring
  | top =>
    rw [soft_top, EReal.neg_top, max_eq_left bot_le, EReal.neg_top, log_one, min_eq_right le_top, sub_zero, neg_zero]

/-- On reals it is the logarithm of one and an exponential. -/
theorem soft_log (z : ℝ) : soft (z : EReal) = ((Real.log (1 + Real.exp (-z)) : ℝ) : EReal) := by
  rw [soft_real]
  congr 1
  rcases le_total 0 z with h | h
  · rw [max_eq_right (by linarith), max_eq_left (by linarith), zero_add]
  · rw [max_eq_left (by linarith), max_eq_right (by linarith), neg_neg]
    have e : 1 + Real.exp (-z) = Real.exp (-z) * (1 + Real.exp z) := by
      rw [mul_add, mul_one, ← Real.exp_add, neg_add_cancel, Real.exp_zero, add_comm]
    have hp : (1 + Real.exp z) ≠ 0 := by have := Real.exp_pos z; linarith
    rw [e, Real.log_mul (Real.exp_pos _).ne' hp, Real.log_exp]

/-- The gradient through the log-sigmoid and the division, as the kernel computes it. -/
def back (a z : EReal) : EReal := a * Ideal.div 1 (1 + Ideal.exp z) * Ideal.ofBits .f32 1031798784#32

/-- The two ways to write the derivative agree on reals. -/
theorem back_law {a z : EReal} (ha : IsR a) (hz : IsR z) [Decidable (-z = Ideal.ofBits .f32 2139095040#32)] [Decidable (soft z = Ideal.ofBits .f32 2139095040#32)] :
    -(-Ideal.div a (Ideal.ofBits .f32 1098907648#32) * Ideal.exp ((if -z = Ideal.ofBits .f32 2139095040#32 then 0 else -z) - (if soft z = Ideal.ofBits .f32 2139095040#32 then 0 else soft z)))
      = back a z := by
  obtain ⟨a, rfl⟩ := ha
  obtain ⟨z, rfl⟩ := hz
  have hi : ∀ r : ℝ, (r : EReal) ≠ Ideal.ofBits .f32 2139095040#32 := fun r => by
    rw [Cert.Bounds.ofBits_inf]
    exact EReal.coe_ne_top r
  have hn : (-(z : EReal)) ≠ Ideal.ofBits .f32 2139095040#32 := by
    rw [← EReal.coe_neg]; exact hi _
  have hs : soft (z : EReal) ≠ Ideal.ofBits .f32 2139095040#32 := by
    rw [soft_log]; exact hi _
  rw [if_neg hn, if_neg hs, div_16, soft_log, ofBits_16th]
  have hp : (0 : ℝ) < 1 + Real.exp z := by have := Real.exp_pos z; linarith
  have hq : (0 : ℝ) < 1 + Real.exp (-z) := by have := Real.exp_pos (-z); linarith
  have e1 : (1 : EReal) + Ideal.exp (z : EReal) = ((1 + Real.exp z : ℝ) : EReal) := by
    rw [EReal.coe_add, EReal.coe_one]
    rfl
  have e2 : Ideal.exp (-(z : EReal) - ((Real.log (1 + Real.exp (-z)) : ℝ) : EReal)) = ((Real.exp (-z - Real.log (1 + Real.exp (-z))) : ℝ) : EReal) := by
    rw [← EReal.coe_neg, ← EReal.coe_sub]
    rfl
  have e3 : Real.exp (-z - Real.log (1 + Real.exp (-z))) = 1 / (1 + Real.exp z) := by
    rw [Real.exp_sub, Real.exp_log hq, div_eq_div_iff hq.ne' hp.ne', mul_add, mul_one, ← Real.exp_add, neg_add_cancel, Real.exp_zero]
    ring
  unfold back
  rw [e1, e2, e3, ← EReal.coe_one, Norm.div_real _ _ hp.ne', ofBits_16th]
  simp only [← EReal.coe_mul, ← EReal.coe_neg]
  congr 1
  ring

/-- On reals the gradient is a real. -/
theorem isR_back {a z : EReal} (ha : IsR a) (hz : IsR z) : IsR (back a z) := by
  obtain ⟨z, rfl⟩ := hz
  have hp : (0 : ℝ) < 1 + Real.exp z := by have := Real.exp_pos z; linarith
  have e1 : (1 : EReal) + Ideal.exp (z : EReal) = ((1 + Real.exp z : ℝ) : EReal) := by
    rw [EReal.coe_add, EReal.coe_one]
    rfl
  unfold back
  rw [e1, ofBits_16th, ← EReal.coe_one, Norm.div_real _ _ hp.ne']
  exact (ha.mul ⟨_, rfl⟩).mul ⟨_, rfl⟩

theorem add_eq {a a' b b' : EReal} (ha : a = a') (hb : b = b') : a + b = a' + b' := by
  rw [ha, hb]

/-- A sum over 128 lanes of which only the first 16 count. -/
theorem lanes (f : Fin 128 → EReal) (g : Fin 16 → EReal) (h0 : ∀ x : Fin 16, f ⟨x.val, by omega⟩ = g x) (h1 : ∀ x : Fin 128, 16 ≤ x.val → f x = 0) :
    ∑ x, f x = ∑ x, g x := by
  refine (Fin.sum_univ_add (a := 16) (b := 112) f).trans ?_
  rw [Finset.sum_eq_zero (s := Finset.univ) (f := fun i : Fin 112 => f (Fin.natAdd 16 i)) (fun i _ => h1 _ (by simp)), add_zero]
  exact Finset.sum_congr rfl fun x _ => h0 x

end Cert.Gate

end
-- ==== Proof.Gate19.lean ====
module

public import proofs.«01_k».proof.Proof.Gen.Kernel19Ideal.Value
public import proofs.«01_k».proof.Proof.Gen.Reference19Ideal
public import proofs.«01_k».proof.Proof.Gen.Reference19Ideal.Run
public import proofs.«01_k».proof.Proof.Gate
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gate of the recurrence: the log decay, one block of rows at a time. -/

@[expose] public section

set_option maxRecDepth 16384

noncomputable section

open Idealize.ShloMosaic Idealize.ShloMosaic.TcCoe Idealize.SL.Sem
open Idealize.ShloMosaic.Pipeline (Dat)

namespace Cert.Kernel19Ideal.Gate

open Cert.Kernel19Ideal Cert.Kernel19Ideal.Gen
open Cert.Kernel2Ideal.Ffn (IsR)

variable (m : (ℓ : Loc nD τ sig) → Buf (Elt Ideal) ℓ)

/-- The number that the gate's log-sigmoid is taken of, in one block: a product over 128 lanes and a bias. -/
def arg (x : FVec Ideal S512x128 .f32) (w : FVec Ideal S128x1024 .bf16) (b : FVec Ideal S1x1024 .f32) (i : Fin 512) (q : Fin 1024) : EReal :=
  ∑ l : Fin 128, x (ix2 i l) * w (ix2 l q) + b (ix2 0 q)

/-- The same number, in the whole arrays. -/
def logit (P : FVec Ideal S4096x6272 .f32) (W : FVec Ideal S128x1024 .bf16) (B : FVec Ideal S1x1024 .f32) (r : Fin 4096) (q : Fin 1024) : EReal :=
  ∑ l : Fin 128, P (ix2 r (⟨6144 + l.val, by omega⟩ : Fin 6272)) * W (ix2 l q) + B (ix2 0 q)

/-- The projection with columns of zeros behind. -/
abbrev wide (X : FVec Ideal S4096x6160 .f32) : FVec Ideal S4096x6272 .f32 :=
  pad S4096x6272 ![0, 0] ![0, 112] ![0, 0] X (sitofp .f32 (constantI S_ 32 0#32)) pads_S4096x6160_S4096x6272_000_01120 h_S_

/-- The gate's weight with rows of zeros behind. -/
abbrev tall (W : FVec Ideal S16x1024 .f32) : FVec Ideal S128x1024 .bf16 :=
  truncf .bf16 (pad S128x1024 ![0, 0] ![112, 0] ![0, 0] W (sitofp .f32 (constantI S_ 32 0#32)) pads_S16x1024_S128x1024_01120_000 h_S_) bitsLt_bf16_f32

theorem zero_of : (FloatOps.sitofp .f32 (0#32) : Ideal .f32) = (0 : EReal) := by
  change ((((0#32 : BitVec 32).toInt : ℝ)) : EReal) = 0
  simp

/-- A column of the low-rank part of the projection. -/
theorem wide_at (X : FVec Ideal S4096x6160 .f32) (r : Fin 4096) (l : Fin 128) :
    wide X (ix2 r (⟨6144 + l.val, by omega⟩ : Fin 6272)) = if h : l.val < 16 then X (ix2 r (⟨6144 + l.val, by omega⟩ : Fin 6160)) else 0 := by
  pointwise []
  rw [zero_of]
  by_cases h : l.val < 16
  · rw [dif_pos h, dif_pos (by omega)]
  · rw [dif_neg h, dif_neg (by omega)]

theorem tall_at (W : FVec Ideal S16x1024 .f32) (l : Fin 128) (q : Fin 1024) :
    tall W (ix2 l q) = if h : l.val < 16 then W (ix2 (⟨l.val, h⟩ : Fin 16) q) else 0 := by
  pointwise []
  rw [zero_of]

/-- Of the 128 lanes only the first 16 count. -/
theorem logit_eq (X : FVec Ideal S4096x6160 .f32) (W : FVec Ideal S16x1024 .f32) (B : FVec Ideal S1024 .f32) (r : Fin 4096) (q : Fin 1024) :
    logit (wide X) (tall W) (shapeCast _ B shapeCasts_S1024_S1x1024) r q
      = ∑ x : Fin 16, X (ix2 r (⟨6144 + x.val, by omega⟩ : Fin 6160)) * W (ix2 x q) + B (ix1 q) := by
  unfold logit
  refine Gate.add_eq (Gate.lanes _ _ (fun x => ?_) (fun x hx => ?_)) ?_
  · rw [tall_at, dif_pos x.isLt]
    refine Norm.mul_eq ((wide_at X r ⟨x.val, by omega⟩).trans ?_) rfl
    rw [dif_pos x.isLt]
  · rw [tall_at, dif_neg (by omega), mul_zero]
  · pointwise []

/-- One block's entry at a row and a column. -/
theorem row_at (x : FVec Ideal S512x128 .f32) (w : FVec Ideal S128x1024 .bf16) (b : FVec Ideal S1x1024 .f32) (j : S512x1024.Idx) :
    k0_pay1 (F := Ideal) x w b j = (min (arg x w b (j 0) (j 1)) 0 - Ideal.log (1 + Ideal.exp (0 - max (arg x w b (j 0) (j 1)) (-arg x w b (j 0) (j 1))))) * Ideal.ofBits .f32 1031798784#32 := by
  unfold arg
  pointwise [k0_pay1]
  simp only [Ideal.absf_def]

theorem idx : ∀ t : Fin cfg0.N, win0_0.index t = ![t.val, 48] ∧ win0_1.index t = ![0, 0] ∧ win0_2.index t = ![0, 0] ∧ win0_3.index t = ![t.val, 0] :=
  (by decide +kernel : ∀ t : Fin grid0.N, _)

theorem arg_at (c : Dev nD) (t : Fin cfg0.N) (i : Fin 512) (q : Fin 1024) (r : Fin 4096) (hr : r.val = t.val * 512 + i.val) :
    arg (iblk m c 0 t) (iblk m c 1 t) (iblk m c 2 t) i q = logit (V m c main_v0) (V m c main_v2) (V m c main_v3) r q := by
  unfold arg logit
  refine Gate.add_eq (Fin.sum_fin_congr fun l => Norm.mul_eq ?_ ?_) ?_
  · blk_point [iblk, V, idx t]
  · blk_point [iblk, V, idx t]
  · blk_point [iblk, V, idx t]

/-- The log decay. -/
def rows (P : FVec Ideal S4096x6272 .f32) (W : FVec Ideal S128x1024 .bf16) (B : FVec Ideal S1x1024 .f32) : FVec Ideal S4096x1024 .f32 := fun i =>
  -Gate.soft (logit P W B (i 0) (i 1)) * Ideal.ofBits .f32 1031798784#32

/-- The array after the run. -/
theorem final (c : Dev nD) : (dats m 0 c).arrAt 3 cfg0.N = rows (V m c main_v0) (V m c main_v2) (V m c main_v3) := by
  refine (dats m 0 c).arrAt_eq_of_covers 3 _ (by decide +kernel) fun t hf y => ?_
  blk_simp
  rw [after0_3]
  unfold out0_3
  frame_out
  rw [row_at, Gate.ls_law]
  unfold rows
  refine Norm.mul_eq (congrArg (fun z => -Gate.soft z) ?_) rfl
  refine (arg_at m c t (y 0) (y 1) _ ?_).trans (congrArg (logit _ _ _ _) ?_)
  · blk_point [idx t]
  · apply Fin.ext
    blk_point [idx t]

/-- The kernel and the reference end with the same array. -/
theorem algebraic : Cert.algebraic_Kernel19Ideal_Reference19Ideal := fun m ρ m' ρ' _ hag => by
  refine ⟨fun c => (dats m 0 c).arrAt 3 cfg0.N, Value.run_blocks m ρ, ?_⟩
  refine (θ_run (Cert.Reference19Ideal.defs (F := Ideal)) _ _).mono (fun _ h c => ⟨(h c).1.trans (Eq.trans ?_ (final m c).symm), (h c).2⟩) (Cert.Reference19Ideal.Value.run (F := Ideal) m' ρ')
  obtain ⟨a0, a1, a2⟩ := hag c
  clear h
  simp only [V, hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  rw [a0, a1, a2]
  funext i
  idx_vars i
  refine Eq.trans ?_ (congrArg (fun z => -Gate.soft z * Ideal.ofBits .f32 1031798784#32) (logit_eq _ _ _ i0 i1)).symm
  pointwise []
  simp only [ne_eq, not_true_eq_false, ↓reduceIte]
  exact Gate.div_16 _

end Cert.Kernel19Ideal.Gate

end
-- ==== Proof.Gate20.lean ====
module

public import proofs.«01_k».proof.Proof.Gen.Kernel20Ideal.Value
public import proofs.«01_k».proof.Proof.Gen.Reference20Ideal
public import proofs.«01_k».proof.Proof.Gen.Reference20Ideal.Run
public import proofs.«01_k».proof.Proof.Gate
public import proofs.«01_k».proof.Proof.Gen.Pre_gate_finite
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of the gate of the recurrence: the rows' gradients block by block, the weight's and the bias's gradients carried over the blocks. -/

@[expose] public section

set_option maxRecDepth 16384

noncomputable section

open Idealize.ShloMosaic Idealize.ShloMosaic.TcCoe Idealize.SL.Sem
open Idealize.ShloMosaic.Pipeline (Dat)

namespace Cert.Kernel20Ideal.Gate

open Cert.Kernel20Ideal Cert.Kernel20Ideal.Gen
open Cert.Kernel2Ideal.Ffn (IsR)
open Cert.Bounds (andi_one ofBits_inf ofBool_one real_of_abs_lt)

variable (m : (ℓ : Loc nD τ sig) → Buf (Elt Ideal) ℓ)

/-- The number that the gate's log-sigmoid is taken of, in one block: a product over 128 lanes and a bias. -/
def arg (x : FVec Ideal S512x128 .f32) (w : FVec Ideal S128x1024 .bf16) (b : FVec Ideal S1x1024 .f32) (i : Fin 512) (q : Fin 1024) : EReal :=
  ∑ l : Fin 128, x (ix2 i l) * w (ix2 l q) + b (ix2 0 q)

/-- The same number, in the whole arrays. -/
def logit (P : FVec Ideal S4096x6272 .f32) (W : FVec Ideal S128x1024 .bf16) (B : FVec Ideal S1x1024 .f32) (r : Fin 4096) (q : Fin 1024) : EReal :=
  ∑ l : Fin 128, P (ix2 r (⟨6144 + l.val, by omega⟩ : Fin 6272)) * W (ix2 l q) + B (ix2 0 q)

/-- The projection with columns of zeros behind. -/
abbrev wide (X : FVec Ideal S4096x6160 .f32) : FVec Ideal S4096x6272 .f32 :=
  pad S4096x6272 ![0, 0] ![0, 112] ![0, 0] X (sitofp .f32 (constantI S_ 32 0#32)) pads_S4096x6160_S4096x6272_000_01120 h_S_

/-- The gate's weight with rows of zeros behind. -/
abbrev tall (W : FVec Ideal S16x1024 .f32) : FVec Ideal S128x1024 .bf16 :=
  truncf .bf16 (pad S128x1024 ![0, 0] ![112, 0] ![0, 0] W (sitofp .f32 (constantI S_ 32 0#32)) pads_S16x1024_S128x1024_01120_000 h_S_) bitsLt_bf16_f32

theorem zero_of : (FloatOps.sitofp .f32 (0#32) : Ideal .f32) = (0 : EReal) := by
  change ((((0#32 : BitVec 32).toInt : ℝ)) : EReal) = 0
  simp

/-- A column of the low-rank part of the projection. -/
theorem wide_at (X : FVec Ideal S4096x6160 .f32) (r : Fin 4096) (l : Fin 128) :
    wide X (ix2 r (⟨6144 + l.val, by omega⟩ : Fin 6272)) = if h : l.val < 16 then X (ix2 r (⟨6144 + l.val, by omega⟩ : Fin 6160)) else 0 := by
  pointwise []
  rw [zero_of]
  by_cases h : l.val < 16
  · rw [dif_pos h, dif_pos (by omega)]
  · rw [dif_neg h, dif_neg (by omega)]

theorem tall_at (W : FVec Ideal S16x1024 .f32) (l : Fin 128) (q : Fin 1024) :
    tall W (ix2 l q) = if h : l.val < 16 then W (ix2 (⟨l.val, h⟩ : Fin 16) q) else 0 := by
  pointwise []
  rw [zero_of]

/-- Of the 128 lanes only the first 16 count. -/
theorem logit_eq (X : FVec Ideal S4096x6160 .f32) (W : FVec Ideal S16x1024 .f32) (B : FVec Ideal S1024 .f32) (r : Fin 4096) (q : Fin 1024) :
    logit (wide X) (tall W) (shapeCast _ B shapeCasts_S1024_S1x1024) r q
      = ∑ x : Fin 16, X (ix2 r (⟨6144 + x.val, by omega⟩ : Fin 6160)) * W (ix2 x q) + B (ix1 q) := by
  unfold logit
  refine Gate.add_eq (Gate.lanes _ _ (fun x => ?_) (fun x hx => ?_)) ?_
  · rw [tall_at, dif_pos x.isLt]
    refine Norm.mul_eq ((wide_at X r ⟨x.val, by omega⟩).trans ?_) rfl
    rw [dif_pos x.isLt]
  · rw [tall_at, dif_neg (by omega), mul_zero]
  · pointwise []

/-- One block's gradient before the log-sigmoid. -/
theorem dz_at (x : FVec Ideal S512x128 .f32) (w : FVec Ideal S128x1024 .bf16) (b : FVec Ideal S1x1024 .f32) (g : FVec Ideal S512x1024 .f32) (j : S512x1024.Idx) :
    k0_pay4 (F := Ideal) x w b g j = Gate.back (g (ix2 (j 0) (j 1))) (arg x w b (j 0) (j 1)) := by
  unfold Gate.back arg
  pointwise [k0_pay4, k0_pay3]

/-- One block's gradient of the low-rank input. -/
theorem dgl_at (x : FVec Ideal S512x128 .f32) (w : FVec Ideal S128x1024 .bf16) (b : FVec Ideal S1x1024 .f32) (g : FVec Ideal S512x1024 .f32) (j : S512x128.Idx) :
    k0_pay6 (F := Ideal) x w b g w j = ∑ q : Fin 1024, Gate.back (g (ix2 (j 0) q)) (arg x w b (j 0) q) * w (ix2 (j 1) q) := by
  unfold Gate.back arg
  pointwise [k0_pay6, k0_pay5, k0_pay4, k0_pay3]

/-- One block's part of the weight's gradient. -/
theorem pw_at (x : FVec Ideal S512x128 .f32) (w : FVec Ideal S128x1024 .bf16) (b : FVec Ideal S1x1024 .f32) (g : FVec Ideal S512x1024 .f32) (j : S128x1024.Idx) :
    k0_pay7 (F := Ideal) x w b g j = ∑ l : Fin 512, x (ix2 l (j 0)) * Gate.back (g (ix2 l (j 1))) (arg x w b l (j 1)) := by
  unfold Gate.back arg
  pointwise [k0_pay7, k0_pay5, k0_pay4, k0_pay3]

/-- One block's part of the bias's gradient. -/
theorem pb_at (x : FVec Ideal S512x128 .f32) (w : FVec Ideal S128x1024 .bf16) (b : FVec Ideal S1x1024 .f32) (g : FVec Ideal S512x1024 .f32) (j : S1x1024.Idx) :
    k0_pay8 (F := Ideal) x w b g j = ∑ l : Fin 512, Gate.back (g (ix2 l (j 1))) (arg x w b l (j 1)) := by
  unfold Gate.back arg
  pointwise [k0_pay8, k0_pay4, k0_pay3]

theorem next_w (p a : _) (j : S128x1024.Idx) : k0_pay1 (F := Ideal) p a j = a j + p j := by
  pointwise [k0_pay1]

theorem next_b (p a : _) (j : S1x1024.Idx) : k0_pay2 (F := Ideal) p a j = a j + p j := by
  pointwise [k0_pay2]

theorem idx : ∀ t : Fin cfg0.N, win0_0.index t = ![t.val, 0] ∧ win0_1.index t = ![t.val, 48] ∧ win0_2.index t = ![0, 0] ∧ win0_3.index t = ![0, 0]
    ∧ win0_4.index t = ![t.val, 0] ∧ win0_5.index t = ![0, 0] ∧ win0_6.index t = ![0, 0] :=
  (by decide +kernel : ∀ t : Fin grid0.N, _)

theorem arg_at (c : Dev nD) (t : Fin cfg0.N) (i : Fin 512) (q : Fin 1024) (r : Fin 4096) (hr : r.val = t.val * 512 + i.val) :
    arg (iblk m c 1 t) (iblk m c 2 t) (iblk m c 3 t) i q = logit (V m c main_v0) (V m c main_v2) (V m c main_v3) r q := by
  unfold arg logit
  refine Gate.add_eq (Fin.sum_fin_congr fun l => Norm.mul_eq ?_ ?_) ?_
  · blk_point [iblk, V, idx t]
  · blk_point [iblk, V, idx t]
  · blk_point [iblk, V, idx t]

/-- The gradient before the log-sigmoid. -/
def dz (G : FVec Ideal S4096x1024 .f32) (P : FVec Ideal S4096x6272 .f32) (W : FVec Ideal S128x1024 .bf16) (B : FVec Ideal S1x1024 .f32) (r : Fin 4096) (q : Fin 1024) : EReal :=
  Gate.back (G (ix2 r q)) (logit P W B r q)

theorem back_at (c : Dev nD) (t : Fin cfg0.N) (i : Fin 512) (q : Fin 1024) (r : Fin 4096) (hr : r.val = t.val * 512 + i.val) :
    Gate.back ((iblk m c 0 t : FVec Ideal S512x1024 .f32) (ix2 i q)) (arg (iblk m c 1 t) (iblk m c 2 t) (iblk m c 3 t) i q)
      = dz (m ((c : Thread nD τ).loc main_arg0)) (V m c main_v0) (V m c main_v2) (V m c main_v3) r q := by
  unfold dz
  rw [arg_at m c t i q r hr]
  refine congrArg (fun z => Gate.back z _) ?_
  blk_point [iblk, V, idx t]

/-- The gradient of the low-rank input. -/
def dgl (G : FVec Ideal S4096x1024 .f32) (P : FVec Ideal S4096x6272 .f32) (W : FVec Ideal S128x1024 .bf16) (B : FVec Ideal S1x1024 .f32) (r : Fin 4096) (i : Fin 128) : EReal :=
  ∑ q : Fin 1024, dz G P W B r q * W (ix2 i q)

/-- The weight's gradient, eight blocks of rows. -/
def dw (G : FVec Ideal S4096x1024 .f32) (P : FVec Ideal S4096x6272 .f32) (W : FVec Ideal S128x1024 .bf16) (B : FVec Ideal S1x1024 .f32) (i : Fin 128) (q : Fin 1024) : EReal :=
  ∑ s : Fin 8, ∑ l : Fin 512, P (ix2 (⟨s.val * 512 + l.val, by omega⟩ : Fin 4096) (⟨6144 + i.val, by omega⟩ : Fin 6272)) * dz G P W B (⟨s.val * 512 + l.val, by omega⟩ : Fin 4096) q

/-- The bias's gradient, eight blocks of rows. -/
def db (G : FVec Ideal S4096x1024 .f32) (P : FVec Ideal S4096x6272 .f32) (W : FVec Ideal S128x1024 .bf16) (B : FVec Ideal S1x1024 .f32) (q : Fin 1024) : EReal :=
  ∑ s : Fin 8, ∑ l : Fin 512, dz G P W B (⟨s.val * 512 + l.val, by omega⟩ : Fin 4096) q

/-- What a point leaves in the rows' block. -/
theorem out4 (c : Dev nD) (t : Fin cfg0.N) : (outsAt0 m c t.val t.isLt).1 = k0_pay6 (F := Ideal) (iblk m c 1 t) (iblk m c 2 t) (iblk m c 3 t) (iblk m c 0 t) (iblk m c 2 t) := by
  have hN : t.val < 8 := t.isLt
  by_cases h : t.val % 8 = 0
  · rw [outsAt0_A m c t h (by omega)]; frame_out
  · rw [outsAt0_B m c t h (by omega)]; frame_out

theorem final4 (c : Dev nD) : (dats m 0 c).arrAt 4 cfg0.N
    = fun i => dgl (m ((c : Thread nD τ).loc main_arg0)) (V m c main_v0) (V m c main_v2) (V m c main_v3) (i 0) (i 1) := by
  refine (dats m 0 c).arrAt_eq_of_covers 4 _ (by decide +kernel) fun t hf y => ?_
  blk_simp
  rw [after0_4, out4, dgl_at]
  unfold dgl
  refine Fin.sum_fin_congr fun q => Norm.mul_eq (back_at m c t (y 0) q _ ?_) ?_
  · blk_point [idx t]
  · blk_point [iblk, V, idx t]

/-- What the carried sums hold when their run of 8 points ends. -/
theorem carried5 (c : Dev nD) (t : Fin cfg0.N) (hf : t.val % 8 = 8 - 1) (j : S128x1024.Idx) :
    (outsAt0 m c t.val t.isLt).2.1 j = ∑ s : Fin 8, k0_pay7 (F := Ideal) (iblk m c 1 ⟨8 * (t.val / 8) + s.val, Pipeline.run_point_lt_of_flush t hf s⟩)
      (iblk m c 2 ⟨8 * (t.val / 8) + s.val, Pipeline.run_point_lt_of_flush t hf s⟩) (iblk m c 3 ⟨8 * (t.val / 8) + s.val, Pipeline.run_point_lt_of_flush t hf s⟩)
      (iblk m c 0 ⟨8 * (t.val / 8) + s.val, Pipeline.run_point_lt_of_flush t hf s⟩) j := by
  rw [Pipeline.eq_sum_fin_of_reset_step_apply_of_flush (fun n h => (outsAt0 m c n h).2.1) 8 (fun _ => (0 : EReal))
    (fun p j => k0_pay7 (F := Ideal) (iblk m c 1 p) (iblk m c 2 p) (iblk m c 3 p) (iblk m c 0 p) j)
    (fun t h j => by
      have hN : t.val < 8 := t.isLt
      rw [outsAt0_A m c t h (by omega)]; frame_out; rw [zero_add])
    (fun t h j => by
      rw [outsAt0_B m c t h (by omega)]; frame_out; rw [next_w])
    t hf j, zero_add]

theorem carried6 (c : Dev nD) (t : Fin cfg0.N) (hf : t.val % 8 = 8 - 1) (j : S1x1024.Idx) :
    (outsAt0 m c t.val t.isLt).2.2 j = ∑ s : Fin 8, k0_pay8 (F := Ideal) (iblk m c 1 ⟨8 * (t.val / 8) + s.val, Pipeline.run_point_lt_of_flush t hf s⟩)
      (iblk m c 2 ⟨8 * (t.val / 8) + s.val, Pipeline.run_point_lt_of_flush t hf s⟩) (iblk m c 3 ⟨8 * (t.val / 8) + s.val, Pipeline.run_point_lt_of_flush t hf s⟩)
      (iblk m c 0 ⟨8 * (t.val / 8) + s.val, Pipeline.run_point_lt_of_flush t hf s⟩) j := by
  rw [Pipeline.eq_sum_fin_of_reset_step_apply_of_flush (fun n h => (outsAt0 m c n h).2.2) 8 (fun _ => (0 : EReal))
    (fun p j => k0_pay8 (F := Ideal) (iblk m c 1 p) (iblk m c 2 p) (iblk m c 3 p) (iblk m c 0 p) j)
    (fun t h j => by
      have hN : t.val < 8 := t.isLt
      rw [outsAt0_A m c t h (by omega)]; frame_out; rw [zero_add])
    (fun t h j => by
      rw [outsAt0_B m c t h (by omega)]; frame_out; rw [next_b])
    t hf j, zero_add]

theorem final5 (c : Dev nD) : (dats m 0 c).arrAt 5 cfg0.N
    = fun i => dw (m ((c : Thread nD τ).loc main_arg0)) (V m c main_v0) (V m c main_v2) (V m c main_v3) (i 0) (i 1) := by
  refine (dats m 0 c).arrAt_eq_of_covers 5 _ (by decide +kernel) fun t hf y => ?_
  have hf' := (flush0_5 t).mp hf
  have hN : t.val < 8 := t.isLt
  blk_simp
  rw [after0_5, carried5 m c t hf']
  unfold dw
  refine Fin.sum_fin_congr fun s => ?_
  rw [pw_at]
  refine Fin.sum_fin_congr fun l => ?_
  refine Norm.mul_eq ?_ ((back_at m c ⟨_, Pipeline.run_point_lt_of_flush t hf' s⟩ l _ (⟨s.val * 512 + l.val, by omega⟩ : Fin 4096) ?_).trans (congrArg (dz _ _ _ _ _) ?_))
  · blk_point [iblk, V, idx t, idx ⟨_, Pipeline.run_point_lt_of_flush t hf' s⟩]
  · dsimp; omega
  · apply Fin.ext
    blk_point [idx t]

theorem final6 (c : Dev nD) : (dats m 0 c).arrAt 6 cfg0.N
    = fun i => db (m ((c : Thread nD τ).loc main_arg0)) (V m c main_v0) (V m c main_v2) (V m c main_v3) (i 1) := by
  refine (dats m 0 c).arrAt_eq_of_covers 6 _ (by decide +kernel) fun t hf y => ?_
  have hf' := (flush0_6 t).mp hf
  have hN : t.val < 8 := t.isLt
  blk_simp
  rw [after0_6, carried6 m c t hf']
  unfold db
  refine Fin.sum_fin_congr fun s => ?_
  rw [pb_at]
  refine Fin.sum_fin_congr fun l => ?_
  refine (back_at m c ⟨_, Pipeline.run_point_lt_of_flush t hf' s⟩ l _ (⟨s.val * 512 + l.val, by omega⟩ : Fin 4096) ?_).trans (congrArg (dz _ _ _ _ _) ?_)
  · dsimp; omega
  · apply Fin.ext
    blk_point [idx t]

/-- What the precondition says of the arguments. -/
theorem reals (x0 : FVec Ideal S4096x1024 .f32) (x1 : FVec Ideal S4096x6160 .f32) (x2 : FVec Ideal S16x1024 .f32) (x3 : FVec Ideal S1024 .f32)
    (e : Cert.Pre_gate_finite.fn (F := Ideal) x0 x1 x2 x3 = fun _ => 1#1) :
    (∀ i, IsR (x0 i)) ∧ (∀ i, IsR (x1 i)) ∧ (∀ i, IsR (x2 i)) ∧ (∀ i, IsR (x3 i)) := by
  have e := congrFun e ix0
  unfold Cert.Pre_gate_finite.fn at e
  dsimp only at e
  obtain ⟨e, e3⟩ := andi_one e
  obtain ⟨e, e2⟩ := andi_one e
  obtain ⟨e0, e1⟩ := andi_one e
  have h0 := Host.reduce_andi_all _ _ _ _ _ e0
  have h1 := Host.reduce_andi_all _ _ _ _ _ e1
  have h2 := Host.reduce_andi_all _ _ _ _ _ e2
  have h3 := Host.reduce_andi_all _ _ _ _ _ e3
  refine ⟨fun i => ?_, fun i => ?_, fun i => ?_, fun i => ?_⟩
  · have h := h0 i
    pointwise at h
    rw [ofBits_inf] at h
    exact ⟨_, real_of_abs_lt (ofBool_one h)⟩
  · have h := h1 i
    pointwise at h
    rw [ofBits_inf] at h
    exact ⟨_, real_of_abs_lt (ofBool_one h)⟩
  · have h := h2 i
    pointwise at h
    rw [ofBits_inf] at h
    exact ⟨_, real_of_abs_lt (ofBool_one h)⟩
  · have h := h3 i
    pointwise at h
    rw [ofBits_inf] at h
    exact ⟨_, real_of_abs_lt (ofBool_one h)⟩

theorem isR_add {a b : EReal} (ha : IsR a) (hb : IsR b) : IsR (a + b) := by
  obtain ⟨a, rfl⟩ := ha
  obtain ⟨b, rfl⟩ := hb
  exact ⟨a + b, (EReal.coe_add a b).symm⟩

section
variable {G : FVec Ideal S4096x1024 .f32} {X : FVec Ideal S4096x6160 .f32} {W : FVec Ideal S16x1024 .f32} {B : FVec Ideal S1024 .f32}
  (hG : ∀ i, IsR (G i)) (hX : ∀ i, IsR (X i)) (hW : ∀ i, IsR (W i)) (hB : ∀ i, IsR (B i))

include hG hX hW hB

/-- The gradient before the log-sigmoid, written as the reference does. -/
theorem dz_law (r : Fin 4096) (q : Fin 1024) (z : EReal) (hz : z = ∑ x : Fin 16, X (ix2 r (⟨6144 + x.val, by omega⟩ : Fin 6160)) * W (ix2 x q) + B (ix1 q))
    [Decidable (-z = Ideal.ofBits .f32 2139095040#32)] [Decidable (Gate.soft z = Ideal.ofBits .f32 2139095040#32)] :
    -(-Ideal.div (G (ix2 r q)) (Ideal.ofBits .f32 1098907648#32)
        * Ideal.exp ((if -z = Ideal.ofBits .f32 2139095040#32 then 0 else -z) - (if Gate.soft z = Ideal.ofBits .f32 2139095040#32 then 0 else Gate.soft z)))
      = dz G (wide X) (tall W) (shapeCast _ B shapeCasts_S1024_S1x1024) r q := by
  have hr : IsR z := by
    rw [hz]
    exact isR_add (IsR.sum _ _ fun x => (hX _).mul (hW _)) (hB _)
  unfold dz
  rw [logit_eq, ← hz]
  exact Gate.back_law (hG _) hr

end

set_option maxHeartbeats 4000000 in
/-- The kernel and the reference end with the same arrays. -/
theorem algebraic : Cert.algebraic_Kernel20Ideal_Reference20Ideal_pre_gate_finite := fun m ρ m' ρ' hp hag => by
  refine ⟨_, _, _, Value.run_blocks m ρ, ?_⟩
  refine (θ_run (Cert.Reference20Ideal.defs (F := Ideal)) _ _).mono (fun _ h c => ⟨(h c).1.trans (Eq.trans ?_ (final4 m c).symm), (h c).2.1.trans (Eq.trans ?_ (final5 m c).symm),
    (h c).2.2.1.trans (Eq.trans ?_ (final6 m c).symm), (h c).2.2.2⟩) (Cert.Reference20Ideal.Value.run (F := Ideal) m' ρ')
  all_goals
    clear h
    obtain ⟨a0, a1, a2, a3⟩ := hag c
    obtain ⟨r0, r1, r2, r3⟩ := reals _ _ _ _ (hp c)
    simp only [V, hostOps0, hostOps0_1, hostOps0_2, hostOps0_3, hostOps0_4, List.flatten_cons, List.flatten_nil, List.append_nil, List.cons_append, List.nil_append]
    try entry_read
    simp only [StableHlo.TRef.toBuf, StableHlo.TRef.ofBuf, cast_eq]
    try unfold Cert.Reference20Ideal.Value.res_main_v18
    try unfold Cert.Reference20Ideal.Value.res_main_v19
    try unfold Cert.Reference20Ideal.Value.res_main_v20
    rw [a0, a1, a2, a3]
    funext i
    idx_vars i
  · unfold dgl
    pointwise []
    simp only [ne_eq, not_true_eq_false, ↓reduceIte]
    by_cases hi : i1.val < 16
    · rw [dif_pos hi]
      refine Fin.sum_fin_congr fun q => Norm.mul_eq (dz_law r0 r1 r2 r3 i0 q _ rfl) ?_
      refine Eq.trans ?_ (dif_pos hi).symm
      rfl
    · rw [dif_neg hi]
      refine (zero_of.trans (Finset.sum_eq_zero fun q _ => ?_).symm)
      rw [dif_neg hi, zero_of, mul_zero]
  · unfold dw
    pointwise []
    simp only [ne_eq, not_true_eq_false, ↓reduceIte]
    by_cases hi : i0.val < 16
    · rw [dif_pos hi]
      refine (Fin.sum_mul_add_congr fun s l hl => ?_).symm
      rw [mul_comm]
      refine Norm.mul_eq (dz_law r0 r1 r2 r3 _ i1 _ rfl).symm ?_
      exact dif_pos ⟨hl, by omega⟩
    · rw [dif_neg hi]
      refine (zero_of.trans (Finset.sum_eq_zero fun s _ => Finset.sum_eq_zero fun l _ => ?_).symm)
      have hn : ¬(s.val * 512 + l.val < 4096 ∧ 6144 + i0.val < 6160) := by omega
      rw [dif_neg hn, zero_of, zero_mul]
  · unfold db
    pointwise []
    simp only [ne_eq, not_true_eq_false, ↓reduceIte]
    rw [Fin.sum_univ_one]
    refine (Fin.sum_mul_add_congr fun s l hl => ?_).symm
    exact (dz_law r0 r1 r2 r3 _ i1 _ rfl).symm

end Cert.Kernel20Ideal.Gate

end
-- ==== Proof.Norm21.lean ====
module

public import proofs.«01_k».proof.Proof.Gen.Kernel21Ideal.Value
public import proofs.«01_k».proof.Proof.Gen.Reference21Ideal
public import proofs.«01_k».proof.Proof.Gen.Reference21Ideal.Run
public import proofs.«01_k».proof.Proof.Norm
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The per-head normalisation with the swish output gate: one block of rows and one head at a time. -/

@[expose] public section

set_option maxRecDepth 16384

noncomputable section

open Idealize.ShloMosaic Idealize.ShloMosaic.TcCoe Idealize.SL.Sem
open Idealize.ShloMosaic.Pipeline (Dat)

namespace Cert.Kernel21Ideal.Norm

open Cert.Kernel21Ideal Cert.Kernel21Ideal.Gen

variable (m : (ℓ : Loc nD τ sig) → Buf (Elt Ideal) ℓ)

/-- The swish of a number. -/
def swish (r : EReal) : EReal := r * Ideal.div 1 (1 + Ideal.exp (-r))

/-- The number of columns of a head. -/
abbrev cols : EReal := Ideal.ofBits .f32 1140850688#32

/-- One block's entry at a row and a column. -/
theorem row_at (o r : FVec Ideal S512x512 .f32) (w : FVec Ideal S1x512 .f32) (j : S512x512.Idx) :
    k0_pay1 (F := Ideal) o r w j = o (ix2 (j 0) (j 1)) * Norm.inv cols (fun l : Fin 512 => o (ix2 (j 0) l)) * w (ix2 0 (j 1)) * swish (r (ix2 (j 0) (j 1))) := by
  unfold Norm.inv Norm.ms swish
  rw [← zero_sub]
  pointwise [k0_pay1]

theorem idx : ∀ t : Fin cfg0.N, win0_0.index t = ![t.val / 4, t.val % 4] ∧ win0_1.index t = ![t.val / 4, 8 + t.val % 4] ∧ win0_2.index t = ![0, 0]
    ∧ win0_3.index t = ![t.val / 4, t.val % 4] :=
  (by decide +kernel : ∀ t : Fin grid0.N, _)

/-- The gate's block, read in the padded projection. -/
theorem gate_at (c : Dev nD) (t : Fin cfg0.N) (y : S512x512.Idx) (r : Fin 4096) (q : Fin 6272) (hr : r.val = t.val / 4 * 512 + (y 0).val)
    (hq : q.val = 4096 + t.val % 4 * 512 + (y 1).val) :
    (X0_1 m c t : FVec Ideal S512x512 .f32) y = (V m c main_v0 : FVec Ideal S4096x6272 .f32) (ix2 r q) := by
  unfold X0_1 Pipeline.Window.fill
  rw [dif_pos (moved0_1 t _)]
  blk_point [iblk, V, idx t]

/-- The normalised and gated rows. -/
def rows (O : FVec Ideal S4096x2048 .f32) (P : FVec Ideal S4096x6272 .f32) (W : FVec Ideal S1x512 .f32) (r : Fin 4096) (q : Fin 2048) : EReal :=
  O (ix2 r q) * Norm.inv cols (fun l : Fin 512 => O (ix2 r (⟨q.val / 512 * 512 + l.val, by omega⟩ : Fin 2048))) * W (ix2 0 (⟨q.val % 512, by omega⟩ : Fin 512))
    * swish (P (ix2 r (⟨4096 + q.val, by omega⟩ : Fin 6272)))

theorem block_at (c : Dev nD) (t : Fin cfg0.N) (y : S512x512.Idx) (r : Fin 4096) (q : Fin 2048) (hr : r.val = t.val / 4 * 512 + (y 0).val) (hq : q.val = t.val % 4 * 512 + (y 1).val) :
    k0_pay1 (F := Ideal) (iblk m c 0 t) (X0_1 m c t) (iblk m c 2 t) y = rows (m ((c : Thread nD τ).loc main_arg0)) (V m c main_v0) (V m c main_v1) r q := by
  have h1 : (y 1).val < 512 := (y 1).isLt
  have d : q.val / 512 = t.val % 4 := by omega
  have e : q.val % 512 = (y 1).val := by omega
  rw [row_at]
  unfold rows
  refine Norm.mul_eq (Norm.mul_eq (Norm.mul_eq ?_ (congrArg (Norm.inv _) (funext fun l => ?_))) ?_) (congrArg swish (gate_at m c t _ _ _ ?_ ?_))
  · blk_point [iblk, V, idx t]
  · blk_point [iblk, V, idx t]
  · blk_point [iblk, V, idx t]
  · exact hr
  · dsimp; omega

/-- The array after the run. -/
theorem final (c : Dev nD) : (dats m 0 c).arrAt 3 cfg0.N = fun i => rows (m ((c : Thread nD τ).loc main_arg0)) (V m c main_v0) (V m c main_v1) (i 0) (i 1) := by
  refine (dats m 0 c).arrAt_eq_of_covers 3 _ (by decide +kernel) fun t hf y => ?_
  blk_simp
  rw [after0_3]
  unfold outsAt0 out0_A_3
  frame_out
  refine block_at m c t y _ _ ?_ ?_
  · blk_point [idx t]
  · blk_point [idx t]

/-- The kernel and the reference end with the same array. -/
theorem algebraic : Cert.algebraic_Kernel21Ideal_Reference21Ideal := fun m ρ m' ρ' _ hag => by
  refine ⟨fun c => (dats m 0 c).arrAt 3 cfg0.N, Value.run_blocks m ρ, ?_⟩
  refine (θ_run (Cert.Reference21Ideal.defs (F := Ideal)) _ _).mono (fun _ h c => ⟨(h c).1.trans (Eq.trans ?_ (final m c).symm), (h c).2⟩) (Cert.Reference21Ideal.Value.run (F := Ideal) m' ρ')
  obtain ⟨a0, a1, a2⟩ := hag c
  clear h
  simp only [V, hostOps0, hostOps0_1, hostOps0_2, List.flatten_cons, List.flatten_nil, List.append_nil, List.cons_append, List.nil_append]
  entry_read
  simp only [StableHlo.TRef.toBuf, StableHlo.TRef.ofBuf, cast_eq]
  rw [a0, a1, a2]
  funext i
  idx_vars i
  unfold rows Norm.inv Norm.ms swish
  pointwise []
  have h1 : 4096 + i1.val < 6160 := by have := i1.isLt; omega
  simp only [dif_pos h1]

end Cert.Kernel21Ideal.Norm

end
-- ==== Proof.Norm22.lean ====
module

public import proofs.«01_k».proof.Proof.Gen.Kernel22Ideal.Value
public import proofs.«01_k».proof.Proof.Gen.Reference22Ideal
public import proofs.«01_k».proof.Proof.Gen.Reference22Ideal.Run
public import proofs.«01_k».proof.Proof.Norm
public import proofs.«01_k».proof.Proof.Gen.Pre_head_norm_finite
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The gradient of the per-head normalisation with the swish output gate: the gradients of both inputs, one block of rows and one head at a
    time, and the weight's gradient carried over all blocks. -/

@[expose] public section

set_option maxRecDepth 16384

noncomputable section

open Idealize.ShloMosaic Idealize.ShloMosaic.TcCoe Idealize.SL.Sem
open Idealize.ShloMosaic.Pipeline (Dat)

namespace Cert.Norm

section
variable {n0 n1 n2 : ℕ} {t : Shape}

/-- An array of rank three, reduced over its first two axes: the result has one axis, of the third's length. -/
theorem rank_front (h : (⟨3, ![n0, n1, n2]⟩ : Shape).ReducesTo [0, 1] t) : t.rank = 1 := h.1

theorem lt_front (h : (⟨3, ![n0, n1, n2]⟩ : Shape).ReducesTo [0, 1] t) : 0 < t.rank := rank_front h ▸ (by decide)

theorem size_front (h : (⟨3, ![n0, n1, n2]⟩ : Shape).ReducesTo [0, 1] t) : t.size ⟨0, lt_front h⟩ = n2 := h.2 ⟨0, lt_front h⟩

/-- The indices that drop to `j` are those with `j` on the third axis. -/
theorem fiber_front (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, lt_front h⟩).val, Shape.coordLt (j ⟨0, lt_front h⟩) (size_front h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lt_front h⟩)).symm
  · rintro ⟨k, rfl⟩
    funext b
    apply Fin.ext
    match b with
    | ⟨0, _⟩ => rfl
    | ⟨_ + 1, hb⟩ => exact absurd hb (by have := rank_front h; omega)

/-- The sum over the first two axes, read at an index. -/
theorem sum_front (h : (⟨3, ![n0, n1, n2]⟩ : Shape).ReducesTo [0, 1] t) (v : (⟨3, ![n0, n1, n2]⟩ : Shape).Idx → EReal) (init : EReal) (j : t.Idx) :
    Ideal.hostReduceAdd h v init j = init + ∑ a : Fin n0, ∑ b : Fin n1, v (ix3 a b ⟨(j ⟨0, lt_front h⟩).val, Shape.coordLt (j ⟨0, lt_front h⟩) (size_front h)⟩) := by
  refine congrArg (init + ·) ?_
  refine (Finset.sum_filter_eq_sum_of_fiber _ (fun k : Fin n0 × Fin n1 => ix3 k.1 k.2 ⟨(j ⟨0, lt_front h⟩).val, Shape.coordLt (j ⟨0, lt_front h⟩) (size_front h)⟩)
    (fun _ _ e => Prod.ext (congrFun e 0) (congrFun e 1)) (fiber_front h j) v).trans ?_
  simp only [Fintype.sum_prod_type]

end

end Cert.Norm

namespace Cert.Kernel22Ideal.Norm

open Cert.Kernel22Ideal Cert.Kernel22Ideal.Gen
open Cert.Kernel2Ideal.Ffn (IsR sg gate_law)
open Cert.Bounds (andi_one ofBits_inf ofBool_one real_of_abs_lt)

variable (m : (ℓ : Loc nD τ sig) → Buf (Elt Ideal) ℓ)

/-- The number of columns of a head. -/
abbrev cols : EReal := Ideal.ofBits .f32 1140850688#32

/-- One block's gradient of the input at a row and a column. -/
theorem dx_at (o r : FVec Ideal S512x512 .f32) (d : FVec Ideal S512x512 .bf16) (w : FVec Ideal S1x512 .f32) (j : S512x512.Idx) :
    k0_pay1 (F := Ideal) (k0_pay4 (F := Ideal) o) (k0_pay5 (F := Ideal) o) (k0_pay9 (F := Ideal) r d) w j
      = Norm.grad cols (fun l : Fin 512 => d (ix2 (j 0) l) * (r (ix2 (j 0) l) * sg (r (ix2 (j 0) l))) * w (ix2 0 l)) (fun l => o (ix2 (j 0) l)) (j 1) := by
  unfold Norm.grad Norm.inv Norm.ms sg
  pointwise [k0_pay1, k0_pay4, k0_pay5, k0_pay6, k0_pay7, k0_pay8, k0_pay9]

/-- One block's gradient of the gate's input at a row and a column. -/
theorem dg_at (o r : FVec Ideal S512x512 .f32) (d : FVec Ideal S512x512 .bf16) (w : FVec Ideal S1x512 .f32) (j : S512x512.Idx) :
    k0_pay10 (F := Ideal) o r d w j = d (ix2 (j 0) (j 1)) * (o (ix2 (j 0) (j 1)) * Norm.inv cols (fun l : Fin 512 => o (ix2 (j 0) l))) * w (ix2 0 (j 1))
      * sg (r (ix2 (j 0) (j 1))) * (1 + r (ix2 (j 0) (j 1)) * (1 - sg (r (ix2 (j 0) (j 1))))) := by
  unfold Norm.inv Norm.ms sg
  pointwise [k0_pay4, k0_pay5, k0_pay6, k0_pay7, k0_pay8, k0_pay10]

/-- One block's part of the weight's gradient at a column. -/
theorem part_at (o r : FVec Ideal S512x512 .f32) (d : FVec Ideal S512x512 .bf16) (j : S1x512.Idx) :
    k0_pay2 (F := Ideal) (k0_pay5 (F := Ideal) o) (k0_pay9 (F := Ideal) r d) j
      = ∑ l : Fin 512, d (ix2 l (j 1)) * (r (ix2 l (j 1)) * sg (r (ix2 l (j 1)))) * (o (ix2 l (j 1)) * Norm.inv cols (fun k : Fin 512 => o (ix2 l k))) := by
  unfold Norm.inv Norm.ms sg
  pointwise [k0_pay2, k0_pay4, k0_pay5, k0_pay6, k0_pay7, k0_pay8, k0_pay9]

theorem next_at (n d a : _) (j : S1x512.Idx) : k0_pay3 (F := Ideal) n d a j = a j + k0_pay2 (F := Ideal) n d j := by
  pointwise [k0_pay3]

theorem idx : ∀ t : Fin cfg0.N, win0_0.index t = ![t.val / 4, t.val % 4] ∧ win0_1.index t = ![t.val / 4, t.val % 4] ∧ win0_2.index t = ![t.val / 4, 8 + t.val % 4]
    ∧ win0_3.index t = ![0, 0] ∧ win0_4.index t = ![t.val / 4, t.val % 4] ∧ win0_5.index t = ![t.val / 4, t.val % 4] ∧ win0_6.index t = ![0, 0] :=
  (by decide +kernel : ∀ t : Fin grid0.N, _)

/-- The gate's block, read in the padded projection. -/
theorem gate_at (c : Dev nD) (t : Fin cfg0.N) (y : S512x512.Idx) (r : Fin 4096) (q : Fin 6272) (hr : r.val = t.val / 4 * 512 + (y 0).val)
    (hq : q.val = 4096 + t.val % 4 * 512 + (y 1).val) :
    (X0_2 m c t : FVec Ideal S512x512 .f32) y = (V m c main_v0 : FVec Ideal S4096x6272 .f32) (ix2 r q) := by
  unfold X0_2 Pipeline.Window.fill
  rw [dif_pos (moved0_2 t _)]
  blk_point [iblk, V, idx t]

/-- The column `l` of the head that column `q` lies in. -/
def head (q : Fin 2048) (l : Fin 512) : Fin 2048 := ⟨q.val / 512 * 512 + l.val, by omega⟩

/-- A column's place in its head. -/
def place (q : Fin 2048) : Fin 512 := ⟨q.val % 512, by omega⟩

theorem head_place (q : Fin 2048) : head q (place q) = q := Fin.ext (by dsimp [head, place]; omega)

/-- The gate's input. -/
def gate (P : FVec Ideal S4096x6272 .f32) (r : Fin 4096) (q : Fin 2048) : EReal := P (ix2 r (⟨4096 + q.val, by omega⟩ : Fin 6272))

/-- The gradient of the normalised rows. -/
def dn (D : FVec Ideal S4096x2048 .bf16) (P : FVec Ideal S4096x6272 .f32) (r : Fin 4096) (q : Fin 2048) : EReal :=
  D (ix2 r q) * (gate P r q * sg (gate P r q))

/-- The gradient of the input. -/
def dx (D : FVec Ideal S4096x2048 .bf16) (O : FVec Ideal S4096x2048 .f32) (P : FVec Ideal S4096x6272 .f32) (W : FVec Ideal S1x512 .f32) (r : Fin 4096) (q : Fin 2048) : EReal :=
  Norm.grad cols (fun l : Fin 512 => dn D P r (head q l) * W (ix2 0 l)) (fun l => O (ix2 r (head q l))) (place q)

/-- The gradient of the gate's input. -/
def dg (D : FVec Ideal S4096x2048 .bf16) (O : FVec Ideal S4096x2048 .f32) (P : FVec Ideal S4096x6272 .f32) (W : FVec Ideal S1x512 .f32) (r : Fin 4096) (q : Fin 2048) : EReal :=
  D (ix2 r q) * (O (ix2 r q) * Norm.inv cols (fun l : Fin 512 => O (ix2 r (head q l)))) * W (ix2 0 (place q)) * sg (gate P r q) * (1 + gate P r q * (1 - sg (gate P r q)))

/-- A row's and a head's part of the weight's gradient. -/
def term (D : FVec Ideal S4096x2048 .bf16) (O : FVec Ideal S4096x2048 .f32) (P : FVec Ideal S4096x6272 .f32) (q : Fin 512) (r : Fin 4096) (b : Fin 4) : EReal :=
  dn D P r (⟨b.val * 512 + q.val, by omega⟩ : Fin 2048) * (O (ix2 r (⟨b.val * 512 + q.val, by omega⟩ : Fin 2048))
    * Norm.inv cols (fun k : Fin 512 => O (ix2 r (⟨b.val * 512 + k.val, by omega⟩ : Fin 2048))))

/-- The weight's gradient, over the points of the grid. -/
def dw (D : FVec Ideal S4096x2048 .bf16) (O : FVec Ideal S4096x2048 .f32) (P : FVec Ideal S4096x6272 .f32) (q : Fin 512) : EReal :=
  ∑ s : Fin 32, ∑ l : Fin 512, term D O P q (⟨s.val / 4 * 512 + l.val, by omega⟩ : Fin 4096) (⟨s.val % 4, by omega⟩ : Fin 4)

/-- What a point leaves in the rows' blocks. -/
theorem out4 (c : Dev nD) (t : Fin cfg0.N) : (outsAt0 m c t.val t.isLt).1
    = k0_pay1 (F := Ideal) (k0_pay4 (F := Ideal) (iblk m c 1 t)) (k0_pay5 (F := Ideal) (iblk m c 1 t)) (k0_pay9 (F := Ideal) (X0_2 m c t) (iblk m c 0 t)) (iblk m c 3 t) := by
  have hN : t.val < 32 := t.isLt
  by_cases h : t.val % 32 = 0
  · rw [outsAt0_A m c t h (by omega)]; frame_out
  · rw [outsAt0_B m c t h (by omega)]; frame_out

theorem out5 (c : Dev nD) (t : Fin cfg0.N) : (outsAt0 m c t.val t.isLt).2.1 = k0_pay10 (F := Ideal) (iblk m c 1 t) (X0_2 m c t) (iblk m c 0 t) (iblk m c 3 t) := by
  have hN : t.val < 32 := t.isLt
  by_cases h : t.val % 32 = 0
  · rw [outsAt0_A m c t h (by omega)]; frame_out
  · rw [outsAt0_B m c t h (by omega)]; frame_out

theorem dx_block (c : Dev nD) (t : Fin cfg0.N) (y : S512x512.Idx) (r : Fin 4096) (q : Fin 2048) (hr : r.val = t.val / 4 * 512 + (y 0).val) (hq : q.val = t.val % 4 * 512 + (y 1).val) :
    k0_pay1 (F := Ideal) (k0_pay4 (F := Ideal) (iblk m c 1 t)) (k0_pay5 (F := Ideal) (iblk m c 1 t)) (k0_pay9 (F := Ideal) (X0_2 m c t) (iblk m c 0 t)) (iblk m c 3 t) y
      = dx (m ((c : Thread nD τ).loc main_arg0)) (m ((c : Thread nD τ).loc main_arg1)) (V m c main_v0) (V m c main_v1) r q := by
  have h1 : (y 1).val < 512 := (y 1).isLt
  have d : q.val / 512 = t.val % 4 := by omega
  have e : place q = y 1 := Fin.ext (by dsimp [place]; omega)
  rw [dx_at]
  unfold dx dn gate
  rw [e]
  refine Norm.grad_congr (fun l => ?_) (fun l => ?_) _
  · have g := gate_at m c t (ix2 (y 0) l) r (⟨4096 + (head q l).val, by omega⟩ : Fin 6272) hr (by dsimp [head]; omega)
    refine Norm.mul_eq (Norm.mul_eq ?_ (Norm.mul_eq g (congrArg sg g))) ?_
    · blk_point [iblk, V, idx t, head]
    · blk_point [iblk, V, idx t]
  · blk_point [iblk, V, idx t, head]

theorem dg_block (c : Dev nD) (t : Fin cfg0.N) (y : S512x512.Idx) (r : Fin 4096) (q : Fin 2048) (hr : r.val = t.val / 4 * 512 + (y 0).val) (hq : q.val = t.val % 4 * 512 + (y 1).val) :
    k0_pay10 (F := Ideal) (iblk m c 1 t) (X0_2 m c t) (iblk m c 0 t) (iblk m c 3 t) y
      = dg (m ((c : Thread nD τ).loc main_arg0)) (m ((c : Thread nD τ).loc main_arg1)) (V m c main_v0) (V m c main_v1) r q := by
  have h1 : (y 1).val < 512 := (y 1).isLt
  have d : q.val / 512 = t.val % 4 := by omega
  have e : place q = y 1 := Fin.ext (by dsimp [place]; omega)
  have g : (X0_2 m c t : FVec Ideal S512x512 .f32) (ix2 (y 0) (y 1)) = gate (V m c main_v0) r q := gate_at m c t _ r _ hr (by dsimp; omega)
  rw [dg_at, g]
  unfold dg
  rw [e]
  refine Norm.mul_eq (Norm.mul_eq (Norm.mul_eq (Norm.mul_eq ?_ (Norm.mul_eq ?_ (congrArg (Norm.inv _) (funext fun l => ?_)))) ?_) rfl) rfl
  · blk_point [iblk, V, idx t]
  · blk_point [iblk, V, idx t]
  · blk_point [iblk, V, idx t, head]
  · blk_point [iblk, V, idx t]

theorem final4 (c : Dev nD) : (dats m 0 c).arrAt 4 cfg0.N
    = fun i => dx (m ((c : Thread nD τ).loc main_arg0)) (m ((c : Thread nD τ).loc main_arg1)) (V m c main_v0) (V m c main_v1) (i 0) (i 1) := by
  refine (dats m 0 c).arrAt_eq_of_covers 4 _ (by decide +kernel) fun t hf y => ?_
  blk_simp
  rw [after0_4, out4]
  refine dx_block m c t y _ _ ?_ ?_
  · blk_point [idx t]
  · blk_point [idx t]

theorem final5 (c : Dev nD) : (dats m 0 c).arrAt 5 cfg0.N
    = fun i => dg (m ((c : Thread nD τ).loc main_arg0)) (m ((c : Thread nD τ).loc main_arg1)) (V m c main_v0) (V m c main_v1) (i 0) (i 1) := by
  refine (dats m 0 c).arrAt_eq_of_covers 5 _ (by decide +kernel) fun t hf y => ?_
  blk_simp
  rw [after0_5, out5]
  refine dg_block m c t y _ _ ?_ ?_
  · blk_point [idx t]
  · blk_point [idx t]

/-- What the carried sum holds when its run of 32 points ends. -/
theorem carried (c : Dev nD) (t : Fin cfg0.N) (hf : t.val % 32 = 32 - 1) (j : S1x512.Idx) :
    (outsAt0 m c t.val t.isLt).2.2 j = ∑ s : Fin 32, k0_pay2 (F := Ideal) (k0_pay5 (F := Ideal) (iblk m c 1 ⟨32 * (t.val / 32) + s.val, Pipeline.run_point_lt_of_flush t hf s⟩))
      (k0_pay9 (F := Ideal) (X0_2 m c ⟨32 * (t.val / 32) + s.val, Pipeline.run_point_lt_of_flush t hf s⟩) (iblk m c 0 ⟨32 * (t.val / 32) + s.val, Pipeline.run_point_lt_of_flush t hf s⟩)) j := by
  rw [Pipeline.eq_sum_fin_of_reset_step_apply_of_flush (fun n h => (outsAt0 m c n h).2.2) 32 (fun _ => (0 : EReal))
    (fun p j => k0_pay2 (F := Ideal) (k0_pay5 (F := Ideal) (iblk m c 1 p)) (k0_pay9 (F := Ideal) (X0_2 m c p) (iblk m c 0 p)) j)
    (fun t h j => by
      have hN : t.val < 32 := t.isLt
      rw [outsAt0_A m c t h (by omega)]; frame_out; rw [zero_add])
    (fun t h j => by
      rw [outsAt0_B m c t h (by omega)]; frame_out; rw [next_at])
    t hf j, zero_add]

theorem final6 (c : Dev nD) : (dats m 0 c).arrAt 6 cfg0.N = fun i => dw (m ((c : Thread nD τ).loc main_arg0)) (m ((c : Thread nD τ).loc main_arg1)) (V m c main_v0) (i 1) := by
  refine (dats m 0 c).arrAt_eq_of_covers 6 _ (by decide +kernel) fun t hf y => ?_
  have hf' := (flush0_6 t).mp hf
  have hN : t.val < 32 := t.isLt
  blk_simp
  rw [after0_6, carried m c t hf']
  unfold dw term dn gate
  refine Fin.sum_fin_congr fun s => ?_
  rw [part_at]
  refine Fin.sum_fin_congr fun l => ?_
  have ht : 32 * (t.val / 32) + s.val = s.val := by omega
  have hs := s.isLt
  refine Norm.mul_eq (Norm.mul_eq ?_ (Norm.mul_eq ?_ (congrArg sg ?_))) (Norm.mul_eq ?_ (congrArg (Norm.inv _) (funext fun k => ?_)))
  · blk_point [iblk, V, idx t, idx ⟨_, Pipeline.run_point_lt_of_flush t hf' s⟩]
  · refine gate_at m c ⟨_, Pipeline.run_point_lt_of_flush t hf' s⟩ _ _ _ ?_ ?_
    · dsimp; omega
    · dsimp
      blk_simp [idx t]
      omega
  · refine gate_at m c ⟨_, Pipeline.run_point_lt_of_flush t hf' s⟩ _ _ _ ?_ ?_
    · dsimp; omega
    · dsimp
      blk_simp [idx t]
      omega
  · blk_point [iblk, V, idx t, idx ⟨_, Pipeline.run_point_lt_of_flush t hf' s⟩]
  · blk_point [iblk, V, idx t, idx ⟨_, Pipeline.run_point_lt_of_flush t hf' s⟩]

/-- The weight's gradient as the sum over the rows and the heads. -/
theorem dw_law (D : FVec Ideal S4096x2048 .bf16) (O : FVec Ideal S4096x2048 .f32) (P : FVec Ideal S4096x6272 .f32) (q : Fin 512) :
    dw D O P q = ∑ r : Fin 4096, ∑ b : Fin 4, term D O P q r b := by
  have e1 : dw D O P q = ∑ p : Fin 8, ∑ b : Fin 4, ∑ l : Fin 512, term D O P q (⟨p.val * 512 + l.val, by omega⟩ : Fin 4096) b := by
    unfold dw
    refine (Fin.sum_mul_add_congr fun p b hl => Finset.sum_congr rfl fun l _ => ?_).symm
    congr 1
    · apply Fin.ext; dsimp; omega
    · apply Fin.ext; dsimp; omega
  rw [e1]
  refine Eq.trans (Finset.sum_congr rfl fun p _ => Finset.sum_comm) ?_
  exact Fin.sum_mul_add_congr fun p l hl => rfl

/-- What the precondition says of the arguments. -/
theorem reals (x0 : FVec Ideal S4096x2048 .bf16) (x1 : FVec Ideal S4096x2048 .f32) (x2 : FVec Ideal S4096x6160 .f32) (x3 : FVec Ideal S512 .f32)
    (e : Cert.Pre_head_norm_finite.fn (F := Ideal) x0 x1 x2 x3 = fun _ => 1#1) :
    (∀ i, IsR (x0 i)) ∧ (∀ i, IsR (x1 i)) ∧ (∀ i, IsR (x2 i)) ∧ (∀ i, IsR (x3 i)) := by
  have e := congrFun e ix0
  unfold Cert.Pre_head_norm_finite.fn at e
  dsimp only at e
  obtain ⟨e, e3⟩ := andi_one e
  obtain ⟨e, e2⟩ := andi_one e
  obtain ⟨e0, e1⟩ := andi_one e
  have h0 := Host.reduce_andi_all _ _ _ _ _ e0
  have h1 := Host.reduce_andi_all _ _ _ _ _ e1
  have h2 := Host.reduce_andi_all _ _ _ _ _ e2
  have h3 := Host.reduce_andi_all _ _ _ _ _ e3
  refine ⟨fun i => ?_, fun i => ?_, fun i => ?_, fun i => ?_⟩
  · have h := h0 i
    pointwise at h
    rw [ofBits_inf] at h
    exact ⟨_, real_of_abs_lt (ofBool_one h)⟩
  · have h := h1 i
    pointwise at h
    rw [ofBits_inf] at h
    exact ⟨_, real_of_abs_lt (ofBool_one h)⟩
  · have h := h2 i
    pointwise at h
    rw [ofBits_inf] at h
    exact ⟨_, real_of_abs_lt (ofBool_one h)⟩
  · have h := h3 i
    pointwise at h
    rw [ofBits_inf] at h
    exact ⟨_, real_of_abs_lt (ofBool_one h)⟩

section
variable {D : FVec Ideal S4096x2048 .bf16} {O : FVec Ideal S4096x2048 .f32} {P : FVec Ideal S4096x6272 .f32} {W : FVec Ideal S1x512 .f32}
  (hD : ∀ i, IsR (D i)) (hO : ∀ i, IsR (O i)) (hP : ∀ r q, IsR (gate P r q)) (hW : ∀ l, IsR (W (ix2 0 l)))

include hD hO hP hW

/-- The gradient of the input, written as the reference does. -/
theorem dx_law (r : Fin 4096) (q : Fin 2048) :
    dx D O P W r q = dn D P r q * W (ix2 0 (place q)) * Norm.inv cols (fun l : Fin 512 => O (ix2 r (head q l)))
      + O (ix2 r q) * Norm.back cols (fun l : Fin 512 => dn D P r (head q l) * W (ix2 0 l)) (fun l => O (ix2 r (head q l)))
      + Norm.back cols (fun l : Fin 512 => dn D P r (head q l) * W (ix2 0 l)) (fun l => O (ix2 r (head q l))) * O (ix2 r q) := by
  have hd : ∀ r q, IsR (dn D P r q) := fun r q => (hD _).mul ((hP _ _).mul (hP _ _).sg)
  unfold dx cols
  rw [Norm.ofBits_512, Norm.grad_law (by norm_num) (fun k => (hd _ _).mul (hW _)) (fun k => hO _), head_place]

/-- The gradient of the gate's input, written as the reference does. -/
theorem dg_law (r : Fin 4096) (q : Fin 2048) :
    dg D O P W r q = O (ix2 r q) * Norm.inv cols (fun l : Fin 512 => O (ix2 r (head q l))) * W (ix2 0 (place q)) * D (ix2 r q) * sg (gate P r q)
      + gate P r q * (O (ix2 r q) * Norm.inv cols (fun l : Fin 512 => O (ix2 r (head q l))) * W (ix2 0 (place q)) * D (ix2 r q)) * (sg (gate P r q) * (1 - sg (gate P r q))) := by
  have hi : IsR (Norm.inv cols (fun l : Fin 512 => O (ix2 r (head q l)))) := by
    unfold cols
    rw [Norm.ofBits_512]
    exact Norm.isR_inv (by norm_num) fun k => hO _
  unfold dg
  rw [gate_law ((hD _).mul ((hO _).mul hi)) (hW _) (hP _ _) (hP _ _).sg]
  have e : D (ix2 r q) * (O (ix2 r q) * Norm.inv cols (fun l : Fin 512 => O (ix2 r (head q l)))) * W (ix2 0 (place q))
      = O (ix2 r q) * Norm.inv cols (fun l : Fin 512 => O (ix2 r (head q l))) * W (ix2 0 (place q)) * D (ix2 r q) := by
    rw [mul_comm (D (ix2 r q)), mul_assoc, mul_comm (D (ix2 r q)), ← mul_assoc]
  rw [e]

end

/-- The gate's input, in the projection without the columns of zeros. -/
def part (X : FVec Ideal S4096x6160 .f32) (r : Fin 4096) (q : Fin 2048) : EReal := X (ix2 r (⟨4096 + q.val, by omega⟩ : Fin 6160))

theorem gate_pad (X : FVec Ideal S4096x6160 .f32) :
    gate (pad S4096x6272 ![0, 0] ![0, 112] ![0, 0] X (sitofp .f32 (constantI S_ 32 0#32)) pads_S4096x6160_S4096x6272_000_01120 h_S_) = part X := by
  funext r q
  have h1 : 4096 + q.val < 6160 := by have := q.isLt; omega
  unfold gate part
  pointwise []
  rw [dif_pos h1]

set_option maxHeartbeats 4000000 in
/-- The kernel and the reference end with the same arrays. -/
theorem algebraic : Cert.algebraic_Kernel22Ideal_Reference22Ideal_pre_head_norm_finite := fun m ρ m' ρ' hp hag => by
  refine ⟨_, _, _, Value.run_blocks m ρ, ?_⟩
  refine (θ_run (Cert.Reference22Ideal.defs (F := Ideal)) _ _).mono (fun _ h c => ⟨(h c).1.trans (Eq.trans ?_ (final4 m c).symm), (h c).2.1.trans (Eq.trans ?_ (final5 m c).symm),
    (h c).2.2.1.trans (Eq.trans ?_ (final6 m c).symm), (h c).2.2.2⟩) (Cert.Reference22Ideal.Value.run (F := Ideal) m' ρ')
  all_goals
    clear h
    obtain ⟨a0, a1, a2, a3⟩ := hag c
    obtain ⟨r0, r1, r2, r3⟩ := reals _ _ _ _ (hp c)
    simp only [V, hostOps0, hostOps0_1, hostOps0_2, List.flatten_cons, List.flatten_nil, List.append_nil, List.cons_append, List.nil_append]
    try entry_read
    simp only [StableHlo.TRef.toBuf, StableHlo.TRef.ofBuf, cast_eq]
    try unfold Cert.Reference22Ideal.Value.res_main_v48
    rw [a0, a1, a2]
    try rw [a3]
    funext i
    idx_vars i
  · rw [dx_law r0 r1 (fun r q => by rw [gate_pad]; exact r2 _) (fun l => by pointwise []; exact r3 _)]
    unfold dn
    rw [gate_pad]
    unfold Norm.back Norm.inv Norm.ms part head place sg
    simp only [zero_sub]
    pointwise []
  · rw [dg_law r0 r1 (fun r q => by rw [gate_pad]; exact r2 _) (fun l => by pointwise []; exact r3 _)]
    rw [gate_pad]
    unfold Norm.inv Norm.ms part head place sg
    simp only [zero_sub]
    pointwise []
  · rw [dw_law]
    unfold term dn
    rw [gate_pad]
    unfold part Norm.inv Norm.ms sg
    simp only [zero_sub]
    pointwise [Norm.sum_front]
    rw [Fin.sum_univ_one, Fin.sum_univ_one]
    refine Fin.sum_fin_congr fun a => Fin.sum_fin_congr fun b => ?_
    exact mul_comm _ _

end Cert.Kernel22Ideal.Norm

end
-- ==== Proof.Norm23.lean ====
module

public import proofs.«01_k».proof.Proof.Gen.Kernel23Ideal.Value
public import proofs.«01_k».proof.Proof.Gen.Reference23Ideal
public import proofs.«01_k».proof.Proof.Gen.Reference23Ideal.Run
public import proofs.«01_k».proof.Proof.Norm
public import proofs.«01_k».proof.Proof.Gen.Pre_loss_finite
public import proofs.«01_k».proof.Defs
public import Idealize.ShloMosaic.Lib.Claim
public import Idealize.ShloMosaic.Lib.Pipeline.ReadBack
public import Idealize.ShloMosaic.Lib.Pipeline.ValueKit
public import Idealize.ShloMosaic.Lib.Pointwise

/-! The loss and the gradients of the last normalisation: rows' gradients block by block, the loss and the weight's gradient carried over the blocks. -/

@[expose] public section

set_option maxRecDepth 16384

noncomputable section

open Idealize.ShloMosaic Idealize.ShloMosaic.TcCoe Idealize.SL.Sem
open Idealize.ShloMosaic.Pipeline (Dat)

namespace Cert.Kernel23Ideal.Norm

open Cert.Kernel23Ideal Cert.Kernel23Ideal.Gen
open Cert.Kernel2Ideal.Ffn (IsR)
open Cert.Bounds (andi_one ofBits_inf ofBool_one real_of_abs_lt)

variable (m : (ℓ : Loc nD τ sig) → Buf (Elt Ideal) ℓ)

/-- The number of columns. -/
abbrev cols : EReal := Ideal.ofBits .f32 1157627904#32

/-- What the normalised row misses the target by. -/
def miss (x : Fin 2048 → EReal) (w t : Fin 2048 → EReal) (k : Fin 2048) : EReal := x k * Norm.inv cols x * w k - t k

/-- The loss's share of one column. -/
abbrev share : EReal := Ideal.ofBits .f32 973078528#32

/-- One half. -/
abbrev half : EReal := Ideal.ofBits .f32 1056964608#32

/-- One block's gradient at a row and a column. -/
theorem dh_at (x : FVec Ideal S512x2048 .f32) (w : FVec Ideal S1x2048 .f32) (t : FVec Ideal S512x2048 .f32) (j : S512x2048.Idx) :
    k0_pay1 (F := Ideal) (k0_pay12 x w t w) (k0_pay13 x) j
      = Norm.grad cols (fun k : Fin 2048 => miss (fun l => x (ix2 (j 0) l)) (fun l => w (ix2 0 l)) (fun l => t (ix2 (j 0) l)) k * share * w (ix2 0 k)) (fun l => x (ix2 (j 0) l)) (j 1) := by
  unfold Norm.grad miss Norm.inv Norm.ms
  pointwise [k0_pay1, k0_pay12, k0_pay13, k0_pay11, k0_pay9, k0_pay8, k0_pay7]

theorem dh16_at (a b j) : k0_pay2 (F := Ideal) a b j = k0_pay1 (F := Ideal) a b j := by
  pointwise [k0_pay2]

/-- One block's part of the weight's gradient at a column. -/
theorem part_at (x : FVec Ideal S512x2048 .f32) (w : FVec Ideal S1x2048 .f32) (t : FVec Ideal S512x2048 .f32) (j : S1x2048.Idx) :
    k0_pay3 (F := Ideal) (k0_pay8 x) (k0_pay11 x w t) j
      = ∑ l : Fin 512, miss (fun k => x (ix2 l k)) (fun k => w (ix2 0 k)) (fun k => t (ix2 l k)) (j 1) * share * (x (ix2 l (j 1)) * Norm.inv cols (fun k : Fin 2048 => x (ix2 l k))) := by
  unfold miss Norm.inv Norm.ms
  pointwise [k0_pay3, k0_pay11, k0_pay9, k0_pay8, k0_pay7]

theorem next_at (p q a j) : k0_pay5 (F := Ideal) p q a j = a j + k0_pay3 (F := Ideal) p q j := by
  pointwise [k0_pay5]

/-- One block's part of the loss. -/
theorem lpart_at (x : FVec Ideal S512x2048 .f32) (w : FVec Ideal S1x2048 .f32) (t : FVec Ideal S512x2048 .f32) (j : S1x128.Idx) :
    k0_pay4 (F := Ideal) (k0_pay10 x w t) j
      = half * ∑ l : Fin 512, (∑ k : Fin 2048, miss (fun k => x (ix2 l k)) (fun k => w (ix2 0 k)) (fun k => t (ix2 l k)) k * miss (fun k => x (ix2 l k)) (fun k => w (ix2 0 k)) (fun k => t (ix2 l k)) k) * share := by
  unfold miss Norm.inv Norm.ms
  pointwise [k0_pay4, k0_pay10, k0_pay9, k0_pay8, k0_pay7]

theorem lnext_at (p a j) : k0_pay6 (F := Ideal) p a j = a j + k0_pay4 (F := Ideal) p j := by
  pointwise [k0_pay6]

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![0, 0] :=
  (by decide +kernel : ∀ t : Fin grid0.N, _)

/-- What row `r` misses the target by. -/
def err (X : FVec Ideal S4096x2048 .f32) (W : FVec Ideal S1x2048 .f32) (T : FVec Ideal S4096x2048 .f32) (r : Fin 4096) (q : Fin 2048) : EReal :=
  miss (fun l => X (ix2 r l)) (fun l => W (ix2 0 l)) (fun l => T (ix2 r l)) q

/-- The rows' gradients. -/
def dh (X : FVec Ideal S4096x2048 .f32) (W : FVec Ideal S1x2048 .f32) (T : FVec Ideal S4096x2048 .f32) (r : Fin 4096) (q : Fin 2048) : EReal :=
  Norm.grad cols (fun k : Fin 2048 => err X W T r k * share * W (ix2 0 k)) (fun l => X (ix2 r l)) q

/-- The weight's gradient, eight blocks of rows. -/
def dw (X : FVec Ideal S4096x2048 .f32) (W : FVec Ideal S1x2048 .f32) (T : FVec Ideal S4096x2048 .f32) (q : Fin 2048) : EReal :=
  ∑ s : Fin 8, ∑ l : Fin 512, err X W T (⟨s.val * 512 + l.val, by omega⟩ : Fin 4096) q * share
    * (X (ix2 (⟨s.val * 512 + l.val, by omega⟩ : Fin 4096) q) * Norm.inv cols (fun k : Fin 2048 => X (ix2 (⟨s.val * 512 + l.val, by omega⟩ : Fin 4096) k)))

/-- The loss, eight blocks of rows. -/
def total (X : FVec Ideal S4096x2048 .f32) (W : FVec Ideal S1x2048 .f32) (T : FVec Ideal S4096x2048 .f32) : EReal :=
  ∑ s : Fin 8, half * ∑ l : Fin 512, (∑ k : Fin 2048, err X W T (⟨s.val * 512 + l.val, by omega⟩ : Fin 4096) k * err X W T (⟨s.val * 512 + l.val, by omega⟩ : Fin 4096) k) * share

/-- What a point leaves in the rows' block. -/
theorem out3 (c : Dev nD) (t : Fin cfg0.N) : (outsAt0 m c t.val t.isLt).1 = k0_pay1 (F := Ideal) (k0_pay12 (iblk m c 0 t) (iblk m c 1 t) (iblk m c 2 t) (iblk m c 1 t)) (k0_pay13 (iblk m c 0 t)) := by
  have hN : t.val < 8 := t.isLt
  by_cases h : t.val % 8 = 0
  · rw [outsAt0_A m c t h (by omega)]; frame_out
  · rw [outsAt0_B m c t h (by omega)]; frame_out

theorem out4 (c : Dev nD) (t : Fin cfg0.N) : (outsAt0 m c t.val t.isLt).2.1 = k0_pay2 (F := Ideal) (k0_pay12 (iblk m c 0 t) (iblk m c 1 t) (iblk m c 2 t) (iblk m c 1 t)) (k0_pay13 (iblk m c 0 t)) := by
  have hN : t.val < 8 := t.isLt
  by_cases h : t.val % 8 = 0
  · rw [outsAt0_A m c t h (by omega)]; frame_out
  · rw [outsAt0_B m c t h (by omega)]; frame_out

theorem miss_congr {x x' w w' t t' : Fin 2048 → EReal} (hx : ∀ l, x l = x' l) (hw : ∀ l, w l = w' l) (ht : ∀ l, t l = t' l) (k : Fin 2048) : miss x w t k = miss x' w' t' k := by
  rw [funext hx, funext hw, funext ht]

/-- The kernel's three arguments. -/
abbrev aX (c : Dev nD) : FVec Ideal S4096x2048 .f32 := m ((c : Thread nD τ).loc main_arg0)
abbrev aW (c : Dev nD) : FVec Ideal S1x2048 .f32 := V m c main_v0
abbrev aT (c : Dev nD) : FVec Ideal S4096x2048 .f32 := m ((c : Thread nD τ).loc main_arg2)

/-- The arguments' blocks, read in the arrays. -/
theorem x_at (c : Dev nD) (t : Fin cfg0.N) (a : Fin 512) (k : Fin 2048) (r : Fin 4096) (hr : r.val = t.val * 512 + a.val) :
    (iblk m c 0 t : FVec Ideal S512x2048 .f32) (ix2 a k) = aX m c (ix2 r k) := by
  blk_point [iblk, V, idx t]

theorem w_at (c : Dev nD) (t : Fin cfg0.N) (k : Fin 2048) : (iblk m c 1 t : FVec Ideal S1x2048 .f32) (ix2 0 k) = aW m c (ix2 0 k) := by
  blk_point [iblk, V, idx t]

theorem t_at (c : Dev nD) (t : Fin cfg0.N) (a : Fin 512) (k : Fin 2048) (r : Fin 4096) (hr : r.val = t.val * 512 + a.val) :
    (iblk m c 2 t : FVec Ideal S512x2048 .f32) (ix2 a k) = aT m c (ix2 r k) := by
  blk_point [iblk, V, idx t]

/-- A block's entry, read in the arrays. -/
theorem block_at (c : Dev nD) (t : Fin cfg0.N) (y : S512x2048.Idx) (r : Fin 4096) (q : Fin 2048) (hr : r.val = t.val * 512 + (y 0).val) (hq : q.val = (y 1).val) :
    k0_pay1 (F := Ideal) (k0_pay12 (iblk m c 0 t) (iblk m c 1 t) (iblk m c 2 t) (iblk m c 1 t)) (k0_pay13 (iblk m c 0 t)) y = dh (aX m c) (aW m c) (aT m c) r q := by
  obtain rfl : q = y 1 := Fin.ext hq
  rw [dh_at]
  unfold dh err
  exact Norm.grad_congr (fun l => Norm.mul_eq (Norm.mul_eq (miss_congr (fun k => x_at m c t _ k r hr) (fun k => w_at m c t k) (fun k => t_at m c t _ k r hr) l) rfl) (w_at m c t l))
    (fun l => x_at m c t _ l r hr) _

theorem final3 (c : Dev nD) : (dats m 0 c).arrAt 3 cfg0.N = fun i => dh (aX m c) (aW m c) (aT m c) (i 0) (i 1) := by
  refine (dats m 0 c).arrAt_eq_of_covers 3 _ (by decide +kernel) fun t hf y => ?_
  blk_simp
  rw [after0_3, out3]
  refine block_at m c t y _ _ ?_ ?_
  · blk_point [idx t]
  · blk_point [idx t]

theorem final4 (c : Dev nD) : (dats m 0 c).arrAt 4 cfg0.N = fun i => dh (aX m c) (aW m c) (aT m c) (i 0) (i 1) := by
  refine (dats m 0 c).arrAt_eq_of_covers 4 _ (by decide +kernel) fun t hf y => ?_
  blk_simp
  rw [after0_4, out4, dh16_at]
  refine block_at m c t y _ _ ?_ ?_
  · blk_point [idx t]
  · blk_point [idx t]

/-- What the carried sums hold when their run of 8 points ends. -/
theorem carried5 (c : Dev nD) (t : Fin cfg0.N) (hf : t.val % 8 = 8 - 1) (j : S1x2048.Idx) :
    (outsAt0 m c t.val t.isLt).2.2.1 j = ∑ s : Fin 8, (fun p : Fin cfg0.N => k0_pay3 (F := Ideal) (k0_pay8 (iblk m c 0 p)) (k0_pay11 (iblk m c 0 p) (iblk m c 1 p) (iblk m c 2 p)) j)
      ⟨8 * (t.val / 8) + s.val, Pipeline.run_point_lt_of_flush t hf s⟩ := by
  rw [Pipeline.eq_sum_fin_of_reset_step_apply_of_flush (fun n h => (outsAt0 m c n h).2.2.1) 8 (fun _ => (0 : EReal))
    (fun p j => k0_pay3 (F := Ideal) (k0_pay8 (iblk m c 0 p)) (k0_pay11 (iblk m c 0 p) (iblk m c 1 p) (iblk m c 2 p)) j)
    (fun t h j => by
      have hN : t.val < 8 := t.isLt
      rw [outsAt0_A m c t h (by omega)]; frame_out; rw [zero_add])
    (fun t h j => by
      rw [outsAt0_B m c t h (by omega)]; frame_out; rw [next_at])
    t hf j, zero_add]

theorem carried6 (c : Dev nD) (t : Fin cfg0.N) (hf : t.val % 8 = 8 - 1) (j : S1x128.Idx) :
    (outsAt0 m c t.val t.isLt).2.2.2 j = ∑ s : Fin 8, (fun p : Fin cfg0.N => k0_pay4 (F := Ideal) (k0_pay10 (iblk m c 0 p) (iblk m c 1 p) (iblk m c 2 p)) j)
      ⟨8 * (t.val / 8) + s.val, Pipeline.run_point_lt_of_flush t hf s⟩ := by
  rw [Pipeline.eq_sum_fin_of_reset_step_apply_of_flush (fun n h => (outsAt0 m c n h).2.2.2) 8 (fun _ => (0 : EReal))
    (fun p j => k0_pay4 (F := Ideal) (k0_pay10 (iblk m c 0 p) (iblk m c 1 p) (iblk m c 2 p)) j)
    (fun t h j => by
      have hN : t.val < 8 := t.isLt
      rw [outsAt0_A m c t h (by omega)]; frame_out; rw [zero_add])
    (fun t h j => by
      rw [outsAt0_B m c t h (by omega)]; frame_out; rw [lnext_at])
    t hf j, zero_add]

/-- A block's part of the weight's gradient, read in the arrays. -/
theorem part_read (c : Dev nD) (t : Fin cfg0.N) (j : S1x2048.Idx) (r : Fin 512 → Fin 4096) (hr : ∀ l, (r l).val = t.val * 512 + l.val) (q : Fin 2048) (hq : q.val = (j 1).val) :
    k0_pay3 (F := Ideal) (k0_pay8 (iblk m c 0 t)) (k0_pay11 (iblk m c 0 t) (iblk m c 1 t) (iblk m c 2 t)) j
      = ∑ l : Fin 512, err (aX m c) (aW m c) (aT m c) (r l) q * share * (aX m c (ix2 (r l) q) * Norm.inv cols (fun k : Fin 2048 => aX m c (ix2 (r l) k))) := by
  obtain rfl : q = j 1 := Fin.ext hq
  rw [part_at]
  unfold err
  exact Fin.sum_fin_congr fun l => Norm.mul_eq (Norm.mul_eq (miss_congr (fun k => x_at m c t l k _ (hr l)) (fun k => w_at m c t k) (fun k => t_at m c t l k _ (hr l)) _) rfl)
    (Norm.mul_eq (x_at m c t l _ _ (hr l)) (congrArg (Norm.inv _) (funext fun k => x_at m c t l k _ (hr l))))

theorem final5 (c : Dev nD) : (dats m 0 c).arrAt 5 cfg0.N = fun i => dw (aX m c) (aW m c) (aT m c) (i 1) := by
  refine (dats m 0 c).arrAt_eq_of_covers 5 _ (by decide +kernel) fun t hf y => ?_
  have hf' := (flush0_5 t).mp hf
  have hN : t.val < 8 := t.isLt
  blk_simp
  rw [after0_5, carried5 m c t hf']
  unfold dw
  refine Fin.sum_fin_congr fun s => ?_
  refine part_read m c _ y _ (fun l => ?_) _ ?_
  · dsimp only
    omega
  · blk_point [idx t]

theorem final6 (c : Dev nD) : (dats m 0 c).arrAt 6 cfg0.N = fun _ => total (aX m c) (aW m c) (aT m c) := by
  refine (dats m 0 c).arrAt_eq_of_covers 6 _ (by decide +kernel) fun t hf y => ?_
  have hf' := (flush0_6 t).mp hf
  have hN : t.val < 8 := t.isLt
  blk_simp
  rw [after0_6, carried6 m c t hf']
  unfold total err
  refine Fin.sum_fin_congr fun s => ?_
  dsimp only
  rw [lpart_at]
  have hr : ∀ l : Fin 512, s.val * 512 + l.val = (8 * (t.val / 8) + s.val) * 512 + l.val := by omega
  refine Norm.mul_eq rfl (Fin.sum_fin_congr fun l => Norm.mul_eq (Fin.sum_fin_congr fun k => Norm.mul_eq ?_ ?_) rfl)
  · exact miss_congr (fun k => x_at m c _ _ k _ (hr l)) (fun k => w_at m c _ k) (fun k => t_at m c _ _ k _ (hr l)) _
  · exact miss_congr (fun k => x_at m c _ _ k _ (hr l)) (fun k => w_at m c _ k) (fun k => t_at m c _ _ k _ (hr l)) _

/-- What the precondition says of the arguments. -/
theorem reals (x0 : FVec Ideal S4096x2048 .f32) (x1 : FVec Ideal S2048 .f32) (x2 : FVec Ideal S4096x2048 .f32)
    (e : Cert.Pre_loss_finite.fn (F := Ideal) x0 x1 x2 = fun _ => 1#1) :
    (∀ i, IsR (x0 i)) ∧ (∀ i, IsR (x1 i)) ∧ (∀ i, IsR (x2 i)) := by
  have e := congrFun e ix0
  unfold Cert.Pre_loss_finite.fn at e
  dsimp only at e
  obtain ⟨e, e2⟩ := andi_one e
  obtain ⟨e0, e1⟩ := andi_one e
  have h0 := Host.reduce_andi_all _ _ _ _ _ e0
  have h1 := Host.reduce_andi_all _ _ _ _ _ e1
  have h2 := Host.reduce_andi_all _ _ _ _ _ e2
  refine ⟨fun i => ?_, fun i => ?_, fun i => ?_⟩
  · have h := h0 i
    pointwise at h
    rw [ofBits_inf] at h
    exact ⟨_, real_of_abs_lt (ofBool_one h)⟩
  · have h := h1 i
    pointwise at h
    rw [ofBits_inf] at h
    exact ⟨_, real_of_abs_lt (ofBool_one h)⟩
  · have h := h2 i
    pointwise at h
    rw [ofBits_inf] at h
    exact ⟨_, real_of_abs_lt (ofBool_one h)⟩

/-! ## The constants -/

theorem share_real : share = ((1 / 2048 : ℝ) : EReal) := by
  simp [Ideal.ofBits, Ideal.ieee, -EReal.coe_mul]; norm_num

theorem half_real : half = ((1 / 2 : ℝ) : EReal) := by
  simp [Ideal.ofBits, Ideal.ieee, -EReal.coe_mul]; norm_num

theorem two_real : Ideal.ofBits .f32 1073741824#32 = ((2 : ℝ) : EReal) := by
  simp [Ideal.ofBits, Ideal.ieee, -EReal.coe_mul]; norm_num

theorem cols_real : cols = ((2048 : ℝ) : EReal) := Norm.ofBits_2048

/-- The factor of the reference's gradient is the share. -/
theorem share_law (e : EReal) : Ideal.div half cols * (Ideal.ofBits .f32 1073741824#32 * e) = e * share := by
  rw [share_real, half_real, two_real, cols_real, Norm.div_real _ _ (by norm_num), ← mul_assoc, ← EReal.coe_mul, mul_comm e]
  norm_num

/-- Dividing by the number of columns is taking the share. -/
theorem div_cols (e : EReal) : Ideal.div e cols = e * share := by
  rw [share_real, cols_real, Ideal.div, if_neg (by rw [← EReal.coe_zero]; exact fun h => by have := EReal.coe_injective h; norm_num at this), ← EReal.coe_inv]
  norm_num

theorem miss_real {x w t : Fin 2048 → EReal} (hx : ∀ l, IsR (x l)) (hw : ∀ l, IsR (w l)) (ht : ∀ l, IsR (t l)) (k : Fin 2048) : IsR (miss x w t k) := by
  unfold miss
  rw [cols_real]
  exact Norm.isR_sub (((hx k).mul (Norm.isR_inv (by norm_num) hx)).mul (hw k)) (ht k)

/-- The rows' gradients, written as the reference does. -/
theorem dh_law (X : FVec Ideal S4096x2048 .f32) (W : FVec Ideal S1x2048 .f32) (T : FVec Ideal S4096x2048 .f32) (hX : ∀ i, IsR (X i)) (hW : ∀ i, IsR (W i)) (hT : ∀ i, IsR (T i))
    (r : Fin 4096) (q : Fin 2048) :
    dh X W T r q = Ideal.div half cols * (Ideal.ofBits .f32 1073741824#32 * err X W T r q) * W (ix2 0 q) * Norm.inv cols (fun l : Fin 2048 => X (ix2 r l))
      + X (ix2 r q) * Norm.back cols (fun l : Fin 2048 => Ideal.div half cols * (Ideal.ofBits .f32 1073741824#32 * err X W T r l) * W (ix2 0 l)) (fun l => X (ix2 r l))
      + Norm.back cols (fun l : Fin 2048 => Ideal.div half cols * (Ideal.ofBits .f32 1073741824#32 * err X W T r l) * W (ix2 0 l)) (fun l => X (ix2 r l)) * X (ix2 r q) := by
  simp only [share_law]
  have he : ∀ k, IsR (err X W T r k) := fun k => miss_real (fun _ => hX _) (fun _ => hW _) (fun _ => hT _) k
  unfold dh
  rw [cols_real]
  exact Norm.grad_law (by norm_num) (fun k => ((he k).mul ⟨_, share_real⟩).mul (hW _)) (fun k => hX _) q

/-- A real factor of a sum of reals. -/
theorem mul_sum_real {n : ℕ} {a : EReal} (ha : IsR a) (f : Fin n → EReal) (hf : ∀ i, IsR (f i)) : (∑ i, a * f i) = a * ∑ i, f i := by
  obtain ⟨a, rfl⟩ := ha
  choose g hg using hf
  simp only [hg, ← EReal.coe_mul]
  rw [Cert.Gla.coe_sum, Cert.Gla.coe_sum, ← EReal.coe_mul, Finset.mul_sum]

/-- The loss over all rows. -/
theorem total_law (X : FVec Ideal S4096x2048 .f32) (W : FVec Ideal S1x2048 .f32) (T : FVec Ideal S4096x2048 .f32) (hX : ∀ i, IsR (X i)) (hW : ∀ i, IsR (W i)) (hT : ∀ i, IsR (T i)) :
    total X W T = half * ∑ r : Fin 4096, Ideal.div (∑ k : Fin 2048, err X W T r k * err X W T r k) cols := by
  unfold total
  simp only [div_cols]
  have h : ∀ (r : Fin 4096) (k : Fin 2048), IsR (err X W T r k) := fun r k => miss_real (fun l => hX (ix2 r l)) (fun l => hW (ix2 0 l)) (fun l => hT (ix2 r l)) k
  rw [mul_sum_real ⟨_, half_real⟩ _ fun s => IsR.sum _ _ fun l => (IsR.sum _ _ fun k => (h _ k).mul (h _ k)).mul ⟨_, share_real⟩]
  exact congrArg _ (Fin.sum_mul_add_congr fun s l hl => rfl)

set_option maxHeartbeats 4000000 in
/-- The kernel and the reference end with the same arrays. -/
theorem algebraic : Cert.algebraic_Kernel23Ideal_Reference23Ideal_pre_loss_finite := fun m ρ m' ρ' hp hag => by
  refine ⟨_, _, _, _, Value.run_blocks m ρ, ?_⟩
  refine (θ_run (Cert.Reference23Ideal.defs (F := Ideal)) _ _).mono (fun _ h c => ⟨(h c).1.trans (Eq.trans ?_ (final3 m c).symm), (h c).2.1.trans (Eq.trans ?_ (final4 m c).symm),
    (h c).2.2.1.trans (Eq.trans ?_ (final5 m c).symm), (h c).2.2.2.1.trans (Eq.trans ?_ (final6 m c).symm), (h c).2.2.2.2⟩) (Cert.Reference23Ideal.Value.run (F := Ideal) m' ρ')
  all_goals
    clear h
    obtain ⟨a0, a1, a2⟩ := hag c
    obtain ⟨r0, r1, r2⟩ := reals _ _ _ (hp c)
    simp only [aW, aX, aT, V, hostOps0, List.flatten_cons, List.flatten_nil, List.append_nil, List.cons_append, List.nil_append]
    try entry_read
    try unfold Cert.Reference23Ideal.Value.res_main_v51
    try unfold Cert.Reference23Ideal.Value.res_main_v50
    rw [a0, a1, a2]
    funext i
    idx_vars i
  · rw [dh_law _ _ _ r0 (fun i => by idx_vars i; pointwise []; exact r1 _) r2]
    unfold Norm.back err miss Norm.inv Norm.ms
    pointwise []
  · rw [dh_law _ _ _ r0 (fun i => by idx_vars i; pointwise []; exact r1 _) r2]
    unfold Norm.back err miss Norm.inv Norm.ms
    pointwise []
  · unfold dw err miss Norm.inv Norm.ms
    pointwise []
    rw [Fin.sum_univ_one]
    refine (Fin.sum_mul_add_congr fun s l hl => ?_).symm
    exact (mul_comm _ _).trans (Norm.mul_eq rfl (share_law _).symm)
  · refine Eq.trans ?_ (total_law _ _ _ r0 (fun i => by idx_vars i; pointwise []; exact r1 _) r2).symm
    unfold err miss Norm.inv Norm.ms
    pointwise []

end Cert.Kernel23Ideal.Norm

end
-- ==== Proof.lean ====
/- The claims about the parts of the training step: gated linear attention with its gradient, the feed-forward layer
   with its gradient, the projections around the attentions with their gradients, and the calls on the rows between
   them: the norms, the gate of the recurrence, the norm of the heads and the loss. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_and_decaying
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Pre_norm_finite
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Pre_gate_finite
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Pre_head_norm_finite
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Pre_loss_finite
public import proofs.«01_k».proof.Proof.RunMain
public import proofs.«01_k».proof.Proof.Same
public import proofs.«01_k».proof.Proof.Equal
public import proofs.«01_k».proof.Proof.RefRun
public import proofs.«01_k».proof.Proof.Pre
public import proofs.«01_k».proof.Proof.FfnFrames
public import proofs.«01_k».proof.Proof.Ffn2
public import proofs.«01_k».proof.Proof.Ffn3
public import proofs.«01_k».proof.Proof.Ffn4
public import proofs.«01_k».proof.Proof.Ffn5
public import proofs.«01_k».proof.Proof.LinFrames
public import proofs.«01_k».proof.Proof.Lin6
public import proofs.«01_k».proof.Proof.Lin7
public import proofs.«01_k».proof.Proof.Lin8
public import proofs.«01_k».proof.Proof.Lin9
public import proofs.«01_k».proof.Proof.Lin10
public import proofs.«01_k».proof.Proof.Lin11
public import proofs.«01_k».proof.Proof.Lin12
public import proofs.«01_k».proof.Proof.Lin13
public import proofs.«01_k».proof.Proof.Lin14
public import proofs.«01_k».proof.Proof.Lin15
public import proofs.«01_k».proof.Proof.Lin16
public import proofs.«01_k».proof.Proof.NormFrames
public import proofs.«01_k».proof.Proof.Norm17
public import proofs.«01_k».proof.Proof.Norm18
public import proofs.«01_k».proof.Proof.Gate19
public import proofs.«01_k».proof.Proof.Gate20
public import proofs.«01_k».proof.Proof.Norm21
public import proofs.«01_k».proof.Proof.Norm22
public import proofs.«01_k».proof.Proof.Norm23
public import Idealize.ShloMosaic.Adequacy
public import Idealize.ShloMosaic.Init

@[expose] public section

noncomputable section

namespace Cert.Proof

open Idealize.ShloMosaic Idealize.SL.Sem Cert.Kernel

/-- The reference has no semaphore. -/
theorem no_sem : ∀ sm : SemLoc Cert.ReferenceIdeal.sig, False := by decide

/-- The kernel's frame, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run (Cert.KernelIdeal.defs (F := F)) _ _).mono (fun _ h => ⟨fun c => ⟨(h.1 c).1, (h.1 c).2.1, (h.1 c).2.2.1⟩, h.2⟩) (Cert.KernelIdeal.Run.run_main m ρ)

theorem frame_kernel : Cert.quiescent_Kernel := fun m ρ _ => by
  have h := frame_any (F := Bits) m ρ
  rw [← Cert.Same.defs_eq, ← Cert.Same.main_eq] at h
  exact h

theorem frame_ideal : Cert.quiescent_KernelIdeal := fun m ρ _ => frame_any (F := Ideal) m ρ

theorem frame_reference : Cert.quiescent_ReferenceIdeal := fun m ρ _ =>
  (θ_run Cert.ReferenceIdeal.defs _ _).mono (fun _ h => ⟨fun c => (h c).2.2.2.2.2, funext fun g => (no_sem g.2).elim⟩) (Cert.ReferenceIdeal.Value.run (F := Ideal) m ρ)

/-- From arguments that meet the precondition, the reference ends with the arrays that the kernel ends with. -/
theorem algebraic : Cert.algebraic_KernelIdeal_ReferenceIdeal_pre_finite_and_decaying := fun m ρ m' ρ' hp hag => by
  refine ⟨fun c => (Cert.KernelIdeal.Run.dats0 (Cert.KernelIdeal.Gen.V0 m) c).arrAt 4 Cert.KernelIdeal.cfg0.N,
    fun c => (Cert.KernelIdeal.Run.dats1 (Cert.KernelIdeal.Run.U1 m) c).arrAt 6 Cert.KernelIdeal.cfg1.N,
    fun c => (Cert.KernelIdeal.Run.dats1 (Cert.KernelIdeal.Run.U1 m) c).arrAt 7 Cert.KernelIdeal.cfg1.N,
    fun c => (Cert.KernelIdeal.Run.dats1 (Cert.KernelIdeal.Run.U1 m) c).arrAt 8 Cert.KernelIdeal.cfg1.N,
    fun c => (Cert.KernelIdeal.Run.dats1 (Cert.KernelIdeal.Run.U1 m) c).arrAt 9 Cert.KernelIdeal.cfg1.N, ?_, ?_⟩
  · exact (θ_run (Cert.KernelIdeal.defs (F := Ideal)) _ _).mono (fun _ h c =>
      ⟨(h.1 c).2.2.2.1, (h.1 c).2.2.2.2.1, (h.1 c).2.2.2.2.2.1, (h.1 c).2.2.2.2.2.2.1, (h.1 c).2.2.2.2.2.2.2, (h.1 c).1, (h.1 c).2.1, (h.1 c).2.2.1⟩)
      (Cert.KernelIdeal.Run.run_main m ρ)
  · refine (θ_run (Cert.ReferenceIdeal.defs (F := Ideal)) _ _).mono (fun _ h c => ?_) (Cert.Ref.run_ref m' ρ')
    obtain ⟨A, G, D, hA, hG, hD, hn⟩ := Cert.Bounds.pre_reals _ _ _ (hp c)
    have hh : Cert.Equal.Args m c A G D := ⟨hA, hG, hD, hn⟩
    have e0 := (hag c).1
    have e1 := (hag c).2.1
    have e2 := (hag c).2.2
    exact ⟨(h c).1.trans ((congr (congrArg Cert.Ref.out92 e0) e1).trans (Cert.Equal.eq_o hh)),
      (h c).2.1.trans ((congr (congr (congrArg Cert.Ref.out94 e0) e1) e2).trans (Cert.Equal.eq_dq hh)),
      (h c).2.2.1.trans ((congr (congr (congrArg Cert.Ref.out96 e0) e1) e2).trans (Cert.Equal.eq_dk hh)),
      (h c).2.2.2.1.trans ((congr (congr (congrArg Cert.Ref.out98 e0) e1) e2).trans (Cert.Equal.eq_dv hh)),
      (h c).2.2.2.2.1.trans ((congr (congr (congrArg Cert.Ref.out99 e0) e1) e2).trans (Cert.Equal.eq_dg hh)), (h c).2.2.2.2.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Pre_finite_and_decaying.Gen.facts, Cert.Pre_finite.Gen.facts,
  Cert.Pre_norm_finite.Gen.facts, Cert.Pre_gate_finite.Gen.facts, Cert.Pre_head_norm_finite.Gen.facts, Cert.Pre_loss_finite.Gen.facts,
  frame_kernel, frame_ideal, fun m ρ _ => frame_ideal m ρ trivial, frame_reference, fun m ρ _ => frame_reference m ρ trivial,
  Cert.Ffn.frame_kernel2, Cert.Ffn.frame_ideal2, fun m ρ _ => Cert.Ffn.frame_ideal2 m ρ trivial, Cert.Ffn.frame_reference2, fun m ρ _ => Cert.Ffn.frame_reference2 m ρ trivial,
  Cert.Ffn.frame_kernel3, Cert.Ffn.frame_ideal3, Cert.Ffn.frame_reference3,
  Cert.Ffn.frame_kernel4, Cert.Ffn.frame_ideal4, Cert.Ffn.frame_reference4,
  Cert.Ffn.frame_kernel5, Cert.Ffn.frame_ideal5, Cert.Ffn.frame_reference5,
  Cert.Lin.frame_kernel6, Cert.Lin.frame_ideal6, Cert.Lin.frame_reference6,
  Cert.Lin.frame_kernel7, Cert.Lin.frame_ideal7, Cert.Lin.frame_reference7,
  Cert.Lin.frame_kernel8, Cert.Lin.frame_ideal8, Cert.Lin.frame_reference8,
  Cert.Lin.frame_kernel9, Cert.Lin.frame_ideal9, Cert.Lin.frame_reference9,
  Cert.Lin.frame_kernel10, Cert.Lin.frame_ideal10, Cert.Lin.frame_reference10,
  Cert.Lin.frame_kernel11, Cert.Lin.frame_ideal11, Cert.Lin.frame_reference11,
  Cert.Lin.frame_kernel12, Cert.Lin.frame_ideal12, Cert.Lin.frame_reference12,
  Cert.Lin.frame_kernel13, Cert.Lin.frame_ideal13, Cert.Lin.frame_reference13,
  Cert.Lin.frame_kernel14, Cert.Lin.frame_ideal14, Cert.Lin.frame_reference14,
  Cert.Lin.frame_kernel15, Cert.Lin.frame_ideal15, Cert.Lin.frame_reference15,
  Cert.Lin.frame_kernel16, Cert.Lin.frame_ideal16, Cert.Lin.frame_reference16,
  Cert.Norm.frame_kernel17, Cert.Norm.frame_ideal17, Cert.Norm.frame_reference17,
  Cert.Norm.frame_kernel18, Cert.Norm.frame_ideal18, fun m ρ _ => Cert.Norm.frame_ideal18 m ρ trivial, Cert.Norm.frame_reference18, fun m ρ _ => Cert.Norm.frame_reference18 m ρ trivial,
  Cert.Norm.frame_kernel19, Cert.Norm.frame_ideal19, Cert.Norm.frame_reference19,
  Cert.Norm.frame_kernel20, Cert.Norm.frame_ideal20, fun m ρ _ => Cert.Norm.frame_ideal20 m ρ trivial, Cert.Norm.frame_reference20, fun m ρ _ => Cert.Norm.frame_reference20 m ρ trivial,
  Cert.Norm.frame_kernel21, Cert.Norm.frame_ideal21, Cert.Norm.frame_reference21,
  Cert.Norm.frame_kernel22, Cert.Norm.frame_ideal22, fun m ρ _ => Cert.Norm.frame_ideal22 m ρ trivial, Cert.Norm.frame_reference22, fun m ρ _ => Cert.Norm.frame_reference22 m ρ trivial,
  Cert.Norm.frame_kernel23, Cert.Norm.frame_ideal23, fun m ρ _ => Cert.Norm.frame_ideal23 m ρ trivial, Cert.Norm.frame_reference23, fun m ρ _ => Cert.Norm.frame_reference23 m ρ trivial,
  trivial, algebraic,
  trivial, Cert.Kernel2Ideal.Ffn.algebraic, trivial, Cert.Kernel3Ideal.Ffn.algebraic, trivial, Cert.Kernel4Ideal.Ffn.algebraic, trivial, Cert.Kernel5Ideal.Ffn.algebraic,
  trivial, Cert.Kernel6Ideal.Lin.algebraic,
  trivial, Cert.Kernel7Ideal.Lin.algebraic,
  trivial, Cert.Kernel8Ideal.Lin.algebraic,
  trivial, Cert.Kernel9Ideal.Lin.algebraic,
  trivial, Cert.Kernel10Ideal.Lin.algebraic,
  trivial, Cert.Kernel11Ideal.Lin.algebraic,
  trivial, Cert.Kernel12Ideal.Lin.algebraic,
  trivial, Cert.Kernel13Ideal.Lin.algebraic,
  trivial, Cert.Kernel14Ideal.Lin.algebraic,
  trivial, Cert.Kernel15Ideal.Lin.algebraic,
  trivial, Cert.Kernel16Ideal.Lin.algebraic,
  trivial, Cert.Kernel17Ideal.Norm.algebraic,
  trivial, Cert.Kernel18Ideal.Norm.algebraic,
  trivial, Cert.Kernel19Ideal.Gate.algebraic,
  trivial, Cert.Kernel20Ideal.Gate.algebraic,
  trivial, Cert.Kernel21Ideal.Norm.algebraic,
  trivial, Cert.Kernel22Ideal.Norm.algebraic,
  trivial, Cert.Kernel23Ideal.Norm.algebraic⟩

end Cert.Proof

end
